-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_keys.lean ====
abbrev S4x4096x5632 : Shape := ⟨3, ![4, 4096, 5632]⟩
abbrev S4x4096x3072 : Shape := ⟨3, ![4, 4096, 3072]⟩
abbrev S_ : Shape := ⟨0, ![]⟩

class Facts : Prop where
  slices_S4x4096x5632_S4x4096x3072_0_0_0 : S4x4096x5632.Slices ![0, 0, 0] S4x4096x3072
  bitsLt_bf16_f32 : FTy.bits .bf16 < FTy.bits .f32
  bcast_S_S4x4096x3072 : S_.BroadcastsInDim S4x4096x3072 (![] : Fin 0 → Fin S4x4096x3072.rank)

variable [Facts]

def fn {F : FTy → Type} [FloatOps F] (main_arg0 : FVec F S4x4096x5632 .bf16) : IVec S4x4096x3072 1 :=
  let main_v0 : FVec F S4x4096x3072 .bf16 := (extractStridedSlice S4x4096x3072 ![0, 0, 0] · slices_S4x4096x5632_S4x4096x3072_0_0_0) main_arg0
  let main_v1 : FVec F S4x4096x3072 .f32 := (extf .f32 · bitsLt_bf16_f32) main_v0
  let main_v2 : FVec F S4x4096x3072 .f32 := Host.absf main_v1
  let main_cst : FVec F S_ .f32 := constant S_ .f32 0x7F800000#32
  let main_v3 : FVec F S4x4096x3072 .f32 := broadcastInDim S4x4096x3072 ![] bcast_S_S4x4096x3072 main_cst
  let main_v4 : IVec S4x4096x3072 1 := cmpf .olt main_v2 main_v3
  main_v4
-- ==== Kernel.lean ====
abbrev S4x4096x5632 : Shape := ⟨3, ![4, 4096, 5632]⟩
abbrev S4x4096x1536 : Shape := ⟨3, ![4, 4096, 1536]⟩
abbrev S1x4096x128 : Shape := ⟨3, ![1, 4096, 128]⟩
abbrev S4096x128 : Shape := ⟨2, ![4096, 128]⟩
abbrev S6144x128 : Shape := ⟨2, ![6144, 128]⟩
abbrev S2x128x256 : Shape := ⟨3, ![2, 128, 256]⟩
abbrev S256x256 : Shape := ⟨2, ![256, 256]⟩
abbrev S3x4096x128 : Shape := ⟨3, ![3, 4096, 128]⟩
abbrev S2048x128 : Shape := ⟨2, ![2048, 128]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S256 : Shape := ⟨1, ![256]⟩
abbrev S256x1 : Shape := ⟨2, ![256, 1]⟩

abbrev nBuf : Space → Nat
  | .hbm => 2
  | .vmem => 15
  | .smem => 0
  | _ => 0

abbrev bufTy : (tb : Table) → Fin (tcTables nBuf tb) → BufTy
  | .hbm, ⟨0, _⟩ => ⟨S4x4096x5632, .bf16⟩
  | .hbm, ⟨1, _⟩ => ⟨S4x4096x1536, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S4096x128, .f32⟩
  | .local _ .vmem, ⟨9, _⟩ => ⟨S6144x128, .f32⟩
  | .local _ .vmem, ⟨10, _⟩ => ⟨S6144x128, .f32⟩
  | .local _ .vmem, ⟨11, _⟩ => ⟨S2x128x256, .f32⟩
  | .local _ .vmem, ⟨12, _⟩ => ⟨S256x256, .f32⟩
  | .local _ .vmem, ⟨13, _⟩ => ⟨S3x4096x128, .f32⟩
  | .local _ .vmem, ⟨14, _⟩ => ⟨S3x4096x128, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c256_i32 : BitVec 32 := 256#32
  let v4999 : BitVec 32 := Scalar.muli arg13 c256_i32
  v4999
def k0_mult2 (k0_t1 : Fin k0_t1_loop.trips) : BitVec 32 :=
  let c2048_i32_2133 : BitVec 32 := 2048#32
  let c0_i32_2 : BitVec 32 := 0#32
  let c1_i32 : BitVec 32 := 1#32
  let arg13 : BitVec 32 := Scf.iv c0_i32_2 c1_i32 k0_t1
  let c256_i32_2132 : BitVec 32 := 256#32
  let v5001 : BitVec 32 := Scalar.muli arg13 c256_i32_2132
  let v5002 : BitVec 32 := Scalar.addi c2048_i32_2133 v5001
  v5002
def k0_off1 (k0_t1 : Fin k0_t1_loop.trips) : Fin 3 → Nat :=
  let c0_2134 : Index := 0#32
  let c0_i32_2 : BitVec 32 := 0#32
  let c1_i32 : BitVec 32 := 1#32
  let arg13 : BitVec 32 := Scf.iv c0_i32_2 c1_i32 k0_t1
  let c256_i32 : BitVec 32 := 256#32
  let v4999 : BitVec 32 := Scalar.muli arg13 c256_i32
  let v5000 : BitVec 32 := v4999
  let v5004 : Index := Scalar.indexCast v5000
  let c0_2135 : Index := 0#32
  ![0, v5004.toNat, 0]
def k0_off2 (k0_t1 : Fin k0_t1_loop.trips) : Fin 2 → Nat :=
  let c0_i32_2 : BitVec 32 := 0#32
  let c1_i32 : BitVec 32 := 1#32
  let arg13 : BitVec 32 := Scf.iv c0_i32_2 c1_i32 k0_t1
  let c256_i32 : BitVec 32 := 256#32
  let v4999 : BitVec 32 := Scalar.muli arg13 c256_i32
  let v5000 : BitVec 32 := v4999
  let v5008 : Index := Scalar.indexCast v5000
  let c0_2136 : Index := 0#32
  ![v5008.toNat, 0]
def k0_off3 (k0_t1 : Fin k0_t1_loop.trips) : Fin 2 → Nat :=
  let c2048_i32_2133 : BitVec 32 := 2048#32
  let c0_i32_2 : BitVec 32 := 0#32
  let c1_i32 : BitVec 32 := 1#32
  let arg13 : BitVec 32 := Scf.iv c0_i32_2 c1_i32 k0_t1
  let c256_i32_2132 : BitVec 32 := 256#32
  let v5001 : BitVec 32 := Scalar.muli arg13 c256_i32_2132
  let v5002 : BitVec 32 := Scalar.addi c2048_i32_2133 v5001
  let v5003 : BitVec 32 := v5002
  let v5016 : Index := Scalar.indexCast v5003
  let c0_2139 : Index := 0#32
  ![v5016.toNat, 0]
def k0_mult3 : BitVec 32 :=
  let c0_i32_4 : BitVec 32 := 0#32
  let c0_i32_5 : BitVec 32 := 0#32
  let v7 : BitVec 1 := Scalar.cmpi .sgt c0_i32_4 c0_i32_5
  let v8 : BitVec 32 := Scalar.extui v7
  let c0_i32_6 : BitVec 32 := 0#32
  let v9 : BitVec 1 := Scalar.cmpi .slt c0_i32_4 c0_i32_6
  let v10 : BitVec 32 := Scalar.extui v9
  let v11 : BitVec 32 := Scalar.subi v8 v10
  let c32_i32 : BitVec 32 := 32#32
  let c0_i32_7 : BitVec 32 := 0#32
  let v12 : BitVec 1 := Scalar.cmpi .sgt c32_i32 c0_i32_7
  let v13 : BitVec 32 := Scalar.extui v12
  let c0_i32_8 : BitVec 32 := 0#32
  let v14 : BitVec 1 := Scalar.cmpi .slt c32_i32 c0_i32_8
  let v15 : BitVec 32 := Scalar.extui v14
  let v16 : BitVec 32 := Scalar.subi v13 v15
  let v17 : BitVec 1 := Scalar.cmpi .ne v11 v16
  let v18 : BitVec 32 := Scalar.remsi c0_i32_4 c32_i32
  let c0_i32_9 : BitVec 32 := 0#32
  let v19 : BitVec 1 := Scalar.cmpi .ne v18 c0_i32_9
  let v20 : BitVec 1 := Scalar.andi v17 v19
  let v6 : BitVec 32 := Scalar.divsi c0_i32_4 c32_i32
  let c1_i32_10 : BitVec 32 := 1#32
  let v21 : BitVec 32 := Scalar.subi v6 c1_i32_10
  let v22 : BitVec 32 := Scalar.select v20 v21 v6
  let c32_i32_11 : BitVec 32 := 32#32
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v34 : BitVec 32 := Scalar.addi v22 v33
  v34
def k0_mult4 : BitVec 32 :=
  let c0_i32_4 : BitVec 32 := 0#32
  let c0_i32_5 : BitVec 32 := 0#32
  let v7 : BitVec 1 := Scalar.cmpi .sgt c0_i32_4 c0_i32_5
  let v8 : BitVec 32 := Scalar.extui v7
  let c0_i32_6 : BitVec 32 := 0#32
  let v9 : BitVec 1 := Scalar.cmpi .slt c0_i32_4 c0_i32_6
  let v10 : BitVec 32 := Scalar.extui v9
  let v11 : BitVec 32 := Scalar.subi v8 v10
  let c32_i32 : BitVec 32 := 32#32
  let c0_i32_7 : BitVec 32 := 0#32
  let v12 : BitVec 1 := Scalar.cmpi .sgt c32_i32 c0_i32_7
  let v13 : BitVec 32 := Scalar.extui v12
  let c0_i32_8 : BitVec 32 := 0#32
  let v14 : BitVec 1 := Scalar.cmpi .slt c32_i32 c0_i32_8
  let v15 : BitVec 32 := Scalar.extui v14
  let v16 : BitVec 32 := Scalar.subi v13 v15
  let v17 : BitVec 1 := Scalar.cmpi .ne v11 v16
  let v18 : BitVec 32 := Scalar.remsi c0_i32_4 c32_i32
  let c0_i32_9 : BitVec 32 := 0#32
  let v19 : BitVec 1 := Scalar.cmpi .ne v18 c0_i32_9
  let v20 : BitVec 1 := Scalar.andi v17 v19
  let v6 : BitVec 32 := Scalar.divsi c0_i32_4 c32_i32
  let c1_i32_10 : BitVec 32 := 1#32
  let v21 : BitVec 32 := Scalar.subi v6 c1_i32_10
  let v22 : BitVec 32 := Scalar.select v20 v21 v6
  let c32_i32_11 : BitVec 32 := 32#32
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v34 : BitVec 32 := Scalar.addi v22 v33
  let c1920_i32 : BitVec 32 := 1920#32
  let v35 : BitVec 32 := Scalar.addi v34 c1920_i32
  v35
def k0_off4 (c0_i32_4 : BitVec 32) (c32_i32_11 : BitVec 32) : Fin 3 → Nat :=
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_17 : BitVec 32 := 1#32
  let v38 : BitVec 32 := Scalar.minsi v32 c1_i32_17
  let v39 : Index := Scalar.indexCast v38
  let c0 : Index := 0#32
  let c0_18 : Index := 0#32
  ![v39.toNat, 0, 0]
def k0_off5 (c0_i32_4 : BitVec 32) : Fin 2 → Nat :=
  let c0_i32_5 : BitVec 32 := 0#32
  let v7 : BitVec 1 := Scalar.cmpi .sgt c0_i32_4 c0_i32_5
  let v8 : BitVec 32 := Scalar.extui v7
  let c0_i32_6 : BitVec 32 := 0#32
  let v9 : BitVec 1 := Scalar.cmpi .slt c0_i32_4 c0_i32_6
  let v10 : BitVec 32 := Scalar.extui v9
  let v11 : BitVec 32 := Scalar.subi v8 v10
  let c32_i32 : BitVec 32 := 32#32
  let c0_i32_7 : BitVec 32 := 0#32
  let v12 : BitVec 1 := Scalar.cmpi .sgt c32_i32 c0_i32_7
  let v13 : BitVec 32 := Scalar.extui v12
  let c0_i32_8 : BitVec 32 := 0#32
  let v14 : BitVec 1 := Scalar.cmpi .slt c32_i32 c0_i32_8
  let v15 : BitVec 32 := Scalar.extui v14
  let v16 : BitVec 32 := Scalar.subi v13 v15
  let v17 : BitVec 1 := Scalar.cmpi .ne v11 v16
  let v18 : BitVec 32 := Scalar.remsi c0_i32_4 c32_i32
  let c0_i32_9 : BitVec 32 := 0#32
  let v19 : BitVec 1 := Scalar.cmpi .ne v18 c0_i32_9
  let v20 : BitVec 1 := Scalar.andi v17 v19
  let v6 : BitVec 32 := Scalar.divsi c0_i32_4 c32_i32
  let c1_i32_10 : BitVec 32 := 1#32
  let v21 : BitVec 32 := Scalar.subi v6 c1_i32_10
  let v22 : BitVec 32 := Scalar.select v20 v21 v6
  let c32_i32_11 : BitVec 32 := 32#32
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v34 : BitVec 32 := Scalar.addi v22 v33
  let v36 : BitVec 32 := v34
  let v42 : Index := Scalar.indexCast v36
  let c0_19 : Index := 0#32
  ![v42.toNat, 0]
def k0_off6 (c0_i32_4 : BitVec 32) : Fin 2 → Nat :=
  let c0_i32_5 : BitVec 32 := 0#32
  let v7 : BitVec 1 := Scalar.cmpi .sgt c0_i32_4 c0_i32_5
  let v8 : BitVec 32 := Scalar.extui v7
  let c0_i32_6 : BitVec 32 := 0#32
  let v9 : BitVec 1 := Scalar.cmpi .slt c0_i32_4 c0_i32_6
  let v10 : BitVec 32 := Scalar.extui v9
  let v11 : BitVec 32 := Scalar.subi v8 v10
  let c32_i32 : BitVec 32 := 32#32
  let c0_i32_7 : BitVec 32 := 0#32
  let v12 : BitVec 1 := Scalar.cmpi .sgt c32_i32 c0_i32_7
  let v13 : BitVec 32 := Scalar.extui v12
  let c0_i32_8 : BitVec 32 := 0#32
  let v14 : BitVec 1 := Scalar.cmpi .slt c32_i32 c0_i32_8
  let v15 : BitVec 32 := Scalar.extui v14
  let v16 : BitVec 32 := Scalar.subi v13 v15
  let v17 : BitVec 1 := Scalar.cmpi .ne v11 v16
  let v18 : BitVec 32 := Scalar.remsi c0_i32_4 c32_i32
  let c0_i32_9 : BitVec 32 := 0#32
  let v19 : BitVec 1 := Scalar.cmpi .ne v18 c0_i32_9
  let v20 : BitVec 1 := Scalar.andi v17 v19
  let v6 : BitVec 32 := Scalar.divsi c0_i32_4 c32_i32
  let c1_i32_10 : BitVec 32 := 1#32
  let v21 : BitVec 32 := Scalar.subi v6 c1_i32_10
  let v22 : BitVec 32 := Scalar.select v20 v21 v6
  let c32_i32_11 : BitVec 32 := 32#32
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v34 : BitVec 32 := Scalar.addi v22 v33
  let c1920_i32 : BitVec 32 := 1920#32
  let v35 : BitVec 32 := Scalar.addi v34 c1920_i32
  let v37 : BitVec 32 := v35
  let v45 : Index := Scalar.indexCast v37
  let c0_20 : Index := 0#32
  ![v45.toNat, 0]
def k0_off7 (c0_i32_4 : BitVec 32) : Fin 3 → Nat :=
  let c0_25 : Index := 0#32
  let c0_i32_5 : BitVec 32 := 0#32
  let v7 : BitVec 1 := Scalar.cmpi .sgt c0_i32_4 c0_i32_5
  let v8 : BitVec 32 := Scalar.extui v7
  let c0_i32_6 : BitVec 32 := 0#32
  let v9 : BitVec 1 := Scalar.cmpi .slt c0_i32_4 c0_i32_6
  let v10 : BitVec 32 := Scalar.extui v9
  let v11 : BitVec 32 := Scalar.subi v8 v10
  let c32_i32 : BitVec 32 := 32#32
  let c0_i32_7 : BitVec 32 := 0#32
  let v12 : BitVec 1 := Scalar.cmpi .sgt c32_i32 c0_i32_7
  let v13 : BitVec 32 := Scalar.extui v12
  let c0_i32_8 : BitVec 32 := 0#32
  let v14 : BitVec 1 := Scalar.cmpi .slt c32_i32 c0_i32_8
  let v15 : BitVec 32 := Scalar.extui v14
  let v16 : BitVec 32 := Scalar.subi v13 v15
  let v17 : BitVec 1 := Scalar.cmpi .ne v11 v16
  let v18 : BitVec 32 := Scalar.remsi c0_i32_4 c32_i32
  let c0_i32_9 : BitVec 32 := 0#32
  let v19 : BitVec 1 := Scalar.cmpi .ne v18 c0_i32_9
  let v20 : BitVec 1 := Scalar.andi v17 v19
  let v6 : BitVec 32 := Scalar.divsi c0_i32_4 c32_i32
  let c1_i32_10 : BitVec 32 := 1#32
  let v21 : BitVec 32 := Scalar.subi v6 c1_i32_10
  let v22 : BitVec 32 := Scalar.select v20 v21 v6
  let c32_i32_11 : BitVec 32 := 32#32
  let c0_i32_12 : BitVec 32 := 0#32
  let v23 : BitVec 1 := Scalar.cmpi .eq c32_i32_11 c0_i32_12
  let c1_i32_13 : BitVec 32 := 1#32
  let v24 : BitVec 32 := Scalar.select v23 c1_i32_13 c32_i32_11
  let v25 : BitVec 32 := Scalar.remsi c0_i32_4 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v34 : BitVec 32 := Scalar.addi v22 v33
  let v36 : BitVec 32 := v34
  let v64 : Index := Scalar.indexCast v36
  let c0_26 : Index := 0#32
  ![0, v64.toNat, 0]
def k0_mult5 : BitVec 32 :=
  let c1_i32_29 : BitVec 32 := 1#32
  let c0_i32_31 : BitVec 32 := 0#32
  let v77 : BitVec 1 := Scalar.cmpi .sgt c1_i32_29 c0_i32_31
  let v78 : BitVec 32 := Scalar.extui v77
  let c0_i32_32 : BitVec 32 := 0#32
  let v79 : BitVec 1 := Scalar.cmpi .slt c1_i32_29 c0_i32_32
  let v80 : BitVec 32 := Scalar.extui v79
  let v81 : BitVec 32 := Scalar.subi v78 v80
  let c32_i32_30 : BitVec 32 := 32#32
  let c0_i32_33 : BitVec 32 := 0#32
  let v82 : BitVec 1 := Scalar.cmpi .sgt c32_i32_30 c0_i32_33
  let v83 : BitVec 32 := Scalar.extui v82
  let c0_i32_34 : BitVec 32 := 0#32
  let v84 : BitVec 1 := Scalar.cmpi .slt c32_i32_30 c0_i32_34
  let v85 : BitVec 32 := Scalar.extui v84
  let v86 : BitVec 32 := Scalar.subi v83 v85
  let v87 : BitVec 1 := Scalar.cmpi .ne v81 v86
  let v88 : BitVec 32 := Scalar.remsi c1_i32_29 c32_i32_30
  let c0_i32_35 : BitVec 32 := 0#32
  let v89 : BitVec 1 := Scalar.cmpi .ne v88 c0_i32_35
  let v90 : BitVec 1 := Scalar.andi v87 v89
  let v76 : BitVec 32 := Scalar.divsi c1_i32_29 c32_i32_30
  let c1_i32_36 : BitVec 32 := 1#32
  let v91 : BitVec 32 := Scalar.subi v76 c1_i32_36
  let v92 : BitVec 32 := Scalar.select v90 v91 v76
  let c32_i32_37 : BitVec 32 := 32#32
  let c0_i32_38 : BitVec 32 := 0#32
  let v93 : BitVec 1 := Scalar.cmpi .eq c32_i32_37 c0_i32_38
  let c1_i32_39 : BitVec 32 := 1#32
  let v94 : BitVec 32 := Scalar.select v93 c1_i32_39 c32_i32_37
  let v95 : BitVec 32 := Scalar.remsi c1_i32_29 v94
  let c0_i32_41 : BitVec 32 := 0#32
  let v97 : BitVec 1 := Scalar.cmpi .slt v95 c0_i32_41
  let c0_i32_42 : BitVec 32 := 0#32
  let v98 : BitVec 1 := Scalar.cmpi .slt v94 c0_i32_42
  let v99 : BitVec 1 := Scalar.xori v97 v98
  let c0_i32_40 : BitVec 32 := 0#32
  let v96 : BitVec 1 := Scalar.cmpi .ne v95 c0_i32_40
  let v100 : BitVec 1 := Scalar.andi v99 v96
  let v101 : BitVec 32 := Scalar.addi v95 v94
  let v102 : BitVec 32 := Scalar.select v100 v101 v95
  let c128_i32_43 : BitVec 32 := 128#32
  let v103 : BitVec 32 := Scalar.muli v102 c128_i32_43
  let v104 : BitVec 32 := Scalar.addi v92 v103
  v104
def k0_mult6 : BitVec 32 :=
  let c1_i32_29 : BitVec 32 := 1#32
  let c0_i32_31 : BitVec 32 := 0#32
  let v77 : BitVec 1 := Scalar.cmpi .sgt c1_i32_29 c0_i32_31
  let v78 : BitVec 32 := Scalar.extui v77
  let c0_i32_32 : BitVec 32 := 0#32
  let v79 : BitVec 1 := Scalar.cmpi .slt c1_i32_29 c0_i32_32
  let v80 : BitVec 32 := Scalar.extui v79
  let v81 : BitVec 32 := Scalar.subi v78 v80
  let c32_i32_30 : BitVec 32 := 32#32
  let c0_i32_33 : BitVec 32 := 0#32
  let v82 : BitVec 1 := Scalar.cmpi .sgt c32_i32_30 c0_i32_33
  let v83 : BitVec 32 := Scalar.extui v82
  let c0_i32_34 : BitVec 32 := 0#32
  let v84 : BitVec 1 := Scalar.cmpi .slt c32_i32_30 c0_i32_34
  let v85 : BitVec 32 := Scalar.extui v84
  let v86 : BitVec 32 := Scalar.subi v83 v85
  let v87 : BitVec 1 := Scalar.cmpi .ne v81 v86
  let v88 : BitVec 32 := Scalar.remsi c1_i32_29 c32_i32_30
  let c0_i32_35 : BitVec 32 := 0#32
  let v89 : BitVec 1 := Scalar.cmpi .ne v88 c0_i32_35
  let v90 : BitVec 1 := Scalar.andi v87 v89
  let v76 : BitVec 32 := Scalar.divsi c1_i32_29 c32_i32_30
  let c1_i32_36 : BitVec 32 := 1#32
  let v91 : BitVec 32 := Scalar.subi v76 c1_i32_36
  let v92 : BitVec 32 := Scalar.select v90 v91 v76
  let c32_i32_37 : BitVec 32 := 32#32
  let c0_i32_38 : BitVec 32 := 0#32
  let v93 : BitVec 1 := Scalar.cmpi .eq c32_i32_37 c0_i32_38
  let c1_i32_39 : BitVec 32 := 1#32
  let v94 : BitVec 32 := Scalar.select v93 c1_i32_39 c32_i32_37
  let v95 : BitVec 32 := Scalar.remsi c1_i32_29 v94
  let c0_i32_41 : BitVec 32 := 0#32
  let v97 : BitVec 1 := Scalar.cmpi .slt v95 c0_i32_41
  let c0_i32_42 : BitVec 32 := 0#32
  let v98 : BitVec 1 := Scalar.cmpi .slt v94 c0_i32_42
  let v99 : BitVec 1 := Scalar.xori v97 v98
  let c0_i32_40 : BitVec 32 := 0#32
  let v96 : BitVec 1 := Scalar.cmpi .ne v95 c0_i32_40
  let v100 : BitVec 1 := Scalar.andi v99 v96
  let v101 : BitVec 32 := Scalar.addi v95 v94
  let v102 : BitVec 32 := Scalar.select v100 v101 v95
  let c128_i32_43 : BitVec 32 := 128#32
  let v103 : BitVec 32 := Scalar.muli v102 c128_i32_43
  let v104 : BitVec 32 := Scalar.addi v92 v103
  let c1920_i32_44 : BitVec 32 := 1920#32
  let v105 : BitVec 32 := Scalar.addi v104 c1920_i32_44
  v105
def k0_mult7 : BitVec 32 :=
  let c2_i32 : BitVec 32 := 2#32
  let c0_i32_60 : BitVec 32 := 0#32
  let v147 : BitVec 1 := Scalar.cmpi .sgt c2_i32 c0_i32_60
  let v148 : BitVec 32 := Scalar.extui v147
  let c0_i32_61 : BitVec 32 := 0#32
  let v149 : BitVec 1 := Scalar.cmpi .slt c2_i32 c0_i32_61
  let v150 : BitVec 32 := Scalar.extui v149
  let v151 : BitVec 32 := Scalar.subi v148 v150
  let c32_i32_59 : BitVec 32 := 32#32
  let c0_i32_62 : BitVec 32 := 0#32
  let v152 : BitVec 1 := Scalar.cmpi .sgt c32_i32_59 c0_i32_62
  let v153 : BitVec 32 := Scalar.extui v152
  let c0_i32_63 : BitVec 32 := 0#32
  let v154 : BitVec 1 := Scalar.cmpi .slt c32_i32_59 c0_i32_63
  let v155 : BitVec 32 := Scalar.extui v154
  let v156 : BitVec 32 := Scalar.subi v153 v155
  let v157 : BitVec 1 := Scalar.cmpi .ne v151 v156
  let v158 : BitVec 32 := Scalar.remsi c2_i32 c32_i32_59
  let c0_i32_64 : BitVec 32 := 0#32
  let v159 : BitVec 1 := Scalar.cmpi .ne v158 c0_i32_64
  let v160 : BitVec 1 := Scalar.andi v157 v159
  let v146 : BitVec 32 := Scalar.divsi c2_i32 c32_i32_59
  let c1_i32_65 : BitVec 32 := 1#32
  let v161 : BitVec 32 := Scalar.subi v146 c1_i32_65
  let v162 : BitVec 32 := Scalar.select v160 v161 v146
  let c32_i32_66 : BitVec 32 := 32#32
  let c0_i32_67 : BitVec 32 := 0#32
  let v163 : BitVec 1 := Scalar.cmpi .eq c32_i32_66 c0_i32_67
  let c1_i32_68 : BitVec 32 := 1#32
  let v164 : BitVec 32 := Scalar.select v163 c1_i32_68 c32_i32_66
  let v165 : BitVec 32 := Scalar.remsi c2_i32 v164
  let c0_i32_70 : BitVec 32 := 0#32
  let v167 : BitVec 1 := Scalar.cmpi .slt v165 c0_i32_70
  let c0_i32_71 : BitVec 32 := 0#32
  let v168 : BitVec 1 := Scalar.cmpi .slt v164 c0_i32_71
  let v169 : BitVec 1 := Scalar.xori v167 v168
  let c0_i32_69 : BitVec 32 := 0#32
  let v166 : BitVec 1 := Scalar.cmpi .ne v165 c0_i32_69
  let v170 : BitVec 1 := Scalar.andi v169 v166
  let v171 : BitVec 32 := Scalar.addi v165 v164
  let v172 : BitVec 32 := Scalar.select v170 v171 v165
  let c128_i32_72 : BitVec 32 := 128#32
  let v173 : BitVec 32 := Scalar.muli v172 c128_i32_72
  let v174 : BitVec 32 := Scalar.addi v162 v173
  v174
def k0_mult8 : BitVec 32 :=
  let c2_i32 : BitVec 32 := 2#32
  let c0_i32_60 : BitVec 32 := 0#32
  let v147 : BitVec 1 := Scalar.cmpi .sgt c2_i32 c0_i32_60
  let v148 : BitVec 32 := Scalar.extui v147
  let c0_i32_61 : BitVec 32 := 0#32
  let v149 : BitVec 1 := Scalar.cmpi .slt c2_i32 c0_i32_61
  let v150 : BitVec 32 := Scalar.extui v149
  let v151 : BitVec 32 := Scalar.subi v148 v150
  let c32_i32_59 : BitVec 32 := 32#32
  let c0_i32_62 : BitVec 32 := 0#32
  let v152 : BitVec 1 := Scalar.cmpi .sgt c32_i32_59 c0_i32_62
  let v153 : BitVec 32 := Scalar.extui v152
  let c0_i32_63 : BitVec 32 := 0#32
  let v154 : BitVec 1 := Scalar.cmpi .slt c32_i32_59 c0_i32_63
  let v155 : BitVec 32 := Scalar.extui v154
  let v156 : BitVec 32 := Scalar.subi v153 v155
  let v157 : BitVec 1 := Scalar.cmpi .ne v151 v156
  let v158 : BitVec 32 := Scalar.remsi c2_i32 c32_i32_59
  let c0_i32_64 : BitVec 32 := 0#32
  let v159 : BitVec 1 := Scalar.cmpi .ne v158 c0_i32_64
  let v160 : BitVec 1 := Scalar.andi v157 v159
  let v146 : BitVec 32 := Scalar.divsi c2_i32 c32_i32_59
  let c1_i32_65 : BitVec 32 := 1#32
  let v161 : BitVec 32 := Scalar.subi v146 c1_i32_65
  let v162 : BitVec 32 := Scalar.select v160 v161 v146
  let c32_i32_66 : BitVec 32 := 32#32
  let c0_i32_67 : BitVec 32 := 0#32
  let v163 : BitVec 1 := Scalar.cmpi .eq c32_i32_66 c0_i32_67
  let c1_i32_68 : BitVec 32 := 1#32
  let v164 : BitVec 32 := Scalar.select v163 c1_i32_68 c32_i32_66
  let v165 : BitVec 32 := Scalar.remsi c2_i32 v164
  let c0_i32_70 : BitVec 32 := 0#32
  let v167 : BitVec 1 := Scalar.cmpi .slt v165 c0_i32_70
  let c0_i32_71 : BitVec 32 := 0#32
  let v168 : BitVec 1 := Scalar.cmpi .slt v164 c0_i32_71
  let v169 : BitVec 1 := Scalar.xori v167 v168
  let c0_i32_69 : BitVec 32 := 0#32
  let v166 : BitVec 1 := Scalar.cmpi .ne v165 c0_i32_69
  let v170 : BitVec 1 := Scalar.andi v169 v166
  let v171 : BitVec 32 := Scalar.addi v165 v164
  let v172 : BitVec 32 := Scalar.select v170 v171 v165
  let c128_i32_72 : BitVec 32 := 128#32
  let v173 : BitVec 32 := Scalar.muli v172 c128_i32_72
  let v174 : BitVec 32 := Scalar.addi v162 v173
  let c1920_i32_73 : BitVec 32 := 1920#32
  let v175 : BitVec 32 := Scalar.addi v174 c1920_i32_73
  v175
def k0_mult9 : BitVec 32 :=
  let c3_i32 : BitVec 32 := 3#32
  let c0_i32_89 : BitVec 32 := 0#32
  let v217 : BitVec 1 := Scalar.cmpi .sgt c3_i32 c0_i32_89
  let v218 : BitVec 32 := Scalar.extui v217
  let c0_i32_90 : BitVec 32 := 0#32
  let v219 : BitVec 1 := Scalar.cmpi .slt c3_i32 c0_i32_90
  let v220 : BitVec 32 := Scalar.extui v219
  let v221 : BitVec 32 := Scalar.subi v218 v220
  let c32_i32_88 : BitVec 32 := 32#32
  let c0_i32_91 : BitVec 32 := 0#32
  let v222 : BitVec 1 := Scalar.cmpi .sgt c32_i32_88 c0_i32_91
  let v223 : BitVec 32 := Scalar.extui v222
  let c0_i32_92 : BitVec 32 := 0#32
  let v224 : BitVec 1 := Scalar.cmpi .slt c32_i32_88 c0_i32_92
  let v225 : BitVec 32 := Scalar.extui v224
  let v226 : BitVec 32 := Scalar.subi v223 v225
  let v227 : BitVec 1 := Scalar.cmpi .ne v221 v226
  let v228 : BitVec 32 := Scalar.remsi c3_i32 c32_i32_88
  let c0_i32_93 : BitVec 32 := 0#32
  let v229 : BitVec 1 := Scalar.cmpi .ne v228 c0_i32_93
  let v230 : BitVec 1 := Scalar.andi v227 v229
  let v216 : BitVec 32 := Scalar.divsi c3_i32 c32_i32_88
  let c1_i32_94 : BitVec 32 := 1#32
  let v231 : BitVec 32 := Scalar.subi v216 c1_i32_94
  let v232 : BitVec 32 := Scalar.select v230 v231 v216
  let c32_i32_95 : BitVec 32 := 32#32
  let c0_i32_96 : BitVec 32 := 0#32
  let v233 : BitVec 1 := Scalar.cmpi .eq c32_i32_95 c0_i32_96
  let c1_i32_97 : BitVec 32 := 1#32
  let v234 : BitVec 32 := Scalar.select v233 c1_i32_97 c32_i32_95
  let v235 : BitVec 32 := Scalar.remsi c3_i32 v234
  let c0_i32_99 : BitVec 32 := 0#32
  let v237 : BitVec 1 := Scalar.cmpi .slt v235 c0_i32_99
  let c0_i32_100 : BitVec 32 := 0#32
  let v238 : BitVec 1 := Scalar.cmpi .slt v234 c0_i32_100
  let v239 : BitVec 1 := Scalar.xori v237 v238
  let c0_i32_98 : BitVec 32 := 0#32
  let v236 : BitVec 1 := Scalar.cmpi .ne v235 c0_i32_98
  let v240 : BitVec 1 := Scalar.andi v239 v236
  let v241 : BitVec 32 := Scalar.addi v235 v234
  let v242 : BitVec 32 := Scalar.select v240 v241 v235
  let c128_i32_101 : BitVec 32 := 128#32
  let v243 : BitVec 32 := Scalar.muli v242 c128_i32_101
  let v244 : BitVec 32 := Scalar.addi v232 v243
  v244
def k0_mult10 : BitVec 32 :=
  let c3_i32 : BitVec 32 := 3#32
  let c0_i32_89 : BitVec 32 := 0#32
  let v217 : BitVec 1 := Scalar.cmpi .sgt c3_i32 c0_i32_89
  let v218 : BitVec 32 := Scalar.extui v217
  let c0_i32_90 : BitVec 32 := 0#32
  let v219 : BitVec 1 := Scalar.cmpi .slt c3_i32 c0_i32_90
  let v220 : BitVec 32 := Scalar.extui v219
  let v221 : BitVec 32 := Scalar.subi v218 v220
  let c32_i32_88 : BitVec 32 := 32#32
  let c0_i32_91 : BitVec 32 := 0#32
  let v222 : BitVec 1 := Scalar.cmpi .sgt c32_i32_88 c0_i32_91
  let v223 : BitVec 32 := Scalar.extui v222
  let c0_i32_92 : BitVec 32 := 0#32
  let v224 : BitVec 1 := Scalar.cmpi .slt c32_i32_88 c0_i32_92
  let v225 : BitVec 32 := Scalar.extui v224
  let v226 : BitVec 32 := Scalar.subi v223 v225
  let v227 : BitVec 1 := Scalar.cmpi .ne v221 v226
  let v228 : BitVec 32 := Scalar.remsi c3_i32 c32_i32_88
  let c0_i32_93 : BitVec 32 := 0#32
  let v229 : BitVec 1 := Scalar.cmpi .ne v228 c0_i32_93
  let v230 : BitVec 1 := Scalar.andi v227 v229
  let v216 : BitVec 32 := Scalar.divsi c3_i32 c32_i32_88
  let c1_i32_94 : BitVec 32 := 1#32
  let v231 : BitVec 32 := Scalar.subi v216 c1_i32_94
  let v232 : BitVec 32 := Scalar.select v230 v231 v216
  let c32_i32_95 : BitVec 32 := 32#32
  let c0_i32_96 : BitVec 32 := 0#32
  let v233 : BitVec 1 := Scalar.cmpi .eq c32_i32_95 c0_i32_96
  let c1_i32_97 : BitVec 32 := 1#32
  let v234 : BitVec 32 := Scalar.select v233 c1_i32_97 c32_i32_95
  let v235 : BitVec 32 := Scalar.remsi c3_i32 v234
  let c0_i32_99 : BitVec 32 := 0#32
  let v237 : BitVec 1 := Scalar.cmpi .slt v235 c0_i32_99
  let c0_i32_100 : BitVec 32 := 0#32
  let v238 : BitVec 1 := Scalar.cmpi .slt v234 c0_i32_100
  let v239 : BitVec 1 := Scalar.xori v237 v238
  let c0_i32_98 : BitVec 32 := 0#32
  let v236 : BitVec 1 := Scalar.cmpi .ne v235 c0_i32_98
  let v240 : BitVec 1 := Scalar.andi v239 v236
  let v241 : BitVec 32 := Scalar.addi v235 v234
  let v242 : BitVec 32 := Scalar.select v240 v241 v235
  let c128_i32_101 : BitVec 32 := 128#32
  let v243 : BitVec 32 := Scalar.muli v242 c128_i32_101
  let v244 : BitVec 32 := Scalar.addi v232 v243
  let c1920_i32_102 : BitVec 32 := 1920#32
  let v245 : BitVec 32 := Scalar.addi v244 c1920_i32_102
  v245
def k0_mult11 : BitVec 32 :=
  let c4_i32 : BitVec 32 := 4#32
  let c0_i32_118 : BitVec 32 := 0#32
  let v287 : BitVec 1 := Scalar.cmpi .sgt c4_i32 c0_i32_118
  let v288 : BitVec 32 := Scalar.extui v287
  let c0_i32_119 : BitVec 32 := 0#32
  let v289 : BitVec 1 := Scalar.cmpi .slt c4_i32 c0_i32_119
  let v290 : BitVec 32 := Scalar.extui v289
  let v291 : BitVec 32 := Scalar.subi v288 v290
  let c32_i32_117 : BitVec 32 := 32#32
  let c0_i32_120 : BitVec 32 := 0#32
  let v292 : BitVec 1 := Scalar.cmpi .sgt c32_i32_117 c0_i32_120
  let v293 : BitVec 32 := Scalar.extui v292
  let c0_i32_121 : BitVec 32 := 0#32
  let v294 : BitVec 1 := Scalar.cmpi .slt c32_i32_117 c0_i32_121
  let v295 : BitVec 32 := Scalar.extui v294
  let v296 : BitVec 32 := Scalar.subi v293 v295
  let v297 : BitVec 1 := Scalar.cmpi .ne v291 v296
  let v298 : BitVec 32 := Scalar.remsi c4_i32 c32_i32_117
  let c0_i32_122 : BitVec 32 := 0#32
  let v299 : BitVec 1 := Scalar.cmpi .ne v298 c0_i32_122
  let v300 : BitVec 1 := Scalar.andi v297 v299
  let v286 : BitVec 32 := Scalar.divsi c4_i32 c32_i32_117
  let c1_i32_123 : BitVec 32 := 1#32
  let v301 : BitVec 32 := Scalar.subi v286 c1_i32_123
  let v302 : BitVec 32 := Scalar.select v300 v301 v286
  let c32_i32_124 : BitVec 32 := 32#32
  let c0_i32_125 : BitVec 32 := 0#32
  let v303 : BitVec 1 := Scalar.cmpi .eq c32_i32_124 c0_i32_125
  let c1_i32_126 : BitVec 32 := 1#32
  let v304 : BitVec 32 := Scalar.select v303 c1_i32_126 c32_i32_124
  let v305 : BitVec 32 := Scalar.remsi c4_i32 v304
  let c0_i32_128 : BitVec 32 := 0#32
  let v307 : BitVec 1 := Scalar.cmpi .slt v305 c0_i32_128
  let c0_i32_129 : BitVec 32 := 0#32
  let v308 : BitVec 1 := Scalar.cmpi .slt v304 c0_i32_129
  let v309 : BitVec 1 := Scalar.xori v307 v308
  let c0_i32_127 : BitVec 32 := 0#32
  let v306 : BitVec 1 := Scalar.cmpi .ne v305 c0_i32_127
  let v310 : BitVec 1 := Scalar.andi v309 v306
  let v311 : BitVec 32 := Scalar.addi v305 v304
  let v312 : BitVec 32 := Scalar.select v310 v311 v305
  let c128_i32_130 : BitVec 32 := 128#32
  let v313 : BitVec 32 := Scalar.muli v312 c128_i32_130
  let v314 : BitVec 32 := Scalar.addi v302 v313
  v314
def k0_mult12 : BitVec 32 :=
  let c4_i32 : BitVec 32 := 4#32
  let c0_i32_118 : BitVec 32 := 0#32
  let v287 : BitVec 1 := Scalar.cmpi .sgt c4_i32 c0_i32_118
  let v288 : BitVec 32 := Scalar.extui v287
  let c0_i32_119 : BitVec 32 := 0#32
  let v289 : BitVec 1 := Scalar.cmpi .slt c4_i32 c0_i32_119
  let v290 : BitVec 32 := Scalar.extui v289
  let v291 : BitVec 32 := Scalar.subi v288 v290
  let c32_i32_117 : BitVec 32 := 32#32
  let c0_i32_120 : BitVec 32 := 0#32
  let v292 : BitVec 1 := Scalar.cmpi .sgt c32_i32_117 c0_i32_120
  let v293 : BitVec 32 := Scalar.extui v292
  let c0_i32_121 : BitVec 32 := 0#32
  let v294 : BitVec 1 := Scalar.cmpi .slt c32_i32_117 c0_i32_121
  let v295 : BitVec 32 := Scalar.extui v294
  let v296 : BitVec 32 := Scalar.subi v293 v295
  let v297 : BitVec 1 := Scalar.cmpi .ne v291 v296
  let v298 : BitVec 32 := Scalar.remsi c4_i32 c32_i32_117
  let c0_i32_122 : BitVec 32 := 0#32
  let v299 : BitVec 1 := Scalar.cmpi .ne v298 c0_i32_122
  let v300 : BitVec 1 := Scalar.andi v297 v299
  let v286 : BitVec 32 := Scalar.divsi c4_i32 c32_i32_117
  let c1_i32_123 : BitVec 32 := 1#32
  let v301 : BitVec 32 := Scalar.subi v286 c1_i32_123
  let v302 : BitVec 32 := Scalar.select v300 v301 v286
  let c32_i32_124 : BitVec 32 := 32#32
  let c0_i32_125 : BitVec 32 := 0#32
  let v303 : BitVec 1 := Scalar.cmpi .eq c32_i32_124 c0_i32_125
  let c1_i32_126 : BitVec 32 := 1#32
  let v304 : BitVec 32 := Scalar.select v303 c1_i32_126 c32_i32_124
  let v305 : BitVec 32 := Scalar.remsi c4_i32 v304
  let c0_i32_128 : BitVec 32 := 0#32
  let v307 : BitVec 1 := Scalar.cmpi .slt v305 c0_i32_128
  let c0_i32_129 : BitVec 32 := 0#32
  let v308 : BitVec 1 := Scalar.cmpi .slt v304 c0_i32_129
  let v309 : BitVec 1 := Scalar.xori v307 v308
  let c0_i32_127 : BitVec 32 := 0#32
  let v306 : BitVec 1 := Scalar.cmpi .ne v305 c0_i32_127
  let v310 : BitVec 1 := Scalar.andi v309 v306
  let v311 : BitVec 32 := Scalar.addi v305 v304
  let v312 : BitVec 32 := Scalar.select v310 v311 v305
  let c128_i32_130 : BitVec 32 := 128#32
  let v313 : BitVec 32 := Scalar.muli v312 c128_i32_130
  let v314 : BitVec 32 := Scalar.addi v302 v313
  let c1920_i32_131 : BitVec 32 := 1920#32
  let v315 : BitVec 32 := Scalar.addi v314 c1920_i32_131
  v315
def k0_mult13 : BitVec 32 :=
  let c5_i32 : BitVec 32 := 5#32
  let c0_i32_147 : BitVec 32 := 0#32
  let v357 : BitVec 1 := Scalar.cmpi .sgt c5_i32 c0_i32_147
  let v358 : BitVec 32 := Scalar.extui v357
  let c0_i32_148 : BitVec 32 := 0#32
  let v359 : BitVec 1 := Scalar.cmpi .slt c5_i32 c0_i32_148
  let v360 : BitVec 32 := Scalar.extui v359
  let v361 : BitVec 32 := Scalar.subi v358 v360
  let c32_i32_146 : BitVec 32 := 32#32
  let c0_i32_149 : BitVec 32 := 0#32
  let v362 : BitVec 1 := Scalar.cmpi .sgt c32_i32_146 c0_i32_149
  let v363 : BitVec 32 := Scalar.extui v362
  let c0_i32_150 : BitVec 32 := 0#32
  let v364 : BitVec 1 := Scalar.cmpi .slt c32_i32_146 c0_i32_150
  let v365 : BitVec 32 := Scalar.extui v364
  let v366 : BitVec 32 := Scalar.subi v363 v365
  let v367 : BitVec 1 := Scalar.cmpi .ne v361 v366
  let v368 : BitVec 32 := Scalar.remsi c5_i32 c32_i32_146
  let c0_i32_151 : BitVec 32 := 0#32
  let v369 : BitVec 1 := Scalar.cmpi .ne v368 c0_i32_151
  let v370 : BitVec 1 := Scalar.andi v367 v369
  let v356 : BitVec 32 := Scalar.divsi c5_i32 c32_i32_146
  let c1_i32_152 : BitVec 32 := 1#32
  let v371 : BitVec 32 := Scalar.subi v356 c1_i32_152
  let v372 : BitVec 32 := Scalar.select v370 v371 v356
  let c32_i32_153 : BitVec 32 := 32#32
  let c0_i32_154 : BitVec 32 := 0#32
  let v373 : BitVec 1 := Scalar.cmpi .eq c32_i32_153 c0_i32_154
  let c1_i32_155 : BitVec 32 := 1#32
  let v374 : BitVec 32 := Scalar.select v373 c1_i32_155 c32_i32_153
  let v375 : BitVec 32 := Scalar.remsi c5_i32 v374
  let c0_i32_157 : BitVec 32 := 0#32
  let v377 : BitVec 1 := Scalar.cmpi .slt v375 c0_i32_157
  let c0_i32_158 : BitVec 32 := 0#32
  let v378 : BitVec 1 := Scalar.cmpi .slt v374 c0_i32_158
  let v379 : BitVec 1 := Scalar.xori v377 v378
  let c0_i32_156 : BitVec 32 := 0#32
  let v376 : BitVec 1 := Scalar.cmpi .ne v375 c0_i32_156
  let v380 : BitVec 1 := Scalar.andi v379 v376
  let v381 : BitVec 32 := Scalar.addi v375 v374
  let v382 : BitVec 32 := Scalar.select v380 v381 v375
  let c128_i32_159 : BitVec 32 := 128#32
  let v383 : BitVec 32 := Scalar.muli v382 c128_i32_159
  let v384 : BitVec 32 := Scalar.addi v372 v383
  v384
def k0_mult14 : BitVec 32 :=
  let c5_i32 : BitVec 32 := 5#32
  let c0_i32_147 : BitVec 32 := 0#32
  let v357 : BitVec 1 := Scalar.cmpi .sgt c5_i32 c0_i32_147
  let v358 : BitVec 32 := Scalar.extui v357
  let c0_i32_148 : BitVec 32 := 0#32
  let v359 : BitVec 1 := Scalar.cmpi .slt c5_i32 c0_i32_148
  let v360 : BitVec 32 := Scalar.extui v359
  let v361 : BitVec 32 := Scalar.subi v358 v360
  let c32_i32_146 : BitVec 32 := 32#32
  let c0_i32_149 : BitVec 32 := 0#32
  let v362 : BitVec 1 := Scalar.cmpi .sgt c32_i32_146 c0_i32_149
  let v363 : BitVec 32 := Scalar.extui v362
  let c0_i32_150 : BitVec 32 := 0#32
  let v364 : BitVec 1 := Scalar.cmpi .slt c32_i32_146 c0_i32_150
  let v365 : BitVec 32 := Scalar.extui v364
  let v366 : BitVec 32 := Scalar.subi v363 v365
  let v367 : BitVec 1 := Scalar.cmpi .ne v361 v366
  let v368 : BitVec 32 := Scalar.remsi c5_i32 c32_i32_146
  let c0_i32_151 : BitVec 32 := 0#32
  let v369 : BitVec 1 := Scalar.cmpi .ne v368 c0_i32_151
  let v370 : BitVec 1 := Scalar.andi v367 v369
  let v356 : BitVec 32 := Scalar.divsi c5_i32 c32_i32_146
  let c1_i32_152 : BitVec 32 := 1#32
  let v371 : BitVec 32 := Scalar.subi v356 c1_i32_152
  let v372 : BitVec 32 := Scalar.select v370 v371 v356
  let c32_i32_153 : BitVec 32 := 32#32
  let c0_i32_154 : BitVec 32 := 0#32
  let v373 : BitVec 1 := Scalar.cmpi .eq c32_i32_153 c0_i32_154
  let c1_i32_155 : BitVec 32 := 1#32
  let v374 : BitVec 32 := Scalar.select v373 c1_i32_155 c32_i32_153
  let v375 : BitVec 32 := Scalar.remsi c5_i32 v374
  let c0_i32_157 : BitVec 32 := 0#32
  let v377 : BitVec 1 := Scalar.cmpi .slt v375 c0_i32_157
  let c0_i32_158 : BitVec 32 := 0#32
  let v378 : BitVec 1 := Scalar.cmpi .slt v374 c0_i32_158
  let v379 : BitVec 1 := Scalar.xori v377 v378
  let c0_i32_156 : BitVec 32 := 0#32
  let v376 : BitVec 1 := Scalar.cmpi .ne v375 c0_i32_156
  let v380 : BitVec 1 := Scalar.andi v379 v376
  let v381 : BitVec 32 := Scalar.addi v375 v374
  let v382 : BitVec 32 := Scalar.select v380 v381 v375
  let c128_i32_159 : BitVec 32 := 128#32
  let v383 : BitVec 32 := Scalar.muli v382 c128_i32_159
  let v384 : BitVec 32 := Scalar.addi v372 v383
  let c1920_i32_160 : BitVec 32 := 1920#32
  let v385 : BitVec 32 := Scalar.addi v384 c1920_i32_160
  v385
def k0_mult15 : BitVec 32 :=
  let c6_i32 : BitVec 32 := 6#32
  let c0_i32_176 : BitVec 32 := 0#32
  let v427 : BitVec 1 := Scalar.cmpi .sgt c6_i32 c0_i32_176
  let v428 : BitVec 32 := Scalar.extui v427
  let c0_i32_177 : BitVec 32 := 0#32
  let v429 : BitVec 1 := Scalar.cmpi .slt c6_i32 c0_i32_177
  let v430 : BitVec 32 := Scalar.extui v429
  let v431 : BitVec 32 := Scalar.subi v428 v430
  let c32_i32_175 : BitVec 32 := 32#32
  let c0_i32_178 : BitVec 32 := 0#32
  let v432 : BitVec 1 := Scalar.cmpi .sgt c32_i32_175 c0_i32_178
  let v433 : BitVec 32 := Scalar.extui v432
  let c0_i32_179 : BitVec 32 := 0#32
  let v434 : BitVec 1 := Scalar.cmpi .slt c32_i32_175 c0_i32_179
  let v435 : BitVec 32 := Scalar.extui v434
  let v436 : BitVec 32 := Scalar.subi v433 v435
  let v437 : BitVec 1 := Scalar.cmpi .ne v431 v436
  let v438 : BitVec 32 := Scalar.remsi c6_i32 c32_i32_175
  let c0_i32_180 : BitVec 32 := 0#32
  let v439 : BitVec 1 := Scalar.cmpi .ne v438 c0_i32_180
  let v440 : BitVec 1 := Scalar.andi v437 v439
  let v426 : BitVec 32 := Scalar.divsi c6_i32 c32_i32_175
  let c1_i32_181 : BitVec 32 := 1#32
  let v441 : BitVec 32 := Scalar.subi v426 c1_i32_181
  let v442 : BitVec 32 := Scalar.select v440 v441 v426
  let c32_i32_182 : BitVec 32 := 32#32
  let c0_i32_183 : BitVec 32 := 0#32
  let v443 : BitVec 1 := Scalar.cmpi .eq c32_i32_182 c0_i32_183
  let c1_i32_184 : BitVec 32 := 1#32
  let v444 : BitVec 32 := Scalar.select v443 c1_i32_184 c32_i32_182
  let v445 : BitVec 32 := Scalar.remsi c6_i32 v444
  let c0_i32_186 : BitVec 32 := 0#32
  let v447 : BitVec 1 := Scalar.cmpi .slt v445 c0_i32_186
  let c0_i32_187 : BitVec 32 := 0#32
  let v448 : BitVec 1 := Scalar.cmpi .slt v444 c0_i32_187
  let v449 : BitVec 1 := Scalar.xori v447 v448
  let c0_i32_185 : BitVec 32 := 0#32
  let v446 : BitVec 1 := Scalar.cmpi .ne v445 c0_i32_185
  let v450 : BitVec 1 := Scalar.andi v449 v446
  let v451 : BitVec 32 := Scalar.addi v445 v444
  let v452 : BitVec 32 := Scalar.select v450 v451 v445
  let c128_i32_188 : BitVec 32 := 128#32
  let v453 : BitVec 32 := Scalar.muli v452 c128_i32_188
  let v454 : BitVec 32 := Scalar.addi v442 v453
  v454
def k0_mult16 : BitVec 32 :=
  let c6_i32 : BitVec 32 := 6#32
  let c0_i32_176 : BitVec 32 := 0#32
  let v427 : BitVec 1 := Scalar.cmpi .sgt c6_i32 c0_i32_176
  let v428 : BitVec 32 := Scalar.extui v427
  let c0_i32_177 : BitVec 32 := 0#32
  let v429 : BitVec 1 := Scalar.cmpi .slt c6_i32 c0_i32_177
  let v430 : BitVec 32 := Scalar.extui v429
  let v431 : BitVec 32 := Scalar.subi v428 v430
  let c32_i32_175 : BitVec 32 := 32#32
  let c0_i32_178 : BitVec 32 := 0#32
  let v432 : BitVec 1 := Scalar.cmpi .sgt c32_i32_175 c0_i32_178
  let v433 : BitVec 32 := Scalar.extui v432
  let c0_i32_179 : BitVec 32 := 0#32
  let v434 : BitVec 1 := Scalar.cmpi .slt c32_i32_175 c0_i32_179
  let v435 : BitVec 32 := Scalar.extui v434
  let v436 : BitVec 32 := Scalar.subi v433 v435
  let v437 : BitVec 1 := Scalar.cmpi .ne v431 v436
  let v438 : BitVec 32 := Scalar.remsi c6_i32 c32_i32_175
  let c0_i32_180 : BitVec 32 := 0#32
  let v439 : BitVec 1 := Scalar.cmpi .ne v438 c0_i32_180
  let v440 : BitVec 1 := Scalar.andi v437 v439
  let v426 : BitVec 32 := Scalar.divsi c6_i32 c32_i32_175
  let c1_i32_181 : BitVec 32 := 1#32
  let v441 : BitVec 32 := Scalar.subi v426 c1_i32_181
  let v442 : BitVec 32 := Scalar.select v440 v441 v426
  let c32_i32_182 : BitVec 32 := 32#32
  let c0_i32_183 : BitVec 32 := 0#32
  let v443 : BitVec 1 := Scalar.cmpi .eq c32_i32_182 c0_i32_183
  let c1_i32_184 : BitVec 32 := 1#32
  let v444 : BitVec 32 := Scalar.select v443 c1_i32_184 c32_i32_182
  let v445 : BitVec 32 := Scalar.remsi c6_i32 v444
  let c0_i32_186 : BitVec 32 := 0#32
  let v447 : BitVec 1 := Scalar.cmpi .slt v445 c0_i32_186
  let c0_i32_187 : BitVec 32 := 0#32
  let v448 : BitVec 1 := Scalar.cmpi .slt v444 c0_i32_187
  let v449 : BitVec 1 := Scalar.xori v447 v448
  let c0_i32_185 : BitVec 32 := 0#32
  let v446 : BitVec 1 := Scalar.cmpi .ne v445 c0_i32_185
  let v450 : BitVec 1 := Scalar.andi v449 v446
  let v451 : BitVec 32 := Scalar.addi v445 v444
  let v452 : BitVec 32 := Scalar.select v450 v451 v445
  let c128_i32_188 : BitVec 32 := 128#32
  let v453 : BitVec 32 := Scalar.muli v452 c128_i32_188
  let v454 : BitVec 32 := Scalar.addi v442 v453
  let c1920_i32_189 : BitVec 32 := 1920#32
  let v455 : BitVec 32 := Scalar.addi v454 c1920_i32_189
  v455
def k0_mult17 : BitVec 32 :=
  let c7_i32 : BitVec 32 := 7#32
  let c0_i32_205 : BitVec 32 := 0#32
  let v497 : BitVec 1 := Scalar.cmpi .sgt c7_i32 c0_i32_205
  let v498 : BitVec 32 := Scalar.extui v497
  let c0_i32_206 : BitVec 32 := 0#32
  let v499 : BitVec 1 := Scalar.cmpi .slt c7_i32 c0_i32_206
  let v500 : BitVec 32 := Scalar.extui v499
  let v501 : BitVec 32 := Scalar.subi v498 v500
  let c32_i32_204 : BitVec 32 := 32#32
  let c0_i32_207 : BitVec 32 := 0#32
  let v502 : BitVec 1 := Scalar.cmpi .sgt c32_i32_204 c0_i32_207
  let v503 : BitVec 32 := Scalar.extui v502
  let c0_i32_208 : BitVec 32 := 0#32
  let v504 : BitVec 1 := Scalar.cmpi .slt c32_i32_204 c0_i32_208
  let v505 : BitVec 32 := Scalar.extui v504
  let v506 : BitVec 32 := Scalar.subi v503 v505
  let v507 : BitVec 1 := Scalar.cmpi .ne v501 v506
  let v508 : BitVec 32 := Scalar.remsi c7_i32 c32_i32_204
  let c0_i32_209 : BitVec 32 := 0#32
  let v509 : BitVec 1 := Scalar.cmpi .ne v508 c0_i32_209
  let v510 : BitVec 1 := Scalar.andi v507 v509
  let v496 : BitVec 32 := Scalar.divsi c7_i32 c32_i32_204
  let c1_i32_210 : BitVec 32 := 1#32
  let v511 : BitVec 32 := Scalar.subi v496 c1_i32_210
  let v512 : BitVec 32 := Scalar.select v510 v511 v496
  let c32_i32_211 : BitVec 32 := 32#32
  let c0_i32_212 : BitVec 32 := 0#32
  let v513 : BitVec 1 := Scalar.cmpi .eq c32_i32_211 c0_i32_212
  let c1_i32_213 : BitVec 32 := 1#32
  let v514 : BitVec 32 := Scalar.select v513 c1_i32_213 c32_i32_211
  let v515 : BitVec 32 := Scalar.remsi c7_i32 v514
  let c0_i32_215 : BitVec 32 := 0#32
  let v517 : BitVec 1 := Scalar.cmpi .slt v515 c0_i32_215
  let c0_i32_216 : BitVec 32 := 0#32
  let v518 : BitVec 1 := Scalar.cmpi .slt v514 c0_i32_216
  let v519 : BitVec 1 := Scalar.xori v517 v518
  let c0_i32_214 : BitVec 32 := 0#32
  let v516 : BitVec 1 := Scalar.cmpi .ne v515 c0_i32_214
  let v520 : BitVec 1 := Scalar.andi v519 v516
  let v521 : BitVec 32 := Scalar.addi v515 v514
  let v522 : BitVec 32 := Scalar.select v520 v521 v515
  let c128_i32_217 : BitVec 32 := 128#32
  let v523 : BitVec 32 := Scalar.muli v522 c128_i32_217
  let v524 : BitVec 32 := Scalar.addi v512 v523
  v524
def k0_mult18 : BitVec 32 :=
  let c7_i32 : BitVec 32 := 7#32
  let c0_i32_205 : BitVec 32 := 0#32
  let v497 : BitVec 1 := Scalar.cmpi .sgt c7_i32 c0_i32_205
  let v498 : BitVec 32 := Scalar.extui v497
  let c0_i32_206 : BitVec 32 := 0#32
  let v499 : BitVec 1 := Scalar.cmpi .slt c7_i32 c0_i32_206
  let v500 : BitVec 32 := Scalar.extui v499
  let v501 : BitVec 32 := Scalar.subi v498 v500
  let c32_i32_204 : BitVec 32 := 32#32
  let c0_i32_207 : BitVec 32 := 0#32
  let v502 : BitVec 1 := Scalar.cmpi .sgt c32_i32_204 c0_i32_207
  let v503 : BitVec 32 := Scalar.extui v502
  let c0_i32_208 : BitVec 32 := 0#32
  let v504 : BitVec 1 := Scalar.cmpi .slt c32_i32_204 c0_i32_208
  let v505 : BitVec 32 := Scalar.extui v504
  let v506 : BitVec 32 := Scalar.subi v503 v505
  let v507 : BitVec 1 := Scalar.cmpi .ne v501 v506
  let v508 : BitVec 32 := Scalar.remsi c7_i32 c32_i32_204
  let c0_i32_209 : BitVec 32 := 0#32
  let v509 : BitVec 1 := Scalar.cmpi .ne v508 c0_i32_209
  let v510 : BitVec 1 := Scalar.andi v507 v509
  let v496 : BitVec 32 := Scalar.divsi c7_i32 c32_i32_204
  let c1_i32_210 : BitVec 32 := 1#32
  let v511 : BitVec 32 := Scalar.subi v496 c1_i32_210
  let v512 : BitVec 32 := Scalar.select v510 v511 v496
  let c32_i32_211 : BitVec 32 := 32#32
  let c0_i32_212 : BitVec 32 := 0#32
  let v513 : BitVec 1 := Scalar.cmpi .eq c32_i32_211 c0_i32_212
  let c1_i32_213 : BitVec 32 := 1#32
  let v514 : BitVec 32 := Scalar.select v513 c1_i32_213 c32_i32_211
  let v515 : BitVec 32 := Scalar.remsi c7_i32 v514
  let c0_i32_215 : BitVec 32 := 0#32
  let v517 : BitVec 1 := Scalar.cmpi .slt v515 c0_i32_215
  let c0_i32_216 : BitVec 32 := 0#32
  let v518 : BitVec 1 := Scalar.cmpi .slt v514 c0_i32_216
  let v519 : BitVec 1 := Scalar.xori v517 v518
  let c0_i32_214 : BitVec 32 := 0#32
  let v516 : BitVec 1 := Scalar.cmpi .ne v515 c0_i32_214
  let v520 : BitVec 1 := Scalar.andi v519 v516
  let v521 : BitVec 32 := Scalar.addi v515 v514
  let v522 : BitVec 32 := Scalar.select v520 v521 v515
  let c128_i32_217 : BitVec 32 := 128#32
  let v523 : BitVec 32 := Scalar.muli v522 c128_i32_217
  let v524 : BitVec 32 := Scalar.addi v512 v523
  let c1920_i32_218 : BitVec 32 := 1920#32
  let v525 : BitVec 32 := Scalar.addi v524 c1920_i32_218
  v525
def k0_mult19 : BitVec 32 :=
  let c8_i32 : BitVec 32 := 8#32
  let c0_i32_234 : BitVec 32 := 0#32
  let v567 : BitVec 1 := Scalar.cmpi .sgt c8_i32 c0_i32_234
  let v568 : BitVec 32 := Scalar.extui v567
  let c0_i32_235 : BitVec 32 := 0#32
  let v569 : BitVec 1 := Scalar.cmpi .slt c8_i32 c0_i32_235
  let v570 : BitVec 32 := Scalar.extui v569
  let v571 : BitVec 32 := Scalar.subi v568 v570
  let c32_i32_233 : BitVec 32 := 32#32
  let c0_i32_236 : BitVec 32 := 0#32
  let v572 : BitVec 1 := Scalar.cmpi .sgt c32_i32_233 c0_i32_236
  let v573 : BitVec 32 := Scalar.extui v572
  let c0_i32_237 : BitVec 32 := 0#32
  let v574 : BitVec 1 := Scalar.cmpi .slt c32_i32_233 c0_i32_237
  let v575 : BitVec 32 := Scalar.extui v574
  let v576 : BitVec 32 := Scalar.subi v573 v575
  let v577 : BitVec 1 := Scalar.cmpi .ne v571 v576
  let v578 : BitVec 32 := Scalar.remsi c8_i32 c32_i32_233
  let c0_i32_238 : BitVec 32 := 0#32
  let v579 : BitVec 1 := Scalar.cmpi .ne v578 c0_i32_238
  let v580 : BitVec 1 := Scalar.andi v577 v579
  let v566 : BitVec 32 := Scalar.divsi c8_i32 c32_i32_233
  let c1_i32_239 : BitVec 32 := 1#32
  let v581 : BitVec 32 := Scalar.subi v566 c1_i32_239
  let v582 : BitVec 32 := Scalar.select v580 v581 v566
  let c32_i32_240 : BitVec 32 := 32#32
  let c0_i32_241 : BitVec 32 := 0#32
  let v583 : BitVec 1 := Scalar.cmpi .eq c32_i32_240 c0_i32_241
  let c1_i32_242 : BitVec 32 := 1#32
  let v584 : BitVec 32 := Scalar.select v583 c1_i32_242 c32_i32_240
  let v585 : BitVec 32 := Scalar.remsi c8_i32 v584
  let c0_i32_244 : BitVec 32 := 0#32
  let v587 : BitVec 1 := Scalar.cmpi .slt v585 c0_i32_244
  let c0_i32_245 : BitVec 32 := 0#32
  let v588 : BitVec 1 := Scalar.cmpi .slt v584 c0_i32_245
  let v589 : BitVec 1 := Scalar.xori v587 v588
  let c0_i32_243 : BitVec 32 := 0#32
  let v586 : BitVec 1 := Scalar.cmpi .ne v585 c0_i32_243
  let v590 : BitVec 1 := Scalar.andi v589 v586
  let v591 : BitVec 32 := Scalar.addi v585 v584
  let v592 : BitVec 32 := Scalar.select v590 v591 v585
  let c128_i32_246 : BitVec 32 := 128#32
  let v593 : BitVec 32 := Scalar.muli v592 c128_i32_246
  let v594 : BitVec 32 := Scalar.addi v582 v593
  v594
def k0_mult20 : BitVec 32 :=
  let c8_i32 : BitVec 32 := 8#32
  let c0_i32_234 : BitVec 32 := 0#32
  let v567 : BitVec 1 := Scalar.cmpi .sgt c8_i32 c0_i32_234
  let v568 : BitVec 32 := Scalar.extui v567
  let c0_i32_235 : BitVec 32 := 0#32
  let v569 : BitVec 1 := Scalar.cmpi .slt c8_i32 c0_i32_235
  let v570 : BitVec 32 := Scalar.extui v569
  let v571 : BitVec 32 := Scalar.subi v568 v570
  let c32_i32_233 : BitVec 32 := 32#32
  let c0_i32_236 : BitVec 32 := 0#32
  let v572 : BitVec 1 := Scalar.cmpi .sgt c32_i32_233 c0_i32_236
  let v573 : BitVec 32 := Scalar.extui v572
  let c0_i32_237 : BitVec 32 := 0#32
  let v574 : BitVec 1 := Scalar.cmpi .slt c32_i32_233 c0_i32_237
  let v575 : BitVec 32 := Scalar.extui v574
  let v576 : BitVec 32 := Scalar.subi v573 v575
  let v577 : BitVec 1 := Scalar.cmpi .ne v571 v576
  let v578 : BitVec 32 := Scalar.remsi c8_i32 c32_i32_233
  let c0_i32_238 : BitVec 32 := 0#32
  let v579 : BitVec 1 := Scalar.cmpi .ne v578 c0_i32_238
  let v580 : BitVec 1 := Scalar.andi v577 v579
  let v566 : BitVec 32 := Scalar.divsi c8_i32 c32_i32_233
  let c1_i32_239 : BitVec 32 := 1#32
  let v581 : BitVec 32 := Scalar.subi v566 c1_i32_239
  let v582 : BitVec 32 := Scalar.select v580 v581 v566
  let c32_i32_240 : BitVec 32 := 32#32
  let c0_i32_241 : BitVec 32 := 0#32
  let v583 : BitVec 1 := Scalar.cmpi .eq c32_i32_240 c0_i32_241
  let c1_i32_242 : BitVec 32 := 1#32
  let v584 : BitVec 32 := Scalar.select v583 c1_i32_242 c32_i32_240
  let v585 : BitVec 32 := Scalar.remsi c8_i32 v584
  let c0_i32_244 : BitVec 32 := 0#32
  let v587 : BitVec 1 := Scalar.cmpi .slt v585 c0_i32_244
  let c0_i32_245 : BitVec 32 := 0#32
  let v588 : BitVec 1 := Scalar.cmpi .slt v584 c0_i32_245
  let v589 : BitVec 1 := Scalar.xori v587 v588
  let c0_i32_243 : BitVec 32 := 0#32
  let v586 : BitVec 1 := Scalar.cmpi .ne v585 c0_i32_243
  let v590 : BitVec 1 := Scalar.andi v589 v586
  let v591 : BitVec 32 := Scalar.addi v585 v584
  let v592 : BitVec 32 := Scalar.select v590 v591 v585
  let c128_i32_246 : BitVec 32 := 128#32
  let v593 : BitVec 32 := Scalar.muli v592 c128_i32_246
  let v594 : BitVec 32 := Scalar.addi v582 v593
  let c1920_i32_247 : BitVec 32 := 1920#32
  let v595 : BitVec 32 := Scalar.addi v594 c1920_i32_247
  v595
def k0_mult21 : BitVec 32 :=
  let c9_i32 : BitVec 32 := 9#32
  let c0_i32_263 : BitVec 32 := 0#32
  let v637 : BitVec 1 := Scalar.cmpi .sgt c9_i32 c0_i32_263
  let v638 : BitVec 32 := Scalar.extui v637
  let c0_i32_264 : BitVec 32 := 0#32
  let v639 : BitVec 1 := Scalar.cmpi .slt c9_i32 c0_i32_264
  let v640 : BitVec 32 := Scalar.extui v639
  let v641 : BitVec 32 := Scalar.subi v638 v640
  let c32_i32_262 : BitVec 32 := 32#32
  let c0_i32_265 : BitVec 32 := 0#32
  let v642 : BitVec 1 := Scalar.cmpi .sgt c32_i32_262 c0_i32_265
  let v643 : BitVec 32 := Scalar.extui v642
  let c0_i32_266 : BitVec 32 := 0#32
  let v644 : BitVec 1 := Scalar.cmpi .slt c32_i32_262 c0_i32_266
  let v645 : BitVec 32 := Scalar.extui v644
  let v646 : BitVec 32 := Scalar.subi v643 v645
  let v647 : BitVec 1 := Scalar.cmpi .ne v641 v646
  let v648 : BitVec 32 := Scalar.remsi c9_i32 c32_i32_262
  let c0_i32_267 : BitVec 32 := 0#32
  let v649 : BitVec 1 := Scalar.cmpi .ne v648 c0_i32_267
  let v650 : BitVec 1 := Scalar.andi v647 v649
  let v636 : BitVec 32 := Scalar.divsi c9_i32 c32_i32_262
  let c1_i32_268 : BitVec 32 := 1#32
  let v651 : BitVec 32 := Scalar.subi v636 c1_i32_268
  let v652 : BitVec 32 := Scalar.select v650 v651 v636
  let c32_i32_269 : BitVec 32 := 32#32
  let c0_i32_270 : BitVec 32 := 0#32
  let v653 : BitVec 1 := Scalar.cmpi .eq c32_i32_269 c0_i32_270
  let c1_i32_271 : BitVec 32 := 1#32
  let v654 : BitVec 32 := Scalar.select v653 c1_i32_271 c32_i32_269
  let v655 : BitVec 32 := Scalar.remsi c9_i32 v654
  let c0_i32_273 : BitVec 32 := 0#32
  let v657 : BitVec 1 := Scalar.cmpi .slt v655 c0_i32_273
  let c0_i32_274 : BitVec 32 := 0#32
  let v658 : BitVec 1 := Scalar.cmpi .slt v654 c0_i32_274
  let v659 : BitVec 1 := Scalar.xori v657 v658
  let c0_i32_272 : BitVec 32 := 0#32
  let v656 : BitVec 1 := Scalar.cmpi .ne v655 c0_i32_272
  let v660 : BitVec 1 := Scalar.andi v659 v656
  let v661 : BitVec 32 := Scalar.addi v655 v654
  let v662 : BitVec 32 := Scalar.select v660 v661 v655
  let c128_i32_275 : BitVec 32 := 128#32
  let v663 : BitVec 32 := Scalar.muli v662 c128_i32_275
  let v664 : BitVec 32 := Scalar.addi v652 v663
  v664
def k0_mult22 : BitVec 32 :=
  let c9_i32 : BitVec 32 := 9#32
  let c0_i32_263 : BitVec 32 := 0#32
  let v637 : BitVec 1 := Scalar.cmpi .sgt c9_i32 c0_i32_263
  let v638 : BitVec 32 := Scalar.extui v637
  let c0_i32_264 : BitVec 32 := 0#32
  let v639 : BitVec 1 := Scalar.cmpi .slt c9_i32 c0_i32_264
  let v640 : BitVec 32 := Scalar.extui v639
  let v641 : BitVec 32 := Scalar.subi v638 v640
  let c32_i32_262 : BitVec 32 := 32#32
  let c0_i32_265 : BitVec 32 := 0#32
  let v642 : BitVec 1 := Scalar.cmpi .sgt c32_i32_262 c0_i32_265
  let v643 : BitVec 32 := Scalar.extui v642
  let c0_i32_266 : BitVec 32 := 0#32
  let v644 : BitVec 1 := Scalar.cmpi .slt c32_i32_262 c0_i32_266
  let v645 : BitVec 32 := Scalar.extui v644
  let v646 : BitVec 32 := Scalar.subi v643 v645
  let v647 : BitVec 1 := Scalar.cmpi .ne v641 v646
  let v648 : BitVec 32 := Scalar.remsi c9_i32 c32_i32_262
  let c0_i32_267 : BitVec 32 := 0#32
  let v649 : BitVec 1 := Scalar.cmpi .ne v648 c0_i32_267
  let v650 : BitVec 1 := Scalar.andi v647 v649
  let v636 : BitVec 32 := Scalar.divsi c9_i32 c32_i32_262
  let c1_i32_268 : BitVec 32 := 1#32
  let v651 : BitVec 32 := Scalar.subi v636 c1_i32_268
  let v652 : BitVec 32 := Scalar.select v650 v651 v636
  let c32_i32_269 : BitVec 32 := 32#32
  let c0_i32_270 : BitVec 32 := 0#32
  let v653 : BitVec 1 := Scalar.cmpi .eq c32_i32_269 c0_i32_270
  let c1_i32_271 : BitVec 32 := 1#32
  let v654 : BitVec 32 := Scalar.select v653 c1_i32_271 c32_i32_269
  let v655 : BitVec 32 := Scalar.remsi c9_i32 v654
  let c0_i32_273 : BitVec 32 := 0#32
  let v657 : BitVec 1 := Scalar.cmpi .slt v655 c0_i32_273
  let c0_i32_274 : BitVec 32 := 0#32
  let v658 : BitVec 1 := Scalar.cmpi .slt v654 c0_i32_274
  let v659 : BitVec 1 := Scalar.xori v657 v658
  let c0_i32_272 : BitVec 32 := 0#32
  let v656 : BitVec 1 := Scalar.cmpi .ne v655 c0_i32_272
  let v660 : BitVec 1 := Scalar.andi v659 v656
  let v661 : BitVec 32 := Scalar.addi v655 v654
  let v662 : BitVec 32 := Scalar.select v660 v661 v655
  let c128_i32_275 : BitVec 32 := 128#32
  let v663 : BitVec 32 := Scalar.muli v662 c128_i32_275
  let v664 : BitVec 32 := Scalar.addi v652 v663
  let c1920_i32_276 : BitVec 32 := 1920#32
  let v665 : BitVec 32 := Scalar.addi v664 c1920_i32_276
  v665
def k0_mult23 : BitVec 32 :=
  let c10_i32 : BitVec 32 := 10#32
  let c0_i32_292 : BitVec 32 := 0#32
  let v707 : BitVec 1 := Scalar.cmpi .sgt c10_i32 c0_i32_292
  let v708 : BitVec 32 := Scalar.extui v707
  let c0_i32_293 : BitVec 32 := 0#32
  let v709 : BitVec 1 := Scalar.cmpi .slt c10_i32 c0_i32_293
  let v710 : BitVec 32 := Scalar.extui v709
  let v711 : BitVec 32 := Scalar.subi v708 v710
  let c32_i32_291 : BitVec 32 := 32#32
  let c0_i32_294 : BitVec 32 := 0#32
  let v712 : BitVec 1 := Scalar.cmpi .sgt c32_i32_291 c0_i32_294
  let v713 : BitVec 32 := Scalar.extui v712
  let c0_i32_295 : BitVec 32 := 0#32
  let v714 : BitVec 1 := Scalar.cmpi .slt c32_i32_291 c0_i32_295
  let v715 : BitVec 32 := Scalar.extui v714
  let v716 : BitVec 32 := Scalar.subi v713 v715
  let v717 : BitVec 1 := Scalar.cmpi .ne v711 v716
  let v718 : BitVec 32 := Scalar.remsi c10_i32 c32_i32_291
  let c0_i32_296 : BitVec 32 := 0#32
  let v719 : BitVec 1 := Scalar.cmpi .ne v718 c0_i32_296
  let v720 : BitVec 1 := Scalar.andi v717 v719
  let v706 : BitVec 32 := Scalar.divsi c10_i32 c32_i32_291
  let c1_i32_297 : BitVec 32 := 1#32
  let v721 : BitVec 32 := Scalar.subi v706 c1_i32_297
  let v722 : BitVec 32 := Scalar.select v720 v721 v706
  let c32_i32_298 : BitVec 32 := 32#32
  let c0_i32_299 : BitVec 32 := 0#32
  let v723 : BitVec 1 := Scalar.cmpi .eq c32_i32_298 c0_i32_299
  let c1_i32_300 : BitVec 32 := 1#32
  let v724 : BitVec 32 := Scalar.select v723 c1_i32_300 c32_i32_298
  let v725 : BitVec 32 := Scalar.remsi c10_i32 v724
  let c0_i32_302 : BitVec 32 := 0#32
  let v727 : BitVec 1 := Scalar.cmpi .slt v725 c0_i32_302
  let c0_i32_303 : BitVec 32 := 0#32
  let v728 : BitVec 1 := Scalar.cmpi .slt v724 c0_i32_303
  let v729 : BitVec 1 := Scalar.xori v727 v728
  let c0_i32_301 : BitVec 32 := 0#32
  let v726 : BitVec 1 := Scalar.cmpi .ne v725 c0_i32_301
  let v730 : BitVec 1 := Scalar.andi v729 v726
  let v731 : BitVec 32 := Scalar.addi v725 v724
  let v732 : BitVec 32 := Scalar.select v730 v731 v725
  let c128_i32_304 : BitVec 32 := 128#32
  let v733 : BitVec 32 := Scalar.muli v732 c128_i32_304
  let v734 : BitVec 32 := Scalar.addi v722 v733
  v734
def k0_mult24 : BitVec 32 :=
  let c10_i32 : BitVec 32 := 10#32
  let c0_i32_292 : BitVec 32 := 0#32
  let v707 : BitVec 1 := Scalar.cmpi .sgt c10_i32 c0_i32_292
  let v708 : BitVec 32 := Scalar.extui v707
  let c0_i32_293 : BitVec 32 := 0#32
  let v709 : BitVec 1 := Scalar.cmpi .slt c10_i32 c0_i32_293
  let v710 : BitVec 32 := Scalar.extui v709
  let v711 : BitVec 32 := Scalar.subi v708 v710
  let c32_i32_291 : BitVec 32 := 32#32
  let c0_i32_294 : BitVec 32 := 0#32
  let v712 : BitVec 1 := Scalar.cmpi .sgt c32_i32_291 c0_i32_294
  let v713 : BitVec 32 := Scalar.extui v712
  let c0_i32_295 : BitVec 32 := 0#32
  let v714 : BitVec 1 := Scalar.cmpi .slt c32_i32_291 c0_i32_295
  let v715 : BitVec 32 := Scalar.extui v714
  let v716 : BitVec 32 := Scalar.subi v713 v715
  let v717 : BitVec 1 := Scalar.cmpi .ne v711 v716
  let v718 : BitVec 32 := Scalar.remsi c10_i32 c32_i32_291
  let c0_i32_296 : BitVec 32 := 0#32
  let v719 : BitVec 1 := Scalar.cmpi .ne v718 c0_i32_296
  let v720 : BitVec 1 := Scalar.andi v717 v719
  let v706 : BitVec 32 := Scalar.divsi c10_i32 c32_i32_291
  let c1_i32_297 : BitVec 32 := 1#32
  let v721 : BitVec 32 := Scalar.subi v706 c1_i32_297
  let v722 : BitVec 32 := Scalar.select v720 v721 v706
  let c32_i32_298 : BitVec 32 := 32#32
  let c0_i32_299 : BitVec 32 := 0#32
  let v723 : BitVec 1 := Scalar.cmpi .eq c32_i32_298 c0_i32_299
  let c1_i32_300 : BitVec 32 := 1#32
  let v724 : BitVec 32 := Scalar.select v723 c1_i32_300 c32_i32_298
  let v725 : BitVec 32 := Scalar.remsi c10_i32 v724
  let c0_i32_302 : BitVec 32 := 0#32
  let v727 : BitVec 1 := Scalar.cmpi .slt v725 c0_i32_302
  let c0_i32_303 : BitVec 32 := 0#32
  let v728 : BitVec 1 := Scalar.cmpi .slt v724 c0_i32_303
  let v729 : BitVec 1 := Scalar.xori v727 v728
  let c0_i32_301 : BitVec 32 := 0#32
  let v726 : BitVec 1 := Scalar.cmpi .ne v725 c0_i32_301
  let v730 : BitVec 1 := Scalar.andi v729 v726
  let v731 : BitVec 32 := Scalar.addi v725 v724
  let v732 : BitVec 32 := Scalar.select v730 v731 v725
  let c128_i32_304 : BitVec 32 := 128#32
  let v733 : BitVec 32 := Scalar.muli v732 c128_i32_304
  let v734 : BitVec 32 := Scalar.addi v722 v733
  let c1920_i32_305 : BitVec 32 := 1920#32
  let v735 : BitVec 32 := Scalar.addi v734 c1920_i32_305
  v735
def k0_mult25 : BitVec 32 :=
  let c11_i32 : BitVec 32 := 11#32
  let c0_i32_321 : BitVec 32 := 0#32
  let v777 : BitVec 1 := Scalar.cmpi .sgt c11_i32 c0_i32_321
  let v778 : BitVec 32 := Scalar.extui v777
  let c0_i32_322 : BitVec 32 := 0#32
  let v779 : BitVec 1 := Scalar.cmpi .slt c11_i32 c0_i32_322
  let v780 : BitVec 32 := Scalar.extui v779
  let v781 : BitVec 32 := Scalar.subi v778 v780
  let c32_i32_320 : BitVec 32 := 32#32
  let c0_i32_323 : BitVec 32 := 0#32
  let v782 : BitVec 1 := Scalar.cmpi .sgt c32_i32_320 c0_i32_323
  let v783 : BitVec 32 := Scalar.extui v782
  let c0_i32_324 : BitVec 32 := 0#32
  let v784 : BitVec 1 := Scalar.cmpi .slt c32_i32_320 c0_i32_324
  let v785 : BitVec 32 := Scalar.extui v784
  let v786 : BitVec 32 := Scalar.subi v783 v785
  let v787 : BitVec 1 := Scalar.cmpi .ne v781 v786
  let v788 : BitVec 32 := Scalar.remsi c11_i32 c32_i32_320
  let c0_i32_325 : BitVec 32 := 0#32
  let v789 : BitVec 1 := Scalar.cmpi .ne v788 c0_i32_325
  let v790 : BitVec 1 := Scalar.andi v787 v789
  let v776 : BitVec 32 := Scalar.divsi c11_i32 c32_i32_320
  let c1_i32_326 : BitVec 32 := 1#32
  let v791 : BitVec 32 := Scalar.subi v776 c1_i32_326
  let v792 : BitVec 32 := Scalar.select v790 v791 v776
  let c32_i32_327 : BitVec 32 := 32#32
  let c0_i32_328 : BitVec 32 := 0#32
  let v793 : BitVec 1 := Scalar.cmpi .eq c32_i32_327 c0_i32_328
  let c1_i32_329 : BitVec 32 := 1#32
  let v794 : BitVec 32 := Scalar.select v793 c1_i32_329 c32_i32_327
  let v795 : BitVec 32 := Scalar.remsi c11_i32 v794
  let c0_i32_331 : BitVec 32 := 0#32
  let v797 : BitVec 1 := Scalar.cmpi .slt v795 c0_i32_331
  let c0_i32_332 : BitVec 32 := 0#32
  let v798 : BitVec 1 := Scalar.cmpi .slt v794 c0_i32_332
  let v799 : BitVec 1 := Scalar.xori v797 v798
  let c0_i32_330 : BitVec 32 := 0#32
  let v796 : BitVec 1 := Scalar.cmpi .ne v795 c0_i32_330
  let v800 : BitVec 1 := Scalar.andi v799 v796
  let v801 : BitVec 32 := Scalar.addi v795 v794
  let v802 : BitVec 32 := Scalar.select v800 v801 v795
  let c128_i32_333 : BitVec 32 := 128#32
  let v803 : BitVec 32 := Scalar.muli v802 c128_i32_333
  let v804 : BitVec 32 := Scalar.addi v792 v803
  v804
def k0_mult26 : BitVec 32 :=
  let c11_i32 : BitVec 32 := 11#32
  let c0_i32_321 : BitVec 32 := 0#32
  let v777 : BitVec 1 := Scalar.cmpi .sgt c11_i32 c0_i32_321
  let v778 : BitVec 32 := Scalar.extui v777
  let c0_i32_322 : BitVec 32 := 0#32
  let v779 : BitVec 1 := Scalar.cmpi .slt c11_i32 c0_i32_322
  let v780 : BitVec 32 := Scalar.extui v779
  let v781 : BitVec 32 := Scalar.subi v778 v780
  let c32_i32_320 : BitVec 32 := 32#32
  let c0_i32_323 : BitVec 32 := 0#32
  let v782 : BitVec 1 := Scalar.cmpi .sgt c32_i32_320 c0_i32_323
  let v783 : BitVec 32 := Scalar.extui v782
  let c0_i32_324 : BitVec 32 := 0#32
  let v784 : BitVec 1 := Scalar.cmpi .slt c32_i32_320 c0_i32_324
  let v785 : BitVec 32 := Scalar.extui v784
  let v786 : BitVec 32 := Scalar.subi v783 v785
  let v787 : BitVec 1 := Scalar.cmpi .ne v781 v786
  let v788 : BitVec 32 := Scalar.remsi c11_i32 c32_i32_320
  let c0_i32_325 : BitVec 32 := 0#32
  let v789 : BitVec 1 := Scalar.cmpi .ne v788 c0_i32_325
  let v790 : BitVec 1 := Scalar.andi v787 v789
  let v776 : BitVec 32 := Scalar.divsi c11_i32 c32_i32_320
  let c1_i32_326 : BitVec 32 := 1#32
  let v791 : BitVec 32 := Scalar.subi v776 c1_i32_326
  let v792 : BitVec 32 := Scalar.select v790 v791 v776
  let c32_i32_327 : BitVec 32 := 32#32
  let c0_i32_328 : BitVec 32 := 0#32
  let v793 : BitVec 1 := Scalar.cmpi .eq c32_i32_327 c0_i32_328
  let c1_i32_329 : BitVec 32 := 1#32
  let v794 : BitVec 32 := Scalar.select v793 c1_i32_329 c32_i32_327
  let v795 : BitVec 32 := Scalar.remsi c11_i32 v794
  let c0_i32_331 : BitVec 32 := 0#32
  let v797 : BitVec 1 := Scalar.cmpi .slt v795 c0_i32_331
  let c0_i32_332 : BitVec 32 := 0#32
  let v798 : BitVec 1 := Scalar.cmpi .slt v794 c0_i32_332
  let v799 : BitVec 1 := Scalar.xori v797 v798
  let c0_i32_330 : BitVec 32 := 0#32
  let v796 : BitVec 1 := Scalar.cmpi .ne v795 c0_i32_330
  let v800 : BitVec 1 := Scalar.andi v799 v796
  let v801 : BitVec 32 := Scalar.addi v795 v794
  let v802 : BitVec 32 := Scalar.select v800 v801 v795
  let c128_i32_333 : BitVec 32 := 128#32
  let v803 : BitVec 32 := Scalar.muli v802 c128_i32_333
  let v804 : BitVec 32 := Scalar.addi v792 v803
  let c1920_i32_334 : BitVec 32 := 1920#32
  let v805 : BitVec 32 := Scalar.addi v804 c1920_i32_334
  v805
def k0_mult27 : BitVec 32 :=
  let c12_i32 : BitVec 32 := 12#32
  let c0_i32_350 : BitVec 32 := 0#32
  let v847 : BitVec 1 := Scalar.cmpi .sgt c12_i32 c0_i32_350
  let v848 : BitVec 32 := Scalar.extui v847
  let c0_i32_351 : BitVec 32 := 0#32
  let v849 : BitVec 1 := Scalar.cmpi .slt c12_i32 c0_i32_351
  let v850 : BitVec 32 := Scalar.extui v849
  let v851 : BitVec 32 := Scalar.subi v848 v850
  let c32_i32_349 : BitVec 32 := 32#32
  let c0_i32_352 : BitVec 32 := 0#32
  let v852 : BitVec 1 := Scalar.cmpi .sgt c32_i32_349 c0_i32_352
  let v853 : BitVec 32 := Scalar.extui v852
  let c0_i32_353 : BitVec 32 := 0#32
  let v854 : BitVec 1 := Scalar.cmpi .slt c32_i32_349 c0_i32_353
  let v855 : BitVec 32 := Scalar.extui v854
  let v856 : BitVec 32 := Scalar.subi v853 v855
  let v857 : BitVec 1 := Scalar.cmpi .ne v851 v856
  let v858 : BitVec 32 := Scalar.remsi c12_i32 c32_i32_349
  let c0_i32_354 : BitVec 32 := 0#32
  let v859 : BitVec 1 := Scalar.cmpi .ne v858 c0_i32_354
  let v860 : BitVec 1 := Scalar.andi v857 v859
  let v846 : BitVec 32 := Scalar.divsi c12_i32 c32_i32_349
  let c1_i32_355 : BitVec 32 := 1#32
  let v861 : BitVec 32 := Scalar.subi v846 c1_i32_355
  let v862 : BitVec 32 := Scalar.select v860 v861 v846
  let c32_i32_356 : BitVec 32 := 32#32
  let c0_i32_357 : BitVec 32 := 0#32
  let v863 : BitVec 1 := Scalar.cmpi .eq c32_i32_356 c0_i32_357
  let c1_i32_358 : BitVec 32 := 1#32
  let v864 : BitVec 32 := Scalar.select v863 c1_i32_358 c32_i32_356
  let v865 : BitVec 32 := Scalar.remsi c12_i32 v864
  let c0_i32_360 : BitVec 32 := 0#32
  let v867 : BitVec 1 := Scalar.cmpi .slt v865 c0_i32_360
  let c0_i32_361 : BitVec 32 := 0#32
  let v868 : BitVec 1 := Scalar.cmpi .slt v864 c0_i32_361
  let v869 : BitVec 1 := Scalar.xori v867 v868
  let c0_i32_359 : BitVec 32 := 0#32
  let v866 : BitVec 1 := Scalar.cmpi .ne v865 c0_i32_359
  let v870 : BitVec 1 := Scalar.andi v869 v866
  let v871 : BitVec 32 := Scalar.addi v865 v864
  let v872 : BitVec 32 := Scalar.select v870 v871 v865
  let c128_i32_362 : BitVec 32 := 128#32
  let v873 : BitVec 32 := Scalar.muli v872 c128_i32_362
  let v874 : BitVec 32 := Scalar.addi v862 v873
  v874
def k0_mult28 : BitVec 32 :=
  let c12_i32 : BitVec 32 := 12#32
  let c0_i32_350 : BitVec 32 := 0#32
  let v847 : BitVec 1 := Scalar.cmpi .sgt c12_i32 c0_i32_350
  let v848 : BitVec 32 := Scalar.extui v847
  let c0_i32_351 : BitVec 32 := 0#32
  let v849 : BitVec 1 := Scalar.cmpi .slt c12_i32 c0_i32_351
  let v850 : BitVec 32 := Scalar.extui v849
  let v851 : BitVec 32 := Scalar.subi v848 v850
  let c32_i32_349 : BitVec 32 := 32#32
  let c0_i32_352 : BitVec 32 := 0#32
  let v852 : BitVec 1 := Scalar.cmpi .sgt c32_i32_349 c0_i32_352
  let v853 : BitVec 32 := Scalar.extui v852
  let c0_i32_353 : BitVec 32 := 0#32
  let v854 : BitVec 1 := Scalar.cmpi .slt c32_i32_349 c0_i32_353
  let v855 : BitVec 32 := Scalar.extui v854
  let v856 : BitVec 32 := Scalar.subi v853 v855
  let v857 : BitVec 1 := Scalar.cmpi .ne v851 v856
  let v858 : BitVec 32 := Scalar.remsi c12_i32 c32_i32_349
  let c0_i32_354 : BitVec 32 := 0#32
  let v859 : BitVec 1 := Scalar.cmpi .ne v858 c0_i32_354
  let v860 : BitVec 1 := Scalar.andi v857 v859
  let v846 : BitVec 32 := Scalar.divsi c12_i32 c32_i32_349
  let c1_i32_355 : BitVec 32 := 1#32
  let v861 : BitVec 32 := Scalar.subi v846 c1_i32_355
  let v862 : BitVec 32 := Scalar.select v860 v861 v846
  let c32_i32_356 : BitVec 32 := 32#32
  let c0_i32_357 : BitVec 32 := 0#32
  let v863 : BitVec 1 := Scalar.cmpi .eq c32_i32_356 c0_i32_357
  let c1_i32_358 : BitVec 32 := 1#32
  let v864 : BitVec 32 := Scalar.select v863 c1_i32_358 c32_i32_356
  let v865 : BitVec 32 := Scalar.remsi c12_i32 v864
  let c0_i32_360 : BitVec 32 := 0#32
  let v867 : BitVec 1 := Scalar.cmpi .slt v865 c0_i32_360
  let c0_i32_361 : BitVec 32 := 0#32
  let v868 : BitVec 1 := Scalar.cmpi .slt v864 c0_i32_361
  let v869 : BitVec 1 := Scalar.xori v867 v868
  let c0_i32_359 : BitVec 32 := 0#32
  let v866 : BitVec 1 := Scalar.cmpi .ne v865 c0_i32_359
  let v870 : BitVec 1 := Scalar.andi v869 v866
  let v871 : BitVec 32 := Scalar.addi v865 v864
  let v872 : BitVec 32 := Scalar.select v870 v871 v865
  let c128_i32_362 : BitVec 32 := 128#32
  let v873 : BitVec 32 := Scalar.muli v872 c128_i32_362
  let v874 : BitVec 32 := Scalar.addi v862 v873
  let c1920_i32_363 : BitVec 32 := 1920#32
  let v875 : BitVec 32 := Scalar.addi v874 c1920_i32_363
  v875
def k0_mult29 : BitVec 32 :=
  let c13_i32 : BitVec 32 := 13#32
  let c0_i32_379 : BitVec 32 := 0#32
  let v917 : BitVec 1 := Scalar.cmpi .sgt c13_i32 c0_i32_379
  let v918 : BitVec 32 := Scalar.extui v917
  let c0_i32_380 : BitVec 32 := 0#32
  let v919 : BitVec 1 := Scalar.cmpi .slt c13_i32 c0_i32_380
  let v920 : BitVec 32 := Scalar.extui v919
  let v921 : BitVec 32 := Scalar.subi v918 v920
  let c32_i32_378 : BitVec 32 := 32#32
  let c0_i32_381 : BitVec 32 := 0#32
  let v922 : BitVec 1 := Scalar.cmpi .sgt c32_i32_378 c0_i32_381
  let v923 : BitVec 32 := Scalar.extui v922
  let c0_i32_382 : BitVec 32 := 0#32
  let v924 : BitVec 1 := Scalar.cmpi .slt c32_i32_378 c0_i32_382
  let v925 : BitVec 32 := Scalar.extui v924
  let v926 : BitVec 32 := Scalar.subi v923 v925
  let v927 : BitVec 1 := Scalar.cmpi .ne v921 v926
  let v928 : BitVec 32 := Scalar.remsi c13_i32 c32_i32_378
  let c0_i32_383 : BitVec 32 := 0#32
  let v929 : BitVec 1 := Scalar.cmpi .ne v928 c0_i32_383
  let v930 : BitVec 1 := Scalar.andi v927 v929
  let v916 : BitVec 32 := Scalar.divsi c13_i32 c32_i32_378
  let c1_i32_384 : BitVec 32 := 1#32
  let v931 : BitVec 32 := Scalar.subi v916 c1_i32_384
  let v932 : BitVec 32 := Scalar.select v930 v931 v916
  let c32_i32_385 : BitVec 32 := 32#32
  let c0_i32_386 : BitVec 32 := 0#32
  let v933 : BitVec 1 := Scalar.cmpi .eq c32_i32_385 c0_i32_386
  let c1_i32_387 : BitVec 32 := 1#32
  let v934 : BitVec 32 := Scalar.select v933 c1_i32_387 c32_i32_385
  let v935 : BitVec 32 := Scalar.remsi c13_i32 v934
  let c0_i32_389 : BitVec 32 := 0#32
  let v937 : BitVec 1 := Scalar.cmpi .slt v935 c0_i32_389
  let c0_i32_390 : BitVec 32 := 0#32
  let v938 : BitVec 1 := Scalar.cmpi .slt v934 c0_i32_390
  let v939 : BitVec 1 := Scalar.xori v937 v938
  let c0_i32_388 : BitVec 32 := 0#32
  let v936 : BitVec 1 := Scalar.cmpi .ne v935 c0_i32_388
  let v940 : BitVec 1 := Scalar.andi v939 v936
  let v941 : BitVec 32 := Scalar.addi v935 v934
  let v942 : BitVec 32 := Scalar.select v940 v941 v935
  let c128_i32_391 : BitVec 32 := 128#32
  let v943 : BitVec 32 := Scalar.muli v942 c128_i32_391
  let v944 : BitVec 32 := Scalar.addi v932 v943
  v944
def k0_mult30 : BitVec 32 :=
  let c13_i32 : BitVec 32 := 13#32
  let c0_i32_379 : BitVec 32 := 0#32
  let v917 : BitVec 1 := Scalar.cmpi .sgt c13_i32 c0_i32_379
  let v918 : BitVec 32 := Scalar.extui v917
  let c0_i32_380 : BitVec 32 := 0#32
  let v919 : BitVec 1 := Scalar.cmpi .slt c13_i32 c0_i32_380
  let v920 : BitVec 32 := Scalar.extui v919
  let v921 : BitVec 32 := Scalar.subi v918 v920
  let c32_i32_378 : BitVec 32 := 32#32
  let c0_i32_381 : BitVec 32 := 0#32
  let v922 : BitVec 1 := Scalar.cmpi .sgt c32_i32_378 c0_i32_381
  let v923 : BitVec 32 := Scalar.extui v922
  let c0_i32_382 : BitVec 32 := 0#32
  let v924 : BitVec 1 := Scalar.cmpi .slt c32_i32_378 c0_i32_382
  let v925 : BitVec 32 := Scalar.extui v924
  let v926 : BitVec 32 := Scalar.subi v923 v925
  let v927 : BitVec 1 := Scalar.cmpi .ne v921 v926
  let v928 : BitVec 32 := Scalar.remsi c13_i32 c32_i32_378
  let c0_i32_383 : BitVec 32 := 0#32
  let v929 : BitVec 1 := Scalar.cmpi .ne v928 c0_i32_383
  let v930 : BitVec 1 := Scalar.andi v927 v929
  let v916 : BitVec 32 := Scalar.divsi c13_i32 c32_i32_378
  let c1_i32_384 : BitVec 32 := 1#32
  let v931 : BitVec 32 := Scalar.subi v916 c1_i32_384
  let v932 : BitVec 32 := Scalar.select v930 v931 v916
  let c32_i32_385 : BitVec 32 := 32#32
  let c0_i32_386 : BitVec 32 := 0#32
  let v933 : BitVec 1 := Scalar.cmpi .eq c32_i32_385 c0_i32_386
  let c1_i32_387 : BitVec 32 := 1#32
  let v934 : BitVec 32 := Scalar.select v933 c1_i32_387 c32_i32_385
  let v935 : BitVec 32 := Scalar.remsi c13_i32 v934
  let c0_i32_389 : BitVec 32 := 0#32
  let v937 : BitVec 1 := Scalar.cmpi .slt v935 c0_i32_389
  let c0_i32_390 : BitVec 32 := 0#32
  let v938 : BitVec 1 := Scalar.cmpi .slt v934 c0_i32_390
  let v939 : BitVec 1 := Scalar.xori v937 v938
  let c0_i32_388 : BitVec 32 := 0#32
  let v936 : BitVec 1 := Scalar.cmpi .ne v935 c0_i32_388
  let v940 : BitVec 1 := Scalar.andi v939 v936
  let v941 : BitVec 32 := Scalar.addi v935 v934
  let v942 : BitVec 32 := Scalar.select v940 v941 v935
  let c128_i32_391 : BitVec 32 := 128#32
  let v943 : BitVec 32 := Scalar.muli v942 c128_i32_391
  let v944 : BitVec 32 := Scalar.addi v932 v943
  let c1920_i32_392 : BitVec 32 := 1920#32
  let v945 : BitVec 32 := Scalar.addi v944 c1920_i32_392
  v945
def k0_mult31 : BitVec 32 :=
  let c14_i32 : BitVec 32 := 14#32
  let c0_i32_408 : BitVec 32 := 0#32
  let v987 : BitVec 1 := Scalar.cmpi .sgt c14_i32 c0_i32_408
  let v988 : BitVec 32 := Scalar.extui v987
  let c0_i32_409 : BitVec 32 := 0#32
  let v989 : BitVec 1 := Scalar.cmpi .slt c14_i32 c0_i32_409
  let v990 : BitVec 32 := Scalar.extui v989
  let v991 : BitVec 32 := Scalar.subi v988 v990
  let c32_i32_407 : BitVec 32 := 32#32
  let c0_i32_410 : BitVec 32 := 0#32
  let v992 : BitVec 1 := Scalar.cmpi .sgt c32_i32_407 c0_i32_410
  let v993 : BitVec 32 := Scalar.extui v992
  let c0_i32_411 : BitVec 32 := 0#32
  let v994 : BitVec 1 := Scalar.cmpi .slt c32_i32_407 c0_i32_411
  let v995 : BitVec 32 := Scalar.extui v994
  let v996 : BitVec 32 := Scalar.subi v993 v995
  let v997 : BitVec 1 := Scalar.cmpi .ne v991 v996
  let v998 : BitVec 32 := Scalar.remsi c14_i32 c32_i32_407
  let c0_i32_412 : BitVec 32 := 0#32
  let v999 : BitVec 1 := Scalar.cmpi .ne v998 c0_i32_412
  let v1000 : BitVec 1 := Scalar.andi v997 v999
  let v986 : BitVec 32 := Scalar.divsi c14_i32 c32_i32_407
  let c1_i32_413 : BitVec 32 := 1#32
  let v1001 : BitVec 32 := Scalar.subi v986 c1_i32_413
  let v1002 : BitVec 32 := Scalar.select v1000 v1001 v986
  let c32_i32_414 : BitVec 32 := 32#32
  let c0_i32_415 : BitVec 32 := 0#32
  let v1003 : BitVec 1 := Scalar.cmpi .eq c32_i32_414 c0_i32_415
  let c1_i32_416 : BitVec 32 := 1#32
  let v1004 : BitVec 32 := Scalar.select v1003 c1_i32_416 c32_i32_414
  let v1005 : BitVec 32 := Scalar.remsi c14_i32 v1004
  let c0_i32_418 : BitVec 32 := 0#32
  let v1007 : BitVec 1 := Scalar.cmpi .slt v1005 c0_i32_418
  let c0_i32_419 : BitVec 32 := 0#32
  let v1008 : BitVec 1 := Scalar.cmpi .slt v1004 c0_i32_419
  let v1009 : BitVec 1 := Scalar.xori v1007 v1008
  let c0_i32_417 : BitVec 32 := 0#32
  let v1006 : BitVec 1 := Scalar.cmpi .ne v1005 c0_i32_417
  let v1010 : BitVec 1 := Scalar.andi v1009 v1006
  let v1011 : BitVec 32 := Scalar.addi v1005 v1004
  let v1012 : BitVec 32 := Scalar.select v1010 v1011 v1005
  let c128_i32_420 : BitVec 32 := 128#32
  let v1013 : BitVec 32 := Scalar.muli v1012 c128_i32_420
  let v1014 : BitVec 32 := Scalar.addi v1002 v1013
  v1014
def k0_mult32 : BitVec 32 :=
  let c14_i32 : BitVec 32 := 14#32
  let c0_i32_408 : BitVec 32 := 0#32
  let v987 : BitVec 1 := Scalar.cmpi .sgt c14_i32 c0_i32_408
  let v988 : BitVec 32 := Scalar.extui v987
  let c0_i32_409 : BitVec 32 := 0#32
  let v989 : BitVec 1 := Scalar.cmpi .slt c14_i32 c0_i32_409
  let v990 : BitVec 32 := Scalar.extui v989
  let v991 : BitVec 32 := Scalar.subi v988 v990
  let c32_i32_407 : BitVec 32 := 32#32
  let c0_i32_410 : BitVec 32 := 0#32
  let v992 : BitVec 1 := Scalar.cmpi .sgt c32_i32_407 c0_i32_410
  let v993 : BitVec 32 := Scalar.extui v992
  let c0_i32_411 : BitVec 32 := 0#32
  let v994 : BitVec 1 := Scalar.cmpi .slt c32_i32_407 c0_i32_411
  let v995 : BitVec 32 := Scalar.extui v994
  let v996 : BitVec 32 := Scalar.subi v993 v995
  let v997 : BitVec 1 := Scalar.cmpi .ne v991 v996
  let v998 : BitVec 32 := Scalar.remsi c14_i32 c32_i32_407
  let c0_i32_412 : BitVec 32 := 0#32
  let v999 : BitVec 1 := Scalar.cmpi .ne v998 c0_i32_412
  let v1000 : BitVec 1 := Scalar.andi v997 v999
  let v986 : BitVec 32 := Scalar.divsi c14_i32 c32_i32_407
  let c1_i32_413 : BitVec 32 := 1#32
  let v1001 : BitVec 32 := Scalar.subi v986 c1_i32_413
  let v1002 : BitVec 32 := Scalar.select v1000 v1001 v986
  let c32_i32_414 : BitVec 32 := 32#32
  let c0_i32_415 : BitVec 32 := 0#32
  let v1003 : BitVec 1 := Scalar.cmpi .eq c32_i32_414 c0_i32_415
  let c1_i32_416 : BitVec 32 := 1#32
  let v1004 : BitVec 32 := Scalar.select v1003 c1_i32_416 c32_i32_414
  let v1005 : BitVec 32 := Scalar.remsi c14_i32 v1004
  let c0_i32_418 : BitVec 32 := 0#32
  let v1007 : BitVec 1 := Scalar.cmpi .slt v1005 c0_i32_418
  let c0_i32_419 : BitVec 32 := 0#32
  let v1008 : BitVec 1 := Scalar.cmpi .slt v1004 c0_i32_419
  let v1009 : BitVec 1 := Scalar.xori v1007 v1008
  let c0_i32_417 : BitVec 32 := 0#32
  let v1006 : BitVec 1 := Scalar.cmpi .ne v1005 c0_i32_417
  let v1010 : BitVec 1 := Scalar.andi v1009 v1006
  let v1011 : BitVec 32 := Scalar.addi v1005 v1004
  let v1012 : BitVec 32 := Scalar.select v1010 v1011 v1005
  let c128_i32_420 : BitVec 32 := 128#32
  let v1013 : BitVec 32 := Scalar.muli v1012 c128_i32_420
  let v1014 : BitVec 32 := Scalar.addi v1002 v1013
  let c1920_i32_421 : BitVec 32 := 1920#32
  let v1015 : BitVec 32 := Scalar.addi v1014 c1920_i32_421
  v1015
def k0_mult33 : BitVec 32 :=
  let c15_i32 : BitVec 32 := 15#32
  let c0_i32_437 : BitVec 32 := 0#32
  let v1057 : BitVec 1 := Scalar.cmpi .sgt c15_i32 c0_i32_437
  let v1058 : BitVec 32 := Scalar.extui v1057
  let c0_i32_438 : BitVec 32 := 0#32
  let v1059 : BitVec 1 := Scalar.cmpi .slt c15_i32 c0_i32_438
  let v1060 : BitVec 32 := Scalar.extui v1059
  let v1061 : BitVec 32 := Scalar.subi v1058 v1060
  let c32_i32_436 : BitVec 32 := 32#32
  let c0_i32_439 : BitVec 32 := 0#32
  let v1062 : BitVec 1 := Scalar.cmpi .sgt c32_i32_436 c0_i32_439
  let v1063 : BitVec 32 := Scalar.extui v1062
  let c0_i32_440 : BitVec 32 := 0#32
  let v1064 : BitVec 1 := Scalar.cmpi .slt c32_i32_436 c0_i32_440
  let v1065 : BitVec 32 := Scalar.extui v1064
  let v1066 : BitVec 32 := Scalar.subi v1063 v1065
  let v1067 : BitVec 1 := Scalar.cmpi .ne v1061 v1066
  let v1068 : BitVec 32 := Scalar.remsi c15_i32 c32_i32_436
  let c0_i32_441 : BitVec 32 := 0#32
  let v1069 : BitVec 1 := Scalar.cmpi .ne v1068 c0_i32_441
  let v1070 : BitVec 1 := Scalar.andi v1067 v1069
  let v1056 : BitVec 32 := Scalar.divsi c15_i32 c32_i32_436
  let c1_i32_442 : BitVec 32 := 1#32
  let v1071 : BitVec 32 := Scalar.subi v1056 c1_i32_442
  let v1072 : BitVec 32 := Scalar.select v1070 v1071 v1056
  let c32_i32_443 : BitVec 32 := 32#32
  let c0_i32_444 : BitVec 32 := 0#32
  let v1073 : BitVec 1 := Scalar.cmpi .eq c32_i32_443 c0_i32_444
  let c1_i32_445 : BitVec 32 := 1#32
  let v1074 : BitVec 32 := Scalar.select v1073 c1_i32_445 c32_i32_443
  let v1075 : BitVec 32 := Scalar.remsi c15_i32 v1074
  let c0_i32_447 : BitVec 32 := 0#32
  let v1077 : BitVec 1 := Scalar.cmpi .slt v1075 c0_i32_447
  let c0_i32_448 : BitVec 32 := 0#32
  let v1078 : BitVec 1 := Scalar.cmpi .slt v1074 c0_i32_448
  let v1079 : BitVec 1 := Scalar.xori v1077 v1078
  let c0_i32_446 : BitVec 32 := 0#32
  let v1076 : BitVec 1 := Scalar.cmpi .ne v1075 c0_i32_446
  let v1080 : BitVec 1 := Scalar.andi v1079 v1076
  let v1081 : BitVec 32 := Scalar.addi v1075 v1074
  let v1082 : BitVec 32 := Scalar.select v1080 v1081 v1075
  let c128_i32_449 : BitVec 32 := 128#32
  let v1083 : BitVec 32 := Scalar.muli v1082 c128_i32_449
  let v1084 : BitVec 32 := Scalar.addi v1072 v1083
  v1084
def k0_mult34 : BitVec 32 :=
  let c15_i32 : BitVec 32 := 15#32
  let c0_i32_437 : BitVec 32 := 0#32
  let v1057 : BitVec 1 := Scalar.cmpi .sgt c15_i32 c0_i32_437
  let v1058 : BitVec 32 := Scalar.extui v1057
  let c0_i32_438 : BitVec 32 := 0#32
  let v1059 : BitVec 1 := Scalar.cmpi .slt c15_i32 c0_i32_438
  let v1060 : BitVec 32 := Scalar.extui v1059
  let v1061 : BitVec 32 := Scalar.subi v1058 v1060
  let c32_i32_436 : BitVec 32 := 32#32
  let c0_i32_439 : BitVec 32 := 0#32
  let v1062 : BitVec 1 := Scalar.cmpi .sgt c32_i32_436 c0_i32_439
  let v1063 : BitVec 32 := Scalar.extui v1062
  let c0_i32_440 : BitVec 32 := 0#32
  let v1064 : BitVec 1 := Scalar.cmpi .slt c32_i32_436 c0_i32_440
  let v1065 : BitVec 32 := Scalar.extui v1064
  let v1066 : BitVec 32 := Scalar.subi v1063 v1065
  let v1067 : BitVec 1 := Scalar.cmpi .ne v1061 v1066
  let v1068 : BitVec 32 := Scalar.remsi c15_i32 c32_i32_436
  let c0_i32_441 : BitVec 32 := 0#32
  let v1069 : BitVec 1 := Scalar.cmpi .ne v1068 c0_i32_441
  let v1070 : BitVec 1 := Scalar.andi v1067 v1069
  let v1056 : BitVec 32 := Scalar.divsi c15_i32 c32_i32_436
  let c1_i32_442 : BitVec 32 := 1#32
  let v1071 : BitVec 32 := Scalar.subi v1056 c1_i32_442
  let v1072 : BitVec 32 := Scalar.select v1070 v1071 v1056
  let c32_i32_443 : BitVec 32 := 32#32
  let c0_i32_444 : BitVec 32 := 0#32
  let v1073 : BitVec 1 := Scalar.cmpi .eq c32_i32_443 c0_i32_444
  let c1_i32_445 : BitVec 32 := 1#32
  let v1074 : BitVec 32 := Scalar.select v1073 c1_i32_445 c32_i32_443
  let v1075 : BitVec 32 := Scalar.remsi c15_i32 v1074
  let c0_i32_447 : BitVec 32 := 0#32
  let v1077 : BitVec 1 := Scalar.cmpi .slt v1075 c0_i32_447
  let c0_i32_448 : BitVec 32 := 0#32
  let v1078 : BitVec 1 := Scalar.cmpi .slt v1074 c0_i32_448
  let v1079 : BitVec 1 := Scalar.xori v1077 v1078
  let c0_i32_446 : BitVec 32 := 0#32
  let v1076 : BitVec 1 := Scalar.cmpi .ne v1075 c0_i32_446
  let v1080 : BitVec 1 := Scalar.andi v1079 v1076
  let v1081 : BitVec 32 := Scalar.addi v1075 v1074
  let v1082 : BitVec 32 := Scalar.select v1080 v1081 v1075
  let c128_i32_449 : BitVec 32 := 128#32
  let v1083 : BitVec 32 := Scalar.muli v1082 c128_i32_449
  let v1084 : BitVec 32 := Scalar.addi v1072 v1083
  let c1920_i32_450 : BitVec 32 := 1920#32
  let v1085 : BitVec 32 := Scalar.addi v1084 c1920_i32_450
  v1085
def k0_mult35 : BitVec 32 :=
  let c16_i32_465 : BitVec 32 := 16#32
  let c0_i32_467 : BitVec 32 := 0#32
  let v1127 : BitVec 1 := Scalar.cmpi .sgt c16_i32_465 c0_i32_467
  let v1128 : BitVec 32 := Scalar.extui v1127
  let c0_i32_468 : BitVec 32 := 0#32
  let v1129 : BitVec 1 := Scalar.cmpi .slt c16_i32_465 c0_i32_468
  let v1130 : BitVec 32 := Scalar.extui v1129
  let v1131 : BitVec 32 := Scalar.subi v1128 v1130
  let c32_i32_466 : BitVec 32 := 32#32
  let c0_i32_469 : BitVec 32 := 0#32
  let v1132 : BitVec 1 := Scalar.cmpi .sgt c32_i32_466 c0_i32_469
  let v1133 : BitVec 32 := Scalar.extui v1132
  let c0_i32_470 : BitVec 32 := 0#32
  let v1134 : BitVec 1 := Scalar.cmpi .slt c32_i32_466 c0_i32_470
  let v1135 : BitVec 32 := Scalar.extui v1134
  let v1136 : BitVec 32 := Scalar.subi v1133 v1135
  let v1137 : BitVec 1 := Scalar.cmpi .ne v1131 v1136
  let v1138 : BitVec 32 := Scalar.remsi c16_i32_465 c32_i32_466
  let c0_i32_471 : BitVec 32 := 0#32
  let v1139 : BitVec 1 := Scalar.cmpi .ne v1138 c0_i32_471
  let v1140 : BitVec 1 := Scalar.andi v1137 v1139
  let v1126 : BitVec 32 := Scalar.divsi c16_i32_465 c32_i32_466
  let c1_i32_472 : BitVec 32 := 1#32
  let v1141 : BitVec 32 := Scalar.subi v1126 c1_i32_472
  let v1142 : BitVec 32 := Scalar.select v1140 v1141 v1126
  let c32_i32_473 : BitVec 32 := 32#32
  let c0_i32_474 : BitVec 32 := 0#32
  let v1143 : BitVec 1 := Scalar.cmpi .eq c32_i32_473 c0_i32_474
  let c1_i32_475 : BitVec 32 := 1#32
  let v1144 : BitVec 32 := Scalar.select v1143 c1_i32_475 c32_i32_473
  let v1145 : BitVec 32 := Scalar.remsi c16_i32_465 v1144
  let c0_i32_477 : BitVec 32 := 0#32
  let v1147 : BitVec 1 := Scalar.cmpi .slt v1145 c0_i32_477
  let c0_i32_478 : BitVec 32 := 0#32
  let v1148 : BitVec 1 := Scalar.cmpi .slt v1144 c0_i32_478
  let v1149 : BitVec 1 := Scalar.xori v1147 v1148
  let c0_i32_476 : BitVec 32 := 0#32
  let v1146 : BitVec 1 := Scalar.cmpi .ne v1145 c0_i32_476
  let v1150 : BitVec 1 := Scalar.andi v1149 v1146
  let v1151 : BitVec 32 := Scalar.addi v1145 v1144
  let v1152 : BitVec 32 := Scalar.select v1150 v1151 v1145
  let c128_i32_479 : BitVec 32 := 128#32
  let v1153 : BitVec 32 := Scalar.muli v1152 c128_i32_479
  let v1154 : BitVec 32 := Scalar.addi v1142 v1153
  v1154
def k0_mult36 : BitVec 32 :=
  let c16_i32_465 : BitVec 32 := 16#32
  let c0_i32_467 : BitVec 32 := 0#32
  let v1127 : BitVec 1 := Scalar.cmpi .sgt c16_i32_465 c0_i32_467
  let v1128 : BitVec 32 := Scalar.extui v1127
  let c0_i32_468 : BitVec 32 := 0#32
  let v1129 : BitVec 1 := Scalar.cmpi .slt c16_i32_465 c0_i32_468
  let v1130 : BitVec 32 := Scalar.extui v1129
  let v1131 : BitVec 32 := Scalar.subi v1128 v1130
  let c32_i32_466 : BitVec 32 := 32#32
  let c0_i32_469 : BitVec 32 := 0#32
  let v1132 : BitVec 1 := Scalar.cmpi .sgt c32_i32_466 c0_i32_469
  let v1133 : BitVec 32 := Scalar.extui v1132
  let c0_i32_470 : BitVec 32 := 0#32
  let v1134 : BitVec 1 := Scalar.cmpi .slt c32_i32_466 c0_i32_470
  let v1135 : BitVec 32 := Scalar.extui v1134
  let v1136 : BitVec 32 := Scalar.subi v1133 v1135
  let v1137 : BitVec 1 := Scalar.cmpi .ne v1131 v1136
  let v1138 : BitVec 32 := Scalar.remsi c16_i32_465 c32_i32_466
  let c0_i32_471 : BitVec 32 := 0#32
  let v1139 : BitVec 1 := Scalar.cmpi .ne v1138 c0_i32_471
  let v1140 : BitVec 1 := Scalar.andi v1137 v1139
  let v1126 : BitVec 32 := Scalar.divsi c16_i32_465 c32_i32_466
  let c1_i32_472 : BitVec 32 := 1#32
  let v1141 : BitVec 32 := Scalar.subi v1126 c1_i32_472
  let v1142 : BitVec 32 := Scalar.select v1140 v1141 v1126
  let c32_i32_473 : BitVec 32 := 32#32
  let c0_i32_474 : BitVec 32 := 0#32
  let v1143 : BitVec 1 := Scalar.cmpi .eq c32_i32_473 c0_i32_474
  let c1_i32_475 : BitVec 32 := 1#32
  let v1144 : BitVec 32 := Scalar.select v1143 c1_i32_475 c32_i32_473
  let v1145 : BitVec 32 := Scalar.remsi c16_i32_465 v1144
  let c0_i32_477 : BitVec 32 := 0#32
  let v1147 : BitVec 1 := Scalar.cmpi .slt v1145 c0_i32_477
  let c0_i32_478 : BitVec 32 := 0#32
  let v1148 : BitVec 1 := Scalar.cmpi .slt v1144 c0_i32_478
  let v1149 : BitVec 1 := Scalar.xori v1147 v1148
  let c0_i32_476 : BitVec 32 := 0#32
  let v1146 : BitVec 1 := Scalar.cmpi .ne v1145 c0_i32_476
  let v1150 : BitVec 1 := Scalar.andi v1149 v1146
  let v1151 : BitVec 32 := Scalar.addi v1145 v1144
  let v1152 : BitVec 32 := Scalar.select v1150 v1151 v1145
  let c128_i32_479 : BitVec 32 := 128#32
  let v1153 : BitVec 32 := Scalar.muli v1152 c128_i32_479
  let v1154 : BitVec 32 := Scalar.addi v1142 v1153
  let c1920_i32_480 : BitVec 32 := 1920#32
  let v1155 : BitVec 32 := Scalar.addi v1154 c1920_i32_480
  v1155
def k0_mult37 : BitVec 32 :=
  let c17_i32 : BitVec 32 := 17#32
  let c0_i32_496 : BitVec 32 := 0#32
  let v1197 : BitVec 1 := Scalar.cmpi .sgt c17_i32 c0_i32_496
  let v1198 : BitVec 32 := Scalar.extui v1197
  let c0_i32_497 : BitVec 32 := 0#32
  let v1199 : BitVec 1 := Scalar.cmpi .slt c17_i32 c0_i32_497
  let v1200 : BitVec 32 := Scalar.extui v1199
  let v1201 : BitVec 32 := Scalar.subi v1198 v1200
  let c32_i32_495 : BitVec 32 := 32#32
  let c0_i32_498 : BitVec 32 := 0#32
  let v1202 : BitVec 1 := Scalar.cmpi .sgt c32_i32_495 c0_i32_498
  let v1203 : BitVec 32 := Scalar.extui v1202
  let c0_i32_499 : BitVec 32 := 0#32
  let v1204 : BitVec 1 := Scalar.cmpi .slt c32_i32_495 c0_i32_499
  let v1205 : BitVec 32 := Scalar.extui v1204
  let v1206 : BitVec 32 := Scalar.subi v1203 v1205
  let v1207 : BitVec 1 := Scalar.cmpi .ne v1201 v1206
  let v1208 : BitVec 32 := Scalar.remsi c17_i32 c32_i32_495
  let c0_i32_500 : BitVec 32 := 0#32
  let v1209 : BitVec 1 := Scalar.cmpi .ne v1208 c0_i32_500
  let v1210 : BitVec 1 := Scalar.andi v1207 v1209
  let v1196 : BitVec 32 := Scalar.divsi c17_i32 c32_i32_495
  let c1_i32_501 : BitVec 32 := 1#32
  let v1211 : BitVec 32 := Scalar.subi v1196 c1_i32_501
  let v1212 : BitVec 32 := Scalar.select v1210 v1211 v1196
  let c32_i32_502 : BitVec 32 := 32#32
  let c0_i32_503 : BitVec 32 := 0#32
  let v1213 : BitVec 1 := Scalar.cmpi .eq c32_i32_502 c0_i32_503
  let c1_i32_504 : BitVec 32 := 1#32
  let v1214 : BitVec 32 := Scalar.select v1213 c1_i32_504 c32_i32_502
  let v1215 : BitVec 32 := Scalar.remsi c17_i32 v1214
  let c0_i32_506 : BitVec 32 := 0#32
  let v1217 : BitVec 1 := Scalar.cmpi .slt v1215 c0_i32_506
  let c0_i32_507 : BitVec 32 := 0#32
  let v1218 : BitVec 1 := Scalar.cmpi .slt v1214 c0_i32_507
  let v1219 : BitVec 1 := Scalar.xori v1217 v1218
  let c0_i32_505 : BitVec 32 := 0#32
  let v1216 : BitVec 1 := Scalar.cmpi .ne v1215 c0_i32_505
  let v1220 : BitVec 1 := Scalar.andi v1219 v1216
  let v1221 : BitVec 32 := Scalar.addi v1215 v1214
  let v1222 : BitVec 32 := Scalar.select v1220 v1221 v1215
  let c128_i32_508 : BitVec 32 := 128#32
  let v1223 : BitVec 32 := Scalar.muli v1222 c128_i32_508
  let v1224 : BitVec 32 := Scalar.addi v1212 v1223
  v1224
def k0_mult38 : BitVec 32 :=
  let c17_i32 : BitVec 32 := 17#32
  let c0_i32_496 : BitVec 32 := 0#32
  let v1197 : BitVec 1 := Scalar.cmpi .sgt c17_i32 c0_i32_496
  let v1198 : BitVec 32 := Scalar.extui v1197
  let c0_i32_497 : BitVec 32 := 0#32
  let v1199 : BitVec 1 := Scalar.cmpi .slt c17_i32 c0_i32_497
  let v1200 : BitVec 32 := Scalar.extui v1199
  let v1201 : BitVec 32 := Scalar.subi v1198 v1200
  let c32_i32_495 : BitVec 32 := 32#32
  let c0_i32_498 : BitVec 32 := 0#32
  let v1202 : BitVec 1 := Scalar.cmpi .sgt c32_i32_495 c0_i32_498
  let v1203 : BitVec 32 := Scalar.extui v1202
  let c0_i32_499 : BitVec 32 := 0#32
  let v1204 : BitVec 1 := Scalar.cmpi .slt c32_i32_495 c0_i32_499
  let v1205 : BitVec 32 := Scalar.extui v1204
  let v1206 : BitVec 32 := Scalar.subi v1203 v1205
  let v1207 : BitVec 1 := Scalar.cmpi .ne v1201 v1206
  let v1208 : BitVec 32 := Scalar.remsi c17_i32 c32_i32_495
  let c0_i32_500 : BitVec 32 := 0#32
  let v1209 : BitVec 1 := Scalar.cmpi .ne v1208 c0_i32_500
  let v1210 : BitVec 1 := Scalar.andi v1207 v1209
  let v1196 : BitVec 32 := Scalar.divsi c17_i32 c32_i32_495
  let c1_i32_501 : BitVec 32 := 1#32
  let v1211 : BitVec 32 := Scalar.subi v1196 c1_i32_501
  let v1212 : BitVec 32 := Scalar.select v1210 v1211 v1196
  let c32_i32_502 : BitVec 32 := 32#32
  let c0_i32_503 : BitVec 32 := 0#32
  let v1213 : BitVec 1 := Scalar.cmpi .eq c32_i32_502 c0_i32_503
  let c1_i32_504 : BitVec 32 := 1#32
  let v1214 : BitVec 32 := Scalar.select v1213 c1_i32_504 c32_i32_502
  let v1215 : BitVec 32 := Scalar.remsi c17_i32 v1214
  let c0_i32_506 : BitVec 32 := 0#32
  let v1217 : BitVec 1 := Scalar.cmpi .slt v1215 c0_i32_506
  let c0_i32_507 : BitVec 32 := 0#32
  let v1218 : BitVec 1 := Scalar.cmpi .slt v1214 c0_i32_507
  let v1219 : BitVec 1 := Scalar.xori v1217 v1218
  let c0_i32_505 : BitVec 32 := 0#32
  let v1216 : BitVec 1 := Scalar.cmpi .ne v1215 c0_i32_505
  let v1220 : BitVec 1 := Scalar.andi v1219 v1216
  let v1221 : BitVec 32 := Scalar.addi v1215 v1214
  let v1222 : BitVec 32 := Scalar.select v1220 v1221 v1215
  let c128_i32_508 : BitVec 32 := 128#32
  let v1223 : BitVec 32 := Scalar.muli v1222 c128_i32_508
  let v1224 : BitVec 32 := Scalar.addi v1212 v1223
  let c1920_i32_509 : BitVec 32 := 1920#32
  let v1225 : BitVec 32 := Scalar.addi v1224 c1920_i32_509
  v1225
def k0_mult39 : BitVec 32 :=
  let c18_i32 : BitVec 32 := 18#32
  let c0_i32_525 : BitVec 32 := 0#32
  let v1267 : BitVec 1 := Scalar.cmpi .sgt c18_i32 c0_i32_525
  let v1268 : BitVec 32 := Scalar.extui v1267
  let c0_i32_526 : BitVec 32 := 0#32
  let v1269 : BitVec 1 := Scalar.cmpi .slt c18_i32 c0_i32_526
  let v1270 : BitVec 32 := Scalar.extui v1269
  let v1271 : BitVec 32 := Scalar.subi v1268 v1270
  let c32_i32_524 : BitVec 32 := 32#32
  let c0_i32_527 : BitVec 32 := 0#32
  let v1272 : BitVec 1 := Scalar.cmpi .sgt c32_i32_524 c0_i32_527
  let v1273 : BitVec 32 := Scalar.extui v1272
  let c0_i32_528 : BitVec 32 := 0#32
  let v1274 : BitVec 1 := Scalar.cmpi .slt c32_i32_524 c0_i32_528
  let v1275 : BitVec 32 := Scalar.extui v1274
  let v1276 : BitVec 32 := Scalar.subi v1273 v1275
  let v1277 : BitVec 1 := Scalar.cmpi .ne v1271 v1276
  let v1278 : BitVec 32 := Scalar.remsi c18_i32 c32_i32_524
  let c0_i32_529 : BitVec 32 := 0#32
  let v1279 : BitVec 1 := Scalar.cmpi .ne v1278 c0_i32_529
  let v1280 : BitVec 1 := Scalar.andi v1277 v1279
  let v1266 : BitVec 32 := Scalar.divsi c18_i32 c32_i32_524
  let c1_i32_530 : BitVec 32 := 1#32
  let v1281 : BitVec 32 := Scalar.subi v1266 c1_i32_530
  let v1282 : BitVec 32 := Scalar.select v1280 v1281 v1266
  let c32_i32_531 : BitVec 32 := 32#32
  let c0_i32_532 : BitVec 32 := 0#32
  let v1283 : BitVec 1 := Scalar.cmpi .eq c32_i32_531 c0_i32_532
  let c1_i32_533 : BitVec 32 := 1#32
  let v1284 : BitVec 32 := Scalar.select v1283 c1_i32_533 c32_i32_531
  let v1285 : BitVec 32 := Scalar.remsi c18_i32 v1284
  let c0_i32_535 : BitVec 32 := 0#32
  let v1287 : BitVec 1 := Scalar.cmpi .slt v1285 c0_i32_535
  let c0_i32_536 : BitVec 32 := 0#32
  let v1288 : BitVec 1 := Scalar.cmpi .slt v1284 c0_i32_536
  let v1289 : BitVec 1 := Scalar.xori v1287 v1288
  let c0_i32_534 : BitVec 32 := 0#32
  let v1286 : BitVec 1 := Scalar.cmpi .ne v1285 c0_i32_534
  let v1290 : BitVec 1 := Scalar.andi v1289 v1286
  let v1291 : BitVec 32 := Scalar.addi v1285 v1284
  let v1292 : BitVec 32 := Scalar.select v1290 v1291 v1285
  let c128_i32_537 : BitVec 32 := 128#32
  let v1293 : BitVec 32 := Scalar.muli v1292 c128_i32_537
  let v1294 : BitVec 32 := Scalar.addi v1282 v1293
  v1294
def k0_mult40 : BitVec 32 :=
  let c18_i32 : BitVec 32 := 18#32
  let c0_i32_525 : BitVec 32 := 0#32
  let v1267 : BitVec 1 := Scalar.cmpi .sgt c18_i32 c0_i32_525
  let v1268 : BitVec 32 := Scalar.extui v1267
  let c0_i32_526 : BitVec 32 := 0#32
  let v1269 : BitVec 1 := Scalar.cmpi .slt c18_i32 c0_i32_526
  let v1270 : BitVec 32 := Scalar.extui v1269
  let v1271 : BitVec 32 := Scalar.subi v1268 v1270
  let c32_i32_524 : BitVec 32 := 32#32
  let c0_i32_527 : BitVec 32 := 0#32
  let v1272 : BitVec 1 := Scalar.cmpi .sgt c32_i32_524 c0_i32_527
  let v1273 : BitVec 32 := Scalar.extui v1272
  let c0_i32_528 : BitVec 32 := 0#32
  let v1274 : BitVec 1 := Scalar.cmpi .slt c32_i32_524 c0_i32_528
  let v1275 : BitVec 32 := Scalar.extui v1274
  let v1276 : BitVec 32 := Scalar.subi v1273 v1275
  let v1277 : BitVec 1 := Scalar.cmpi .ne v1271 v1276
  let v1278 : BitVec 32 := Scalar.remsi c18_i32 c32_i32_524
  let c0_i32_529 : BitVec 32 := 0#32
  let v1279 : BitVec 1 := Scalar.cmpi .ne v1278 c0_i32_529
  let v1280 : BitVec 1 := Scalar.andi v1277 v1279
  let v1266 : BitVec 32 := Scalar.divsi c18_i32 c32_i32_524
  let c1_i32_530 : BitVec 32 := 1#32
  let v1281 : BitVec 32 := Scalar.subi v1266 c1_i32_530
  let v1282 : BitVec 32 := Scalar.select v1280 v1281 v1266
  let c32_i32_531 : BitVec 32 := 32#32
  let c0_i32_532 : BitVec 32 := 0#32
  let v1283 : BitVec 1 := Scalar.cmpi .eq c32_i32_531 c0_i32_532
  let c1_i32_533 : BitVec 32 := 1#32
  let v1284 : BitVec 32 := Scalar.select v1283 c1_i32_533 c32_i32_531
  let v1285 : BitVec 32 := Scalar.remsi c18_i32 v1284
  let c0_i32_535 : BitVec 32 := 0#32
  let v1287 : BitVec 1 := Scalar.cmpi .slt v1285 c0_i32_535
  let c0_i32_536 : BitVec 32 := 0#32
  let v1288 : BitVec 1 := Scalar.cmpi .slt v1284 c0_i32_536
  let v1289 : BitVec 1 := Scalar.xori v1287 v1288
  let c0_i32_534 : BitVec 32 := 0#32
  let v1286 : BitVec 1 := Scalar.cmpi .ne v1285 c0_i32_534
  let v1290 : BitVec 1 := Scalar.andi v1289 v1286
  let v1291 : BitVec 32 := Scalar.addi v1285 v1284
  let v1292 : BitVec 32 := Scalar.select v1290 v1291 v1285
  let c128_i32_537 : BitVec 32 := 128#32
  let v1293 : BitVec 32 := Scalar.muli v1292 c128_i32_537
  let v1294 : BitVec 32 := Scalar.addi v1282 v1293
  let c1920_i32_538 : BitVec 32 := 1920#32
  let v1295 : BitVec 32 := Scalar.addi v1294 c1920_i32_538
  v1295
def k0_mult41 : BitVec 32 :=
  let c19_i32 : BitVec 32 := 19#32
  let c0_i32_554 : BitVec 32 := 0#32
  let v1337 : BitVec 1 := Scalar.cmpi .sgt c19_i32 c0_i32_554
  let v1338 : BitVec 32 := Scalar.extui v1337
  let c0_i32_555 : BitVec 32 := 0#32
  let v1339 : BitVec 1 := Scalar.cmpi .slt c19_i32 c0_i32_555
  let v1340 : BitVec 32 := Scalar.extui v1339
  let v1341 : BitVec 32 := Scalar.subi v1338 v1340
  let c32_i32_553 : BitVec 32 := 32#32
  let c0_i32_556 : BitVec 32 := 0#32
  let v1342 : BitVec 1 := Scalar.cmpi .sgt c32_i32_553 c0_i32_556
  let v1343 : BitVec 32 := Scalar.extui v1342
  let c0_i32_557 : BitVec 32 := 0#32
  let v1344 : BitVec 1 := Scalar.cmpi .slt c32_i32_553 c0_i32_557
  let v1345 : BitVec 32 := Scalar.extui v1344
  let v1346 : BitVec 32 := Scalar.subi v1343 v1345
  let v1347 : BitVec 1 := Scalar.cmpi .ne v1341 v1346
  let v1348 : BitVec 32 := Scalar.remsi c19_i32 c32_i32_553
  let c0_i32_558 : BitVec 32 := 0#32
  let v1349 : BitVec 1 := Scalar.cmpi .ne v1348 c0_i32_558
  let v1350 : BitVec 1 := Scalar.andi v1347 v1349
  let v1336 : BitVec 32 := Scalar.divsi c19_i32 c32_i32_553
  let c1_i32_559 : BitVec 32 := 1#32
  let v1351 : BitVec 32 := Scalar.subi v1336 c1_i32_559
  let v1352 : BitVec 32 := Scalar.select v1350 v1351 v1336
  let c32_i32_560 : BitVec 32 := 32#32
  let c0_i32_561 : BitVec 32 := 0#32
  let v1353 : BitVec 1 := Scalar.cmpi .eq c32_i32_560 c0_i32_561
  let c1_i32_562 : BitVec 32 := 1#32
  let v1354 : BitVec 32 := Scalar.select v1353 c1_i32_562 c32_i32_560
  let v1355 : BitVec 32 := Scalar.remsi c19_i32 v1354
  let c0_i32_564 : BitVec 32 := 0#32
  let v1357 : BitVec 1 := Scalar.cmpi .slt v1355 c0_i32_564
  let c0_i32_565 : BitVec 32 := 0#32
  let v1358 : BitVec 1 := Scalar.cmpi .slt v1354 c0_i32_565
  let v1359 : BitVec 1 := Scalar.xori v1357 v1358
  let c0_i32_563 : BitVec 32 := 0#32
  let v1356 : BitVec 1 := Scalar.cmpi .ne v1355 c0_i32_563
  let v1360 : BitVec 1 := Scalar.andi v1359 v1356
  let v1361 : BitVec 32 := Scalar.addi v1355 v1354
  let v1362 : BitVec 32 := Scalar.select v1360 v1361 v1355
  let c128_i32_566 : BitVec 32 := 128#32
  let v1363 : BitVec 32 := Scalar.muli v1362 c128_i32_566
  let v1364 : BitVec 32 := Scalar.addi v1352 v1363
  v1364
def k0_mult42 : BitVec 32 :=
  let c19_i32 : BitVec 32 := 19#32
  let c0_i32_554 : BitVec 32 := 0#32
  let v1337 : BitVec 1 := Scalar.cmpi .sgt c19_i32 c0_i32_554
  let v1338 : BitVec 32 := Scalar.extui v1337
  let c0_i32_555 : BitVec 32 := 0#32
  let v1339 : BitVec 1 := Scalar.cmpi .slt c19_i32 c0_i32_555
  let v1340 : BitVec 32 := Scalar.extui v1339
  let v1341 : BitVec 32 := Scalar.subi v1338 v1340
  let c32_i32_553 : BitVec 32 := 32#32
  let c0_i32_556 : BitVec 32 := 0#32
  let v1342 : BitVec 1 := Scalar.cmpi .sgt c32_i32_553 c0_i32_556
  let v1343 : BitVec 32 := Scalar.extui v1342
  let c0_i32_557 : BitVec 32 := 0#32
  let v1344 : BitVec 1 := Scalar.cmpi .slt c32_i32_553 c0_i32_557
  let v1345 : BitVec 32 := Scalar.extui v1344
  let v1346 : BitVec 32 := Scalar.subi v1343 v1345
  let v1347 : BitVec 1 := Scalar.cmpi .ne v1341 v1346
  let v1348 : BitVec 32 := Scalar.remsi c19_i32 c32_i32_553
  let c0_i32_558 : BitVec 32 := 0#32
  let v1349 : BitVec 1 := Scalar.cmpi .ne v1348 c0_i32_558
  let v1350 : BitVec 1 := Scalar.andi v1347 v1349
  let v1336 : BitVec 32 := Scalar.divsi c19_i32 c32_i32_553
  let c1_i32_559 : BitVec 32 := 1#32
  let v1351 : BitVec 32 := Scalar.subi v1336 c1_i32_559
  let v1352 : BitVec 32 := Scalar.select v1350 v1351 v1336
  let c32_i32_560 : BitVec 32 := 32#32
  let c0_i32_561 : BitVec 32 := 0#32
  let v1353 : BitVec 1 := Scalar.cmpi .eq c32_i32_560 c0_i32_561
  let c1_i32_562 : BitVec 32 := 1#32
  let v1354 : BitVec 32 := Scalar.select v1353 c1_i32_562 c32_i32_560
  let v1355 : BitVec 32 := Scalar.remsi c19_i32 v1354
  let c0_i32_564 : BitVec 32 := 0#32
  let v1357 : BitVec 1 := Scalar.cmpi .slt v1355 c0_i32_564
  let c0_i32_565 : BitVec 32 := 0#32
  let v1358 : BitVec 1 := Scalar.cmpi .slt v1354 c0_i32_565
  let v1359 : BitVec 1 := Scalar.xori v1357 v1358
  let c0_i32_563 : BitVec 32 := 0#32
  let v1356 : BitVec 1 := Scalar.cmpi .ne v1355 c0_i32_563
  let v1360 : BitVec 1 := Scalar.andi v1359 v1356
  let v1361 : BitVec 32 := Scalar.addi v1355 v1354
  let v1362 : BitVec 32 := Scalar.select v1360 v1361 v1355
  let c128_i32_566 : BitVec 32 := 128#32
  let v1363 : BitVec 32 := Scalar.muli v1362 c128_i32_566
  let v1364 : BitVec 32 := Scalar.addi v1352 v1363
  let c1920_i32_567 : BitVec 32 := 1920#32
  let v1365 : BitVec 32 := Scalar.addi v1364 c1920_i32_567
  v1365
def k0_mult43 : BitVec 32 :=
  let c20_i32 : BitVec 32 := 20#32
  let c0_i32_583 : BitVec 32 := 0#32
  let v1407 : BitVec 1 := Scalar.cmpi .sgt c20_i32 c0_i32_583
  let v1408 : BitVec 32 := Scalar.extui v1407
  let c0_i32_584 : BitVec 32 := 0#32
  let v1409 : BitVec 1 := Scalar.cmpi .slt c20_i32 c0_i32_584
  let v1410 : BitVec 32 := Scalar.extui v1409
  let v1411 : BitVec 32 := Scalar.subi v1408 v1410
  let c32_i32_582 : BitVec 32 := 32#32
  let c0_i32_585 : BitVec 32 := 0#32
  let v1412 : BitVec 1 := Scalar.cmpi .sgt c32_i32_582 c0_i32_585
  let v1413 : BitVec 32 := Scalar.extui v1412
  let c0_i32_586 : BitVec 32 := 0#32
  let v1414 : BitVec 1 := Scalar.cmpi .slt c32_i32_582 c0_i32_586
  let v1415 : BitVec 32 := Scalar.extui v1414
  let v1416 : BitVec 32 := Scalar.subi v1413 v1415
  let v1417 : BitVec 1 := Scalar.cmpi .ne v1411 v1416
  let v1418 : BitVec 32 := Scalar.remsi c20_i32 c32_i32_582
  let c0_i32_587 : BitVec 32 := 0#32
  let v1419 : BitVec 1 := Scalar.cmpi .ne v1418 c0_i32_587
  let v1420 : BitVec 1 := Scalar.andi v1417 v1419
  let v1406 : BitVec 32 := Scalar.divsi c20_i32 c32_i32_582
  let c1_i32_588 : BitVec 32 := 1#32
  let v1421 : BitVec 32 := Scalar.subi v1406 c1_i32_588
  let v1422 : BitVec 32 := Scalar.select v1420 v1421 v1406
  let c32_i32_589 : BitVec 32 := 32#32
  let c0_i32_590 : BitVec 32 := 0#32
  let v1423 : BitVec 1 := Scalar.cmpi .eq c32_i32_589 c0_i32_590
  let c1_i32_591 : BitVec 32 := 1#32
  let v1424 : BitVec 32 := Scalar.select v1423 c1_i32_591 c32_i32_589
  let v1425 : BitVec 32 := Scalar.remsi c20_i32 v1424
  let c0_i32_593 : BitVec 32 := 0#32
  let v1427 : BitVec 1 := Scalar.cmpi .slt v1425 c0_i32_593
  let c0_i32_594 : BitVec 32 := 0#32
  let v1428 : BitVec 1 := Scalar.cmpi .slt v1424 c0_i32_594
  let v1429 : BitVec 1 := Scalar.xori v1427 v1428
  let c0_i32_592 : BitVec 32 := 0#32
  let v1426 : BitVec 1 := Scalar.cmpi .ne v1425 c0_i32_592
  let v1430 : BitVec 1 := Scalar.andi v1429 v1426
  let v1431 : BitVec 32 := Scalar.addi v1425 v1424
  let v1432 : BitVec 32 := Scalar.select v1430 v1431 v1425
  let c128_i32_595 : BitVec 32 := 128#32
  let v1433 : BitVec 32 := Scalar.muli v1432 c128_i32_595
  let v1434 : BitVec 32 := Scalar.addi v1422 v1433
  v1434
def k0_mult44 : BitVec 32 :=
  let c20_i32 : BitVec 32 := 20#32
  let c0_i32_583 : BitVec 32 := 0#32
  let v1407 : BitVec 1 := Scalar.cmpi .sgt c20_i32 c0_i32_583
  let v1408 : BitVec 32 := Scalar.extui v1407
  let c0_i32_584 : BitVec 32 := 0#32
  let v1409 : BitVec 1 := Scalar.cmpi .slt c20_i32 c0_i32_584
  let v1410 : BitVec 32 := Scalar.extui v1409
  let v1411 : BitVec 32 := Scalar.subi v1408 v1410
  let c32_i32_582 : BitVec 32 := 32#32
  let c0_i32_585 : BitVec 32 := 0#32
  let v1412 : BitVec 1 := Scalar.cmpi .sgt c32_i32_582 c0_i32_585
  let v1413 : BitVec 32 := Scalar.extui v1412
  let c0_i32_586 : BitVec 32 := 0#32
  let v1414 : BitVec 1 := Scalar.cmpi .slt c32_i32_582 c0_i32_586
  let v1415 : BitVec 32 := Scalar.extui v1414
  let v1416 : BitVec 32 := Scalar.subi v1413 v1415
  let v1417 : BitVec 1 := Scalar.cmpi .ne v1411 v1416
  let v1418 : BitVec 32 := Scalar.remsi c20_i32 c32_i32_582
  let c0_i32_587 : BitVec 32 := 0#32
  let v1419 : BitVec 1 := Scalar.cmpi .ne v1418 c0_i32_587
  let v1420 : BitVec 1 := Scalar.andi v1417 v1419
  let v1406 : BitVec 32 := Scalar.divsi c20_i32 c32_i32_582
  let c1_i32_588 : BitVec 32 := 1#32
  let v1421 : BitVec 32 := Scalar.subi v1406 c1_i32_588
  let v1422 : BitVec 32 := Scalar.select v1420 v1421 v1406
  let c32_i32_589 : BitVec 32 := 32#32
  let c0_i32_590 : BitVec 32 := 0#32
  let v1423 : BitVec 1 := Scalar.cmpi .eq c32_i32_589 c0_i32_590
  let c1_i32_591 : BitVec 32 := 1#32
  let v1424 : BitVec 32 := Scalar.select v1423 c1_i32_591 c32_i32_589
  let v1425 : BitVec 32 := Scalar.remsi c20_i32 v1424
  let c0_i32_593 : BitVec 32 := 0#32
  let v1427 : BitVec 1 := Scalar.cmpi .slt v1425 c0_i32_593
  let c0_i32_594 : BitVec 32 := 0#32
  let v1428 : BitVec 1 := Scalar.cmpi .slt v1424 c0_i32_594
  let v1429 : BitVec 1 := Scalar.xori v1427 v1428
  let c0_i32_592 : BitVec 32 := 0#32
  let v1426 : BitVec 1 := Scalar.cmpi .ne v1425 c0_i32_592
  let v1430 : BitVec 1 := Scalar.andi v1429 v1426
  let v1431 : BitVec 32 := Scalar.addi v1425 v1424
  let v1432 : BitVec 32 := Scalar.select v1430 v1431 v1425
  let c128_i32_595 : BitVec 32 := 128#32
  let v1433 : BitVec 32 := Scalar.muli v1432 c128_i32_595
  let v1434 : BitVec 32 := Scalar.addi v1422 v1433
  let c1920_i32_596 : BitVec 32 := 1920#32
  let v1435 : BitVec 32 := Scalar.addi v1434 c1920_i32_596
  v1435
def k0_mult45 : BitVec 32 :=
  let c21_i32 : BitVec 32 := 21#32
  let c0_i32_612 : BitVec 32 := 0#32
  let v1477 : BitVec 1 := Scalar.cmpi .sgt c21_i32 c0_i32_612
  let v1478 : BitVec 32 := Scalar.extui v1477
  let c0_i32_613 : BitVec 32 := 0#32
  let v1479 : BitVec 1 := Scalar.cmpi .slt c21_i32 c0_i32_613
  let v1480 : BitVec 32 := Scalar.extui v1479
  let v1481 : BitVec 32 := Scalar.subi v1478 v1480
  let c32_i32_611 : BitVec 32 := 32#32
  let c0_i32_614 : BitVec 32 := 0#32
  let v1482 : BitVec 1 := Scalar.cmpi .sgt c32_i32_611 c0_i32_614
  let v1483 : BitVec 32 := Scalar.extui v1482
  let c0_i32_615 : BitVec 32 := 0#32
  let v1484 : BitVec 1 := Scalar.cmpi .slt c32_i32_611 c0_i32_615
  let v1485 : BitVec 32 := Scalar.extui v1484
  let v1486 : BitVec 32 := Scalar.subi v1483 v1485
  let v1487 : BitVec 1 := Scalar.cmpi .ne v1481 v1486
  let v1488 : BitVec 32 := Scalar.remsi c21_i32 c32_i32_611
  let c0_i32_616 : BitVec 32 := 0#32
  let v1489 : BitVec 1 := Scalar.cmpi .ne v1488 c0_i32_616
  let v1490 : BitVec 1 := Scalar.andi v1487 v1489
  let v1476 : BitVec 32 := Scalar.divsi c21_i32 c32_i32_611
  let c1_i32_617 : BitVec 32 := 1#32
  let v1491 : BitVec 32 := Scalar.subi v1476 c1_i32_617
  let v1492 : BitVec 32 := Scalar.select v1490 v1491 v1476
  let c32_i32_618 : BitVec 32 := 32#32
  let c0_i32_619 : BitVec 32 := 0#32
  let v1493 : BitVec 1 := Scalar.cmpi .eq c32_i32_618 c0_i32_619
  let c1_i32_620 : BitVec 32 := 1#32
  let v1494 : BitVec 32 := Scalar.select v1493 c1_i32_620 c32_i32_618
  let v1495 : BitVec 32 := Scalar.remsi c21_i32 v1494
  let c0_i32_622 : BitVec 32 := 0#32
  let v1497 : BitVec 1 := Scalar.cmpi .slt v1495 c0_i32_622
  let c0_i32_623 : BitVec 32 := 0#32
  let v1498 : BitVec 1 := Scalar.cmpi .slt v1494 c0_i32_623
  let v1499 : BitVec 1 := Scalar.xori v1497 v1498
  let c0_i32_621 : BitVec 32 := 0#32
  let v1496 : BitVec 1 := Scalar.cmpi .ne v1495 c0_i32_621
  let v1500 : BitVec 1 := Scalar.andi v1499 v1496
  let v1501 : BitVec 32 := Scalar.addi v1495 v1494
  let v1502 : BitVec 32 := Scalar.select v1500 v1501 v1495
  let c128_i32_624 : BitVec 32 := 128#32
  let v1503 : BitVec 32 := Scalar.muli v1502 c128_i32_624
  let v1504 : BitVec 32 := Scalar.addi v1492 v1503
  v1504
def k0_mult46 : BitVec 32 :=
  let c21_i32 : BitVec 32 := 21#32
  let c0_i32_612 : BitVec 32 := 0#32
  let v1477 : BitVec 1 := Scalar.cmpi .sgt c21_i32 c0_i32_612
  let v1478 : BitVec 32 := Scalar.extui v1477
  let c0_i32_613 : BitVec 32 := 0#32
  let v1479 : BitVec 1 := Scalar.cmpi .slt c21_i32 c0_i32_613
  let v1480 : BitVec 32 := Scalar.extui v1479
  let v1481 : BitVec 32 := Scalar.subi v1478 v1480
  let c32_i32_611 : BitVec 32 := 32#32
  let c0_i32_614 : BitVec 32 := 0#32
  let v1482 : BitVec 1 := Scalar.cmpi .sgt c32_i32_611 c0_i32_614
  let v1483 : BitVec 32 := Scalar.extui v1482
  let c0_i32_615 : BitVec 32 := 0#32
  let v1484 : BitVec 1 := Scalar.cmpi .slt c32_i32_611 c0_i32_615
  let v1485 : BitVec 32 := Scalar.extui v1484
  let v1486 : BitVec 32 := Scalar.subi v1483 v1485
  let v1487 : BitVec 1 := Scalar.cmpi .ne v1481 v1486
  let v1488 : BitVec 32 := Scalar.remsi c21_i32 c32_i32_611
  let c0_i32_616 : BitVec 32 := 0#32
  let v1489 : BitVec 1 := Scalar.cmpi .ne v1488 c0_i32_616
  let v1490 : BitVec 1 := Scalar.andi v1487 v1489
  let v1476 : BitVec 32 := Scalar.divsi c21_i32 c32_i32_611
  let c1_i32_617 : BitVec 32 := 1#32
  let v1491 : BitVec 32 := Scalar.subi v1476 c1_i32_617
  let v1492 : BitVec 32 := Scalar.select v1490 v1491 v1476
  let c32_i32_618 : BitVec 32 := 32#32
  let c0_i32_619 : BitVec 32 := 0#32
  let v1493 : BitVec 1 := Scalar.cmpi .eq c32_i32_618 c0_i32_619
  let c1_i32_620 : BitVec 32 := 1#32
  let v1494 : BitVec 32 := Scalar.select v1493 c1_i32_620 c32_i32_618
  let v1495 : BitVec 32 := Scalar.remsi c21_i32 v1494
  let c0_i32_622 : BitVec 32 := 0#32
  let v1497 : BitVec 1 := Scalar.cmpi .slt v1495 c0_i32_622
  let c0_i32_623 : BitVec 32 := 0#32
  let v1498 : BitVec 1 := Scalar.cmpi .slt v1494 c0_i32_623
  let v1499 : BitVec 1 := Scalar.xori v1497 v1498
  let c0_i32_621 : BitVec 32 := 0#32
  let v1496 : BitVec 1 := Scalar.cmpi .ne v1495 c0_i32_621
  let v1500 : BitVec 1 := Scalar.andi v1499 v1496
  let v1501 : BitVec 32 := Scalar.addi v1495 v1494
  let v1502 : BitVec 32 := Scalar.select v1500 v1501 v1495
  let c128_i32_624 : BitVec 32 := 128#32
  let v1503 : BitVec 32 := Scalar.muli v1502 c128_i32_624
  let v1504 : BitVec 32 := Scalar.addi v1492 v1503
  let c1920_i32_625 : BitVec 32 := 1920#32
  let v1505 : BitVec 32 := Scalar.addi v1504 c1920_i32_625
  v1505
def k0_mult47 : BitVec 32 :=
  let c22_i32 : BitVec 32 := 22#32
  let c0_i32_641 : BitVec 32 := 0#32
  let v1547 : BitVec 1 := Scalar.cmpi .sgt c22_i32 c0_i32_641
  let v1548 : BitVec 32 := Scalar.extui v1547
  let c0_i32_642 : BitVec 32 := 0#32
  let v1549 : BitVec 1 := Scalar.cmpi .slt c22_i32 c0_i32_642
  let v1550 : BitVec 32 := Scalar.extui v1549
  let v1551 : BitVec 32 := Scalar.subi v1548 v1550
  let c32_i32_640 : BitVec 32 := 32#32
  let c0_i32_643 : BitVec 32 := 0#32
  let v1552 : BitVec 1 := Scalar.cmpi .sgt c32_i32_640 c0_i32_643
  let v1553 : BitVec 32 := Scalar.extui v1552
  let c0_i32_644 : BitVec 32 := 0#32
  let v1554 : BitVec 1 := Scalar.cmpi .slt c32_i32_640 c0_i32_644
  let v1555 : BitVec 32 := Scalar.extui v1554
  let v1556 : BitVec 32 := Scalar.subi v1553 v1555
  let v1557 : BitVec 1 := Scalar.cmpi .ne v1551 v1556
  let v1558 : BitVec 32 := Scalar.remsi c22_i32 c32_i32_640
  let c0_i32_645 : BitVec 32 := 0#32
  let v1559 : BitVec 1 := Scalar.cmpi .ne v1558 c0_i32_645
  let v1560 : BitVec 1 := Scalar.andi v1557 v1559
  let v1546 : BitVec 32 := Scalar.divsi c22_i32 c32_i32_640
  let c1_i32_646 : BitVec 32 := 1#32
  let v1561 : BitVec 32 := Scalar.subi v1546 c1_i32_646
  let v1562 : BitVec 32 := Scalar.select v1560 v1561 v1546
  let c32_i32_647 : BitVec 32 := 32#32
  let c0_i32_648 : BitVec 32 := 0#32
  let v1563 : BitVec 1 := Scalar.cmpi .eq c32_i32_647 c0_i32_648
  let c1_i32_649 : BitVec 32 := 1#32
  let v1564 : BitVec 32 := Scalar.select v1563 c1_i32_649 c32_i32_647
  let v1565 : BitVec 32 := Scalar.remsi c22_i32 v1564
  let c0_i32_651 : BitVec 32 := 0#32
  let v1567 : BitVec 1 := Scalar.cmpi .slt v1565 c0_i32_651
  let c0_i32_652 : BitVec 32 := 0#32
  let v1568 : BitVec 1 := Scalar.cmpi .slt v1564 c0_i32_652
  let v1569 : BitVec 1 := Scalar.xori v1567 v1568
  let c0_i32_650 : BitVec 32 := 0#32
  let v1566 : BitVec 1 := Scalar.cmpi .ne v1565 c0_i32_650
  let v1570 : BitVec 1 := Scalar.andi v1569 v1566
  let v1571 : BitVec 32 := Scalar.addi v1565 v1564
  let v1572 : BitVec 32 := Scalar.select v1570 v1571 v1565
  let c128_i32_653 : BitVec 32 := 128#32
  let v1573 : BitVec 32 := Scalar.muli v1572 c128_i32_653
  let v1574 : BitVec 32 := Scalar.addi v1562 v1573
  v1574
def k0_mult48 : BitVec 32 :=
  let c22_i32 : BitVec 32 := 22#32
  let c0_i32_641 : BitVec 32 := 0#32
  let v1547 : BitVec 1 := Scalar.cmpi .sgt c22_i32 c0_i32_641
  let v1548 : BitVec 32 := Scalar.extui v1547
  let c0_i32_642 : BitVec 32 := 0#32
  let v1549 : BitVec 1 := Scalar.cmpi .slt c22_i32 c0_i32_642
  let v1550 : BitVec 32 := Scalar.extui v1549
  let v1551 : BitVec 32 := Scalar.subi v1548 v1550
  let c32_i32_640 : BitVec 32 := 32#32
  let c0_i32_643 : BitVec 32 := 0#32
  let v1552 : BitVec 1 := Scalar.cmpi .sgt c32_i32_640 c0_i32_643
  let v1553 : BitVec 32 := Scalar.extui v1552
  let c0_i32_644 : BitVec 32 := 0#32
  let v1554 : BitVec 1 := Scalar.cmpi .slt c32_i32_640 c0_i32_644
  let v1555 : BitVec 32 := Scalar.extui v1554
  let v1556 : BitVec 32 := Scalar.subi v1553 v1555
  let v1557 : BitVec 1 := Scalar.cmpi .ne v1551 v1556
  let v1558 : BitVec 32 := Scalar.remsi c22_i32 c32_i32_640
  let c0_i32_645 : BitVec 32 := 0#32
  let v1559 : BitVec 1 := Scalar.cmpi .ne v1558 c0_i32_645
  let v1560 : BitVec 1 := Scalar.andi v1557 v1559
  let v1546 : BitVec 32 := Scalar.divsi c22_i32 c32_i32_640
  let c1_i32_646 : BitVec 32 := 1#32
  let v1561 : BitVec 32 := Scalar.subi v1546 c1_i32_646
  let v1562 : BitVec 32 := Scalar.select v1560 v1561 v1546
  let c32_i32_647 : BitVec 32 := 32#32
  let c0_i32_648 : BitVec 32 := 0#32
  let v1563 : BitVec 1 := Scalar.cmpi .eq c32_i32_647 c0_i32_648
  let c1_i32_649 : BitVec 32 := 1#32
  let v1564 : BitVec 32 := Scalar.select v1563 c1_i32_649 c32_i32_647
  let v1565 : BitVec 32 := Scalar.remsi c22_i32 v1564
  let c0_i32_651 : BitVec 32 := 0#32
  let v1567 : BitVec 1 := Scalar.cmpi .slt v1565 c0_i32_651
  let c0_i32_652 : BitVec 32 := 0#32
  let v1568 : BitVec 1 := Scalar.cmpi .slt v1564 c0_i32_652
  let v1569 : BitVec 1 := Scalar.xori v1567 v1568
  let c0_i32_650 : BitVec 32 := 0#32
  let v1566 : BitVec 1 := Scalar.cmpi .ne v1565 c0_i32_650
  let v1570 : BitVec 1 := Scalar.andi v1569 v1566
  let v1571 : BitVec 32 := Scalar.addi v1565 v1564
  let v1572 : BitVec 32 := Scalar.select v1570 v1571 v1565
  let c128_i32_653 : BitVec 32 := 128#32
  let v1573 : BitVec 32 := Scalar.muli v1572 c128_i32_653
  let v1574 : BitVec 32 := Scalar.addi v1562 v1573
  let c1920_i32_654 : BitVec 32 := 1920#32
  let v1575 : BitVec 32 := Scalar.addi v1574 c1920_i32_654
  v1575
def k0_mult49 : BitVec 32 :=
  let c23_i32 : BitVec 32 := 23#32
  let c0_i32_670 : BitVec 32 := 0#32
  let v1617 : BitVec 1 := Scalar.cmpi .sgt c23_i32 c0_i32_670
  let v1618 : BitVec 32 := Scalar.extui v1617
  let c0_i32_671 : BitVec 32 := 0#32
  let v1619 : BitVec 1 := Scalar.cmpi .slt c23_i32 c0_i32_671
  let v1620 : BitVec 32 := Scalar.extui v1619
  let v1621 : BitVec 32 := Scalar.subi v1618 v1620
  let c32_i32_669 : BitVec 32 := 32#32
  let c0_i32_672 : BitVec 32 := 0#32
  let v1622 : BitVec 1 := Scalar.cmpi .sgt c32_i32_669 c0_i32_672
  let v1623 : BitVec 32 := Scalar.extui v1622
  let c0_i32_673 : BitVec 32 := 0#32
  let v1624 : BitVec 1 := Scalar.cmpi .slt c32_i32_669 c0_i32_673
  let v1625 : BitVec 32 := Scalar.extui v1624
  let v1626 : BitVec 32 := Scalar.subi v1623 v1625
  let v1627 : BitVec 1 := Scalar.cmpi .ne v1621 v1626
  let v1628 : BitVec 32 := Scalar.remsi c23_i32 c32_i32_669
  let c0_i32_674 : BitVec 32 := 0#32
  let v1629 : BitVec 1 := Scalar.cmpi .ne v1628 c0_i32_674
  let v1630 : BitVec 1 := Scalar.andi v1627 v1629
  let v1616 : BitVec 32 := Scalar.divsi c23_i32 c32_i32_669
  let c1_i32_675 : BitVec 32 := 1#32
  let v1631 : BitVec 32 := Scalar.subi v1616 c1_i32_675
  let v1632 : BitVec 32 := Scalar.select v1630 v1631 v1616
  let c32_i32_676 : BitVec 32 := 32#32
  let c0_i32_677 : BitVec 32 := 0#32
  let v1633 : BitVec 1 := Scalar.cmpi .eq c32_i32_676 c0_i32_677
  let c1_i32_678 : BitVec 32 := 1#32
  let v1634 : BitVec 32 := Scalar.select v1633 c1_i32_678 c32_i32_676
  let v1635 : BitVec 32 := Scalar.remsi c23_i32 v1634
  let c0_i32_680 : BitVec 32 := 0#32
  let v1637 : BitVec 1 := Scalar.cmpi .slt v1635 c0_i32_680
  let c0_i32_681 : BitVec 32 := 0#32
  let v1638 : BitVec 1 := Scalar.cmpi .slt v1634 c0_i32_681
  let v1639 : BitVec 1 := Scalar.xori v1637 v1638
  let c0_i32_679 : BitVec 32 := 0#32
  let v1636 : BitVec 1 := Scalar.cmpi .ne v1635 c0_i32_679
  let v1640 : BitVec 1 := Scalar.andi v1639 v1636
  let v1641 : BitVec 32 := Scalar.addi v1635 v1634
  let v1642 : BitVec 32 := Scalar.select v1640 v1641 v1635
  let c128_i32_682 : BitVec 32 := 128#32
  let v1643 : BitVec 32 := Scalar.muli v1642 c128_i32_682
  let v1644 : BitVec 32 := Scalar.addi v1632 v1643
  v1644
def k0_mult50 : BitVec 32 :=
  let c23_i32 : BitVec 32 := 23#32
  let c0_i32_670 : BitVec 32 := 0#32
  let v1617 : BitVec 1 := Scalar.cmpi .sgt c23_i32 c0_i32_670
  let v1618 : BitVec 32 := Scalar.extui v1617
  let c0_i32_671 : BitVec 32 := 0#32
  let v1619 : BitVec 1 := Scalar.cmpi .slt c23_i32 c0_i32_671
  let v1620 : BitVec 32 := Scalar.extui v1619
  let v1621 : BitVec 32 := Scalar.subi v1618 v1620
  let c32_i32_669 : BitVec 32 := 32#32
  let c0_i32_672 : BitVec 32 := 0#32
  let v1622 : BitVec 1 := Scalar.cmpi .sgt c32_i32_669 c0_i32_672
  let v1623 : BitVec 32 := Scalar.extui v1622
  let c0_i32_673 : BitVec 32 := 0#32
  let v1624 : BitVec 1 := Scalar.cmpi .slt c32_i32_669 c0_i32_673
  let v1625 : BitVec 32 := Scalar.extui v1624
  let v1626 : BitVec 32 := Scalar.subi v1623 v1625
  let v1627 : BitVec 1 := Scalar.cmpi .ne v1621 v1626
  let v1628 : BitVec 32 := Scalar.remsi c23_i32 c32_i32_669
  let c0_i32_674 : BitVec 32 := 0#32
  let v1629 : BitVec 1 := Scalar.cmpi .ne v1628 c0_i32_674
  let v1630 : BitVec 1 := Scalar.andi v1627 v1629
  let v1616 : BitVec 32 := Scalar.divsi c23_i32 c32_i32_669
  let c1_i32_675 : BitVec 32 := 1#32
  let v1631 : BitVec 32 := Scalar.subi v1616 c1_i32_675
  let v1632 : BitVec 32 := Scalar.select v1630 v1631 v1616
  let c32_i32_676 : BitVec 32 := 32#32
  let c0_i32_677 : BitVec 32 := 0#32
  let v1633 : BitVec 1 := Scalar.cmpi .eq c32_i32_676 c0_i32_677
  let c1_i32_678 : BitVec 32 := 1#32
  let v1634 : BitVec 32 := Scalar.select v1633 c1_i32_678 c32_i32_676
  let v1635 : BitVec 32 := Scalar.remsi c23_i32 v1634
  let c0_i32_680 : BitVec 32 := 0#32
  let v1637 : BitVec 1 := Scalar.cmpi .slt v1635 c0_i32_680
  let c0_i32_681 : BitVec 32 := 0#32
  let v1638 : BitVec 1 := Scalar.cmpi .slt v1634 c0_i32_681
  let v1639 : BitVec 1 := Scalar.xori v1637 v1638
  let c0_i32_679 : BitVec 32 := 0#32
  let v1636 : BitVec 1 := Scalar.cmpi .ne v1635 c0_i32_679
  let v1640 : BitVec 1 := Scalar.andi v1639 v1636
  let v1641 : BitVec 32 := Scalar.addi v1635 v1634
  let v1642 : BitVec 32 := Scalar.select v1640 v1641 v1635
  let c128_i32_682 : BitVec 32 := 128#32
  let v1643 : BitVec 32 := Scalar.muli v1642 c128_i32_682
  let v1644 : BitVec 32 := Scalar.addi v1632 v1643
  let c1920_i32_683 : BitVec 32 := 1920#32
  let v1645 : BitVec 32 := Scalar.addi v1644 c1920_i32_683
  v1645
def k0_mult51 : BitVec 32 :=
  let c24_i32 : BitVec 32 := 24#32
  let c0_i32_699 : BitVec 32 := 0#32
  let v1687 : BitVec 1 := Scalar.cmpi .sgt c24_i32 c0_i32_699
  let v1688 : BitVec 32 := Scalar.extui v1687
  let c0_i32_700 : BitVec 32 := 0#32
  let v1689 : BitVec 1 := Scalar.cmpi .slt c24_i32 c0_i32_700
  let v1690 : BitVec 32 := Scalar.extui v1689
  let v1691 : BitVec 32 := Scalar.subi v1688 v1690
  let c32_i32_698 : BitVec 32 := 32#32
  let c0_i32_701 : BitVec 32 := 0#32
  let v1692 : BitVec 1 := Scalar.cmpi .sgt c32_i32_698 c0_i32_701
  let v1693 : BitVec 32 := Scalar.extui v1692
  let c0_i32_702 : BitVec 32 := 0#32
  let v1694 : BitVec 1 := Scalar.cmpi .slt c32_i32_698 c0_i32_702
  let v1695 : BitVec 32 := Scalar.extui v1694
  let v1696 : BitVec 32 := Scalar.subi v1693 v1695
  let v1697 : BitVec 1 := Scalar.cmpi .ne v1691 v1696
  let v1698 : BitVec 32 := Scalar.remsi c24_i32 c32_i32_698
  let c0_i32_703 : BitVec 32 := 0#32
  let v1699 : BitVec 1 := Scalar.cmpi .ne v1698 c0_i32_703
  let v1700 : BitVec 1 := Scalar.andi v1697 v1699
  let v1686 : BitVec 32 := Scalar.divsi c24_i32 c32_i32_698
  let c1_i32_704 : BitVec 32 := 1#32
  let v1701 : BitVec 32 := Scalar.subi v1686 c1_i32_704
  let v1702 : BitVec 32 := Scalar.select v1700 v1701 v1686
  let c32_i32_705 : BitVec 32 := 32#32
  let c0_i32_706 : BitVec 32 := 0#32
  let v1703 : BitVec 1 := Scalar.cmpi .eq c32_i32_705 c0_i32_706
  let c1_i32_707 : BitVec 32 := 1#32
  let v1704 : BitVec 32 := Scalar.select v1703 c1_i32_707 c32_i32_705
  let v1705 : BitVec 32 := Scalar.remsi c24_i32 v1704
  let c0_i32_709 : BitVec 32 := 0#32
  let v1707 : BitVec 1 := Scalar.cmpi .slt v1705 c0_i32_709
  let c0_i32_710 : BitVec 32 := 0#32
  let v1708 : BitVec 1 := Scalar.cmpi .slt v1704 c0_i32_710
  let v1709 : BitVec 1 := Scalar.xori v1707 v1708
  let c0_i32_708 : BitVec 32 := 0#32
  let v1706 : BitVec 1 := Scalar.cmpi .ne v1705 c0_i32_708
  let v1710 : BitVec 1 := Scalar.andi v1709 v1706
  let v1711 : BitVec 32 := Scalar.addi v1705 v1704
  let v1712 : BitVec 32 := Scalar.select v1710 v1711 v1705
  let c128_i32_711 : BitVec 32 := 128#32
  let v1713 : BitVec 32 := Scalar.muli v1712 c128_i32_711
  let v1714 : BitVec 32 := Scalar.addi v1702 v1713
  v1714
def k0_mult52 : BitVec 32 :=
  let c24_i32 : BitVec 32 := 24#32
  let c0_i32_699 : BitVec 32 := 0#32
  let v1687 : BitVec 1 := Scalar.cmpi .sgt c24_i32 c0_i32_699
  let v1688 : BitVec 32 := Scalar.extui v1687
  let c0_i32_700 : BitVec 32 := 0#32
  let v1689 : BitVec 1 := Scalar.cmpi .slt c24_i32 c0_i32_700
  let v1690 : BitVec 32 := Scalar.extui v1689
  let v1691 : BitVec 32 := Scalar.subi v1688 v1690
  let c32_i32_698 : BitVec 32 := 32#32
  let c0_i32_701 : BitVec 32 := 0#32
  let v1692 : BitVec 1 := Scalar.cmpi .sgt c32_i32_698 c0_i32_701
  let v1693 : BitVec 32 := Scalar.extui v1692
  let c0_i32_702 : BitVec 32 := 0#32
  let v1694 : BitVec 1 := Scalar.cmpi .slt c32_i32_698 c0_i32_702
  let v1695 : BitVec 32 := Scalar.extui v1694
  let v1696 : BitVec 32 := Scalar.subi v1693 v1695
  let v1697 : BitVec 1 := Scalar.cmpi .ne v1691 v1696
  let v1698 : BitVec 32 := Scalar.remsi c24_i32 c32_i32_698
  let c0_i32_703 : BitVec 32 := 0#32
  let v1699 : BitVec 1 := Scalar.cmpi .ne v1698 c0_i32_703
  let v1700 : BitVec 1 := Scalar.andi v1697 v1699
  let v1686 : BitVec 32 := Scalar.divsi c24_i32 c32_i32_698
  let c1_i32_704 : BitVec 32 := 1#32
  let v1701 : BitVec 32 := Scalar.subi v1686 c1_i32_704
  let v1702 : BitVec 32 := Scalar.select v1700 v1701 v1686
  let c32_i32_705 : BitVec 32 := 32#32
  let c0_i32_706 : BitVec 32 := 0#32
  let v1703 : BitVec 1 := Scalar.cmpi .eq c32_i32_705 c0_i32_706
  let c1_i32_707 : BitVec 32 := 1#32
  let v1704 : BitVec 32 := Scalar.select v1703 c1_i32_707 c32_i32_705
  let v1705 : BitVec 32 := Scalar.remsi c24_i32 v1704
  let c0_i32_709 : BitVec 32 := 0#32
  let v1707 : BitVec 1 := Scalar.cmpi .slt v1705 c0_i32_709
  let c0_i32_710 : BitVec 32 := 0#32
  let v1708 : BitVec 1 := Scalar.cmpi .slt v1704 c0_i32_710
  let v1709 : BitVec 1 := Scalar.xori v1707 v1708
  let c0_i32_708 : BitVec 32 := 0#32
  let v1706 : BitVec 1 := Scalar.cmpi .ne v1705 c0_i32_708
  let v1710 : BitVec 1 := Scalar.andi v1709 v1706
  let v1711 : BitVec 32 := Scalar.addi v1705 v1704
  let v1712 : BitVec 32 := Scalar.select v1710 v1711 v1705
  let c128_i32_711 : BitVec 32 := 128#32
  let v1713 : BitVec 32 := Scalar.muli v1712 c128_i32_711
  let v1714 : BitVec 32 := Scalar.addi v1702 v1713
  let c1920_i32_712 : BitVec 32 := 1920#32
  let v1715 : BitVec 32 := Scalar.addi v1714 c1920_i32_712
  v1715
def k0_mult53 : BitVec 32 :=
  let c25_i32 : BitVec 32 := 25#32
  let c0_i32_728 : BitVec 32 := 0#32
  let v1757 : BitVec 1 := Scalar.cmpi .sgt c25_i32 c0_i32_728
  let v1758 : BitVec 32 := Scalar.extui v1757
  let c0_i32_729 : BitVec 32 := 0#32
  let v1759 : BitVec 1 := Scalar.cmpi .slt c25_i32 c0_i32_729
  let v1760 : BitVec 32 := Scalar.extui v1759
  let v1761 : BitVec 32 := Scalar.subi v1758 v1760
  let c32_i32_727 : BitVec 32 := 32#32
  let c0_i32_730 : BitVec 32 := 0#32
  let v1762 : BitVec 1 := Scalar.cmpi .sgt c32_i32_727 c0_i32_730
  let v1763 : BitVec 32 := Scalar.extui v1762
  let c0_i32_731 : BitVec 32 := 0#32
  let v1764 : BitVec 1 := Scalar.cmpi .slt c32_i32_727 c0_i32_731
  let v1765 : BitVec 32 := Scalar.extui v1764
  let v1766 : BitVec 32 := Scalar.subi v1763 v1765
  let v1767 : BitVec 1 := Scalar.cmpi .ne v1761 v1766
  let v1768 : BitVec 32 := Scalar.remsi c25_i32 c32_i32_727
  let c0_i32_732 : BitVec 32 := 0#32
  let v1769 : BitVec 1 := Scalar.cmpi .ne v1768 c0_i32_732
  let v1770 : BitVec 1 := Scalar.andi v1767 v1769
  let v1756 : BitVec 32 := Scalar.divsi c25_i32 c32_i32_727
  let c1_i32_733 : BitVec 32 := 1#32
  let v1771 : BitVec 32 := Scalar.subi v1756 c1_i32_733
  let v1772 : BitVec 32 := Scalar.select v1770 v1771 v1756
  let c32_i32_734 : BitVec 32 := 32#32
  let c0_i32_735 : BitVec 32 := 0#32
  let v1773 : BitVec 1 := Scalar.cmpi .eq c32_i32_734 c0_i32_735
  let c1_i32_736 : BitVec 32 := 1#32
  let v1774 : BitVec 32 := Scalar.select v1773 c1_i32_736 c32_i32_734
  let v1775 : BitVec 32 := Scalar.remsi c25_i32 v1774
  let c0_i32_738 : BitVec 32 := 0#32
  let v1777 : BitVec 1 := Scalar.cmpi .slt v1775 c0_i32_738
  let c0_i32_739 : BitVec 32 := 0#32
  let v1778 : BitVec 1 := Scalar.cmpi .slt v1774 c0_i32_739
  let v1779 : BitVec 1 := Scalar.xori v1777 v1778
  let c0_i32_737 : BitVec 32 := 0#32
  let v1776 : BitVec 1 := Scalar.cmpi .ne v1775 c0_i32_737
  let v1780 : BitVec 1 := Scalar.andi v1779 v1776
  let v1781 : BitVec 32 := Scalar.addi v1775 v1774
  let v1782 : BitVec 32 := Scalar.select v1780 v1781 v1775
  let c128_i32_740 : BitVec 32 := 128#32
  let v1783 : BitVec 32 := Scalar.muli v1782 c128_i32_740
  let v1784 : BitVec 32 := Scalar.addi v1772 v1783
  v1784
def k0_mult54 : BitVec 32 :=
  let c25_i32 : BitVec 32 := 25#32
  let c0_i32_728 : BitVec 32 := 0#32
  let v1757 : BitVec 1 := Scalar.cmpi .sgt c25_i32 c0_i32_728
  let v1758 : BitVec 32 := Scalar.extui v1757
  let c0_i32_729 : BitVec 32 := 0#32
  let v1759 : BitVec 1 := Scalar.cmpi .slt c25_i32 c0_i32_729
  let v1760 : BitVec 32 := Scalar.extui v1759
  let v1761 : BitVec 32 := Scalar.subi v1758 v1760
  let c32_i32_727 : BitVec 32 := 32#32
  let c0_i32_730 : BitVec 32 := 0#32
  let v1762 : BitVec 1 := Scalar.cmpi .sgt c32_i32_727 c0_i32_730
  let v1763 : BitVec 32 := Scalar.extui v1762
  let c0_i32_731 : BitVec 32 := 0#32
  let v1764 : BitVec 1 := Scalar.cmpi .slt c32_i32_727 c0_i32_731
  let v1765 : BitVec 32 := Scalar.extui v1764
  let v1766 : BitVec 32 := Scalar.subi v1763 v1765
  let v1767 : BitVec 1 := Scalar.cmpi .ne v1761 v1766
  let v1768 : BitVec 32 := Scalar.remsi c25_i32 c32_i32_727
  let c0_i32_732 : BitVec 32 := 0#32
  let v1769 : BitVec 1 := Scalar.cmpi .ne v1768 c0_i32_732
  let v1770 : BitVec 1 := Scalar.andi v1767 v1769
  let v1756 : BitVec 32 := Scalar.divsi c25_i32 c32_i32_727
  let c1_i32_733 : BitVec 32 := 1#32
  let v1771 : BitVec 32 := Scalar.subi v1756 c1_i32_733
  let v1772 : BitVec 32 := Scalar.select v1770 v1771 v1756
  let c32_i32_734 : BitVec 32 := 32#32
  let c0_i32_735 : BitVec 32 := 0#32
  let v1773 : BitVec 1 := Scalar.cmpi .eq c32_i32_734 c0_i32_735
  let c1_i32_736 : BitVec 32 := 1#32
  let v1774 : BitVec 32 := Scalar.select v1773 c1_i32_736 c32_i32_734
  let v1775 : BitVec 32 := Scalar.remsi c25_i32 v1774
  let c0_i32_738 : BitVec 32 := 0#32
  let v1777 : BitVec 1 := Scalar.cmpi .slt v1775 c0_i32_738
  let c0_i32_739 : BitVec 32 := 0#32
  let v1778 : BitVec 1 := Scalar.cmpi .slt v1774 c0_i32_739
  let v1779 : BitVec 1 := Scalar.xori v1777 v1778
  let c0_i32_737 : BitVec 32 := 0#32
  let v1776 : BitVec 1 := Scalar.cmpi .ne v1775 c0_i32_737
  let v1780 : BitVec 1 := Scalar.andi v1779 v1776
  let v1781 : BitVec 32 := Scalar.addi v1775 v1774
  let v1782 : BitVec 32 := Scalar.select v1780 v1781 v1775
  let c128_i32_740 : BitVec 32 := 128#32
  let v1783 : BitVec 32 := Scalar.muli v1782 c128_i32_740
  let v1784 : BitVec 32 := Scalar.addi v1772 v1783
  let c1920_i32_741 : BitVec 32 := 1920#32
  let v1785 : BitVec 32 := Scalar.addi v1784 c1920_i32_741
  v1785
def k0_mult55 : BitVec 32 :=
  let c26_i32 : BitVec 32 := 26#32
  let c0_i32_757 : BitVec 32 := 0#32
  let v1827 : BitVec 1 := Scalar.cmpi .sgt c26_i32 c0_i32_757
  let v1828 : BitVec 32 := Scalar.extui v1827
  let c0_i32_758 : BitVec 32 := 0#32
  let v1829 : BitVec 1 := Scalar.cmpi .slt c26_i32 c0_i32_758
  let v1830 : BitVec 32 := Scalar.extui v1829
  let v1831 : BitVec 32 := Scalar.subi v1828 v1830
  let c32_i32_756 : BitVec 32 := 32#32
  let c0_i32_759 : BitVec 32 := 0#32
  let v1832 : BitVec 1 := Scalar.cmpi .sgt c32_i32_756 c0_i32_759
  let v1833 : BitVec 32 := Scalar.extui v1832
  let c0_i32_760 : BitVec 32 := 0#32
  let v1834 : BitVec 1 := Scalar.cmpi .slt c32_i32_756 c0_i32_760
  let v1835 : BitVec 32 := Scalar.extui v1834
  let v1836 : BitVec 32 := Scalar.subi v1833 v1835
  let v1837 : BitVec 1 := Scalar.cmpi .ne v1831 v1836
  let v1838 : BitVec 32 := Scalar.remsi c26_i32 c32_i32_756
  let c0_i32_761 : BitVec 32 := 0#32
  let v1839 : BitVec 1 := Scalar.cmpi .ne v1838 c0_i32_761
  let v1840 : BitVec 1 := Scalar.andi v1837 v1839
  let v1826 : BitVec 32 := Scalar.divsi c26_i32 c32_i32_756
  let c1_i32_762 : BitVec 32 := 1#32
  let v1841 : BitVec 32 := Scalar.subi v1826 c1_i32_762
  let v1842 : BitVec 32 := Scalar.select v1840 v1841 v1826
  let c32_i32_763 : BitVec 32 := 32#32
  let c0_i32_764 : BitVec 32 := 0#32
  let v1843 : BitVec 1 := Scalar.cmpi .eq c32_i32_763 c0_i32_764
  let c1_i32_765 : BitVec 32 := 1#32
  let v1844 : BitVec 32 := Scalar.select v1843 c1_i32_765 c32_i32_763
  let v1845 : BitVec 32 := Scalar.remsi c26_i32 v1844
  let c0_i32_767 : BitVec 32 := 0#32
  let v1847 : BitVec 1 := Scalar.cmpi .slt v1845 c0_i32_767
  let c0_i32_768 : BitVec 32 := 0#32
  let v1848 : BitVec 1 := Scalar.cmpi .slt v1844 c0_i32_768
  let v1849 : BitVec 1 := Scalar.xori v1847 v1848
  let c0_i32_766 : BitVec 32 := 0#32
  let v1846 : BitVec 1 := Scalar.cmpi .ne v1845 c0_i32_766
  let v1850 : BitVec 1 := Scalar.andi v1849 v1846
  let v1851 : BitVec 32 := Scalar.addi v1845 v1844
  let v1852 : BitVec 32 := Scalar.select v1850 v1851 v1845
  let c128_i32_769 : BitVec 32 := 128#32
  let v1853 : BitVec 32 := Scalar.muli v1852 c128_i32_769
  let v1854 : BitVec 32 := Scalar.addi v1842 v1853
  v1854
def k0_mult56 : BitVec 32 :=
  let c26_i32 : BitVec 32 := 26#32
  let c0_i32_757 : BitVec 32 := 0#32
  let v1827 : BitVec 1 := Scalar.cmpi .sgt c26_i32 c0_i32_757
  let v1828 : BitVec 32 := Scalar.extui v1827
  let c0_i32_758 : BitVec 32 := 0#32
  let v1829 : BitVec 1 := Scalar.cmpi .slt c26_i32 c0_i32_758
  let v1830 : BitVec 32 := Scalar.extui v1829
  let v1831 : BitVec 32 := Scalar.subi v1828 v1830
  let c32_i32_756 : BitVec 32 := 32#32
  let c0_i32_759 : BitVec 32 := 0#32
  let v1832 : BitVec 1 := Scalar.cmpi .sgt c32_i32_756 c0_i32_759
  let v1833 : BitVec 32 := Scalar.extui v1832
  let c0_i32_760 : BitVec 32 := 0#32
  let v1834 : BitVec 1 := Scalar.cmpi .slt c32_i32_756 c0_i32_760
  let v1835 : BitVec 32 := Scalar.extui v1834
  let v1836 : BitVec 32 := Scalar.subi v1833 v1835
  let v1837 : BitVec 1 := Scalar.cmpi .ne v1831 v1836
  let v1838 : BitVec 32 := Scalar.remsi c26_i32 c32_i32_756
  let c0_i32_761 : BitVec 32 := 0#32
  let v1839 : BitVec 1 := Scalar.cmpi .ne v1838 c0_i32_761
  let v1840 : BitVec 1 := Scalar.andi v1837 v1839
  let v1826 : BitVec 32 := Scalar.divsi c26_i32 c32_i32_756
  let c1_i32_762 : BitVec 32 := 1#32
  let v1841 : BitVec 32 := Scalar.subi v1826 c1_i32_762
  let v1842 : BitVec 32 := Scalar.select v1840 v1841 v1826
  let c32_i32_763 : BitVec 32 := 32#32
  let c0_i32_764 : BitVec 32 := 0#32
  let v1843 : BitVec 1 := Scalar.cmpi .eq c32_i32_763 c0_i32_764
  let c1_i32_765 : BitVec 32 := 1#32
  let v1844 : BitVec 32 := Scalar.select v1843 c1_i32_765 c32_i32_763
  let v1845 : BitVec 32 := Scalar.remsi c26_i32 v1844
  let c0_i32_767 : BitVec 32 := 0#32
  let v1847 : BitVec 1 := Scalar.cmpi .slt v1845 c0_i32_767
  let c0_i32_768 : BitVec 32 := 0#32
  let v1848 : BitVec 1 := Scalar.cmpi .slt v1844 c0_i32_768
  let v1849 : BitVec 1 := Scalar.xori v1847 v1848
  let c0_i32_766 : BitVec 32 := 0#32
  let v1846 : BitVec 1 := Scalar.cmpi .ne v1845 c0_i32_766
  let v1850 : BitVec 1 := Scalar.andi v1849 v1846
  let v1851 : BitVec 32 := Scalar.addi v1845 v1844
  let v1852 : BitVec 32 := Scalar.select v1850 v1851 v1845
  let c128_i32_769 : BitVec 32 := 128#32
  let v1853 : BitVec 32 := Scalar.muli v1852 c128_i32_769
  let v1854 : BitVec 32 := Scalar.addi v1842 v1853
  let c1920_i32_770 : BitVec 32 := 1920#32
  let v1855 : BitVec 32 := Scalar.addi v1854 c1920_i32_770
  v1855
def k0_mult57 : BitVec 32 :=
  let c27_i32 : BitVec 32 := 27#32
  let c0_i32_786 : BitVec 32 := 0#32
  let v1897 : BitVec 1 := Scalar.cmpi .sgt c27_i32 c0_i32_786
  let v1898 : BitVec 32 := Scalar.extui v1897
  let c0_i32_787 : BitVec 32 := 0#32
  let v1899 : BitVec 1 := Scalar.cmpi .slt c27_i32 c0_i32_787
  let v1900 : BitVec 32 := Scalar.extui v1899
  let v1901 : BitVec 32 := Scalar.subi v1898 v1900
  let c32_i32_785 : BitVec 32 := 32#32
  let c0_i32_788 : BitVec 32 := 0#32
  let v1902 : BitVec 1 := Scalar.cmpi .sgt c32_i32_785 c0_i32_788
  let v1903 : BitVec 32 := Scalar.extui v1902
  let c0_i32_789 : BitVec 32 := 0#32
  let v1904 : BitVec 1 := Scalar.cmpi .slt c32_i32_785 c0_i32_789
  let v1905 : BitVec 32 := Scalar.extui v1904
  let v1906 : BitVec 32 := Scalar.subi v1903 v1905
  let v1907 : BitVec 1 := Scalar.cmpi .ne v1901 v1906
  let v1908 : BitVec 32 := Scalar.remsi c27_i32 c32_i32_785
  let c0_i32_790 : BitVec 32 := 0#32
  let v1909 : BitVec 1 := Scalar.cmpi .ne v1908 c0_i32_790
  let v1910 : BitVec 1 := Scalar.andi v1907 v1909
  let v1896 : BitVec 32 := Scalar.divsi c27_i32 c32_i32_785
  let c1_i32_791 : BitVec 32 := 1#32
  let v1911 : BitVec 32 := Scalar.subi v1896 c1_i32_791
  let v1912 : BitVec 32 := Scalar.select v1910 v1911 v1896
  let c32_i32_792 : BitVec 32 := 32#32
  let c0_i32_793 : BitVec 32 := 0#32
  let v1913 : BitVec 1 := Scalar.cmpi .eq c32_i32_792 c0_i32_793
  let c1_i32_794 : BitVec 32 := 1#32
  let v1914 : BitVec 32 := Scalar.select v1913 c1_i32_794 c32_i32_792
  let v1915 : BitVec 32 := Scalar.remsi c27_i32 v1914
  let c0_i32_796 : BitVec 32 := 0#32
  let v1917 : BitVec 1 := Scalar.cmpi .slt v1915 c0_i32_796
  let c0_i32_797 : BitVec 32 := 0#32
  let v1918 : BitVec 1 := Scalar.cmpi .slt v1914 c0_i32_797
  let v1919 : BitVec 1 := Scalar.xori v1917 v1918
  let c0_i32_795 : BitVec 32 := 0#32
  let v1916 : BitVec 1 := Scalar.cmpi .ne v1915 c0_i32_795
  let v1920 : BitVec 1 := Scalar.andi v1919 v1916
  let v1921 : BitVec 32 := Scalar.addi v1915 v1914
  let v1922 : BitVec 32 := Scalar.select v1920 v1921 v1915
  let c128_i32_798 : BitVec 32 := 128#32
  let v1923 : BitVec 32 := Scalar.muli v1922 c128_i32_798
  let v1924 : BitVec 32 := Scalar.addi v1912 v1923
  v1924
def k0_mult58 : BitVec 32 :=
  let c27_i32 : BitVec 32 := 27#32
  let c0_i32_786 : BitVec 32 := 0#32
  let v1897 : BitVec 1 := Scalar.cmpi .sgt c27_i32 c0_i32_786
  let v1898 : BitVec 32 := Scalar.extui v1897
  let c0_i32_787 : BitVec 32 := 0#32
  let v1899 : BitVec 1 := Scalar.cmpi .slt c27_i32 c0_i32_787
  let v1900 : BitVec 32 := Scalar.extui v1899
  let v1901 : BitVec 32 := Scalar.subi v1898 v1900
  let c32_i32_785 : BitVec 32 := 32#32
  let c0_i32_788 : BitVec 32 := 0#32
  let v1902 : BitVec 1 := Scalar.cmpi .sgt c32_i32_785 c0_i32_788
  let v1903 : BitVec 32 := Scalar.extui v1902
  let c0_i32_789 : BitVec 32 := 0#32
  let v1904 : BitVec 1 := Scalar.cmpi .slt c32_i32_785 c0_i32_789
  let v1905 : BitVec 32 := Scalar.extui v1904
  let v1906 : BitVec 32 := Scalar.subi v1903 v1905
  let v1907 : BitVec 1 := Scalar.cmpi .ne v1901 v1906
  let v1908 : BitVec 32 := Scalar.remsi c27_i32 c32_i32_785
  let c0_i32_790 : BitVec 32 := 0#32
  let v1909 : BitVec 1 := Scalar.cmpi .ne v1908 c0_i32_790
  let v1910 : BitVec 1 := Scalar.andi v1907 v1909
  let v1896 : BitVec 32 := Scalar.divsi c27_i32 c32_i32_785
  let c1_i32_791 : BitVec 32 := 1#32
  let v1911 : BitVec 32 := Scalar.subi v1896 c1_i32_791
  let v1912 : BitVec 32 := Scalar.select v1910 v1911 v1896
  let c32_i32_792 : BitVec 32 := 32#32
  let c0_i32_793 : BitVec 32 := 0#32
  let v1913 : BitVec 1 := Scalar.cmpi .eq c32_i32_792 c0_i32_793
  let c1_i32_794 : BitVec 32 := 1#32
  let v1914 : BitVec 32 := Scalar.select v1913 c1_i32_794 c32_i32_792
  let v1915 : BitVec 32 := Scalar.remsi c27_i32 v1914
  let c0_i32_796 : BitVec 32 := 0#32
  let v1917 : BitVec 1 := Scalar.cmpi .slt v1915 c0_i32_796
  let c0_i32_797 : BitVec 32 := 0#32
  let v1918 : BitVec 1 := Scalar.cmpi .slt v1914 c0_i32_797
  let v1919 : BitVec 1 := Scalar.xori v1917 v1918
  let c0_i32_795 : BitVec 32 := 0#32
  let v1916 : BitVec 1 := Scalar.cmpi .ne v1915 c0_i32_795
  let v1920 : BitVec 1 := Scalar.andi v1919 v1916
  let v1921 : BitVec 32 := Scalar.addi v1915 v1914
  let v1922 : BitVec 32 := Scalar.select v1920 v1921 v1915
  let c128_i32_798 : BitVec 32 := 128#32
  let v1923 : BitVec 32 := Scalar.muli v1922 c128_i32_798
  let v1924 : BitVec 32 := Scalar.addi v1912 v1923
  let c1920_i32_799 : BitVec 32 := 1920#32
  let v1925 : BitVec 32 := Scalar.addi v1924 c1920_i32_799
  v1925
def k0_mult59 : BitVec 32 :=
  let c28_i32 : BitVec 32 := 28#32
  let c0_i32_815 : BitVec 32 := 0#32
  let v1967 : BitVec 1 := Scalar.cmpi .sgt c28_i32 c0_i32_815
  let v1968 : BitVec 32 := Scalar.extui v1967
  let c0_i32_816 : BitVec 32 := 0#32
  let v1969 : BitVec 1 := Scalar.cmpi .slt c28_i32 c0_i32_816
  let v1970 : BitVec 32 := Scalar.extui v1969
  let v1971 : BitVec 32 := Scalar.subi v1968 v1970
  let c32_i32_814 : BitVec 32 := 32#32
  let c0_i32_817 : BitVec 32 := 0#32
  let v1972 : BitVec 1 := Scalar.cmpi .sgt c32_i32_814 c0_i32_817
  let v1973 : BitVec 32 := Scalar.extui v1972
  let c0_i32_818 : BitVec 32 := 0#32
  let v1974 : BitVec 1 := Scalar.cmpi .slt c32_i32_814 c0_i32_818
  let v1975 : BitVec 32 := Scalar.extui v1974
  let v1976 : BitVec 32 := Scalar.subi v1973 v1975
  let v1977 : BitVec 1 := Scalar.cmpi .ne v1971 v1976
  let v1978 : BitVec 32 := Scalar.remsi c28_i32 c32_i32_814
  let c0_i32_819 : BitVec 32 := 0#32
  let v1979 : BitVec 1 := Scalar.cmpi .ne v1978 c0_i32_819
  let v1980 : BitVec 1 := Scalar.andi v1977 v1979
  let v1966 : BitVec 32 := Scalar.divsi c28_i32 c32_i32_814
  let c1_i32_820 : BitVec 32 := 1#32
  let v1981 : BitVec 32 := Scalar.subi v1966 c1_i32_820
  let v1982 : BitVec 32 := Scalar.select v1980 v1981 v1966
  let c32_i32_821 : BitVec 32 := 32#32
  let c0_i32_822 : BitVec 32 := 0#32
  let v1983 : BitVec 1 := Scalar.cmpi .eq c32_i32_821 c0_i32_822
  let c1_i32_823 : BitVec 32 := 1#32
  let v1984 : BitVec 32 := Scalar.select v1983 c1_i32_823 c32_i32_821
  let v1985 : BitVec 32 := Scalar.remsi c28_i32 v1984
  let c0_i32_825 : BitVec 32 := 0#32
  let v1987 : BitVec 1 := Scalar.cmpi .slt v1985 c0_i32_825
  let c0_i32_826 : BitVec 32 := 0#32
  let v1988 : BitVec 1 := Scalar.cmpi .slt v1984 c0_i32_826
  let v1989 : BitVec 1 := Scalar.xori v1987 v1988
  let c0_i32_824 : BitVec 32 := 0#32
  let v1986 : BitVec 1 := Scalar.cmpi .ne v1985 c0_i32_824
  let v1990 : BitVec 1 := Scalar.andi v1989 v1986
  let v1991 : BitVec 32 := Scalar.addi v1985 v1984
  let v1992 : BitVec 32 := Scalar.select v1990 v1991 v1985
  let c128_i32_827 : BitVec 32 := 128#32
  let v1993 : BitVec 32 := Scalar.muli v1992 c128_i32_827
  let v1994 : BitVec 32 := Scalar.addi v1982 v1993
  v1994
def k0_mult60 : BitVec 32 :=
  let c28_i32 : BitVec 32 := 28#32
  let c0_i32_815 : BitVec 32 := 0#32
  let v1967 : BitVec 1 := Scalar.cmpi .sgt c28_i32 c0_i32_815
  let v1968 : BitVec 32 := Scalar.extui v1967
  let c0_i32_816 : BitVec 32 := 0#32
  let v1969 : BitVec 1 := Scalar.cmpi .slt c28_i32 c0_i32_816
  let v1970 : BitVec 32 := Scalar.extui v1969
  let v1971 : BitVec 32 := Scalar.subi v1968 v1970
  let c32_i32_814 : BitVec 32 := 32#32
  let c0_i32_817 : BitVec 32 := 0#32
  let v1972 : BitVec 1 := Scalar.cmpi .sgt c32_i32_814 c0_i32_817
  let v1973 : BitVec 32 := Scalar.extui v1972
  let c0_i32_818 : BitVec 32 := 0#32
  let v1974 : BitVec 1 := Scalar.cmpi .slt c32_i32_814 c0_i32_818
  let v1975 : BitVec 32 := Scalar.extui v1974
  let v1976 : BitVec 32 := Scalar.subi v1973 v1975
  let v1977 : BitVec 1 := Scalar.cmpi .ne v1971 v1976
  let v1978 : BitVec 32 := Scalar.remsi c28_i32 c32_i32_814
  let c0_i32_819 : BitVec 32 := 0#32
  let v1979 : BitVec 1 := Scalar.cmpi .ne v1978 c0_i32_819
  let v1980 : BitVec 1 := Scalar.andi v1977 v1979
  let v1966 : BitVec 32 := Scalar.divsi c28_i32 c32_i32_814
  let c1_i32_820 : BitVec 32 := 1#32
  let v1981 : BitVec 32 := Scalar.subi v1966 c1_i32_820
  let v1982 : BitVec 32 := Scalar.select v1980 v1981 v1966
  let c32_i32_821 : BitVec 32 := 32#32
  let c0_i32_822 : BitVec 32 := 0#32
  let v1983 : BitVec 1 := Scalar.cmpi .eq c32_i32_821 c0_i32_822
  let c1_i32_823 : BitVec 32 := 1#32
  let v1984 : BitVec 32 := Scalar.select v1983 c1_i32_823 c32_i32_821
  let v1985 : BitVec 32 := Scalar.remsi c28_i32 v1984
  let c0_i32_825 : BitVec 32 := 0#32
  let v1987 : BitVec 1 := Scalar.cmpi .slt v1985 c0_i32_825
  let c0_i32_826 : BitVec 32 := 0#32
  let v1988 : BitVec 1 := Scalar.cmpi .slt v1984 c0_i32_826
  let v1989 : BitVec 1 := Scalar.xori v1987 v1988
  let c0_i32_824 : BitVec 32 := 0#32
  let v1986 : BitVec 1 := Scalar.cmpi .ne v1985 c0_i32_824
  let v1990 : BitVec 1 := Scalar.andi v1989 v1986
  let v1991 : BitVec 32 := Scalar.addi v1985 v1984
  let v1992 : BitVec 32 := Scalar.select v1990 v1991 v1985
  let c128_i32_827 : BitVec 32 := 128#32
  let v1993 : BitVec 32 := Scalar.muli v1992 c128_i32_827
  let v1994 : BitVec 32 := Scalar.addi v1982 v1993
  let c1920_i32_828 : BitVec 32 := 1920#32
  let v1995 : BitVec 32 := Scalar.addi v1994 c1920_i32_828
  v1995
def k0_mult61 : BitVec 32 :=
  let c29_i32 : BitVec 32 := 29#32
  let c0_i32_844 : BitVec 32 := 0#32
  let v2037 : BitVec 1 := Scalar.cmpi .sgt c29_i32 c0_i32_844
  let v2038 : BitVec 32 := Scalar.extui v2037
  let c0_i32_845 : BitVec 32 := 0#32
  let v2039 : BitVec 1 := Scalar.cmpi .slt c29_i32 c0_i32_845
  let v2040 : BitVec 32 := Scalar.extui v2039
  let v2041 : BitVec 32 := Scalar.subi v2038 v2040
  let c32_i32_843 : BitVec 32 := 32#32
  let c0_i32_846 : BitVec 32 := 0#32
  let v2042 : BitVec 1 := Scalar.cmpi .sgt c32_i32_843 c0_i32_846
  let v2043 : BitVec 32 := Scalar.extui v2042
  let c0_i32_847 : BitVec 32 := 0#32
  let v2044 : BitVec 1 := Scalar.cmpi .slt c32_i32_843 c0_i32_847
  let v2045 : BitVec 32 := Scalar.extui v2044
  let v2046 : BitVec 32 := Scalar.subi v2043 v2045
  let v2047 : BitVec 1 := Scalar.cmpi .ne v2041 v2046
  let v2048 : BitVec 32 := Scalar.remsi c29_i32 c32_i32_843
  let c0_i32_848 : BitVec 32 := 0#32
  let v2049 : BitVec 1 := Scalar.cmpi .ne v2048 c0_i32_848
  let v2050 : BitVec 1 := Scalar.andi v2047 v2049
  let v2036 : BitVec 32 := Scalar.divsi c29_i32 c32_i32_843
  let c1_i32_849 : BitVec 32 := 1#32
  let v2051 : BitVec 32 := Scalar.subi v2036 c1_i32_849
  let v2052 : BitVec 32 := Scalar.select v2050 v2051 v2036
  let c32_i32_850 : BitVec 32 := 32#32
  let c0_i32_851 : BitVec 32 := 0#32
  let v2053 : BitVec 1 := Scalar.cmpi .eq c32_i32_850 c0_i32_851
  let c1_i32_852 : BitVec 32 := 1#32
  let v2054 : BitVec 32 := Scalar.select v2053 c1_i32_852 c32_i32_850
  let v2055 : BitVec 32 := Scalar.remsi c29_i32 v2054
  let c0_i32_854 : BitVec 32 := 0#32
  let v2057 : BitVec 1 := Scalar.cmpi .slt v2055 c0_i32_854
  let c0_i32_855 : BitVec 32 := 0#32
  let v2058 : BitVec 1 := Scalar.cmpi .slt v2054 c0_i32_855
  let v2059 : BitVec 1 := Scalar.xori v2057 v2058
  let c0_i32_853 : BitVec 32 := 0#32
  let v2056 : BitVec 1 := Scalar.cmpi .ne v2055 c0_i32_853
  let v2060 : BitVec 1 := Scalar.andi v2059 v2056
  let v2061 : BitVec 32 := Scalar.addi v2055 v2054
  let v2062 : BitVec 32 := Scalar.select v2060 v2061 v2055
  let c128_i32_856 : BitVec 32 := 128#32
  let v2063 : BitVec 32 := Scalar.muli v2062 c128_i32_856
  let v2064 : BitVec 32 := Scalar.addi v2052 v2063
  v2064
def k0_mult62 : BitVec 32 :=
  let c29_i32 : BitVec 32 := 29#32
  let c0_i32_844 : BitVec 32 := 0#32
  let v2037 : BitVec 1 := Scalar.cmpi .sgt c29_i32 c0_i32_844
  let v2038 : BitVec 32 := Scalar.extui v2037
  let c0_i32_845 : BitVec 32 := 0#32
  let v2039 : BitVec 1 := Scalar.cmpi .slt c29_i32 c0_i32_845
  let v2040 : BitVec 32 := Scalar.extui v2039
  let v2041 : BitVec 32 := Scalar.subi v2038 v2040
  let c32_i32_843 : BitVec 32 := 32#32
  let c0_i32_846 : BitVec 32 := 0#32
  let v2042 : BitVec 1 := Scalar.cmpi .sgt c32_i32_843 c0_i32_846
  let v2043 : BitVec 32 := Scalar.extui v2042
  let c0_i32_847 : BitVec 32 := 0#32
  let v2044 : BitVec 1 := Scalar.cmpi .slt c32_i32_843 c0_i32_847
  let v2045 : BitVec 32 := Scalar.extui v2044
  let v2046 : BitVec 32 := Scalar.subi v2043 v2045
  let v2047 : BitVec 1 := Scalar.cmpi .ne v2041 v2046
  let v2048 : BitVec 32 := Scalar.remsi c29_i32 c32_i32_843
  let c0_i32_848 : BitVec 32 := 0#32
  let v2049 : BitVec 1 := Scalar.cmpi .ne v2048 c0_i32_848
  let v2050 : BitVec 1 := Scalar.andi v2047 v2049
  let v2036 : BitVec 32 := Scalar.divsi c29_i32 c32_i32_843
  let c1_i32_849 : BitVec 32 := 1#32
  let v2051 : BitVec 32 := Scalar.subi v2036 c1_i32_849
  let v2052 : BitVec 32 := Scalar.select v2050 v2051 v2036
  let c32_i32_850 : BitVec 32 := 32#32
  let c0_i32_851 : BitVec 32 := 0#32
  let v2053 : BitVec 1 := Scalar.cmpi .eq c32_i32_850 c0_i32_851
  let c1_i32_852 : BitVec 32 := 1#32
  let v2054 : BitVec 32 := Scalar.select v2053 c1_i32_852 c32_i32_850
  let v2055 : BitVec 32 := Scalar.remsi c29_i32 v2054
  let c0_i32_854 : BitVec 32 := 0#32
  let v2057 : BitVec 1 := Scalar.cmpi .slt v2055 c0_i32_854
  let c0_i32_855 : BitVec 32 := 0#32
  let v2058 : BitVec 1 := Scalar.cmpi .slt v2054 c0_i32_855
  let v2059 : BitVec 1 := Scalar.xori v2057 v2058
  let c0_i32_853 : BitVec 32 := 0#32
  let v2056 : BitVec 1 := Scalar.cmpi .ne v2055 c0_i32_853
  let v2060 : BitVec 1 := Scalar.andi v2059 v2056
  let v2061 : BitVec 32 := Scalar.addi v2055 v2054
  let v2062 : BitVec 32 := Scalar.select v2060 v2061 v2055
  let c128_i32_856 : BitVec 32 := 128#32
  let v2063 : BitVec 32 := Scalar.muli v2062 c128_i32_856
  let v2064 : BitVec 32 := Scalar.addi v2052 v2063
  let c1920_i32_857 : BitVec 32 := 1920#32
  let v2065 : BitVec 32 := Scalar.addi v2064 c1920_i32_857
  v2065
def k0_mult63 : BitVec 32 :=
  let c30_i32 : BitVec 32 := 30#32
  let c0_i32_873 : BitVec 32 := 0#32
  let v2107 : BitVec 1 := Scalar.cmpi .sgt c30_i32 c0_i32_873
  let v2108 : BitVec 32 := Scalar.extui v2107
  let c0_i32_874 : BitVec 32 := 0#32
  let v2109 : BitVec 1 := Scalar.cmpi .slt c30_i32 c0_i32_874
  let v2110 : BitVec 32 := Scalar.extui v2109
  let v2111 : BitVec 32 := Scalar.subi v2108 v2110
  let c32_i32_872 : BitVec 32 := 32#32
  let c0_i32_875 : BitVec 32 := 0#32
  let v2112 : BitVec 1 := Scalar.cmpi .sgt c32_i32_872 c0_i32_875
  let v2113 : BitVec 32 := Scalar.extui v2112
  let c0_i32_876 : BitVec 32 := 0#32
  let v2114 : BitVec 1 := Scalar.cmpi .slt c32_i32_872 c0_i32_876
  let v2115 : BitVec 32 := Scalar.extui v2114
  let v2116 : BitVec 32 := Scalar.subi v2113 v2115
  let v2117 : BitVec 1 := Scalar.cmpi .ne v2111 v2116
  let v2118 : BitVec 32 := Scalar.remsi c30_i32 c32_i32_872
  let c0_i32_877 : BitVec 32 := 0#32
  let v2119 : BitVec 1 := Scalar.cmpi .ne v2118 c0_i32_877
  let v2120 : BitVec 1 := Scalar.andi v2117 v2119
  let v2106 : BitVec 32 := Scalar.divsi c30_i32 c32_i32_872
  let c1_i32_878 : BitVec 32 := 1#32
  let v2121 : BitVec 32 := Scalar.subi v2106 c1_i32_878
  let v2122 : BitVec 32 := Scalar.select v2120 v2121 v2106
  let c32_i32_879 : BitVec 32 := 32#32
  let c0_i32_880 : BitVec 32 := 0#32
  let v2123 : BitVec 1 := Scalar.cmpi .eq c32_i32_879 c0_i32_880
  let c1_i32_881 : BitVec 32 := 1#32
  let v2124 : BitVec 32 := Scalar.select v2123 c1_i32_881 c32_i32_879
  let v2125 : BitVec 32 := Scalar.remsi c30_i32 v2124
  let c0_i32_883 : BitVec 32 := 0#32
  let v2127 : BitVec 1 := Scalar.cmpi .slt v2125 c0_i32_883
  let c0_i32_884 : BitVec 32 := 0#32
  let v2128 : BitVec 1 := Scalar.cmpi .slt v2124 c0_i32_884
  let v2129 : BitVec 1 := Scalar.xori v2127 v2128
  let c0_i32_882 : BitVec 32 := 0#32
  let v2126 : BitVec 1 := Scalar.cmpi .ne v2125 c0_i32_882
  let v2130 : BitVec 1 := Scalar.andi v2129 v2126
  let v2131 : BitVec 32 := Scalar.addi v2125 v2124
  let v2132 : BitVec 32 := Scalar.select v2130 v2131 v2125
  let c128_i32_885 : BitVec 32 := 128#32
  let v2133 : BitVec 32 := Scalar.muli v2132 c128_i32_885
  let v2134 : BitVec 32 := Scalar.addi v2122 v2133
  v2134
def k0_mult64 : BitVec 32 :=
  let c30_i32 : BitVec 32 := 30#32
  let c0_i32_873 : BitVec 32 := 0#32
  let v2107 : BitVec 1 := Scalar.cmpi .sgt c30_i32 c0_i32_873
  let v2108 : BitVec 32 := Scalar.extui v2107
  let c0_i32_874 : BitVec 32 := 0#32
  let v2109 : BitVec 1 := Scalar.cmpi .slt c30_i32 c0_i32_874
  let v2110 : BitVec 32 := Scalar.extui v2109
  let v2111 : BitVec 32 := Scalar.subi v2108 v2110
  let c32_i32_872 : BitVec 32 := 32#32
  let c0_i32_875 : BitVec 32 := 0#32
  let v2112 : BitVec 1 := Scalar.cmpi .sgt c32_i32_872 c0_i32_875
  let v2113 : BitVec 32 := Scalar.extui v2112
  let c0_i32_876 : BitVec 32 := 0#32
  let v2114 : BitVec 1 := Scalar.cmpi .slt c32_i32_872 c0_i32_876
  let v2115 : BitVec 32 := Scalar.extui v2114
  let v2116 : BitVec 32 := Scalar.subi v2113 v2115
  let v2117 : BitVec 1 := Scalar.cmpi .ne v2111 v2116
  let v2118 : BitVec 32 := Scalar.remsi c30_i32 c32_i32_872
  let c0_i32_877 : BitVec 32 := 0#32
  let v2119 : BitVec 1 := Scalar.cmpi .ne v2118 c0_i32_877
  let v2120 : BitVec 1 := Scalar.andi v2117 v2119
  let v2106 : BitVec 32 := Scalar.divsi c30_i32 c32_i32_872
  let c1_i32_878 : BitVec 32 := 1#32
  let v2121 : BitVec 32 := Scalar.subi v2106 c1_i32_878
  let v2122 : BitVec 32 := Scalar.select v2120 v2121 v2106
  let c32_i32_879 : BitVec 32 := 32#32
  let c0_i32_880 : BitVec 32 := 0#32
  let v2123 : BitVec 1 := Scalar.cmpi .eq c32_i32_879 c0_i32_880
  let c1_i32_881 : BitVec 32 := 1#32
  let v2124 : BitVec 32 := Scalar.select v2123 c1_i32_881 c32_i32_879
  let v2125 : BitVec 32 := Scalar.remsi c30_i32 v2124
  let c0_i32_883 : BitVec 32 := 0#32
  let v2127 : BitVec 1 := Scalar.cmpi .slt v2125 c0_i32_883
  let c0_i32_884 : BitVec 32 := 0#32
  let v2128 : BitVec 1 := Scalar.cmpi .slt v2124 c0_i32_884
  let v2129 : BitVec 1 := Scalar.xori v2127 v2128
  let c0_i32_882 : BitVec 32 := 0#32
  let v2126 : BitVec 1 := Scalar.cmpi .ne v2125 c0_i32_882
  let v2130 : BitVec 1 := Scalar.andi v2129 v2126
  let v2131 : BitVec 32 := Scalar.addi v2125 v2124
  let v2132 : BitVec 32 := Scalar.select v2130 v2131 v2125
  let c128_i32_885 : BitVec 32 := 128#32
  let v2133 : BitVec 32 := Scalar.muli v2132 c128_i32_885
  let v2134 : BitVec 32 := Scalar.addi v2122 v2133
  let c1920_i32_886 : BitVec 32 := 1920#32
  let v2135 : BitVec 32 := Scalar.addi v2134 c1920_i32_886
  v2135
def k0_mult65 : BitVec 32 :=
  let c31_i32 : BitVec 32 := 31#32
  let c0_i32_902 : BitVec 32 := 0#32
  let v2177 : BitVec 1 := Scalar.cmpi .sgt c31_i32 c0_i32_902
  let v2178 : BitVec 32 := Scalar.extui v2177
  let c0_i32_903 : BitVec 32 := 0#32
  let v2179 : BitVec 1 := Scalar.cmpi .slt c31_i32 c0_i32_903
  let v2180 : BitVec 32 := Scalar.extui v2179
  let v2181 : BitVec 32 := Scalar.subi v2178 v2180
  let c32_i32_901 : BitVec 32 := 32#32
  let c0_i32_904 : BitVec 32 := 0#32
  let v2182 : BitVec 1 := Scalar.cmpi .sgt c32_i32_901 c0_i32_904
  let v2183 : BitVec 32 := Scalar.extui v2182
  let c0_i32_905 : BitVec 32 := 0#32
  let v2184 : BitVec 1 := Scalar.cmpi .slt c32_i32_901 c0_i32_905
  let v2185 : BitVec 32 := Scalar.extui v2184
  let v2186 : BitVec 32 := Scalar.subi v2183 v2185
  let v2187 : BitVec 1 := Scalar.cmpi .ne v2181 v2186
  let v2188 : BitVec 32 := Scalar.remsi c31_i32 c32_i32_901
  let c0_i32_906 : BitVec 32 := 0#32
  let v2189 : BitVec 1 := Scalar.cmpi .ne v2188 c0_i32_906
  let v2190 : BitVec 1 := Scalar.andi v2187 v2189
  let v2176 : BitVec 32 := Scalar.divsi c31_i32 c32_i32_901
  let c1_i32_907 : BitVec 32 := 1#32
  let v2191 : BitVec 32 := Scalar.subi v2176 c1_i32_907
  let v2192 : BitVec 32 := Scalar.select v2190 v2191 v2176
  let c32_i32_908 : BitVec 32 := 32#32
  let c0_i32_909 : BitVec 32 := 0#32
  let v2193 : BitVec 1 := Scalar.cmpi .eq c32_i32_908 c0_i32_909
  let c1_i32_910 : BitVec 32 := 1#32
  let v2194 : BitVec 32 := Scalar.select v2193 c1_i32_910 c32_i32_908
  let v2195 : BitVec 32 := Scalar.remsi c31_i32 v2194
  let c0_i32_912 : BitVec 32 := 0#32
  let v2197 : BitVec 1 := Scalar.cmpi .slt v2195 c0_i32_912
  let c0_i32_913 : BitVec 32 := 0#32
  let v2198 : BitVec 1 := Scalar.cmpi .slt v2194 c0_i32_913
  let v2199 : BitVec 1 := Scalar.xori v2197 v2198
  let c0_i32_911 : BitVec 32 := 0#32
  let v2196 : BitVec 1 := Scalar.cmpi .ne v2195 c0_i32_911
  let v2200 : BitVec 1 := Scalar.andi v2199 v2196
  let v2201 : BitVec 32 := Scalar.addi v2195 v2194
  let v2202 : BitVec 32 := Scalar.select v2200 v2201 v2195
  let c128_i32_914 : BitVec 32 := 128#32
  let v2203 : BitVec 32 := Scalar.muli v2202 c128_i32_914
  let v2204 : BitVec 32 := Scalar.addi v2192 v2203
  v2204
def k0_mult66 : BitVec 32 :=
  let c31_i32 : BitVec 32 := 31#32
  let c0_i32_902 : BitVec 32 := 0#32
  let v2177 : BitVec 1 := Scalar.cmpi .sgt c31_i32 c0_i32_902
  let v2178 : BitVec 32 := Scalar.extui v2177
  let c0_i32_903 : BitVec 32 := 0#32
  let v2179 : BitVec 1 := Scalar.cmpi .slt c31_i32 c0_i32_903
  let v2180 : BitVec 32 := Scalar.extui v2179
  let v2181 : BitVec 32 := Scalar.subi v2178 v2180
  let c32_i32_901 : BitVec 32 := 32#32
  let c0_i32_904 : BitVec 32 := 0#32
  let v2182 : BitVec 1 := Scalar.cmpi .sgt c32_i32_901 c0_i32_904
  let v2183 : BitVec 32 := Scalar.extui v2182
  let c0_i32_905 : BitVec 32 := 0#32
  let v2184 : BitVec 1 := Scalar.cmpi .slt c32_i32_901 c0_i32_905
  let v2185 : BitVec 32 := Scalar.extui v2184
  let v2186 : BitVec 32 := Scalar.subi v2183 v2185
  let v2187 : BitVec 1 := Scalar.cmpi .ne v2181 v2186
  let v2188 : BitVec 32 := Scalar.remsi c31_i32 c32_i32_901
  let c0_i32_906 : BitVec 32 := 0#32
  let v2189 : BitVec 1 := Scalar.cmpi .ne v2188 c0_i32_906
  let v2190 : BitVec 1 := Scalar.andi v2187 v2189
  let v2176 : BitVec 32 := Scalar.divsi c31_i32 c32_i32_901
  let c1_i32_907 : BitVec 32 := 1#32
  let v2191 : BitVec 32 := Scalar.subi v2176 c1_i32_907
  let v2192 : BitVec 32 := Scalar.select v2190 v2191 v2176
  let c32_i32_908 : BitVec 32 := 32#32
  let c0_i32_909 : BitVec 32 := 0#32
  let v2193 : BitVec 1 := Scalar.cmpi .eq c32_i32_908 c0_i32_909
  let c1_i32_910 : BitVec 32 := 1#32
  let v2194 : BitVec 32 := Scalar.select v2193 c1_i32_910 c32_i32_908
  let v2195 : BitVec 32 := Scalar.remsi c31_i32 v2194
  let c0_i32_912 : BitVec 32 := 0#32
  let v2197 : BitVec 1 := Scalar.cmpi .slt v2195 c0_i32_912
  let c0_i32_913 : BitVec 32 := 0#32
  let v2198 : BitVec 1 := Scalar.cmpi .slt v2194 c0_i32_913
  let v2199 : BitVec 1 := Scalar.xori v2197 v2198
  let c0_i32_911 : BitVec 32 := 0#32
  let v2196 : BitVec 1 := Scalar.cmpi .ne v2195 c0_i32_911
  let v2200 : BitVec 1 := Scalar.andi v2199 v2196
  let v2201 : BitVec 32 := Scalar.addi v2195 v2194
  let v2202 : BitVec 32 := Scalar.select v2200 v2201 v2195
  let c128_i32_914 : BitVec 32 := 128#32
  let v2203 : BitVec 32 := Scalar.muli v2202 c128_i32_914
  let v2204 : BitVec 32 := Scalar.addi v2192 v2203
  let c1920_i32_915 : BitVec 32 := 1920#32
  let v2205 : BitVec 32 := Scalar.addi v2204 c1920_i32_915
  v2205
def k0_off8 (c0_i32_931 : BitVec 32) : Fin 2 → Nat :=
  let c0_i32_933 : BitVec 32 := 0#32
  let v2247 : BitVec 1 := Scalar.cmpi .sgt c0_i32_931 c0_i32_933
  let v2248 : BitVec 32 := Scalar.extui v2247
  let c0_i32_934 : BitVec 32 := 0#32
  let v2249 : BitVec 1 := Scalar.cmpi .slt c0_i32_931 c0_i32_934
  let v2250 : BitVec 32 := Scalar.extui v2249
  let v2251 : BitVec 32 := Scalar.subi v2248 v2250
  let c8_i32_932 : BitVec 32 := 8#32
  let c0_i32_935 : BitVec 32 := 0#32
  let v2252 : BitVec 1 := Scalar.cmpi .sgt c8_i32_932 c0_i32_935
  let v2253 : BitVec 32 := Scalar.extui v2252
  let c0_i32_936 : BitVec 32 := 0#32
  let v2254 : BitVec 1 := Scalar.cmpi .slt c8_i32_932 c0_i32_936
  let v2255 : BitVec 32 := Scalar.extui v2254
  let v2256 : BitVec 32 := Scalar.subi v2253 v2255
  let v2257 : BitVec 1 := Scalar.cmpi .ne v2251 v2256
  let v2258 : BitVec 32 := Scalar.remsi c0_i32_931 c8_i32_932
  let c0_i32_937 : BitVec 32 := 0#32
  let v2259 : BitVec 1 := Scalar.cmpi .ne v2258 c0_i32_937
  let v2260 : BitVec 1 := Scalar.andi v2257 v2259
  let v2246 : BitVec 32 := Scalar.divsi c0_i32_931 c8_i32_932
  let c1_i32_938 : BitVec 32 := 1#32
  let v2261 : BitVec 32 := Scalar.subi v2246 c1_i32_938
  let v2262 : BitVec 32 := Scalar.select v2260 v2261 v2246
  let c8_i32_939 : BitVec 32 := 8#32
  let c0_i32_940 : BitVec 32 := 0#32
  let v2263 : BitVec 1 := Scalar.cmpi .eq c8_i32_939 c0_i32_940
  let c1_i32_941 : BitVec 32 := 1#32
  let v2264 : BitVec 32 := Scalar.select v2263 c1_i32_941 c8_i32_939
  let v2265 : BitVec 32 := Scalar.remsi c0_i32_931 v2264
  let c0_i32_943 : BitVec 32 := 0#32
  let v2267 : BitVec 1 := Scalar.cmpi .slt v2265 c0_i32_943
  let c0_i32_944 : BitVec 32 := 0#32
  let v2268 : BitVec 1 := Scalar.cmpi .slt v2264 c0_i32_944
  let v2269 : BitVec 1 := Scalar.xori v2267 v2268
  let c0_i32_942 : BitVec 32 := 0#32
  let v2266 : BitVec 1 := Scalar.cmpi .ne v2265 c0_i32_942
  let v2270 : BitVec 1 := Scalar.andi v2269 v2266
  let v2271 : BitVec 32 := Scalar.addi v2265 v2264
  let v2272 : BitVec 32 := Scalar.select v2270 v2271 v2265
  let c512_i32 : BitVec 32 := 512#32
  let v2273 : BitVec 32 := Scalar.muli v2272 c512_i32
  let v2274 : BitVec 32 := Scalar.addi v2262 v2273
  let v2280 : Index := Scalar.indexCast v2274
  let c0_948 : Index := 0#32
  ![v2280.toNat, 0]
def k0_off9 (c0_i32_931 : BitVec 32) : Fin 2 → Nat :=
  let c0_i32_933 : BitVec 32 := 0#32
  let v2247 : BitVec 1 := Scalar.cmpi .sgt c0_i32_931 c0_i32_933
  let v2248 : BitVec 32 := Scalar.extui v2247
  let c0_i32_934 : BitVec 32 := 0#32
  let v2249 : BitVec 1 := Scalar.cmpi .slt c0_i32_931 c0_i32_934
  let v2250 : BitVec 32 := Scalar.extui v2249
  let v2251 : BitVec 32 := Scalar.subi v2248 v2250
  let c8_i32_932 : BitVec 32 := 8#32
  let c0_i32_935 : BitVec 32 := 0#32
  let v2252 : BitVec 1 := Scalar.cmpi .sgt c8_i32_932 c0_i32_935
  let v2253 : BitVec 32 := Scalar.extui v2252
  let c0_i32_936 : BitVec 32 := 0#32
  let v2254 : BitVec 1 := Scalar.cmpi .slt c8_i32_932 c0_i32_936
  let v2255 : BitVec 32 := Scalar.extui v2254
  let v2256 : BitVec 32 := Scalar.subi v2253 v2255
  let v2257 : BitVec 1 := Scalar.cmpi .ne v2251 v2256
  let v2258 : BitVec 32 := Scalar.remsi c0_i32_931 c8_i32_932
  let c0_i32_937 : BitVec 32 := 0#32
  let v2259 : BitVec 1 := Scalar.cmpi .ne v2258 c0_i32_937
  let v2260 : BitVec 1 := Scalar.andi v2257 v2259
  let v2246 : BitVec 32 := Scalar.divsi c0_i32_931 c8_i32_932
  let c1_i32_938 : BitVec 32 := 1#32
  let v2261 : BitVec 32 := Scalar.subi v2246 c1_i32_938
  let v2262 : BitVec 32 := Scalar.select v2260 v2261 v2246
  let c8_i32_939 : BitVec 32 := 8#32
  let c0_i32_940 : BitVec 32 := 0#32
  let v2263 : BitVec 1 := Scalar.cmpi .eq c8_i32_939 c0_i32_940
  let c1_i32_941 : BitVec 32 := 1#32
  let v2264 : BitVec 32 := Scalar.select v2263 c1_i32_941 c8_i32_939
  let v2265 : BitVec 32 := Scalar.remsi c0_i32_931 v2264
  let c0_i32_943 : BitVec 32 := 0#32
  let v2267 : BitVec 1 := Scalar.cmpi .slt v2265 c0_i32_943
  let c0_i32_944 : BitVec 32 := 0#32
  let v2268 : BitVec 1 := Scalar.cmpi .slt v2264 c0_i32_944
  let v2269 : BitVec 1 := Scalar.xori v2267 v2268
  let c0_i32_942 : BitVec 32 := 0#32
  let v2266 : BitVec 1 := Scalar.cmpi .ne v2265 c0_i32_942
  let v2270 : BitVec 1 := Scalar.andi v2269 v2266
  let v2271 : BitVec 32 := Scalar.addi v2265 v2264
  let v2272 : BitVec 32 := Scalar.select v2270 v2271 v2265
  let c512_i32 : BitVec 32 := 512#32
  let v2273 : BitVec 32 := Scalar.muli v2272 c512_i32
  let v2274 : BitVec 32 := Scalar.addi v2262 v2273
  let c1536_i32 : BitVec 32 := 1536#32
  let v2275 : BitVec 32 := Scalar.addi v2274 c1536_i32
  let v2283 : Index := Scalar.indexCast v2275
  let c0_949 : Index := 0#32
  ![v2283.toNat, 0]
def k0_off10 (c0_i32_931 : BitVec 32) : Fin 3 → Nat :=
  let c1 : Index := 1#32
  let c0_i32_933 : BitVec 32 := 0#32
  let v2247 : BitVec 1 := Scalar.cmpi .sgt c0_i32_931 c0_i32_933
  let v2248 : BitVec 32 := Scalar.extui v2247
  let c0_i32_934 : BitVec 32 := 0#32
  let v2249 : BitVec 1 := Scalar.cmpi .slt c0_i32_931 c0_i32_934
  let v2250 : BitVec 32 := Scalar.extui v2249
  let v2251 : BitVec 32 := Scalar.subi v2248 v2250
  let c8_i32_932 : BitVec 32 := 8#32
  let c0_i32_935 : BitVec 32 := 0#32
  let v2252 : BitVec 1 := Scalar.cmpi .sgt c8_i32_932 c0_i32_935
  let v2253 : BitVec 32 := Scalar.extui v2252
  let c0_i32_936 : BitVec 32 := 0#32
  let v2254 : BitVec 1 := Scalar.cmpi .slt c8_i32_932 c0_i32_936
  let v2255 : BitVec 32 := Scalar.extui v2254
  let v2256 : BitVec 32 := Scalar.subi v2253 v2255
  let v2257 : BitVec 1 := Scalar.cmpi .ne v2251 v2256
  let v2258 : BitVec 32 := Scalar.remsi c0_i32_931 c8_i32_932
  let c0_i32_937 : BitVec 32 := 0#32
  let v2259 : BitVec 1 := Scalar.cmpi .ne v2258 c0_i32_937
  let v2260 : BitVec 1 := Scalar.andi v2257 v2259
  let v2246 : BitVec 32 := Scalar.divsi c0_i32_931 c8_i32_932
  let c1_i32_938 : BitVec 32 := 1#32
  let v2261 : BitVec 32 := Scalar.subi v2246 c1_i32_938
  let v2262 : BitVec 32 := Scalar.select v2260 v2261 v2246
  let c8_i32_939 : BitVec 32 := 8#32
  let c0_i32_940 : BitVec 32 := 0#32
  let v2263 : BitVec 1 := Scalar.cmpi .eq c8_i32_939 c0_i32_940
  let c1_i32_941 : BitVec 32 := 1#32
  let v2264 : BitVec 32 := Scalar.select v2263 c1_i32_941 c8_i32_939
  let v2265 : BitVec 32 := Scalar.remsi c0_i32_931 v2264
  let c0_i32_943 : BitVec 32 := 0#32
  let v2267 : BitVec 1 := Scalar.cmpi .slt v2265 c0_i32_943
  let c0_i32_944 : BitVec 32 := 0#32
  let v2268 : BitVec 1 := Scalar.cmpi .slt v2264 c0_i32_944
  let v2269 : BitVec 1 := Scalar.xori v2267 v2268
  let c0_i32_942 : BitVec 32 := 0#32
  let v2266 : BitVec 1 := Scalar.cmpi .ne v2265 c0_i32_942
  let v2270 : BitVec 1 := Scalar.andi v2269 v2266
  let v2271 : BitVec 32 := Scalar.addi v2265 v2264
  let v2272 : BitVec 32 := Scalar.select v2270 v2271 v2265
  let c512_i32 : BitVec 32 := 512#32
  let v2273 : BitVec 32 := Scalar.muli v2272 c512_i32
  let v2274 : BitVec 32 := Scalar.addi v2262 v2273
  let v2302 : Index := Scalar.indexCast v2274
  let c0_955 : Index := 0#32
  ![1, v2302.toNat, 0]
def k0_off11 (c0_i32_1889 : BitVec 32) : Fin 2 → Nat :=
  let c2048_i32 : BitVec 32 := 2048#32
  let v4422 : BitVec 32 := Scalar.addi c2048_i32 c0_i32_1889
  let v4427 : Index := Scalar.indexCast v4422
  let c0_1893 : Index := 0#32
  ![v4427.toNat, 0]
@[reducible] def k0_t2_loop : Scf.Loop 32 :=
  let c0_i32_2128 : BitVec 32 := 0#32
  let c16_i32_2129 : BitVec 32 := 16#32
  let v4998 : BitVec 32 := Scalar.addi c0_i32_2128 c16_i32_2129
  let c1_i32_2130 : BitVec 32 := 1#32
  ⟨c0_i32_2128, v4998, c1_i32_2130⟩
def k0_mult67 (k0_t2 : Fin k0_t2_loop.trips) : BitVec 32 :=
  let c0_i32_2128 : BitVec 32 := 0#32
  let c1_i32_2130 : BitVec 32 := 1#32
  let arg13 : BitVec 32 := Scf.iv c0_i32_2128 c1_i32_2130 k0_t2
  let c256_i32 : BitVec 32 := 256#32
  let v4999 : BitVec 32 := Scalar.muli arg13 c256_i32
  v4999
def k0_off12 (k0_t2 : Fin k0_t2_loop.trips) : Fin 3 → Nat :=
  let c0_2132 : Index := 0#32
  let c0_i32_2128 : BitVec 32 := 0#32
  let c1_i32_2130 : BitVec 32 := 1#32
  let arg13 : BitVec 32 := Scf.iv c0_i32_2128 c1_i32_2130 k0_t2
  let c256_i32 : BitVec 32 := 256#32
  let v4999 : BitVec 32 := Scalar.muli arg13 c256_i32
  let v5000 : BitVec 32 := v4999
  let v5001 : Index := Scalar.indexCast v5000
  let c0_2133 : Index := 0#32
  ![0, v5001.toNat, 0]
def k0_off13 (k0_t2 : Fin k0_t2_loop.trips) : Fin 3 → Nat :=
  let c1_2134 : Index := 1#32
  let c0_i32_2128 : BitVec 32 := 0#32
  let c1_i32_2130 : BitVec 32 := 1#32
  let arg13 : BitVec 32 := Scf.iv c0_i32_2128 c1_i32_2130 k0_t2
  let c256_i32 : BitVec 32 := 256#32
  let v4999 : BitVec 32 := Scalar.muli arg13 c256_i32
  let v5000 : BitVec 32 := v4999
  let v5004 : Index := Scalar.indexCast v5000
  let c0_2135 : Index := 0#32
  ![1, v5004.toNat, 0]
def k0_off14 (k0_t2 : Fin k0_t2_loop.trips) : Fin 3 → Nat :=
  let c2_2136 : Index := 2#32
  let c0_i32_2128 : BitVec 32 := 0#32
  let c1_i32_2130 : BitVec 32 := 1#32
  let arg13 : BitVec 32 := Scf.iv c0_i32_2128 c1_i32_2130 k0_t2
  let c256_i32 : BitVec 32 := 256#32
  let v4999 : BitVec 32 := Scalar.muli arg13 c256_i32
  let v5000 : BitVec 32 := v4999
  let v5007 : Index := Scalar.indexCast v5000
  let c0_2137 : Index := 0#32
  ![2, v5007.toNat, 0]
def k0_off15 (k0_t2 : Fin k0_t2_loop.trips) : Fin 3 → Nat :=
  let c0_2144 : Index := 0#32
  let c0_i32_2128 : BitVec 32 := 0#32
  let c1_i32_2130 : BitVec 32 := 1#32
  let arg13 : BitVec 32 := Scf.iv c0_i32_2128 c1_i32_2130 k0_t2
  let c256_i32 : BitVec 32 := 256#32
  let v4999 : BitVec 32 := Scalar.muli arg13 c256_i32
  let v5000 : BitVec 32 := v4999
  let v5035 : Index := Scalar.indexCast v5000
  let c0_2145 : Index := 0#32
  ![0, v5035.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x5632 : Shape := ⟨3, ![4, 4096, 5632]⟩
abbrev S4x4096x1536 : Shape := ⟨3, ![4, 4096, 1536]⟩
abbrev S4x4096x1024 : Shape := ⟨3, ![4, 4096, 1024]⟩
abbrev S4x4096x12x128 : Shape := ⟨4, ![4, 4096, 12, 128]⟩
abbrev S4x32x128x1x12x128 : Shape := ⟨6, ![4, 32, 128, 1, 12, 128]⟩
abbrev S4x1x32x128x12x128 : Shape := ⟨6, ![4, 1, 32, 128, 12, 128]⟩
abbrev S_ : Shape := ⟨0, ![]⟩
abbrev S4x1x33x128x12x128 : Shape := ⟨6, ![4, 1, 33, 128, 12, 128]⟩
abbrev S4x1x32x256x12x128 : Shape := ⟨6, ![4, 1, 32, 256, 12, 128]⟩
abbrev S4x1x32x12x128x256 : Shape := ⟨6, ![4, 1, 32, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S1x1x32x1x128x256 : Shape := ⟨6, ![1, 1, 32, 1, 128, 256]⟩
abbrev S4x1x32x12x128 : Shape := ⟨5, ![4, 1, 32, 12, 128]⟩
abbrev S4x1x32x12x128x1 : Shape := ⟨6, ![4, 1, 32, 12, 128, 1]⟩
abbrev S4x1x32x12x128x128 : Shape := ⟨6, ![4, 1, 32, 12, 128, 128]⟩
abbrev S4x32x128x1x12 : Shape := ⟨5, ![4, 32, 128, 1, 12]⟩
abbrev S4x4096x12 : Shape := ⟨3, ![4, 4096, 12]⟩
abbrev S4x8x128x4x12x128 : Shape := ⟨6, ![4, 8, 128, 4, 12, 128]⟩
abbrev S4x4x8x128x12x128 : Shape := ⟨6, ![4, 4, 8, 128, 12, 128]⟩
abbrev S4x4x9x128x12x128 : Shape := ⟨6, ![4, 4, 9, 128, 12, 128]⟩
abbrev S4x4x8x256x12x128 : Shape := ⟨6, ![4, 4, 8, 256, 12, 128]⟩
abbrev S4x4x8x12x128x256 : Shape := ⟨6, ![4, 4, 8, 12, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S1x1x8x1x128x256 : Shape := ⟨6, ![1, 1, 8, 1, 128, 256]⟩
abbrev S4x4x8x12x128 : Shape := ⟨5, ![4, 4, 8, 12, 128]⟩
abbrev S4x4x8x12x128x1 : Shape := ⟨6, ![4, 4, 8, 12, 128, 1]⟩
abbrev S4x4x8x12x128x128 : Shape := ⟨6, ![4, 4, 8, 12, 128, 128]⟩
abbrev S4x8x128x4x12 : Shape := ⟨5, ![4, 8, 128, 4, 12]⟩
abbrev S4x2x128x16x12x128 : Shape := ⟨6, ![4, 2, 128, 16, 12, 128]⟩
abbrev S4x16x2x128x12x128 : Shape := ⟨6, ![4, 16, 2, 128, 12, 128]⟩
abbrev S4x16x3x128x12x128 : Shape := ⟨6, ![4, 16, 3, 128, 12, 128]⟩
abbrev S4x16x2x256x12x128 : Shape := ⟨6, ![4, 16, 2, 256, 12, 128]⟩
abbrev S4x16x2x12x128x256 : Shape := ⟨6, ![4, 16, 2, 12, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S1x1x2x1x128x256 : Shape := ⟨6, ![1, 1, 2, 1, 128, 256]⟩
abbrev S4x16x2x12x128 : Shape := ⟨5, ![4, 16, 2, 12, 128]⟩
abbrev S4x16x2x12x128x1 : Shape := ⟨6, ![4, 16, 2, 12, 128, 1]⟩
abbrev S4x16x2x12x128x128 : Shape := ⟨6, ![4, 16, 2, 12, 128, 128]⟩
abbrev S4x2x128x16x12 : Shape := ⟨5, ![4, 2, 128, 16, 12]⟩
abbrev S1x4x4096x12 : Shape := ⟨4, ![1, 4, 4096, 12]⟩
abbrev S3x4x4096x12 : Shape := ⟨4, ![3, 4, 4096, 12]⟩
abbrev S4x4096x12x1 : Shape := ⟨4, ![4, 4096, 12, 1]⟩

abbrev nBuf : Space → Nat
  | .hbm => 258
  | .vmem => 0
  | .smem => 0
  | _ => 0

abbrev hbmTy0_0 (i : Nat) : BufTy := match i % 128 with
  | 0 => ⟨S4x4096x5632, .bf16⟩
  | 1 => ⟨S4x4096x5632, .f32⟩
  | 2 => ⟨S4x4096x1536, .f32⟩
  | 3 => ⟨S4x4096x1536, .f32⟩
  | 4 => ⟨S4x4096x1536, .f32⟩
  | 5 => ⟨S4x4096x1024, .f32⟩
  | 6 => ⟨S4x4096x12x128, .f32⟩
  | 7 => ⟨S4x4096x12x128, .f32⟩
  | 8 => ⟨S4x4096x12x128, .f32⟩
  | 9 => ⟨S4x32x128x1x12x128, .f32⟩
  | 10 => ⟨S4x1x32x128x12x128, .f32⟩
  | 11 => ⟨S4x32x128x1x12x128, .f32⟩
  | 12 => ⟨S4x1x32x128x12x128, .f32⟩
  | 13 => ⟨S_, .f32⟩
  | 14 => ⟨S4x1x33x128x12x128, .f32⟩
  | 15 => ⟨S4x1x32x128x12x128, .f32⟩
  | 16 => ⟨S4x1x32x256x12x128, .f32⟩
  | 17 => ⟨S4x32x128x1x12x128, .f32⟩
  | 18 => ⟨S4x1x32x128x12x128, .f32⟩
  | 19 => ⟨S_, .f32⟩
  | 20 => ⟨S4x1x33x128x12x128, .f32⟩
  | 21 => ⟨S4x1x32x128x12x128, .f32⟩
  | 22 => ⟨S4x1x32x256x12x128, .f32⟩
  | 23 => ⟨S4x1x32x12x128x256, .f32⟩
  | 24 => ⟨S128, .i32⟩
  | 25 => ⟨S128x1, .i32⟩
  | 26 => ⟨S256, .i32⟩
  | 27 => ⟨S1x256, .i32⟩
  | 28 => ⟨S128x256, .i32⟩
  | 29 => ⟨S128x256, .i32⟩
  | 30 => ⟨S128x256, .i1⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i1⟩
  | 37 => ⟨S128x256, .i1⟩
  | 38 => ⟨S1x128x256, .i1⟩
  | 39 => ⟨S32, .i32⟩
  | 40 => ⟨S32x1x1, .i32⟩
  | 41 => ⟨S_, .i32⟩
  | 42 => ⟨S32x1x1, .i32⟩
  | 43 => ⟨S32x1x1, .i1⟩
  | 44 => ⟨S1x1x256, .i32⟩
  | 45 => ⟨S_, .i32⟩
  | 46 => ⟨S1x1x256, .i32⟩
  | 47 => ⟨S1x1x256, .i1⟩
  | 48 => ⟨S32x1x256, .i1⟩
  | 49 => ⟨S32x1x256, .i1⟩
  | 50 => ⟨S32x1x256, .i1⟩
  | 51 => ⟨S32x128x256, .i1⟩
  | 52 => ⟨S32x128x256, .i1⟩
  | 53 => ⟨S32x128x256, .i1⟩
  | 54 => ⟨S1x1x32x1x128x256, .i1⟩
  | 55 => ⟨S4x1x32x12x128x256, .i1⟩
  | 56 => ⟨S_, .f32⟩
  | 57 => ⟨S4x1x32x12x128x256, .f32⟩
  | 58 => ⟨S4x1x32x12x128x256, .f32⟩
  | 59 => ⟨S_, .f32⟩
  | 60 => ⟨S4x1x32x12x128, .f32⟩
  | 61 => ⟨S4x1x32x12x128x1, .f32⟩
  | 62 => ⟨S4x1x32x12x128x256, .f32⟩
  | 63 => ⟨S4x1x32x12x128x256, .f32⟩
  | 64 => ⟨S4x1x32x12x128x256, .f32⟩
  | 65 => ⟨S_, .f32⟩
  | 66 => ⟨S4x1x32x12x128, .f32⟩
  | 67 => ⟨S4x1x32x12x128, .f32⟩
  | 68 => ⟨S4x1x32x12x128, .f32⟩
  | 69 => ⟨S4x1x32x12x128x1, .f32⟩
  | 70 => ⟨S4x1x32x12x128x256, .f32⟩
  | 71 => ⟨S4x1x32x12x128x256, .f32⟩
  | 72 => ⟨S4x1x32x12x128x256, .f32⟩
  | 73 => ⟨S4x1x32x12x128x128, .f32⟩
  | 74 => ⟨S4x1x32x128x12x128, .f32⟩
  | 75 => ⟨S4x32x128x1x12x128, .f32⟩
  | 76 => ⟨S4x4096x12x128, .f32⟩
  | 77 => ⟨S4x32x128x1x12, .f32⟩
  | 78 => ⟨S4x4096x12, .f32⟩
  | 79 => ⟨S4x8x128x4x12x128, .f32⟩
  | 80 => ⟨S4x4x8x128x12x128, .f32⟩
  | 81 => ⟨S4x8x128x4x12x128, .f32⟩
  | 82 => ⟨S4x4x8x128x12x128, .f32⟩
  | 83 => ⟨S_, .f32⟩
  | 84 => ⟨S4x4x9x128x12x128, .f32⟩
  | 85 => ⟨S4x4x8x128x12x128, .f32⟩
  | 86 => ⟨S4x4x8x256x12x128, .f32⟩
  | 87 => ⟨S4x8x128x4x12x128, .f32⟩
  | 88 => ⟨S4x4x8x128x12x128, .f32⟩
  | 89 => ⟨S_, .f32⟩
  | 90 => ⟨S4x4x9x128x12x128, .f32⟩
  | 91 => ⟨S4x4x8x128x12x128, .f32⟩
  | 92 => ⟨S4x4x8x256x12x128, .f32⟩
  | 93 => ⟨S4x4x8x12x128x256, .f32⟩
  | 94 => ⟨S128, .i32⟩
  | 95 => ⟨S128x1, .i32⟩
  | 96 => ⟨S256, .i32⟩
  | 97 => ⟨S1x256, .i32⟩
  | 98 => ⟨S128x256, .i32⟩
  | 99 => ⟨S128x256, .i32⟩
  | 100 => ⟨S128x256, .i1⟩
  | 101 => ⟨S_, .i32⟩
  | 102 => ⟨S128x1, .i32⟩
  | 103 => ⟨S128x1, .i32⟩
  | 104 => ⟨S128x256, .i32⟩
  | 105 => ⟨S128x256, .i32⟩
  | 106 => ⟨S128x256, .i1⟩
  | 107 => ⟨S128x256, .i1⟩
  | 108 => ⟨S1x128x256, .i1⟩
  | 109 => ⟨S8, .i32⟩
  | 110 => ⟨S8x1x1, .i32⟩
  | 111 => ⟨S_, .i32⟩
  | 112 => ⟨S8x1x1, .i32⟩
  | 113 => ⟨S8x1x1, .i1⟩
  | 114 => ⟨S1x1x256, .i32⟩
  | 115 => ⟨S_, .i32⟩
  | 116 => ⟨S1x1x256, .i32⟩
  | 117 => ⟨S1x1x256, .i1⟩
  | 118 => ⟨S8x1x256, .i1⟩
  | 119 => ⟨S8x1x256, .i1⟩
  | 120 => ⟨S8x1x256, .i1⟩
  | 121 => ⟨S8x128x256, .i1⟩
  | 122 => ⟨S8x128x256, .i1⟩
  | 123 => ⟨S8x128x256, .i1⟩
  | 124 => ⟨S1x1x8x1x128x256, .i1⟩
  | 125 => ⟨S4x4x8x12x128x256, .i1⟩
  | 126 => ⟨S_, .f32⟩
  | 127 => ⟨S4x4x8x12x128x256, .f32⟩
  | _ => ⟨S4x4096x5632, .bf16⟩

abbrev hbmTy0_1 (i : Nat) : BufTy := match i % 128 with
  | 0 => ⟨S4x4x8x12x128x256, .f32⟩
  | 1 => ⟨S_, .f32⟩
  | 2 => ⟨S4x4x8x12x128, .f32⟩
  | 3 => ⟨S4x4x8x12x128x1, .f32⟩
  | 4 => ⟨S4x4x8x12x128x256, .f32⟩
  | 5 => ⟨S4x4x8x12x128x256, .f32⟩
  | 6 => ⟨S4x4x8x12x128x256, .f32⟩
  | 7 => ⟨S_, .f32⟩
  | 8 => ⟨S4x4x8x12x128, .f32⟩
  | 9 => ⟨S4x4x8x12x128, .f32⟩
  | 10 => ⟨S4x4x8x12x128, .f32⟩
  | 11 => ⟨S4x4x8x12x128x1, .f32⟩
  | 12 => ⟨S4x4x8x12x128x256, .f32⟩
  | 13 => ⟨S4x4x8x12x128x256, .f32⟩
  | 14 => ⟨S4x4x8x12x128x256, .f32⟩
  | 15 => ⟨S4x4x8x12x128x128, .f32⟩
  | 16 => ⟨S4x4x8x128x12x128, .f32⟩
  | 17 => ⟨S4x8x128x4x12x128, .f32⟩
  | 18 => ⟨S4x4096x12x128, .f32⟩
  | 19 => ⟨S4x8x128x4x12, .f32⟩
  | 20 => ⟨S4x4096x12, .f32⟩
  | 21 => ⟨S4x2x128x16x12x128, .f32⟩
  | 22 => ⟨S4x16x2x128x12x128, .f32⟩
  | 23 => ⟨S4x2x128x16x12x128, .f32⟩
  | 24 => ⟨S4x16x2x128x12x128, .f32⟩
  | 25 => ⟨S_, .f32⟩
  | 26 => ⟨S4x16x3x128x12x128, .f32⟩
  | 27 => ⟨S4x16x2x128x12x128, .f32⟩
  | 28 => ⟨S4x16x2x256x12x128, .f32⟩
  | 29 => ⟨S4x2x128x16x12x128, .f32⟩
  | 30 => ⟨S4x16x2x128x12x128, .f32⟩
  | 31 => ⟨S_, .f32⟩
  | 32 => ⟨S4x16x3x128x12x128, .f32⟩
  | 33 => ⟨S4x16x2x128x12x128, .f32⟩
  | 34 => ⟨S4x16x2x256x12x128, .f32⟩
  | 35 => ⟨S4x16x2x12x128x256, .f32⟩
  | 36 => ⟨S128, .i32⟩
  | 37 => ⟨S128x1, .i32⟩
  | 38 => ⟨S256, .i32⟩
  | 39 => ⟨S1x256, .i32⟩
  | 40 => ⟨S128x256, .i32⟩
  | 41 => ⟨S128x256, .i32⟩
  | 42 => ⟨S128x256, .i1⟩
  | 43 => ⟨S_, .i32⟩
  | 44 => ⟨S128x1, .i32⟩
  | 45 => ⟨S128x1, .i32⟩
  | 46 => ⟨S128x256, .i32⟩
  | 47 => ⟨S128x256, .i32⟩
  | 48 => ⟨S128x256, .i1⟩
  | 49 => ⟨S128x256, .i1⟩
  | 50 => ⟨S1x128x256, .i1⟩
  | 51 => ⟨S2, .i32⟩
  | 52 => ⟨S2x1x1, .i32⟩
  | 53 => ⟨S_, .i32⟩
  | 54 => ⟨S2x1x1, .i32⟩
  | 55 => ⟨S2x1x1, .i1⟩
  | 56 => ⟨S1x1x256, .i32⟩
  | 57 => ⟨S_, .i32⟩
  | 58 => ⟨S1x1x256, .i32⟩
  | 59 => ⟨S1x1x256, .i1⟩
  | 60 => ⟨S2x1x256, .i1⟩
  | 61 => ⟨S2x1x256, .i1⟩
  | 62 => ⟨S2x1x256, .i1⟩
  | 63 => ⟨S2x128x256, .i1⟩
  | 64 => ⟨S2x128x256, .i1⟩
  | 65 => ⟨S2x128x256, .i1⟩
  | 66 => ⟨S1x1x2x1x128x256, .i1⟩
  | 67 => ⟨S4x16x2x12x128x256, .i1⟩
  | 68 => ⟨S_, .f32⟩
  | 69 => ⟨S4x16x2x12x128x256, .f32⟩
  | 70 => ⟨S4x16x2x12x128x256, .f32⟩
  | 71 => ⟨S_, .f32⟩
  | 72 => ⟨S4x16x2x12x128, .f32⟩
  | 73 => ⟨S4x16x2x12x128x1, .f32⟩
  | 74 => ⟨S4x16x2x12x128x256, .f32⟩
  | 75 => ⟨S4x16x2x12x128x256, .f32⟩
  | 76 => ⟨S4x16x2x12x128x256, .f32⟩
  | 77 => ⟨S_, .f32⟩
  | 78 => ⟨S4x16x2x12x128, .f32⟩
  | 79 => ⟨S4x16x2x12x128, .f32⟩
  | 80 => ⟨S4x16x2x12x128, .f32⟩
  | 81 => ⟨S4x16x2x12x128x1, .f32⟩
  | 82 => ⟨S4x16x2x12x128x256, .f32⟩
  | 83 => ⟨S4x16x2x12x128x256, .f32⟩
  | 84 => ⟨S4x16x2x12x128x256, .f32⟩
  | 85 => ⟨S4x16x2x12x128x128, .f32⟩
  | 86 => ⟨S4x16x2x128x12x128, .f32⟩
  | 87 => ⟨S4x2x128x16x12x128, .f32⟩
  | 88 => ⟨S4x4096x12x128, .f32⟩
  | 89 => ⟨S4x2x128x16x12, .f32⟩
  | 90 => ⟨S4x4096x12, .f32⟩
  | 91 => ⟨S1x4x4096x12, .f32⟩
  | 92 => ⟨S1x4x4096x12, .f32⟩
  | 93 => ⟨S1x4x4096x12, .f32⟩
  | 94 => ⟨S3x4x4096x12, .f32⟩
  | 95 => ⟨S_, .f32⟩
  | 96 => ⟨S4x4096x12, .f32⟩
  | 97 => ⟨S_, .f32⟩
  | 98 => ⟨S4x4096x12, .f32⟩
  | 99 => ⟨S4x4096x12, .f32⟩
  | 100 => ⟨S1x4x4096x12, .f32⟩
  | 101 => ⟨S3x4x4096x12, .f32⟩
  | 102 => ⟨S3x4x4096x12, .f32⟩
  | 103 => ⟨S3x4x4096x12, .f32⟩
  | 104 => ⟨S_, .f32⟩
  | 105 => ⟨S4x4096x12, .f32⟩
  | 106 => ⟨S1x4x4096x12, .f32⟩
  | 107 => ⟨S3x4x4096x12, .f32⟩
  | 108 => ⟨S3x4x4096x12, .f32⟩
  | 109 => ⟨S1x4x4096x12, .f32⟩
  | 110 => ⟨S4x4096x12, .f32⟩
  | 111 => ⟨S4x4096x12x1, .f32⟩
  | 112 => ⟨S4x4096x12x128, .f32⟩
  | 113 => ⟨S4x4096x12x128, .f32⟩
  | 114 => ⟨S_, .f32⟩
  | 115 => ⟨S4x4096x12x128, .f32⟩
  | 116 => ⟨S4x4096x12x128, .f32⟩
  | 117 => ⟨S1x4x4096x12, .f32⟩
  | 118 => ⟨S4x4096x12, .f32⟩
  | 119 => ⟨S4x4096x12x1, .f32⟩
  | 120 => ⟨S4x4096x12x128, .f32⟩
  | 121 => ⟨S4x4096x12x128, .f32⟩
  | 122 => ⟨S4x4096x12x128, .f32⟩
  | 123 => ⟨S1x4x4096x12, .f32⟩
  | 124 => ⟨S4x4096x12, .f32⟩
  | 125 => ⟨S4x4096x12x1, .f32⟩
  | 126 => ⟨S4x4096x12x128, .f32⟩
  | 127 => ⟨S4x4096x12x128, .f32⟩
  | _ => ⟨S4x4096x5632, .bf16⟩

abbrev hbmTy0_2 (i : Nat) : BufTy := match i % 128 with
  | 0 => ⟨S4x4096x12x128, .f32⟩
  | 1 => ⟨S4x4096x1536, .f32⟩
  | _ => ⟨S4x4096x5632, .bf16⟩

abbrev hbmTy (i : Nat) : BufTy := match i / 128 with
  | 0 => hbmTy0_0 i
  | 1 => hbmTy0_1 i
  | 2 => hbmTy0_2 i
  | _ => ⟨S4x4096x5632, .bf16⟩

abbrev bufTy : (tb : Table) → Fin (tcTables nBuf tb) → BufTy
  | .hbm, ⟨i, _⟩ => hbmTy i
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_c : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_c_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_6 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_7 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_c_8 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_c_9 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_c_10 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_11 : Ref sig .tc := ⟨.hbm, 126, rfl⟩
abbrev main_v112 : Ref sig .tc := ⟨.hbm, 127, rfl⟩
abbrev main_v113 : Ref sig .tc := ⟨.hbm, 128, rfl⟩
abbrev main_cst_12 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_cst_13 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_cst_14 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_15 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_c_16 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_c_17 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_c_18 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_cst_19 : Ref sig .tc := ⟨.hbm, 196, rfl⟩
abbrev main_v174 : Ref sig .tc := ⟨.hbm, 197, rfl⟩
abbrev main_v175 : Ref sig .tc := ⟨.hbm, 198, rfl⟩
abbrev main_cst_20 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_cst_21 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_cst_22 : Ref sig .tc := ⟨.hbm, 223, rfl⟩
abbrev main_v198 : Ref sig .tc := ⟨.hbm, 224, rfl⟩
abbrev main_cst_23 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_cst_24 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_cst_25 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x6x2048 : Shape := ⟨3, ![4, 6, 2048]⟩
abbrev S1x2048 : Shape := ⟨2, ![1, 2048]⟩
abbrev S1x2048x5632 : Shape := ⟨3, ![1, 2048, 5632]⟩
abbrev S4x4096x64 : Shape := ⟨3, ![4, 4096, 64]⟩
abbrev S4x6x1x2048 : Shape := ⟨4, ![4, 6, 1, 2048]⟩
abbrev S_ : Shape := ⟨0, ![]⟩
abbrev S8x6x1x2048 : Shape := ⟨4, ![8, 6, 1, 2048]⟩
abbrev S4x4096x128 : Shape := ⟨3, ![4, 4096, 128]⟩
abbrev S16384x128 : Shape := ⟨2, ![16384, 128]⟩
abbrev S16384x2048 : Shape := ⟨2, ![16384, 2048]⟩
abbrev S2048 : Shape := ⟨1, ![2048]⟩
abbrev S2048x5632 : Shape := ⟨2, ![2048, 5632]⟩
abbrev S16384x5632 : Shape := ⟨2, ![16384, 5632]⟩
abbrev S512x2048 : Shape := ⟨2, ![512, 2048]⟩
abbrev S1x1x1x2048 : Shape := ⟨4, ![1, 1, 1, 2048]⟩
abbrev S512x128 : Shape := ⟨2, ![512, 128]⟩
abbrev S512x5632 : Shape := ⟨2, ![512, 5632]⟩
abbrev S128x2048 : Shape := ⟨2, ![128, 2048]⟩
abbrev S128 : Shape := ⟨1, ![128]⟩
abbrev S128x1 : Shape := ⟨2, ![128, 1]⟩
abbrev S2048x256 : Shape := ⟨2, ![2048, 256]⟩
abbrev S512x256 : Shape := ⟨2, ![512, 256]⟩

abbrev nBuf : Space → Nat
  | .hbm => 21
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S1x2048, .f32⟩
  | .hbm, ⟨3, _⟩ => ⟨S1x2048x5632, .f32⟩
  | .hbm, ⟨4, _⟩ => ⟨S4x4096x64, .f32⟩
  | .hbm, ⟨5, _⟩ => ⟨S4x4096x64, .f32⟩
  | .hbm, ⟨6, _⟩ => ⟨S4x6x1x2048, .f32⟩
  | .hbm, ⟨7, _⟩ => ⟨S_, .i32⟩
  | .hbm, ⟨8, _⟩ => ⟨S_, .f32⟩
  | .hbm, ⟨9, _⟩ => ⟨S8x6x1x2048, .f32⟩
  | .hbm, ⟨10, _⟩ => ⟨S4x4096x128, .f32⟩
  | .hbm, ⟨11, _⟩ => ⟨S16384x128, .f32⟩
  | .hbm, ⟨12, _⟩ => ⟨S4x4096x64, .f32⟩
  | .hbm, ⟨13, _⟩ => ⟨S4x4096x128, .f32⟩
  | .hbm, ⟨14, _⟩ => ⟨S16384x128, .f32⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S2048x5632, .f32⟩
  | .hbm, ⟨19, _⟩ => ⟨S2048x5632, .bf16⟩
  | .hbm, ⟨20, _⟩ => ⟨S16384x5632, .bf16⟩
  | .local _ .vmem, ⟨0, _⟩ => ⟨S512x2048, .f32⟩
  | .local _ .vmem, ⟨1, _⟩ => ⟨S512x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S2048x5632, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x5632, .bf16⟩
  | .local _ .vmem, ⟨13, _⟩ => ⟨S512x5632, .bf16⟩
  | .local _ .vmem, ⟨14, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v324 : BitVec 32 := Scalar.muli arg10 c128_i32
  v324
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v324 : BitVec 32 := Scalar.muli arg10 c128_i32
  let v325 : BitVec 32 := v324
  let v326 : Index := Scalar.indexCast v325
  let c0_164 : Index := 0#32
  ![v326.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4096x2048 : Shape := ⟨3, ![4, 4096, 2048]⟩
abbrev S4x6x2048 : Shape := ⟨3, ![4, 6, 2048]⟩
abbrev S1x2048 : Shape := ⟨2, ![1, 2048]⟩
abbrev S1x2048x5632 : Shape := ⟨3, ![1, 2048, 5632]⟩
abbrev S4x4096x64 : Shape := ⟨3, ![4, 4096, 64]⟩
abbrev S4x1x2048 : Shape := ⟨3, ![4, 1, 2048]⟩
abbrev S4x2048 : Shape := ⟨2, ![4, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S4x4096x5632 : Shape := ⟨3, ![4, 4096, 5632]⟩
abbrev S4x4096x1536 : Shape := ⟨3, ![4, 4096, 1536]⟩
abbrev S4x4096x512 : Shape := ⟨3, ![4, 4096, 512]⟩
abbrev S4x4096x12x128 : Shape := ⟨4, ![4, 4096, 12, 128]⟩
abbrev S4x4096x1x64 : Shape := ⟨4, ![4, 4096, 1, 64]⟩
abbrev S4x4096x12x64 : Shape := ⟨4, ![4, 4096, 12, 64]⟩
abbrev S16384x5632 : Shape := ⟨2, ![16384, 5632]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S1x2048, .f32⟩
  | .hbm, ⟨3, _⟩ => ⟨S1x2048x5632, .f32⟩
  | .hbm, ⟨4, _⟩ => ⟨S4x4096x64, .f32⟩
  | .hbm, ⟨5, _⟩ => ⟨S4x4096x64, .f32⟩
  | .hbm, ⟨6, _⟩ => ⟨S4x1x2048, .f32⟩
  | .hbm, ⟨7, _⟩ => ⟨S4x2048, .f32⟩
  | .hbm, ⟨8, _⟩ => ⟨S4x1x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S2048x5632, .f32⟩
  | .hbm, ⟨37, _⟩ => ⟨S4x4096x5632, .f32⟩
  | .hbm, ⟨38, _⟩ => ⟨S4x4096x1536, .f32⟩
  | .hbm, ⟨39, _⟩ => ⟨S4x4096x1536, .f32⟩
  | .hbm, ⟨40, _⟩ => ⟨S4x4096x1536, .f32⟩
  | .hbm, ⟨41, _⟩ => ⟨S4x4096x512, .f32⟩
  | .hbm, ⟨42, _⟩ => ⟨S4x4096x512, .f32⟩
  | .hbm, ⟨43, _⟩ => ⟨S4x4096x12x128, .f32⟩
  | .hbm, ⟨44, _⟩ => ⟨S4x4096x1x64, .f32⟩
  | .hbm, ⟨45, _⟩ => ⟨S4x4096x1x64, .f32⟩
  | .hbm, ⟨46, _⟩ => ⟨S4x4096x12x64, .f32⟩
  | .hbm, ⟨47, _⟩ => ⟨S4x4096x12x64, .f32⟩
  | .hbm, ⟨48, _⟩ => ⟨S4x4096x12x64, .f32⟩
  | .hbm, ⟨49, _⟩ => ⟨S4x4096x12x64, .f32⟩
  | .hbm, ⟨50, _⟩ => ⟨S4x4096x12x64, .f32⟩
  | .hbm, ⟨51, _⟩ => ⟨S4x4096x12x64, .f32⟩
  | .hbm, ⟨52, _⟩ => ⟨S4x4096x12x64, .f32⟩
  | .hbm, ⟨53, _⟩ => ⟨S4x4096x12x64, .f32⟩
  | .hbm, ⟨54, _⟩ => ⟨S4x4096x12x64, .f32⟩
  | .hbm, ⟨55, _⟩ => ⟨S4x4096x12x64, .f32⟩
  | .hbm, ⟨56, _⟩ => ⟨S4x4096x12x64, .f32⟩
  | .hbm, ⟨57, _⟩ => ⟨S4x4096x12x64, .f32⟩
  | .hbm, ⟨58, _⟩ => ⟨S4x4096x12x128, .f32⟩
  | .hbm, ⟨59, _⟩ => ⟨S_, .f32⟩
  | .hbm, ⟨60, _⟩ => ⟨S4x4096x12x128, .f32⟩
  | .hbm, ⟨61, _⟩ => ⟨S4x4096x12x128, .f32⟩
  | .hbm, ⟨62, _⟩ => ⟨S4x4096x12x128, .f32⟩
  | .hbm, ⟨63, _⟩ => ⟨S4x4096x1x64, .f32⟩
  | .hbm, ⟨64, _⟩ => ⟨S4x4096x1x64, .f32⟩
  | .hbm, ⟨65, _⟩ => ⟨S4x4096x12x64, .f32⟩
  | .hbm, ⟨66, _⟩ => ⟨S4x4096x12x64, .f32⟩
  | .hbm, ⟨67, _⟩ => ⟨S4x4096x12x64, .f32⟩
  | .hbm, ⟨68, _⟩ => ⟨S4x4096x12x64, .f32⟩
  | .hbm, ⟨69, _⟩ => ⟨S4x4096x12x64, .f32⟩
  | .hbm, ⟨70, _⟩ => ⟨S4x4096x12x64, .f32⟩
  | .hbm, ⟨71, _⟩ => ⟨S4x4096x12x64, .f32⟩
  | .hbm, ⟨72, _⟩ => ⟨S4x4096x12x64, .f32⟩
  | .hbm, ⟨73, _⟩ => ⟨S4x4096x12x64, .f32⟩
  | .hbm, ⟨74, _⟩ => ⟨S4x4096x12x64, .f32⟩
  | .hbm, ⟨75, _⟩ => ⟨S4x4096x12x64, .f32⟩
  | .hbm, ⟨76, _⟩ => ⟨S4x4096x12x64, .f32⟩
  | .hbm, ⟨77, _⟩ => ⟨S4x4096x12x128, .f32⟩
  | .hbm, ⟨78, _⟩ => ⟨S_, .f32⟩
  | .hbm, ⟨79, _⟩ => ⟨S4x4096x512, .f32⟩
  | .hbm, ⟨80, _⟩ => ⟨S4x4096x512, .f32⟩
  | .hbm, ⟨81, _⟩ => ⟨S4x4096x512, .f32⟩
  | .hbm, ⟨82, _⟩ => ⟨S_, .f32⟩
  | .hbm, ⟨83, _⟩ => ⟨S4x4096x512, .f32⟩
  | .hbm, ⟨84, _⟩ => ⟨S4x4096x512, .f32⟩
  | .hbm, ⟨85, _⟩ => ⟨S4x4096x512, .f32⟩
  | .hbm, ⟨86, _⟩ => ⟨S4x4096x512, .f32⟩
  | .hbm, ⟨87, _⟩ => ⟨S_, .f32⟩
  | .hbm, ⟨88, _⟩ => ⟨S4x4096x512, .f32⟩
  | .hbm, ⟨89, _⟩ => ⟨S4x4096x512, .f32⟩
  | .hbm, ⟨90, _⟩ => ⟨S4x4096x512, .f32⟩
  | .hbm, ⟨91, _⟩ => ⟨S_, .f32⟩
  | .hbm, ⟨92, _⟩ => ⟨S4x4096x512, .f32⟩
  | .hbm, ⟨93, _⟩ => ⟨S4x4096x512, .f32⟩
  | .hbm, ⟨94, _⟩ => ⟨S4x4096x512, .f32⟩
  | .hbm, ⟨95, _⟩ => ⟨S4x4096x512, .f32⟩
  | .hbm, ⟨96, _⟩ => ⟨S4x4096x1536, .f32⟩
  | .hbm, ⟨97, _⟩ => ⟨S4x4096x1536, .f32⟩
  | .hbm, ⟨98, _⟩ => ⟨S4x4096x5632, .f32⟩
  | .hbm, ⟨99, _⟩ => ⟨S4x4096x5632, .bf16⟩
  | .hbm, ⟨100, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩

abbrev nD : Nat := 1
abbrev τ : Topo := Topo.v7x

variable {F : FTy → Type} [FloatOps F]
-- ==== Kernel3.lean ====
abbrev S4x4096x1536 : Shape := ⟨3, ![4, 4096, 1536]⟩
abbrev S4x4096x512 : Shape := ⟨3, ![4, 4096, 512]⟩
abbrev S4x4096x2048 : Shape := ⟨3, ![4, 4096, 2048]⟩
abbrev S4x6x2048 : Shape := ⟨3, ![4, 6, 2048]⟩
abbrev S1x1536 : Shape := ⟨2, ![1, 1536]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S4x6x1x2048 : Shape := ⟨4, ![4, 6, 1, 2048]⟩
abbrev S_ : Shape := ⟨0, ![]⟩
abbrev S8x6x1x2048 : Shape := ⟨4, ![8, 6, 1, 2048]⟩
abbrev S8x2x128x128 : Shape := ⟨4, ![8, 2, 128, 128]⟩
abbrev S16x128x128 : Shape := ⟨3, ![16, 128, 128]⟩
abbrev S16384x1536 : Shape := ⟨2, ![16384, 1536]⟩
abbrev S16384x512 : Shape := ⟨2, ![16384, 512]⟩
abbrev S16384x2048 : Shape := ⟨2, ![16384, 2048]⟩
abbrev S1536 : Shape := ⟨1, ![1536]⟩
abbrev S2048 : Shape := ⟨1, ![2048]⟩
abbrev S2048x2048 : Shape := ⟨2, ![2048, 2048]⟩
abbrev S2048x16384 : Shape := ⟨2, ![2048, 16384]⟩
abbrev S16x128x16384 : Shape := ⟨3, ![16, 128, 16384]⟩
abbrev S256x1536 : Shape := ⟨2, ![256, 1536]⟩
abbrev S256x512 : Shape := ⟨2, ![256, 512]⟩
abbrev S256x2048 : Shape := ⟨2, ![256, 2048]⟩
abbrev S1x1x1x2048 : Shape := ⟨4, ![1, 1, 1, 2048]⟩
abbrev S2048x256 : Shape := ⟨2, ![2048, 256]⟩
abbrev S16x128x256 : Shape := ⟨3, ![16, 128, 256]⟩
abbrev S256 : Shape := ⟨1, ![256]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 30
  | .vmem => 24
  | .smem => 0
  | _ => 0

abbrev bufTy : (tb : Table) → Fin (tcTables nBuf tb) → BufTy
  | .hbm, ⟨0, _⟩ => ⟨S4x4096x1536, .f32⟩
  | .hbm, ⟨1, _⟩ => ⟨S4x4096x512, .bf16⟩
  | .hbm, ⟨2, _⟩ => ⟨S4x4096x2048, .f32⟩
  | .hbm, ⟨3, _⟩ => ⟨S4x6x2048, .f32⟩
  | .hbm, ⟨4, _⟩ => ⟨S1x1536, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S1x8x2x128x128, .f32⟩
  | .hbm, ⟨9, _⟩ => ⟨S4x6x1x2048, .f32⟩
  | .hbm, ⟨10, _⟩ => ⟨S_, .i32⟩
  | .hbm, ⟨11, _⟩ => ⟨S_, .f32⟩
  | .hbm, ⟨12, _⟩ => ⟨S8x6x1x2048, .f32⟩
  | .hbm, ⟨13, _⟩ => ⟨S8x2x128x128, .f32⟩
  | .hbm, ⟨14, _⟩ => ⟨S16x128x128, .f32⟩
  | .hbm, ⟨15, _⟩ => ⟨S16x128x128, .bf16⟩
  | .hbm, ⟨16, _⟩ => ⟨S16384x1536, .f32⟩
  | .hbm, ⟨17, _⟩ => ⟨S16384x512, .bf16⟩
  | .hbm, ⟨18, _⟩ => ⟨S16384x2048, .f32⟩
  | .hbm, ⟨19, _⟩ => ⟨S1536, .f32⟩
  | .hbm, ⟨20, _⟩ => ⟨S1x1536, .f32⟩
  | .hbm, ⟨21, _⟩ => ⟨S2048, .f32⟩
  | .hbm, ⟨22, _⟩ => ⟨S1x2048, .f32⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S16384x2048, .f32⟩
  | .hbm, ⟨28, _⟩ => ⟨S2048x16384, .bf16⟩
  | .hbm, ⟨29, _⟩ => ⟨S16x128x16384, .f32⟩
  | .local _ .vmem, ⟨0, _⟩ => ⟨S256x1536, .f32⟩
  | .local _ .vmem, ⟨1, _⟩ => ⟨S256x1536, .f32⟩
  | .local _ .vmem, ⟨2, _⟩ => ⟨S256x512, .bf16⟩
  | .local _ .vmem, ⟨3, _⟩ => ⟨S256x512, .bf16⟩
  | .local _ .vmem, ⟨4, _⟩ => ⟨S256x2048, .f32⟩
  | .local _ .vmem, ⟨5, _⟩ => ⟨S256x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x1536, .f32⟩
  | .local _ .vmem, ⟨13, _⟩ => ⟨S1x2048, .f32⟩
  | .local _ .vmem, ⟨14, _⟩ => ⟨S2048x2048, .bf16⟩
  | .local _ .vmem, ⟨15, _⟩ => ⟨S2048x2048, .bf16⟩
  | .local _ .vmem, ⟨16, _⟩ => ⟨S16x128x128, .bf16⟩
  | .local _ .vmem, ⟨17, _⟩ => ⟨S256x2048, .f32⟩
  | .local _ .vmem, ⟨18, _⟩ => ⟨S256x2048, .f32⟩
  | .local _ .vmem, ⟨19, _⟩ => ⟨S2048x256, .bf16⟩
  | .local _ .vmem, ⟨20, _⟩ => ⟨S2048x256, .bf16⟩
  | .local _ .vmem, ⟨21, _⟩ => ⟨S16x128x256, .f32⟩
  | .local _ .vmem, ⟨22, _⟩ => ⟨S16x128x256, .f32⟩
  | .local _ .vmem, ⟨23, _⟩ => ⟨S256x2048, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x4096x1536 : Shape := ⟨3, ![4, 4096, 1536]⟩
abbrev S4x4096x512 : Shape := ⟨3, ![4, 4096, 512]⟩
abbrev S4x4096x2048 : Shape := ⟨3, ![4, 4096, 2048]⟩
abbrev S4x6x2048 : Shape := ⟨3, ![4, 6, 2048]⟩
abbrev S1x1536 : Shape := ⟨2, ![1, 1536]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S4x1x2048 : Shape := ⟨3, ![4, 1, 2048]⟩
abbrev S4x2048 : Shape := ⟨2, ![4, 2048]⟩
abbrev S1536 : Shape := ⟨1, ![1536]⟩
abbrev S_ : Shape := ⟨0, ![]⟩
abbrev S4x4096 : Shape := ⟨2, ![4, 4096]⟩
abbrev S4x4096x1 : Shape := ⟨3, ![4, 4096, 1]⟩
abbrev S1x1x1536 : Shape := ⟨3, ![1, 1, 1536]⟩
abbrev S2048x2048 : Shape := ⟨2, ![2048, 2048]⟩
abbrev S2048 : Shape := ⟨1, ![2048]⟩
abbrev S1x1x2048 : Shape := ⟨3, ![1, 1, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S2048x16384 : Shape := ⟨2, ![2048, 16384]⟩
abbrev S16x128x16384 : Shape := ⟨3, ![16, 128, 16384]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x4096x512, .bf16⟩
  | .hbm, ⟨2, _⟩ => ⟨S4x4096x2048, .f32⟩
  | .hbm, ⟨3, _⟩ => ⟨S4x6x2048, .f32⟩
  | .hbm, ⟨4, _⟩ => ⟨S1x1536, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S1x8x2x128x128, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x1x2048, .f32⟩
  | .hbm, ⟨16, _⟩ => ⟨S4x2048, .f32⟩
  | .hbm, ⟨17, _⟩ => ⟨S4x1x2048, .f32⟩
  | .hbm, ⟨18, _⟩ => ⟨S1536, .f32⟩
  | .hbm, ⟨19, _⟩ => ⟨S4x4096x1536, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1536, .f32⟩
  | .hbm, ⟨31, _⟩ => ⟨S4x4096x1536, .f32⟩
  | .hbm, ⟨32, _⟩ => ⟨S1x1x1536, .f32⟩
  | .hbm, ⟨33, _⟩ => ⟨S4x4096x1536, .f32⟩
  | .hbm, ⟨34, _⟩ => ⟨S4x4096x1536, .f32⟩
  | .hbm, ⟨35, _⟩ => ⟨S4x4096x512, .f32⟩
  | .hbm, ⟨36, _⟩ => ⟨S4x4096x2048, .f32⟩
  | .hbm, ⟨37, _⟩ => ⟨S2048x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x1x2048, .f32⟩
  | .hbm, ⟨61, _⟩ => ⟨S4x1x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S16384x2048, .f32⟩
  | .hbm, ⟨67, _⟩ => ⟨S2048x2048, .f32⟩
  | .hbm, ⟨68, _⟩ => ⟨S16384x2048, .f32⟩
  | .hbm, ⟨69, _⟩ => ⟨S16384x8x2x128, .f32⟩
  | .hbm, ⟨70, _⟩ => ⟨S8x2x128x128, .f32⟩
  | .hbm, ⟨71, _⟩ => ⟨S8x2x128x16384, .f32⟩
  | .hbm, ⟨72, _⟩ => ⟨S16384x8x2x128, .f32⟩
  | .hbm, ⟨73, _⟩ => ⟨S16384x2048, .f32⟩
  | .hbm, ⟨74, _⟩ => ⟨S4x4096x2048, .bf16⟩
  | .hbm, ⟨75, _⟩ => ⟨S16384x2048, .bf16⟩
  | .hbm, ⟨76, _⟩ => ⟨S2048x16384, .bf16⟩
  | .hbm, ⟨77, _⟩ => ⟨S8x2x128x16384, .f32⟩
  | .hbm, ⟨78, _⟩ => ⟨S16x128x16384, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Proof.Spec.lean ====
/-
  What the kernel's scratch buffers hold, as functions of what they were computed from, over any float values `F`:
  the upcast queries (`QF`), the keys and values behind 2048 zero rows (`KF`), the two mask tables (`BIAS`, `BIAS2`),
  the three dilations' attention outputs and log-sum-exps (`GOut`, `GLse`) and their combination (`COMB`).
-/
module

public import proofs.«01_k».proof.Proof.Gen.KernelIdeal.Frame
public import proofs.«01_k».proof.Proof.Gen.KernelIdeal.Skeleton
public import Idealize.ShloMosaic.Lib.WritesUnit
public import Idealize.ShloMosaic.Lib.Pointwise

@[expose] public section

noncomputable section

namespace Cert.KernelIdeal.Attn

open Idealize.ShloMosaic Idealize.ShloMosaic.TcCoe
open Cert.KernelIdeal.Gen

variable {F : FTy → Type} [FloatOps F]

/-- Queries in f32, the leading unit axis dropped. -/
def QF (x : Vec F S1x4096x128 .bf16) : Vec F S4096x128 .f32 :=
  extf .f32 (fun j : S4096x128.Idx => x (ix3 0 (j 0) (j 1))) bitsLt_bf16_f32

/-- Keys (or values) in f32 behind 2048 rows of zeros. -/
def KF (x : Vec F S1x4096x128 .bf16) : Vec F S6144x128 .f32 := fun j =>
  if h : (j 0).val < 2048 then Scalar.ofBits .f32 0x00000000#32
  else QF x (ix2 ⟨(j 0).val - 2048, by have : (j 0).val < 6144 := (j 0).isLt; omega⟩ (j 1))

/-- The two 128 by 256 mask tables: of a first block, and of any other. -/
def BIAS : Vec F S2x128x256 .f32 := fun j =>
  if (j 0).val = 0 then k0_pay6 (F := F) (ix3 0 (j 1) (j 2)) else k0_pay7 (F := F) (ix3 0 (j 1) (j 2))

/-- The 256 by 256 mask table of a merged pair of blocks. -/
def BIAS2 : Vec F S256x256 .f32 := k0_pay9 (F := F) k0_pay8

/-! ## One unit of work, at each dilation -/

section Unit

variable (x6 : Vec F S4096x128 .f32) (x7 x8 : Vec F S6144x128 .f32) (x9 : Vec F S2x128x256 .f32) (x10 : Vec F S256x256 .f32)

def b1 (u : Fin 32) : Vec F S1x128x256 .f32 :=
  View.ld x9 (Rect.unit (s := S2x128x256) (k0_off4 (BitVec.ofNat 32 u.val) 32#32) S1x128x256.size (k0_off4_inb u 1))
def q1 (u : Fin 32) : Vec F S128x128 .f32 :=
  View.ld x6 (Rect.unit (s := S4096x128) (k0_off5 (BitVec.ofNat 32 u.val)) S128x128.size (k0_off5_inb u))
def k1 (x : Vec F S6144x128 .f32) (u : Fin 32) : Vec F S256x128 .f32 :=
  View.ld x (Rect.unit (s := S6144x128) (k0_off6 (BitVec.ofNat 32 u.val)) S256x128.size (k0_off6_inb u))

def b4 (u : Fin 32) : Vec F S1x128x256 .f32 :=
  View.ld x9 (Rect.unit (s := S2x128x256) (k0_off4 (BitVec.ofNat 32 u.val) 8#32) S1x128x256.size (k0_off4_inb u 0))
def q4 (u : Fin 32) : Vec F S128x128 .f32 := fun j =>
  x6 ((⟨k0_off8 (BitVec.ofNat 32 u.val), S128x128.size, ![4, 1], k0_off8_inb u⟩ : LoadRect S4096x128).idx j)
def k4 (x : Vec F S6144x128 .f32) (u : Fin 32) : Vec F S256x128 .f32 := fun j =>
  x ((⟨k0_off9 (BitVec.ofNat 32 u.val), S256x128.size, ![4, 1], k0_off9_inb u⟩ : LoadRect S6144x128).idx j)

theorem q16_inb (r : Fin 16) : ∀ a, S256x128.size a = 0 ∨ (![r.val, 0] : Fin 2 → ℕ) a + (![16, 1] : Fin 2 → ℕ) a * (S256x128.size a - 1) < S4096x128.size a := by
  revert r; decide +kernel
def q16 (r : Fin 16) : Vec F S256x128 .f32 := fun j =>
  x6 ((⟨![r.val, 0], S256x128.size, ![16, 1], q16_inb r⟩ : LoadRect S4096x128).idx j)
def k16 (x : Vec F S6144x128 .f32) (r : Fin 16) : Vec F S256x128 .f32 := fun j =>
  x ((⟨k0_off11 (BitVec.ofNat 32 r.val), S256x128.size, ![16, 1], k0_off11_inb r⟩ : LoadRect S6144x128).idx j)

/-- Outputs and log-sum-exps of the 128 queries of a unit. -/
def uO (b : Vec F S1x128x256 .f32) (q : Vec F S128x128 .f32) (k v : Vec F S256x128 .f32) : Vec F S1x128x128 .f32 := k0_pay17 b q k v
def uL (b : Vec F S1x128x256 .f32) (q : Vec F S128x128 .f32) (k : Vec F S256x128 .f32) : Vec F S1x128x128 .f32 := k0_pay18 b q k
/-- The same of the 256 queries of a merged unit. -/
def wO (b : Vec F S256x256 .f32) (q k v : Vec F S256x128 .f32) : Vec F S1x256x128 .f32 := k0_pay594 b q k v
def wL (b : Vec F S256x256 .f32) (q k : Vec F S256x128 .f32) : Vec F S1x256x128 .f32 := k0_pay1 (k0_pay591 b q k) (k0_pay593 b q k)

theorem st16_inb (r : Fin 16) : ∀ a, S1x256x128.size a = 0 ∨ (![2, r.val, 0] : Fin 3 → ℕ) a + (![1, 16, 1] : Fin 3 → ℕ) a * (S1x256x128.size a - 1) < S3x4096x128.size a := by
  revert r; decide +kernel
theorem spos16 : ∀ a, 0 < (![1, 16, 1] : Fin 3 → ℕ) a := by decide

/-- Where a unit's results go. -/
def r1 (u : Fin 32) : Rect S3x4096x128 := Rect.unit (s := S3x4096x128) (k0_off7 (BitVec.ofNat 32 u.val)) S1x128x128.size (k0_off7_inb u)
def r4 (u : Fin 32) : Rect S3x4096x128 := ⟨⟨k0_off10 (BitVec.ofNat 32 u.val), S1x128x128.size, ![1, 4, 1], k0_off10_inb u⟩, spos_1_4_1⟩
def r16 (r : Fin 16) : Rect S3x4096x128 := ⟨⟨![2, r.val, 0], S1x256x128.size, ![1, 16, 1], st16_inb r⟩, spos16⟩

def pO1 (u : Fin 32) : View.Piece (Elt F) S3x4096x128 .f32 := ⟨r1 u, uO (b1 x9 u) (q1 x6 u) (k1 x7 u) (k1 x8 u)⟩
def pL1 (u : Fin 32) : View.Piece (Elt F) S3x4096x128 .f32 := ⟨r1 u, uL (b1 x9 u) (q1 x6 u) (k1 x7 u)⟩
def pO4 (u : Fin 32) : View.Piece (Elt F) S3x4096x128 .f32 := ⟨r4 u, uO (b4 x9 u) (q4 x6 u) (k4 x7 u) (k4 x8 u)⟩
def pL4 (u : Fin 32) : View.Piece (Elt F) S3x4096x128 .f32 := ⟨r4 u, uL (b4 x9 u) (q4 x6 u) (k4 x7 u)⟩
def pO16 (r : Fin 16) : View.Piece (Elt F) S3x4096x128 .f32 := ⟨r16 r, wO x10 (q16 x6 r) (k16 x7 r) (k16 x8 r)⟩
def pL16 (r : Fin 16) : View.Piece (Elt F) S3x4096x128 .f32 := ⟨r16 r, wL x10 (q16 x6 r) (k16 x7 r)⟩

/-- The three dilations' outputs: position 0 in order, position 1 by residue mod 4, position 2 by residue mod 16. -/
def GOut : Vec F S3x4096x128 .f32 := fun y =>
  if (y 0).val = 0 then
    uO (b1 x9 ⟨(y 1).val / 128, by have : (y 1).val < 4096 := (y 1).isLt; omega⟩) (q1 x6 ⟨(y 1).val / 128, by have : (y 1).val < 4096 := (y 1).isLt; omega⟩)
      (k1 x7 ⟨(y 1).val / 128, by have : (y 1).val < 4096 := (y 1).isLt; omega⟩) (k1 x8 ⟨(y 1).val / 128, by have : (y 1).val < 4096 := (y 1).isLt; omega⟩)
      (ix3 0 ⟨(y 1).val % 128, by omega⟩ (y 2))
  else if (y 0).val = 1 then
    uO (b4 x9 ⟨(y 1).val % 4 * 8 + (y 1).val / 512, by have : (y 1).val < 4096 := (y 1).isLt; omega⟩) (q4 x6 ⟨(y 1).val % 4 * 8 + (y 1).val / 512, by have : (y 1).val < 4096 := (y 1).isLt; omega⟩)
      (k4 x7 ⟨(y 1).val % 4 * 8 + (y 1).val / 512, by have : (y 1).val < 4096 := (y 1).isLt; omega⟩) (k4 x8 ⟨(y 1).val % 4 * 8 + (y 1).val / 512, by have : (y 1).val < 4096 := (y 1).isLt; omega⟩)
      (ix3 0 ⟨(y 1).val / 4 % 128, by omega⟩ (y 2))
  else
    wO x10 (q16 x6 ⟨(y 1).val % 16, by omega⟩) (k16 x7 ⟨(y 1).val % 16, by omega⟩) (k16 x8 ⟨(y 1).val % 16, by omega⟩)
      (ix3 0 ⟨(y 1).val / 16, by have : (y 1).val < 4096 := (y 1).isLt; omega⟩ (y 2))

/-- The three dilations' log-sum-exps, each repeated along the last axis. -/
def GLse : Vec F S3x4096x128 .f32 := fun y =>
  if (y 0).val = 0 then
    uL (b1 x9 ⟨(y 1).val / 128, by have : (y 1).val < 4096 := (y 1).isLt; omega⟩) (q1 x6 ⟨(y 1).val / 128, by have : (y 1).val < 4096 := (y 1).isLt; omega⟩)
      (k1 x7 ⟨(y 1).val / 128, by have : (y 1).val < 4096 := (y 1).isLt; omega⟩)
      (ix3 0 ⟨(y 1).val % 128, by omega⟩ (y 2))
  else if (y 0).val = 1 then
    uL (b4 x9 ⟨(y 1).val % 4 * 8 + (y 1).val / 512, by have : (y 1).val < 4096 := (y 1).isLt; omega⟩) (q4 x6 ⟨(y 1).val % 4 * 8 + (y 1).val / 512, by have : (y 1).val < 4096 := (y 1).isLt; omega⟩)
      (k4 x7 ⟨(y 1).val % 4 * 8 + (y 1).val / 512, by have : (y 1).val < 4096 := (y 1).isLt; omega⟩)
      (ix3 0 ⟨(y 1).val / 4 % 128, by omega⟩ (y 2))
  else
    wL x10 (q16 x6 ⟨(y 1).val % 16, by omega⟩) (k16 x7 ⟨(y 1).val % 16, by omega⟩)
      (ix3 0 ⟨(y 1).val / 16, by have : (y 1).val < 4096 := (y 1).isLt; omega⟩ (y 2))

end Unit

/-! ## The combination of the three dilations -/

/-- Rows `256 k … 256 k + 255` of one dilation's plane. -/
def blk (z : Vec F S3x4096x128 .f32) (p : Fin 3) (k : Fin 16) : Vec F S1x256x128 .f32 := fun j =>
  z (ix3 p ⟨256 * k.val + (j 1).val, by have : (j 1).val < 256 := (j 1).isLt; omega⟩ (j 2))

/-- Every output row from the three log-sum-exps and the three outputs of its row. -/
def COMB (o l : Vec F S3x4096x128 .f32) : Vec F S1x4096x128 .f32 := fun y =>
  k0_pay2 (blk l 0 ⟨(y 1).val / 256, by have : (y 1).val < 4096 := (y 1).isLt; omega⟩) (blk l 1 ⟨(y 1).val / 256, by have : (y 1).val < 4096 := (y 1).isLt; omega⟩)
    (blk l 2 ⟨(y 1).val / 256, by have : (y 1).val < 4096 := (y 1).isLt; omega⟩)
    (blk o 0 ⟨(y 1).val / 256, by have : (y 1).val < 4096 := (y 1).isLt; omega⟩) (blk o 1 ⟨(y 1).val / 256, by have : (y 1).val < 4096 := (y 1).isLt; omega⟩)
    (blk o 2 ⟨(y 1).val / 256, by have : (y 1).val < 4096 := (y 1).isLt; omega⟩)
    (ix3 0 ⟨(y 1).val % 256, by omega⟩ (y 2))

/-- What the kernel's body leaves in its output block, from the three input blocks. -/
def OUT (x0 x1 x2 : Vec F S1x4096x128 .bf16) : Vec F S1x4096x128 .f32 :=
  COMB (GOut (QF x0) (KF x1) (KF x2) BIAS BIAS2) (GLse (QF x0) (KF x1) BIAS BIAS2)

end Cert.KernelIdeal.Attn
-- ==== Proof.Alg.lean ====
/-
  Attention over 256 scores in extended reals: the quotient of exponential sums (`OK`) is the sum weighted by `exp (score - log-sum-exp)`
  (`OR`), where no score is `⊤` and one is not `⊥`; neither changes under a permutation of the keys; and the combination of three such
  planes by their log-sum-exps, as one quotient or as a sum of quotients.
-/
module

public import Idealize.ShloMosaic.Lib.Pointwise

@[expose] public section

noncomputable section

namespace Cert.Attn

open Idealize.ShloMosaic

theorem coe_sum {ι : Type*} [Fintype ι] (f : ι → ℝ) : ((∑ k, f k : ℝ) : EReal) = ∑ k, (f k : EReal) := by
  classical
  refine Finset.induction_on (motive := fun s => ((∑ k ∈ s, f k : ℝ) : EReal) = ∑ k ∈ s, (f k : EReal)) Finset.univ ?_ ?_
  · simp
  · intro a s ha ih
    rw [Finset.sum_insert ha, Finset.sum_insert ha, EReal.coe_add, ih]

/-- A real factor that is not negative goes into a sum. -/
theorem mul_add_coe (c : ℝ) (hc : 0 ≤ c) (x y : EReal) : (c : EReal) * (x + y) = c * x + c * y :=
  EReal.left_distrib_of_nonneg_of_ne_top (by exact_mod_cast hc) (EReal.coe_ne_top c) x y

theorem mul_sum_coe {ι : Type*} [Fintype ι] (c : ℝ) (hc : 0 ≤ c) (f : ι → EReal) : (c : EReal) * ∑ k, f k = ∑ k, (c : EReal) * f k := by
  classical
  refine Finset.induction_on (motive := fun s => (c : EReal) * ∑ k ∈ s, f k = ∑ k ∈ s, (c : EReal) * f k) Finset.univ ?_ ?_
  · simp
  · intro a s ha ih
    rw [Finset.sum_insert ha, Finset.sum_insert ha, mul_add_coe c hc, ih]

theorem div_coe (x : EReal) (r : ℝ) (hr : 0 < r) : Ideal.div x (r : EReal) = ((r⁻¹ : ℝ) : EReal) * x := by
  have h : (r : EReal) ≠ 0 := by exact_mod_cast hr.ne'
  rw [Ideal.div, if_neg h, ← EReal.coe_inv, mul_comm]

theorem exp_coe (r : ℝ) : Ideal.exp (r : EReal) = (Real.exp r : EReal) := rfl
theorem exp_bot : Ideal.exp ⊥ = 0 := rfl
theorem log_coe (r : ℝ) (hr : 0 < r) : Ideal.log (r : EReal) = (Real.log r : EReal) := if_neg (not_le.mpr hr)

def MX (σ : Fin 256 → EReal) : EReal := Finset.univ.fold max ⊥ σ
def SE (σ : Fin 256 → EReal) : EReal := ∑ k, Ideal.exp (σ k - MX σ)
def LS (σ : Fin 256 → EReal) : EReal := MX σ + Ideal.log (SE σ)
def OK (σ v : Fin 256 → EReal) : EReal := Ideal.div (∑ k, Ideal.exp (σ k - MX σ) * v k) (SE σ)
def OR (σ v : Fin 256 → EReal) : EReal := ∑ k, v k * Ideal.exp (σ k - LS σ)

/-- No score is `⊤`, and one is not `⊥`. -/
def Good (σ : Fin 256 → EReal) : Prop := (∀ k, σ k ≠ ⊤) ∧ ∃ k, σ k ≠ ⊥

theorem MX_eq_sup (σ : Fin 256 → EReal) : MX σ = Finset.univ.sup σ := rfl

theorem MX_real (σ : Fin 256 → EReal) (h : Good σ) : ∃ M : ℝ, MX σ = M := by
  obtain ⟨h1, k, hk⟩ := h
  refine ⟨(MX σ).toReal, (EReal.coe_toReal ?_ ?_).symm⟩
  · rw [MX_eq_sup, ← lt_top_iff_ne_top, Finset.sup_lt_iff (by exact bot_lt_top)]
    exact fun k _ => lt_top_iff_ne_top.mpr (h1 k)
  · rw [MX_eq_sup]
    intro hb
    exact hk (le_bot_iff.mp (hb ▸ Finset.le_sup (f := σ) (Finset.mem_univ k)))

/-- The exponentials are reals, their sum a positive one. -/
theorem SE_real (σ : Fin 256 → EReal) (h : Good σ) : ∃ (M : ℝ) (ε : Fin 256 → ℝ), MX σ = M ∧ (∀ k, Ideal.exp (σ k - MX σ) = ε k) ∧ (∀ k, 0 ≤ ε k) ∧
    SE σ = ((∑ k, ε k : ℝ) : EReal) ∧ 0 < ∑ k, ε k ∧ LS σ = ((M + Real.log (∑ k, ε k) : ℝ) : EReal) ∧
    ∀ k, Ideal.exp (σ k - LS σ) = (((∑ k, ε k)⁻¹ * ε k : ℝ) : EReal) := by
  obtain ⟨M, hM⟩ := MX_real σ h
  have hx : ∀ k, ∃ e : ℝ, Ideal.exp (σ k - MX σ) = e ∧ 0 ≤ e ∧ (σ k = ⊥ ∧ e = 0 ∨ ∃ s : ℝ, σ k = s ∧ e = Real.exp (s - M)) := by
    intro k
    rcases eq_or_ne (σ k) ⊥ with hb | hb
    · exact ⟨0, by rw [hb, EReal.bot_sub, exp_bot]; rfl, le_rfl, .inl ⟨hb, rfl⟩⟩
    · have hs : σ k = ((σ k).toReal : EReal) := (EReal.coe_toReal (h.1 k) hb).symm
      refine ⟨Real.exp ((σ k).toReal - M), ?_, (Real.exp_pos _).le, .inr ⟨_, hs, rfl⟩⟩
      rw [hM]
      conv_lhs => rw [hs]
      rw [← EReal.coe_sub, exp_coe]
  choose ε h1 h2 h3 using hx
  have hS : SE σ = ((∑ k, ε k : ℝ) : EReal) := by
    rw [coe_sum]; exact Finset.sum_congr rfl fun k _ => h1 k
  have hpos : 0 < ∑ k, ε k := by
    obtain ⟨k, hk⟩ := h.2
    refine Finset.sum_pos' (fun k _ => h2 k) ⟨k, Finset.mem_univ _, ?_⟩
    rcases h3 k with ⟨hb, _⟩ | ⟨s, _, he⟩
    · exact absurd hb hk
    · rw [he]; exact Real.exp_pos _
  have hL : LS σ = ((M + Real.log (∑ k, ε k) : ℝ) : EReal) := by
    rw [LS, hS, hM, log_coe _ hpos, EReal.coe_add]
  refine ⟨M, ε, hM, h1, h2, hS, hpos, hL, fun k => ?_⟩
  rcases h3 k with ⟨hb, he⟩ | ⟨s, hs, he⟩
  · rw [hb, EReal.bot_sub, exp_bot, he, mul_zero]; rfl
  · rw [hs, hL, ← EReal.coe_sub, exp_coe, he]
    congr 1
    rw [show s - (M + Real.log (∑ k, ε k)) = (s - M) - Real.log (∑ k, ε k) by ring, Real.exp_sub, Real.exp_log hpos]
    field_simp

theorem LS_real (σ : Fin 256 → EReal) (h : Good σ) : ∃ r : ℝ, LS σ = r := by
  obtain ⟨M, ε, _, _, _, _, _, hL, _⟩ := SE_real σ h
  exact ⟨_, hL⟩

theorem OK_eq_OR (σ v : Fin 256 → EReal) (h : Good σ) : OK σ v = OR σ v := by
  obtain ⟨M, ε, hM, h1, h2, hS, hpos, hL, hp⟩ := SE_real σ h
  rw [OK, OR, hS, div_coe _ _ hpos, mul_sum_coe _ (inv_pos.mpr hpos).le]
  refine Finset.sum_congr rfl fun k _ => ?_
  rw [hp k, h1 k, ← mul_assoc, ← EReal.coe_mul, mul_comm]

/-! ## A permutation of the keys -/

section Perm

variable (σ τ v w : Fin 256 → EReal) (π : Equiv.Perm (Fin 256)) (h : ∀ k, σ k = τ (π k))

include h

theorem MX_perm : MX σ = MX τ := by
  rw [MX_eq_sup, MX_eq_sup]
  refine le_antisymm (Finset.sup_le fun k _ => ?_) (Finset.sup_le fun k _ => ?_)
  · rw [h k]; exact Finset.le_sup (f := τ) (Finset.mem_univ _)
  · rw [← π.apply_symm_apply k, ← h]; exact Finset.le_sup (f := σ) (Finset.mem_univ _)

theorem SE_perm : SE σ = SE τ := by
  rw [SE, SE, MX_perm σ τ π h, ← Equiv.sum_comp π fun k => Ideal.exp (τ k - MX τ)]
  exact Finset.sum_congr rfl fun k _ => by rw [h k]

theorem LS_perm : LS σ = LS τ := by
  rw [LS, LS, MX_perm σ τ π h, SE_perm σ τ π h]

theorem OR_perm (hv : ∀ k, τ (π k) ≠ ⊥ → v k = w (π k)) : OR σ v = OR τ w := by
  rw [OR, OR, LS_perm σ τ π h, ← Equiv.sum_comp π fun k => w k * Ideal.exp (τ k - LS τ)]
  refine Finset.sum_congr rfl fun k _ => ?_
  rw [h k]
  rcases eq_or_ne (τ (π k)) ⊥ with ht | ht
  · rw [ht, EReal.bot_sub, exp_bot, mul_zero, mul_zero]
  · rw [hv k ht]

end Perm

/-! ## Three planes -/

/-- One quotient. -/
def CK (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- A sum of quotients. -/
def CR (l0 l1 l2 o0 o1 o2 : EReal) : EReal :=
  Ideal.div (Ideal.exp (l0 - max (max l0 l1) l2)) (Ideal.exp (l0 - max (max l0 l1) l2) + Ideal.exp (l1 - max (max l0 l1) l2) + Ideal.exp (l2 - max (max l0 l1) l2)) * o0 +
  Ideal.div (Ideal.exp (l1 - max (max l0 l1) l2)) (Ideal.exp (l0 - max (max l0 l1) l2) + Ideal.exp (l1 - max (max l0 l1) l2) + Ideal.exp (l2 - max (max l0 l1) l2)) * o1 +
  Ideal.div (Ideal.exp (l2 - max (max l0 l1) l2)) (Ideal.exp (l0 - max (max l0 l1) l2) + Ideal.exp (l1 - max (max l0 l1) l2) + Ideal.exp (l2 - max (max l0 l1) l2)) * o2

theorem CK_eq_CR (l0 l1 l2 o0 o1 o2 : EReal) (h0 : ∃ r : ℝ, l0 = r) (h1 : ∃ r : ℝ, l1 = r) (h2 : ∃ r : ℝ, l2 = r) :
    CK l0 l1 l2 o0 o1 o2 = CR l0 l1 l2 o0 o1 o2 := by
  obtain ⟨r0, rfl⟩ := h0
  obtain ⟨r1, rfl⟩ := h1
  obtain ⟨r2, rfl⟩ := h2
  have hm : max (max (r0 : EReal) r1) r2 = ((max (max r0 r1) r2 : ℝ) : EReal) := by
    rw [EReal.coe_strictMono.monotone.map_max, EReal.coe_strictMono.monotone.map_max]
  rw [CK, CR, hm]
  generalize max (max r0 r1) r2 = M
  simp only [← EReal.coe_sub, exp_coe, ← EReal.coe_add]
  have hp : 0 < Real.exp (r0 - M) + Real.exp (r1 - M) + Real.exp (r2 - M) := by positivity
  generalize Real.exp (r0 - M) + Real.exp (r1 - M) + Real.exp (r2 - M) = W at hp ⊢
  simp only [div_coe _ _ hp, mul_add_coe _ (inv_pos.mpr hp).le, mul_assoc]

end Cert.Attn
-- ==== Proof.KVal.lean ====
/-
  The kernel's payloads at an index, over extended reals: a unit's outputs and log-sum-exps are `OK` and `LS` of its masked scores, and the
  combination of the three dilations is `CK`.
-/
module

public import proofs.«01_k».proof.Proof.Spec
public import proofs.«01_k».proof.Proof.Alg

@[expose] public section

set_option maxRecDepth 16384

noncomputable section

namespace Cert.KernelIdeal.Attn

open Idealize.ShloMosaic Idealize.ShloMosaic.TcCoe
open Cert.KernelIdeal.Gen Cert.Attn

theorem ofBits_neg_inf : Ideal.ofBits .f32 0xFF800000#32 = ⊥ := by simp [Ideal.ofBits, Ideal.ieee]

section Unit

variable (b : Vec Ideal S1x128x256 .f32) (q : Vec Ideal S128x128 .f32) (k v : Vec Ideal S256x128 .f32)

/-- Masked scores of a row. -/
def uS (r : Fin 128) (j : Fin 256) : EReal := (∑ e : Fin 128, q (ix2 r e) * k (ix2 j e)) + b (ix3 0 r j)

theorem pay13_at (r : Fin 128) (j : Fin 256) : k0_pay13 b q k (ix2 r j) = uS b q k r j := by
  pointwise [k0_pay13, uS]
theorem pay14_at (r : Fin 128) : k0_pay14 b q k (ix2 r 0) = MX (uS b q k r) := by
  pointwise [k0_pay14]
  simp only [pay13_at]
  rw [ofBits_neg_inf]
  rfl
theorem pay15_at (r : Fin 128) (j : Fin 256) : k0_pay15 b q k (ix2 r j) = Ideal.exp (uS b q k r j - MX (uS b q k r)) := by
  pointwise [k0_pay15]
  rw [pay13_at, pay14_at]
theorem pay16_at (r : Fin 128) : k0_pay16 b q k (ix2 r 0) = SE (uS b q k r) := by
  pointwise [k0_pay16]
  simp only [pay15_at]
  rfl
theorem uO_at (r c : Fin 128) : uO b q k v (ix3 0 r c) = OK (uS b q k r) (fun j => v (ix2 j c)) := by
  pointwise [uO, k0_pay17]
  simp only [pay15_at, pay16_at]
  rfl
theorem uL_at (r c : Fin 128) : uL b q k (ix3 0 r c) = LS (uS b q k r) := by
  pointwise [uL, k0_pay18]
  rw [pay14_at, pay16_at]
  rfl

end Unit

section Merged

variable (b : Vec Ideal S256x256 .f32) (q k v : Vec Ideal S256x128 .f32)

def wS (r : Fin 256) (j : Fin 256) : EReal := (∑ e : Fin 128, q (ix2 r e) * k (ix2 j e)) + b (ix2 r j)

theorem pay590_at (r : Fin 256) (j : Fin 256) : k0_pay590 b q k (ix2 r j) = wS b q k r j := by
  pointwise [k0_pay590, wS]
theorem pay591_at (r : Fin 256) : k0_pay591 b q k (ix2 r 0) = MX (wS b q k r) := by
  pointwise [k0_pay591]
  simp only [pay590_at]
  rw [ofBits_neg_inf]
  rfl
theorem pay592_at (r : Fin 256) (j : Fin 256) : k0_pay592 b q k (ix2 r j) = Ideal.exp (wS b q k r j - MX (wS b q k r)) := by
  pointwise [k0_pay592]
  rw [pay590_at, pay591_at]
theorem pay593_at (r : Fin 256) : k0_pay593 b q k (ix2 r 0) = SE (wS b q k r) := by
  pointwise [k0_pay593]
  simp only [pay592_at]
  rfl
theorem wO_at (r : Fin 256) (c : Fin 128) : wO b q k v (ix3 0 r c) = OK (wS b q k r) (fun j => v (ix2 j c)) := by
  pointwise [wO, k0_pay594]
  simp only [pay592_at, pay593_at]
  rfl
theorem wL_at (r : Fin 256) (c : Fin 128) : wL b q k (ix3 0 r c) = LS (wS b q k r) := by
  pointwise [wL, k0_pay1]
  rw [pay591_at, pay593_at]
  rfl

end Merged

theorem COMB_val (o l : Vec Ideal S3x4096x128 .f32) (t : Fin 4096) (c : Fin 128) :
    COMB o l (ix3 0 t c) = CK (l (ix3 0 t c)) (l (ix3 1 t c)) (l (ix3 2 t c)) (o (ix3 0 t c)) (o (ix3 1 t c)) (o (ix3 2 t c)) := by
  have ht : ∀ h, (⟨256 * (t.val / 256) + t.val % 256, h⟩ : Fin 4096) = t := fun h => Fin.ext (Nat.div_add_mod _ _)
  unfold COMB
  pointwise [k0_pay2, blk, ht]
  rfl

end Cert.KernelIdeal.Attn
-- ==== Proof.KIdx.lean ====
/-
  The mask tables, the queries, keys and values of a unit, and the rows they come from, each at an index, over extended reals.
-/
module

public import proofs.«01_k».proof.Proof.KVal
public import Idealize.ShloMosaic.Lib.Tactic

@[expose] public section

set_option maxRecDepth 16384

noncomputable section

namespace Cert.KernelIdeal.Attn

open Idealize.ShloMosaic Idealize.ShloMosaic.TcCoe
open Cert.KernelIdeal.Gen Cert.Attn

theorem off4_32 : ∀ u : Fin 32, k0_off4 (BitVec.ofNat 32 u.val) 32#32 = ![min (u.val % 32) 1, 0, 0] := by decide +kernel
theorem off4_8 : ∀ u : Fin 32, k0_off4 (BitVec.ofNat 32 u.val) 8#32 = ![min (u.val % 8) 1, 0, 0] := by decide +kernel
theorem off5_eq : ∀ u : Fin 32, k0_off5 (BitVec.ofNat 32 u.val) = ![128 * u.val, 0] := by decide +kernel
theorem off6_eq : ∀ u : Fin 32, k0_off6 (BitVec.ofNat 32 u.val) = ![128 * u.val + 1920, 0] := by decide +kernel
theorem off8_eq : ∀ u : Fin 32, k0_off8 (BitVec.ofNat 32 u.val) = ![u.val / 8 + u.val % 8 * 512, 0] := by decide +kernel
theorem off9_eq : ∀ u : Fin 32, k0_off9 (BitVec.ofNat 32 u.val) = ![u.val / 8 + u.val % 8 * 512 + 1536, 0] := by decide +kernel
theorem off11_eq : ∀ u : Fin 16, k0_off11 (BitVec.ofNat 32 u.val) = ![2048 + u.val, 0] := by decide +kernel

theorem sub_toInt : ∀ r : Fin 256, (IntOp.subi (BitVec.ofNat 32 r.val) 128#32).toInt = (r.val : ℤ) - 128 := by decide +kernel
theorem add_word (n : ℕ) : IntOp.addi (BitVec.ofNat 32 n) 128#32 = BitVec.ofNat 32 (n + 128) := (BitVec.ofNat_add n 128).symm
/-- A choice between two values on a decided bit. -/
theorem select_ofBool {α : Type} (b : Bool) (x y : α) : Scalar.select (BitVec.ofBool b) x y = if b = true then x else y := by
  cases b <;> rfl

theorem pay7_at (r : Fin 128) (j : Fin 256) : (k0_pay7 (F := Ideal) (ix3 0 r j) : EReal) = if r.val ≤ j.val ∧ j.val ≤ r.val + 128 then 0 else ⊥ := by
  pointwise [k0_pay7, k0_pay5]
  rw [ofBits_neg_inf]
  have h1 := r.isLt
  have h2 := j.isLt
  rw [add_word, WordCmp.cmpi_sge_ofNat (by omega) (by omega), WordCmp.cmpi_sle_ofNat (by omega) (by omega), WordCmp.andi_ofBool, select_ofBool]
  simp only [Bool.and_eq_true, decide_eq_true_eq]
theorem pay6_at (r : Fin 128) (j : Fin 256) : (k0_pay6 (F := Ideal) (ix3 0 r j) : EReal) = if (r.val ≤ j.val ∧ j.val ≤ r.val + 128) ∧ 128 ≤ j.val then 0 else ⊥ := by
  pointwise [k0_pay6, k0_pay5]
  rw [ofBits_neg_inf]
  have h1 := r.isLt
  have h2 := j.isLt
  rw [add_word, WordCmp.cmpi_sge_ofNat (by omega) (by omega), WordCmp.cmpi_sle_ofNat (by omega) (by omega), WordCmp.andi_ofBool,
    WordCmp.cmpi_sge_ofNat (by omega) (by omega), WordCmp.andi_ofBool, select_ofBool]
  simp only [Bool.and_eq_true, decide_eq_true_eq]
theorem BIAS2_at (r j : Fin 256) : (BIAS2 (F := Ideal) (ix2 r j) : EReal) = if j.val ≤ r.val ∧ r.val ≤ j.val + 128 then 0 else ⊥ := by
  pointwise [BIAS2, k0_pay8, k0_pay9]
  rw [ofBits_neg_inf]
  have h1 := r.isLt
  have h2 := j.isLt
  rw [WordCmp.cmpi_sle_ofNat (by omega) (by omega), WordCmp.cmpi_sge_eq, sub_toInt, WordCmp.toInt_ofNat_of_lt (by omega), WordCmp.andi_ofBool, select_ofBool]
  simp only [Bool.and_eq_true, decide_eq_true_eq]
  exact if_congr (by omega) rfl rfl

section
variable (x6 : Vec Ideal S4096x128 .f32) (x7 : Vec Ideal S6144x128 .f32) (x9 : Vec Ideal S2x128x256 .f32)
theorem q1_at (u : Fin 32) (r c : Fin 128) : q1 x6 u (ix2 r c) = x6 (ix2 ⟨128 * u.val + r.val, by omega⟩ c) := by
  refine congrArg x6 (funext fun a => Fin.ext ?_)
  have e := off5_eq u
  fin_cases a <;> simp [LoadRect.idx, Rect.unit, e, ix2]
theorem q4_at (u : Fin 32) (r c : Fin 128) : q4 x6 u (ix2 r c) = x6 (ix2 ⟨u.val / 8 + u.val % 8 * 512 + 4 * r.val, by omega⟩ c) := by
  refine congrArg x6 (funext fun a => Fin.ext ?_)
  have e := off8_eq u
  fin_cases a <;> simp [LoadRect.idx, e, ix2]
theorem q16_at (u : Fin 16) (r : Fin 256) (c : Fin 128) : q16 x6 u (ix2 r c) = x6 (ix2 ⟨u.val + 16 * r.val, by omega⟩ c) := by
  refine congrArg x6 (funext fun a => Fin.ext ?_)
  fin_cases a <;> simp [LoadRect.idx, ix2]
theorem k1_at (u : Fin 32) (r : Fin 256) (c : Fin 128) : k1 x7 u (ix2 r c) = x7 (ix2 ⟨128 * u.val + 1920 + r.val, by omega⟩ c) := by
  refine congrArg x7 (funext fun a => Fin.ext ?_)
  have e := off6_eq u
  fin_cases a <;> simp [LoadRect.idx, Rect.unit, e, ix2]
theorem k4_at (u : Fin 32) (r : Fin 256) (c : Fin 128) : k4 x7 u (ix2 r c) = x7 (ix2 ⟨u.val / 8 + u.val % 8 * 512 + 1536 + 4 * r.val, by omega⟩ c) := by
  refine congrArg x7 (funext fun a => Fin.ext ?_)
  have e := off9_eq u
  fin_cases a <;> simp [LoadRect.idx, e, ix2]
theorem k16_at (u : Fin 16) (r : Fin 256) (c : Fin 128) : k16 x7 u (ix2 r c) = x7 (ix2 ⟨2048 + u.val + 16 * r.val, by omega⟩ c) := by
  refine congrArg x7 (funext fun a => Fin.ext ?_)
  have e := off11_eq u
  fin_cases a <;> simp [LoadRect.idx, e, ix2]
theorem b1_at (u : Fin 32) (r : Fin 128) (j : Fin 256) : b1 x9 u (ix3 0 r j) = x9 (ix3 ⟨min (u.val % 32) 1, by omega⟩ r j) := by
  refine congrArg x9 (funext fun a => Fin.ext ?_)
  have e := off4_32 u
  fin_cases a <;> simp [LoadRect.idx, Rect.unit, e, ix3]
theorem b4_at (u : Fin 32) (r : Fin 128) (j : Fin 256) : b4 x9 u (ix3 0 r j) = x9 (ix3 ⟨min (u.val % 8) 1, by omega⟩ r j) := by
  refine congrArg x9 (funext fun a => Fin.ext ?_)
  have e := off4_8 u
  fin_cases a <;> simp [LoadRect.idx, Rect.unit, e, ix3]
end

/-- The mask table of a block: blocks after the first of their class see the previous block too. -/
theorem BIAS_at (n : Fin 2) (r : Fin 128) (j : Fin 256) :
    (BIAS (F := Ideal) (ix3 n r j) : EReal) = if (r.val ≤ j.val ∧ j.val ≤ r.val + 128) ∧ (0 < n.val ∨ 128 ≤ j.val) then 0 else ⊥ := by
  unfold BIAS
  by_cases h : n.val = 0
  · rw [if_pos (show ((ix3 n r j) 0).val = 0 from h)]
    refine (pay6_at r j).trans ?_
    simp [h]
  · rw [if_neg (show ¬((ix3 n r j) 0).val = 0 from h)]
    refine (pay7_at r j).trans ?_
    simp [Nat.pos_of_ne_zero h]

end Cert.KernelIdeal.Attn
-- ==== Proof.Canon.lean ====
/-
  One query's attention at one dilation, over extended reals, from the projected input alone: its 256 masked scores (`SC`), the 256 values they
  weigh (`VC`), and the attention over the three dilations (`AT`). With finite queries and keys the scores of a row are never +∞ and not all −∞.
-/
module

public import proofs.«01_k».proof.Proof.Alg

@[expose] public section

noncomputable section

namespace Cert.Attn

open Idealize.ShloMosaic

/-- Column of coordinate `e` of head `h` of part `p` (0 the queries, 1 the keys, 2 the values). -/
def col (p : Fin 3) (h : Fin 12) (e : Fin 128) : Fin 5632 := ⟨(12 * p.val + h.val) * 128 + e.val, by omega⟩

/-- Row among the zero-padded keys, 2048 zero rows first, of key `j` of the two blocks that query `t` sees at dilation `d`. -/
def row (d t j : ℕ) : ℕ := 2048 + t % d + d * (t / d / 128 * 128 + j) - 128 * d

/-- Key `j` of its two blocks is within query `t`'s window, and is not of the block before the first. -/
def Sees (d t j : ℕ) : Prop := (t / d % 128 ≤ j ∧ j ≤ t / d % 128 + 128) ∧ (0 < t / d / 128 ∨ 128 ≤ j)
instance (d t j : ℕ) : Decidable (Sees d t j) := inferInstanceAs (Decidable (_ ∧ _))

section
variable (X : Fin 4 → Fin 4096 → Fin 5632 → EReal) (b : Fin 4) (h : Fin 12)

/-- Row `ρ` of the zero-padded keys (`p = 1`) or values (`p = 2`). -/
def KR (p : Fin 3) (ρ : ℕ) (e : Fin 128) : EReal :=
  if hr : 2048 ≤ ρ ∧ ρ < 6144 then X b ⟨ρ - 2048, by omega⟩ (col p h e) else 0
/-- Product of query `t` and padded key `ρ`. -/
def DT (t : Fin 4096) (ρ : ℕ) : EReal := ∑ e : Fin 128, X b t (col 0 h e) * KR X b h 1 ρ e
/-- Masked scores of query `t` at dilation `d`. -/
def SC (d : ℕ) (t : Fin 4096) (j : Fin 256) : EReal := if Sees d t j then DT X b h t (row d t j) else ⊥
/-- Coordinate `c` of the values that they weigh. -/
def VC (d : ℕ) (t : Fin 4096) (c : Fin 128) (j : Fin 256) : EReal := KR X b h 2 (row d t j) c
/-- Coordinate `c` of the attention of query `t`, over the three dilations. -/
def AT (t : Fin 4096) (c : Fin 128) : EReal :=
  CR (LS (SC X b h 1 t)) (LS (SC X b h 4 t)) (LS (SC X b h 16 t))
    (OR (SC X b h 1 t) (VC X b h 1 t c)) (OR (SC X b h 4 t) (VC X b h 4 t c)) (OR (SC X b h 16 t) (VC X b h 16 t c))

/-- Queries and keys are finite. -/
def Fin12 : Prop := ∀ b t, ∀ w : Fin 5632, w.val < 3072 → ∃ r : ℝ, X b t w = r

variable {X}
theorem DT_real (hX : Fin12 X) (t : Fin 4096) (ρ : ℕ) : ∃ r : ℝ, DT X b h t ρ = r := by
  have hq : ∀ e, ∃ r : ℝ, X b t (col 0 h e) = r := fun e => hX _ _ _ (by have := h.isLt; have := e.isLt; show (12 * 0 + h.val) * 128 + e.val < 3072; omega)
  have hk : ∀ e, ∃ r : ℝ, KR X b h 1 ρ e = r := fun e => by
    unfold KR
    split
    · exact hX _ _ _ (by have := h.isLt; have := e.isLt; show (12 * 1 + h.val) * 128 + e.val < 3072; omega)
    · exact ⟨0, rfl⟩
  choose q hq using hq
  choose k hk using hk
  refine ⟨∑ e, q e * k e, ?_⟩
  rw [coe_sum]
  refine Finset.sum_congr rfl fun e _ => ?_
  rw [hq, hk, EReal.coe_mul]

theorem SC_good (hX : Fin12 X) (d : ℕ) (t : Fin 4096) : Good (SC X b h d t) := by
  constructor
  · intro k
    unfold SC
    split
    · obtain ⟨r, hr⟩ := DT_real b h hX t (row d t k)
      rw [hr]
      exact EReal.coe_ne_top r
    · exact bot_ne_top
  · refine ⟨⟨t.val / d % 128 + 128, by omega⟩, ?_⟩
    unfold SC
    rw [if_pos (show Sees d t (t.val / d % 128 + 128) from ⟨⟨by omega, by omega⟩, Or.inr (by omega)⟩)]
    obtain ⟨r, hr⟩ := DT_real b h hX t (row d t (t.val / d % 128 + 128))
    rw [hr]
    exact EReal.coe_ne_bot r
end

end Cert.Attn
-- ==== Proof.Init.lean ====
/-
  The kernel's first steps: at the first grid point the zero rows and the mask tables are stored; at every point a loop
  of 16 trips upcasts queries, keys and values into scratch. `part2_run` says what the scratch holds after them.
-/
module

public import proofs.«01_k».proof.Proof.Spec

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A whole buffer at given contents. -/
abbrev pt (c : Dev nD) {s : Shape} {e : EltTy} (m : Memref sig .tc .vmem s e) (f : BufTy.Contents (Elt F) m.view.ty) : sProp 𝕄 :=
  m.view.loc (c : Thread nD τ) ↦[m.view.set]{fullShare} f

/-! ## What is known of the scratch before trip `k` -/

def okQ (x : Vec F S1x4096x128 .bf16) (k : ℕ) (z : Vec F S4096x128 .f32) : Prop := ∀ y, (y 0).val < 256 * k → z y = QF x y
def okK (x : Vec F S1x4096x128 .bf16) (k : ℕ) (z : Vec F S6144x128 .f32) : Prop := ∀ y, (y 0).val < 256 * k + 2048 → z y = KF x y

/-- The upcast block of trip `k`, at an index. -/
theorem pay10_at (x : Vec F S1x4096x128 .bf16) (k : Fin k0_t1_loop.trips) (j : S256x128.Idx) (y : S4096x128.Idx)
    (h0 : (y 0).val = 256 * k.val + (j 0).val) (h1 : (y 1).val = (j 1).val) :
    k0_pay10 (View.ld x (Rect.unit (s := S1x4096x128) (k0_off1 k) S1x256x128.size (k0_off1_inb k))) j = QF x y := by
  unfold k0_pay10 QF View.ld
  pointwise
  have e := k0_off1_eq k
  refine congrArg _ (congrArg x ?_)
  funext a
  match a with
  | ⟨0, _⟩ => exact Fin.ext (congrFun e 0)
  | ⟨1, _⟩ => exact Fin.ext (by show k0_off1 k 1 + (j 0).val = (y 0).val; rw [e, h0]; rfl)
  | ⟨2, _⟩ => exact Fin.ext (by show k0_off1 k 2 + (j 1).val = (y 1).val; rw [e, h1]; exact Nat.zero_add _)

theorem okQ_step (v : View sig .tc .vmem S4096x128 .f32) (x : Vec F S1x4096x128 .bf16) (k : Fin k0_t1_loop.trips)
    (f : BufTy.Contents (Elt F) v.ty) (w : Vec F S256x128 .f32)
    (hw : w = k0_pay10 (View.ld x (Rect.unit (s := S1x4096x128) (k0_off1 k) S1x256x128.size (k0_off1_inb k))))
    (h : okQ x k.val (v.read (Elt F) f)) :
    okQ x (k.val + 1) (v.read (Elt F) (v.writes (Elt F) f [⟨Rect.unit (s := S4096x128) (k0_off2 k) S256x128.size (k0_off2_inb k), w⟩])) := by
  intro y hy
  rw [View.read_writes_cons_unit _ _ _ _ _ _ (k0_off2_eq k)]
  split
  · rename_i hm
    rw [hw]
    refine pay10_at x k _ y ?_ ?_
    · have := hm 0; rw [Rect.unitLocal_val]; simp at this ⊢; omega
    · rw [Rect.unitLocal_val]; simp
  · rename_i hm
    refine h y (Nat.lt_of_not_le fun hle => hm ?_)
    intro a
    match a with
    | ⟨0, _⟩ => exact ⟨hle, by simpa [S256x128] using (by omega : (y 0).val < 256 * k.val + 256)⟩
    | ⟨1, _⟩ => exact ⟨Nat.zero_le _, by simpa [S256x128] using (y 1).isLt⟩

theorem okK_step (v : View sig .tc .vmem S6144x128 .f32) (x : Vec F S1x4096x128 .bf16) (k : Fin k0_t1_loop.trips)
    (f : BufTy.Contents (Elt F) v.ty) (w : Vec F S256x128 .f32)
    (hw : w = k0_pay10 (View.ld x (Rect.unit (s := S1x4096x128) (k0_off1 k) S1x256x128.size (k0_off1_inb k))))
    (h : okK x k.val (v.read (Elt F) f)) :
    okK x (k.val + 1) (v.read (Elt F) (v.writes (Elt F) f [⟨Rect.unit (s := S6144x128) (k0_off3 k) S256x128.size (k0_off3_inb k), w⟩])) := by
  intro y hy
  rw [View.read_writes_cons_unit _ _ _ _ _ _ (k0_off3_eq k)]
  split
  · rename_i hm
    have hlt : (y 0).val < 6144 := (y 0).isLt
    have h0 := hm 0
    simp at h0
    rw [hw]
    unfold KF
    rw [dif_neg (by omega)]
    refine pay10_at x k _ _ ?_ ?_
    · rw [Rect.unitLocal_val]; simp; omega
    · rw [Rect.unitLocal_val]; simp
  · rename_i hm
    refine h y (Nat.lt_of_not_le fun hle => hm ?_)
    intro a
    match a with
    | ⟨0, _⟩ => exact ⟨hle, by simpa [S256x128] using (by omega : (y 0).val < 256 * k.val + 2048 + 256)⟩
    | ⟨1, _⟩ => exact ⟨Nat.zero_le _, by simpa [S256x128] using (y 1).isLt⟩

/-! ## The first point's stores, read back -/

theorem okK0_pad (v : View sig .tc .vmem S6144x128 .f32) (x : Vec F S1x4096x128 .bf16) (f : BufTy.Contents (Elt F) v.ty)
    (w : Vec F S2048x128 .f32) (hw : ∀ j, w j = Scalar.ofBits .f32 0x00000000#32) :
    okK x 0 (v.read (Elt F) (v.writes (Elt F) f [⟨Rect.unit (s := S6144x128) ![0, 0] S2048x128.size inb_S6144x128_S2048x128_0_0, w⟩])) := by
  intro y hy
  have hy' : (y 0).val < 2048 := by omega
  rw [View.read_writes_cons_unit _ _ _ _ _ _ rfl, dif_pos, hw]
  · unfold KF; rw [dif_pos hy']
  · intro a
    match a with
    | ⟨0, _⟩ => exact ⟨Nat.zero_le _, by simpa [S2048x128] using hy'⟩
    | ⟨1, _⟩ => exact ⟨Nat.zero_le _, by simpa [S2048x128] using (y 1).isLt⟩

theorem pay3_at (j : S2048x128.Idx) : k0_pay3 (F := F) j = Scalar.ofBits .f32 0x00000000#32 := by
  unfold k0_pay3; rw [shapeCast_self]; rfl
theorem pay4_at (j : S2048x128.Idx) : k0_pay4 (F := F) j = Scalar.ofBits .f32 0x00000000#32 := by
  unfold k0_pay4; rw [shapeCast_self]; rfl

theorem two_read (v : View sig .tc .vmem S2x128x256 .f32) (f : BufTy.Contents (Elt F) v.ty) (w1 w0 : Vec F S1x128x256 .f32) (y : S2x128x256.Idx) :
    v.read (Elt F) (v.writes (Elt F) f
      [⟨Rect.unit (s := S2x128x256) ![1, 0, 0] S1x128x256.size inb_S2x128x256_S1x128x256_1_0_0, w1⟩,
       ⟨Rect.unit (s := S2x128x256) ![0, 0, 0] S1x128x256.size inb_S2x128x256_S1x128x256_0_0_0, w0⟩]) y
      = if (y 0).val = 0 then w0 (ix3 0 (y 1) (y 2)) else w1 (ix3 0 (y 1) (y 2)) := by
  have hy0 : (y 0).val < 2 := (y 0).isLt
  rcases Nat.lt_or_ge (y 0).val 1 with h | h
  · rw [if_pos (by omega), View.read_writes_cons_unit_of_not_mem v f inb_S2x128x256_S1x128x256_1_0_0 _ _ y rfl 0 (Or.inl (by show (y 0).val < 1; omega))]
    refine View.read_writes_cons_unit_of_mem v f inb_S2x128x256_S1x128x256_0_0_0 w0 [] y (by exact ix3 0 (y 1) (y 2)) (off' := ![0, 0, 0]) rfl fun a => ?_
    match a with
    | ⟨0, _⟩ => show (y 0).val = 0 + 0; omega
    | ⟨1, _⟩ => exact (Nat.zero_add _).symm
    | ⟨2, _⟩ => exact (Nat.zero_add _).symm
  · rw [if_neg (by omega)]
    refine View.read_writes_cons_unit_of_mem v f inb_S2x128x256_S1x128x256_1_0_0 w1 _ y (by exact ix3 0 (y 1) (y 2)) (off' := ![1, 0, 0]) rfl fun a => ?_
    match a with
    | ⟨0, _⟩ => show (y 0).val = 1 + 0; omega
    | ⟨1, _⟩ => exact (Nat.zero_add _).symm
    | ⟨2, _⟩ => exact (Nat.zero_add _).symm

theorem bias_read (v : View sig .tc .vmem S2x128x256 .f32) (f : BufTy.Contents (Elt F) v.ty) :
    v.read (Elt F) (v.writes (Elt F) f
      [⟨Rect.unit (s := S2x128x256) ![1, 0, 0] S1x128x256.size inb_S2x128x256_S1x128x256_1_0_0, k0_pay7 (F := F)⟩,
       ⟨Rect.unit (s := S2x128x256) ![0, 0, 0] S1x128x256.size inb_S2x128x256_S1x128x256_0_0_0, k0_pay6 (F := F)⟩]) = BIAS :=
  funext fun y => two_read v f _ _ y

theorem bias2_read (v : View sig .tc .vmem S256x256 .f32) (f : BufTy.Contents (Elt F) v.ty) (w : Vec F S256x256 .f32) :
    v.read (Elt F) (v.writes (Elt F) f [⟨Rect.unit (s := S256x256) ![0, 0] S256x256.size inb_S256x256_S256x256_0_0, w⟩]) = w := by
  funext y
  refine View.read_writes_cons_unit_of_mem v f inb_S256x256_S256x256_0_0 _ _ y (by exact y) rfl fun a => ?_
  match a with
  | ⟨0, _⟩ => exact (Nat.zero_add _).symm
  | ⟨1, _⟩ => exact (Nat.zero_add _).symm

section Run

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .f32) (harg5 : arg5.IsWhole)
  (arg6 : Memref sig .tc .vmem S4096x128 .f32) (harg6 : arg6.IsWhole)
  (arg7 : Memref sig .tc .vmem S6144x128 .f32) (harg7 : arg7.IsWhole)
  (arg8 : Memref sig .tc .vmem S6144x128 .f32) (harg8 : arg8.IsWhole)
  (arg9 : Memref sig .tc .vmem S2x128x256 .f32) (harg9 : arg9.IsWhole)
  (arg10 : Memref sig .tc .vmem S256x256 .f32) (harg10 : arg10.IsWhole)
  (arg11 : Memref sig .tc .vmem S3x4096x128 .f32) (harg11 : arg11.IsWhole)
  (arg12 : Memref sig .tc .vmem S3x4096x128 .f32) (harg12 : arg12.IsWhole)

set_option warn.classDefReducibility false in
/-- The upcast loop's invariant: the rows of the trips before `k` are upcast. -/
@[sl_loop] def loop1 (X2 : BufTy.Contents (Elt F) arg2.view.ty) (X3 : BufTy.Contents (Elt F) arg3.view.ty) (X4 : BufTy.Contents (Elt F) arg4.view.ty) (E : Set ℕ) :
    LoopInv (M := 𝕄) Idealize.ShloMosaic.frame (wpE (defs₀ (F := F)) Variants.none (c : Thread nD τ) none) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12) where
  inv k _ := iprop(pt c arg2 X2 ∗ pt c arg3 X3 ∗ pt c arg4 X4 ∗
    (∃ g, ⌜okQ (arg2.view.read (Elt F) X2) k (arg6.view.read (Elt F) g)⌝ ∗ pt c arg6 g) ∗
    (∃ g, ⌜okK (arg3.view.read (Elt F) X3) k (arg7.view.read (Elt F) g)⌝ ∗ pt c arg7 g) ∗
    (∃ g, ⌜okK (arg4.view.read (Elt F) X4) k (arg8.view.read (Elt F) g)⌝ ∗ pt c arg8 g))
  step k _ := by
    have hk : k.val < 16 := Nat.lt_of_lt_of_le k.isLt k0_t1_abs.2.1
    unfold k0_t1_body
    iintro ⟨H2, H3, H4, ⟨%g6, %h6, H6⟩, ⟨%g7, %h7, H7⟩, ⟨%g8, %h8, H8⟩⟩
    sl_exec
    sl_step
    isplitl [H2]; · iexact H2
    isplitl [H3]; · iexact H3
    isplitl [H4]; · iexact H4
    isplitl [H6]
    · iexists _; isplitr; swap; · iexact H6
      ipureintro; exact okQ_step _ _ k _ _ rfl h6
    isplitl [H7]
    · iexists _; isplitr; swap; · iexact H7
      ipureintro; exact okK_step _ _ k _ _ rfl h7
    iexists _; isplitr; swap; · iexact H8
    ipureintro; exact okK_step _ _ k _ _ rfl h8

/-- The rows of zeros and the mask tables, whatever rows of keys or values follow. -/
def okZ (z : Vec F S6144x128 .f32) : Prop := ∀ y, (y 0).val < 2048 → z y = Scalar.ofBits .f32 0x00000000#32

theorem okK_zero (x : Vec F S1x4096x128 .bf16) (z : Vec F S6144x128 .f32) (h : okZ z) : okK x 0 z := by
  intro y hy
  have hy' : (y 0).val < 2048 := by omega
  rw [h y hy']; unfold KF; rw [dif_pos hy']

theorem okQ_all (x : Vec F S1x4096x128 .bf16) (z : Vec F S4096x128 .f32) (h : okQ x k0_t1_loop.trips z) : z = QF x :=
  funext fun y => h y (by rw [show k0_t1_loop.trips = 16 by decide]; exact (y 0).isLt)
theorem okK_all (x : Vec F S1x4096x128 .bf16) (z : Vec F S6144x128 .f32) (h : okK x k0_t1_loop.trips z) : z = KF x :=
  funext fun y => h y (by rw [show k0_t1_loop.trips = 16 by decide]; exact (y 0).isLt)

/-- The point is the first: the kernel's own condition. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- What a point other than the first finds. -/
def Kept (z7 z8 : Vec F S6144x128 .f32) (z9 : Vec F S2x128x256 .f32) (z10 : Vec F S256x256 .f32) : Prop :=
  okZ z7 ∧ okZ z8 ∧ z9 = BIAS ∧ z10 = BIAS2

/-- The stores of the first point: zero rows and mask tables. -/
theorem part1_run (E : Set ℕ) (x3 x4 : Vec F S1x4096x128 .bf16)
    (f7 : BufTy.Contents (Elt F) arg7.view.ty) (f8 : BufTy.Contents (Elt F) arg8.view.ty)
    (f9 : BufTy.Contents (Elt F) arg9.view.ty) :
    iprop(pt c arg7 f7 ∗ pt c arg8 f8 ∗ pt c arg9 f9)
    ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12)
      (fun v => iprop(⌜v = k0_pay8⌝ ∗
        (∃ g, ⌜okK x3 0 (arg7.view.read (Elt F) g)⌝ ∗ pt c arg7 g) ∗
        (∃ g, ⌜okK x4 0 (arg8.view.read (Elt F) g)⌝ ∗ pt c arg8 g) ∗
        (∃ g, ⌜arg9.view.read (Elt F) g = BIAS⌝ ∗ pt c arg9 g))) := by
  simp only [k0_part1_eq_skeleton]; unfold k0_part1_skel
  iintro ⟨H7, H8, H9⟩
  sl_exec
  sl_step
  isplitr; · ipureintro; rfl
  isplitl [H7]
  · iexists _; isplitr; swap; · iexact H7
    ipureintro; exact okK0_pad _ _ _ _ pay3_at
  isplitl [H8]
  · iexists _; isplitr; swap; · iexact H8
    ipureintro; exact okK0_pad _ _ _ _ pay4_at
  iexists _; isplitr; swap; · iexact H9
  ipureintro; exact bias_read _ _

theorem part2_first (hc : isFirst i) (E : Set ℕ)
    (X2 : BufTy.Contents (Elt F) arg2.view.ty) (X3 : BufTy.Contents (Elt F) arg3.view.ty) (X4 : BufTy.Contents (Elt F) arg4.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) :
    iprop(pt c arg2 X2 ∗ pt c arg3 X3 ∗ pt c arg4 X4 ∗ pt c arg6 f6 ∗ pt c arg7 f7 ∗ pt c arg8 f8 ∗ pt c arg9 f9 ∗ pt c arg10 f10)
    ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12)
      (fun _ => iprop(pt c arg2 X2 ∗ pt c arg3 X3 ∗ pt c arg4 X4 ∗
        (∃ g, ⌜arg6.view.read (Elt F) g = QF (arg2.view.read (Elt F) X2)⌝ ∗ pt c arg6 g) ∗
        (∃ g, ⌜arg7.view.read (Elt F) g = KF (arg3.view.read (Elt F) X3)⌝ ∗ pt c arg7 g) ∗
        (∃ g, ⌜arg8.view.read (Elt F) g = KF (arg4.view.read (Elt F) X4)⌝ ∗ pt c arg8 g) ∗
        (∃ g, ⌜arg9.view.read (Elt F) g = BIAS⌝ ∗ pt c arg9 g) ∗
        (∃ g, ⌜arg10.view.read (Elt F) g = BIAS2⌝ ∗ pt c arg10 g))) := by
  simp only [k0_part2_eq_skeleton]; unfold k0_part2_skel
  iintro ⟨H2, H3, H4, H6, H7, H8, H9, H10⟩
  have hq0 : okQ (arg2.view.read (Elt F) X2) 0 (arg6.view.read (Elt F) f6) := fun y hy => absurd hy (by simp)
  have hcut := part1_run (F := F) c i arg2 harg2 arg3 harg3 arg4 harg4 arg5 harg5 arg6 harg6 arg7 harg7 arg8 harg8 arg9 harg9 arg10 harg10 arg11 harg11 arg12 harg12 E (arg3.view.read (Elt F) X3) (arg4.view.read (Elt F) X4)
  sl_exec_parts (disch := first | sl_exact hc)
  sl_step
  isplitl [H2]; · iexact H2
  isplitl [H3]; · iexact H3
  isplitl [H4]; · iexact H4
  isplitl [H6]
  · iexists _; isplitr; swap; · iexact H6
    ipureintro; exact okQ_all _ _ hL3
  isplitl [Hk0_part1_2]
  · iexists _; isplitr; swap; · iexact Hk0_part1_2
    ipureintro; exact okK_all _ _ hL5
  isplitl [Hk0_part1_4]
  · iexists _; isplitr; swap; · iexact Hk0_part1_4
    ipureintro; exact okK_all _ _ hL7
  isplitl [Hk0_part1_6]
  · iexists _; isplitr; swap; · iexact Hk0_part1_6
    ipureintro; assumption
  iexists _; isplitr; swap; · iexact H10
  ipureintro; subst hk0_part1_0; exact bias2_read _ _ _

theorem part2_later (hc : ¬ isFirst i) (E : Set ℕ)
    (X2 : BufTy.Contents (Elt F) arg2.view.ty) (X3 : BufTy.Contents (Elt F) arg3.view.ty) (X4 : BufTy.Contents (Elt F) arg4.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (hK : Kept (arg7.view.read (Elt F) f7) (arg8.view.read (Elt F) f8) (arg9.view.read (Elt F) f9) (arg10.view.read (Elt F) f10)) :
    iprop(pt c arg2 X2 ∗ pt c arg3 X3 ∗ pt c arg4 X4 ∗ pt c arg6 f6 ∗ pt c arg7 f7 ∗ pt c arg8 f8 ∗ pt c arg9 f9 ∗ pt c arg10 f10)
    ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12)
      (fun _ => iprop(pt c arg2 X2 ∗ pt c arg3 X3 ∗ pt c arg4 X4 ∗
        (∃ g, ⌜arg6.view.read (Elt F) g = QF (arg2.view.read (Elt F) X2)⌝ ∗ pt c arg6 g) ∗
        (∃ g, ⌜arg7.view.read (Elt F) g = KF (arg3.view.read (Elt F) X3)⌝ ∗ pt c arg7 g) ∗
        (∃ g, ⌜arg8.view.read (Elt F) g = KF (arg4.view.read (Elt F) X4)⌝ ∗ pt c arg8 g) ∗
        (∃ g, ⌜arg9.view.read (Elt F) g = BIAS⌝ ∗ pt c arg9 g) ∗
        (∃ g, ⌜arg10.view.read (Elt F) g = BIAS2⌝ ∗ pt c arg10 g))) := by
  obtain ⟨hz7, hz8, h9, h10⟩ := hK
  simp only [k0_part2_eq_skeleton]; unfold k0_part2_skel
  iintro ⟨H2, H3, H4, H6, H7, H8, H9, H10⟩
  have hq0 : okQ (arg2.view.read (Elt F) X2) 0 (arg6.view.read (Elt F) f6) := fun y hy => absurd hy (by simp)
  have hz7' := okK_zero (arg3.view.read (Elt F) X3) _ hz7
  have hz8' := okK_zero (arg4.view.read (Elt F) X4) _ hz8
  sl_exec_parts (disch := first | sl_exact hc)
  sl_step
  isplitl [H2]; · iexact H2
  isplitl [H3]; · iexact H3
  isplitl [H4]; · iexact H4
  isplitl [H6]
  · iexists _; isplitr; swap; · iexact H6
    ipureintro; exact okQ_all _ _ hL3
  isplitl [H7]
  · iexists _; isplitr; swap; · iexact H7
    ipureintro; exact okK_all _ _ hL5
  isplitl [H8]
  · iexists _; isplitr; swap; · iexact H8
    ipureintro; exact okK_all _ _ hL7
  isplitl [H9]
  · iexists _; isplitr; swap; · iexact H9
    ipureintro; assumption
  iexists _; isplitr; swap; · iexact H10
  ipureintro; assumption

/-- Both cases. -/
theorem part2_run
    (f7 : BufTy.Contents (Elt F) arg7.view.ty) (f8 : BufTy.Contents (Elt F) arg8.view.ty)
    (f9 : BufTy.Contents (Elt F) arg9.view.ty) (f10 : BufTy.Contents (Elt F) arg10.view.ty)
    (hc : isFirst i ∨ Kept (arg7.view.read (Elt F) f7) (arg8.view.read (Elt F) f8) (arg9.view.read (Elt F) f9) (arg10.view.read (Elt F) f10)) (E : Set ℕ)
    (X2 : BufTy.Contents (Elt F) arg2.view.ty) (X3 : BufTy.Contents (Elt F) arg3.view.ty) (X4 : BufTy.Contents (Elt F) arg4.view.ty)
    (f6 : BufTy.Contents (Elt F) arg6.view.ty) :
    iprop(pt c arg2 X2 ∗ pt c arg3 X3 ∗ pt c arg4 X4 ∗ pt c arg6 f6 ∗ pt c arg7 f7 ∗ pt c arg8 f8 ∗ pt c arg9 f9 ∗ pt c arg10 f10)
    ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12)
      (fun _ => iprop(pt c arg2 X2 ∗ pt c arg3 X3 ∗ pt c arg4 X4 ∗
        (∃ g, ⌜arg6.view.read (Elt F) g = QF (arg2.view.read (Elt F) X2)⌝ ∗ pt c arg6 g) ∗
        (∃ g, ⌜arg7.view.read (Elt F) g = KF (arg3.view.read (Elt F) X3)⌝ ∗ pt c arg7 g) ∗
        (∃ g, ⌜arg8.view.read (Elt F) g = KF (arg4.view.read (Elt F) X4)⌝ ∗ pt c arg8 g) ∗
        (∃ g, ⌜arg9.view.read (Elt F) g = BIAS⌝ ∗ pt c arg9 g) ∗
        (∃ g, ⌜arg10.view.read (Elt F) g = BIAS2⌝ ∗ pt c arg10 g))) := by
  by_cases h : isFirst i
  · exact part2_first c i arg2 harg2 arg3 harg3 arg4 harg4 arg5 harg5 arg6 harg6 arg7 harg7 arg8 harg8 arg9 harg9 arg10 harg10 arg11 harg11 arg12 harg12 h E X2 X3 X4 f6 f7 f8 f9 f10
  · exact part2_later c i arg2 harg2 arg3 harg3 arg4 harg4 arg5 harg5 arg6 harg6 arg7 harg7 arg8 harg8 arg9 harg9 arg10 harg10 arg11 harg11 arg12 harg12 h E X2 X3 X4 f6 f7 f8 f9 f10 (hc.resolve_left h)

end Run

end Cert.KernelIdeal.Attn
-- ==== Proof.Pieces.lean ====
/-
  The 80 stores of each result plane are 80 instances of three forms, and together they leave `GOut` and `GLse`.
-/
module

public import proofs.«01_k».proof.Proof.Init

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

section Pieces

variable (x6 : Vec F S4096x128 .f32) (x7 x8 : Vec F S6144x128 .f32) (x9 : Vec F S2x128x256 .f32) (x10 : Vec F S256x256 .f32)

theorem off7_eq : ∀ u : Fin 32, k0_off7 (BitVec.ofNat 32 u.val) = ![0, 128 * u.val, 0] := by decide +kernel
theorem off10_eq : ∀ u : Fin 32, k0_off10 (BitVec.ofNat 32 u.val) = ![1, 512 * (u.val % 8) + u.val / 8, 0] := by decide +kernel

theorem emb1 (u : Fin 32) (x : S1x128x128.Idx) :
    ((((r1 u).emb x) 0).val = 0) ∧ ((((r1 u).emb x) 1).val = 128 * u.val + (x 1).val) ∧ ((((r1 u).emb x) 2).val = (x 2).val) := by
  have e := off7_eq u
  have h0 : (x 0).val < 1 := (x 0).isLt
  refine ⟨?_, ?_, ?_⟩
  · show k0_off7 (BitVec.ofNat 32 u.val) 0 + 1 * (x 0).val = 0
    rw [e]; show 0 + 1 * (x 0).val = 0; omega
  · show k0_off7 (BitVec.ofNat 32 u.val) 1 + 1 * (x 1).val = _
    rw [e]; show 128 * u.val + 1 * (x 1).val = _; omega
  · show k0_off7 (BitVec.ofNat 32 u.val) 2 + 1 * (x 2).val = _
    rw [e]; show 0 + 1 * (x 2).val = _; omega

theorem emb4 (u : Fin 32) (x : S1x128x128.Idx) :
    ((((r4 u).emb x) 0).val = 1) ∧ ((((r4 u).emb x) 1).val = 512 * (u.val % 8) + u.val / 8 + 4 * (x 1).val) ∧ ((((r4 u).emb x) 2).val = (x 2).val) := by
  have e := off10_eq u
  have h0 : (x 0).val < 1 := (x 0).isLt
  refine ⟨?_, ?_, ?_⟩
  · show k0_off10 (BitVec.ofNat 32 u.val) 0 + 1 * (x 0).val = 1
    rw [e]; show 1 + 1 * (x 0).val = 1; omega
  · show k0_off10 (BitVec.ofNat 32 u.val) 1 + 4 * (x 1).val = _
    rw [e]; rfl
  · show k0_off10 (BitVec.ofNat 32 u.val) 2 + 1 * (x 2).val = _
    rw [e]; show 0 + 1 * (x 2).val = _; omega

theorem emb16 (u : Fin 16) (x : S1x256x128.Idx) :
    ((((r16 u).emb x) 0).val = 2) ∧ ((((r16 u).emb x) 1).val = u.val + 16 * (x 1).val) ∧ ((((r16 u).emb x) 2).val = (x 2).val) := by
  have h0 : (x 0).val < 1 := (x 0).isLt
  refine ⟨?_, ?_, ?_⟩
  · show 2 + 1 * (x 0).val = 2; omega
  · rfl
  · show 0 + 1 * (x 2).val = _; omega

theorem ix3_self128 (x : S1x128x128.Idx) (a : Fin 128) (b : Fin 128) (ha : a.val = (x 1).val) (hb : b.val = (x 2).val) :
    (ix3 0 a b : S1x128x128.Idx) = x := by
  have h0 : (x 0).val < 1 := (x 0).isLt
  funext i
  match i with
  | ⟨0, _⟩ => exact Fin.ext (by show 0 = (x 0).val; omega)
  | ⟨1, _⟩ => exact Fin.ext ha
  | ⟨2, _⟩ => exact Fin.ext hb

theorem ix3_self256 (x : S1x256x128.Idx) (a : Fin 256) (b : Fin 128) (ha : a.val = (x 1).val) (hb : b.val = (x 2).val) :
    (ix3 0 a b : S1x256x128.Idx) = x := by
  have h0 : (x 0).val < 1 := (x 0).isLt
  funext i
  match i with
  | ⟨0, _⟩ => exact Fin.ext (by show 0 = (x 0).val; omega)
  | ⟨1, _⟩ => exact Fin.ext ha
  | ⟨2, _⟩ => exact Fin.ext hb

theorem arith4 (n r i Y : ℕ) (hn : n < 8) (hr : r < 4) (hi : i < 128) (h : Y = 512 * n + r + 4 * i) :
    Y % 4 = r ∧ Y / 512 = n ∧ Y / 4 % 128 = i := by
  have h4 : Y / 4 = 128 * n + i := by omega
  refine ⟨by omega, by omega, by omega⟩

theorem arith4' (Y : ℕ) (hY : Y < 4096) :
    512 * ((Y % 4 * 8 + Y / 512) % 8) + (Y % 4 * 8 + Y / 512) / 8 + 4 * (Y / 4 % 128) = Y := by
  have hn : Y / 512 < 8 := by omega
  have e : Y / 4 / 128 = Y / 512 := Nat.div_div_eq_div_mul Y 4 128
  generalize Y / 512 = n at *
  have h4 : Y = 4 * (Y / 4) + Y % 4 := by omega
  have hr : Y % 4 < 4 := by omega
  generalize Y % 4 = r at *
  generalize Y / 4 = m at *
  rw [show (r * 8 + n) % 8 = n by omega, show (r * 8 + n) / 8 = r by omega]
  omega

/-- What the planes hold at an index of the first dilation's form, of the second's and of the third's. -/
theorem GOut_1 (y : S3x4096x128.Idx) (u : Fin 32) (x : S1x128x128.Idx) (h0 : (y 0).val = 0) (h1 : (y 1).val = 128 * u.val + (x 1).val) (h2 : (y 2).val = (x 2).val) :
    GOut x6 x7 x8 x9 x10 y = uO (b1 x9 u) (q1 x6 u) (k1 x7 u) (k1 x8 u) x := by
  have hx : (x 1).val < 128 := (x 1).isLt
  unfold GOut
  rw [if_pos h0]
  have hu : (y 1).val / 128 = u.val := by omega
  simp only [hu, Fin.eta]
  exact congrArg _ (ix3_self128 x _ _ (by show (y 1).val % 128 = _; omega) h2)
theorem GLse_1 (y : S3x4096x128.Idx) (u : Fin 32) (x : S1x128x128.Idx) (h0 : (y 0).val = 0) (h1 : (y 1).val = 128 * u.val + (x 1).val) (h2 : (y 2).val = (x 2).val) :
    GLse x6 x7 x9 x10 y = uL (b1 x9 u) (q1 x6 u) (k1 x7 u) x := by
  have hx : (x 1).val < 128 := (x 1).isLt
  unfold GLse
  rw [if_pos h0]
  have hu : (y 1).val / 128 = u.val := by omega
  simp only [hu, Fin.eta]
  exact congrArg _ (ix3_self128 x _ _ (by show (y 1).val % 128 = _; omega) h2)
theorem GOut_4 (y : S3x4096x128.Idx) (u : Fin 32) (x : S1x128x128.Idx) (h0 : (y 0).val = 1) (h1 : (y 1).val = 512 * (u.val % 8) + u.val / 8 + 4 * (x 1).val) (h2 : (y 2).val = (x 2).val) :
    GOut x6 x7 x8 x9 x10 y = uO (b4 x9 u) (q4 x6 u) (k4 x7 u) (k4 x8 u) x := by
  have hx : (x 1).val < 128 := (x 1).isLt
  unfold GOut
  rw [if_neg (by omega), if_pos h0]
  obtain ⟨ha, hb, hd⟩ := arith4 (u.val % 8) (u.val / 8) (x 1).val (y 1).val (by omega) (by omega) hx h1
  have hu : (y 1).val % 4 * 8 + (y 1).val / 512 = u.val := by omega
  simp only [hu, Fin.eta]
  exact congrArg _ (ix3_self128 x _ _ (by exact hd) h2)
theorem GLse_4 (y : S3x4096x128.Idx) (u : Fin 32) (x : S1x128x128.Idx) (h0 : (y 0).val = 1) (h1 : (y 1).val = 512 * (u.val % 8) + u.val / 8 + 4 * (x 1).val) (h2 : (y 2).val = (x 2).val) :
    GLse x6 x7 x9 x10 y = uL (b4 x9 u) (q4 x6 u) (k4 x7 u) x := by
  have hx : (x 1).val < 128 := (x 1).isLt
  unfold GLse
  rw [if_neg (by omega), if_pos h0]
  obtain ⟨ha, hb, hd⟩ := arith4 (u.val % 8) (u.val / 8) (x 1).val (y 1).val (by omega) (by omega) hx h1
  have hu : (y 1).val % 4 * 8 + (y 1).val / 512 = u.val := by omega
  simp only [hu, Fin.eta]
  exact congrArg _ (ix3_self128 x _ _ (by exact hd) h2)
theorem GOut_16 (y : S3x4096x128.Idx) (u : Fin 16) (x : S1x256x128.Idx) (h0 : (y 0).val = 2) (h1 : (y 1).val = u.val + 16 * (x 1).val) (h2 : (y 2).val = (x 2).val) :
    GOut x6 x7 x8 x9 x10 y = wO x10 (q16 x6 u) (k16 x7 u) (k16 x8 u) x := by
  unfold GOut
  rw [if_neg (by omega), if_neg (by omega)]
  have hu : (y 1).val % 16 = u.val := by omega
  simp only [hu, Fin.eta]
  exact congrArg _ (ix3_self256 x _ _ (by show (y 1).val / 16 = _; omega) h2)
theorem GLse_16 (y : S3x4096x128.Idx) (u : Fin 16) (x : S1x256x128.Idx) (h0 : (y 0).val = 2) (h1 : (y 1).val = u.val + 16 * (x 1).val) (h2 : (y 2).val = (x 2).val) :
    GLse x6 x7 x9 x10 y = wL x10 (q16 x6 u) (k16 x7 u) x := by
  unfold GLse
  rw [if_neg (by omega), if_neg (by omega)]
  have hu : (y 1).val % 16 = u.val := by omega
  simp only [hu, Fin.eta]
  exact congrArg _ (ix3_self256 x _ _ (by show (y 1).val / 16 = _; omega) h2)

/-- The stores of the outputs, the last first. -/
def LO : List (View.Piece (Elt F) S3x4096x128 .f32) := [pO16 x6 x7 x8 x10 ⟨15, by decide⟩, pO16 x6 x7 x8 x10 ⟨14, by decide⟩, pO16 x6 x7 x8 x10 ⟨13, by decide⟩, pO16 x6 x7 x8 x10 ⟨12, by decide⟩, pO16 x6 x7 x8 x10 ⟨11, by decide⟩, pO16 x6 x7 x8 x10 ⟨10, by decide⟩, pO16 x6 x7 x8 x10 ⟨9, by decide⟩, pO16 x6 x7 x8 x10 ⟨8, by decide⟩, pO16 x6 x7 x8 x10 ⟨7, by decide⟩, pO16 x6 x7 x8 x10 ⟨6, by decide⟩, pO16 x6 x7 x8 x10 ⟨5, by decide⟩, pO16 x6 x7 x8 x10 ⟨4, by decide⟩, pO16 x6 x7 x8 x10 ⟨3, by decide⟩, pO16 x6 x7 x8 x10 ⟨2, by decide⟩, pO16 x6 x7 x8 x10 ⟨1, by decide⟩, pO16 x6 x7 x8 x10 ⟨0, by decide⟩, pO4 x6 x7 x8 x9 ⟨31, by decide⟩, pO4 x6 x7 x8 x9 ⟨30, by decide⟩, pO4 x6 x7 x8 x9 ⟨29, by decide⟩, pO4 x6 x7 x8 x9 ⟨28, by decide⟩, pO4 x6 x7 x8 x9 ⟨27, by decide⟩, pO4 x6 x7 x8 x9 ⟨26, by decide⟩, pO4 x6 x7 x8 x9 ⟨25, by decide⟩, pO4 x6 x7 x8 x9 ⟨24, by decide⟩, pO4 x6 x7 x8 x9 ⟨23, by decide⟩, pO4 x6 x7 x8 x9 ⟨22, by decide⟩, pO4 x6 x7 x8 x9 ⟨21, by decide⟩, pO4 x6 x7 x8 x9 ⟨20, by decide⟩, pO4 x6 x7 x8 x9 ⟨19, by decide⟩, pO4 x6 x7 x8 x9 ⟨18, by decide⟩, pO4 x6 x7 x8 x9 ⟨17, by decide⟩, pO4 x6 x7 x8 x9 ⟨16, by decide⟩, pO4 x6 x7 x8 x9 ⟨15, by decide⟩, pO4 x6 x7 x8 x9 ⟨14, by decide⟩, pO4 x6 x7 x8 x9 ⟨13, by decide⟩, pO4 x6 x7 x8 x9 ⟨12, by decide⟩, pO4 x6 x7 x8 x9 ⟨11, by decide⟩, pO4 x6 x7 x8 x9 ⟨10, by decide⟩, pO4 x6 x7 x8 x9 ⟨9, by decide⟩, pO4 x6 x7 x8 x9 ⟨8, by decide⟩, pO4 x6 x7 x8 x9 ⟨7, by decide⟩, pO4 x6 x7 x8 x9 ⟨6, by decide⟩, pO4 x6 x7 x8 x9 ⟨5, by decide⟩, pO4 x6 x7 x8 x9 ⟨4, by decide⟩, pO4 x6 x7 x8 x9 ⟨3, by decide⟩, pO4 x6 x7 x8 x9 ⟨2, by decide⟩, pO4 x6 x7 x8 x9 ⟨1, by decide⟩, pO4 x6 x7 x8 x9 ⟨0, by decide⟩, pO1 x6 x7 x8 x9 ⟨31, by decide⟩, pO1 x6 x7 x8 x9 ⟨30, by decide⟩, pO1 x6 x7 x8 x9 ⟨29, by decide⟩, pO1 x6 x7 x8 x9 ⟨28, by decide⟩, pO1 x6 x7 x8 x9 ⟨27, by decide⟩, pO1 x6 x7 x8 x9 ⟨26, by decide⟩, pO1 x6 x7 x8 x9 ⟨25, by decide⟩, pO1 x6 x7 x8 x9 ⟨24, by decide⟩, pO1 x6 x7 x8 x9 ⟨23, by decide⟩, pO1 x6 x7 x8 x9 ⟨22, by decide⟩, pO1 x6 x7 x8 x9 ⟨21, by decide⟩, pO1 x6 x7 x8 x9 ⟨20, by decide⟩, pO1 x6 x7 x8 x9 ⟨19, by decide⟩, pO1 x6 x7 x8 x9 ⟨18, by decide⟩, pO1 x6 x7 x8 x9 ⟨17, by decide⟩, pO1 x6 x7 x8 x9 ⟨16, by decide⟩, pO1 x6 x7 x8 x9 ⟨15, by decide⟩, pO1 x6 x7 x8 x9 ⟨14, by decide⟩, pO1 x6 x7 x8 x9 ⟨13, by decide⟩, pO1 x6 x7 x8 x9 ⟨12, by decide⟩, pO1 x6 x7 x8 x9 ⟨11, by decide⟩, pO1 x6 x7 x8 x9 ⟨10, by decide⟩, pO1 x6 x7 x8 x9 ⟨9, by decide⟩, pO1 x6 x7 x8 x9 ⟨8, by decide⟩, pO1 x6 x7 x8 x9 ⟨7, by decide⟩, pO1 x6 x7 x8 x9 ⟨6, by decide⟩, pO1 x6 x7 x8 x9 ⟨5, by decide⟩, pO1 x6 x7 x8 x9 ⟨4, by decide⟩, pO1 x6 x7 x8 x9 ⟨3, by decide⟩, pO1 x6 x7 x8 x9 ⟨2, by decide⟩, pO1 x6 x7 x8 x9 ⟨1, by decide⟩, pO1 x6 x7 x8 x9 ⟨0, by decide⟩]
/-- The stores of the log-sum-exps, the last first. -/
def LL : List (View.Piece (Elt F) S3x4096x128 .f32) := [pL16 x6 x7 x10 ⟨15, by decide⟩, pL16 x6 x7 x10 ⟨14, by decide⟩, pL16 x6 x7 x10 ⟨13, by decide⟩, pL16 x6 x7 x10 ⟨12, by decide⟩, pL16 x6 x7 x10 ⟨11, by decide⟩, pL16 x6 x7 x10 ⟨10, by decide⟩, pL16 x6 x7 x10 ⟨9, by decide⟩, pL16 x6 x7 x10 ⟨8, by decide⟩, pL16 x6 x7 x10 ⟨7, by decide⟩, pL16 x6 x7 x10 ⟨6, by decide⟩, pL16 x6 x7 x10 ⟨5, by decide⟩, pL16 x6 x7 x10 ⟨4, by decide⟩, pL16 x6 x7 x10 ⟨3, by decide⟩, pL16 x6 x7 x10 ⟨2, by decide⟩, pL16 x6 x7 x10 ⟨1, by decide⟩, pL16 x6 x7 x10 ⟨0, by decide⟩, pL4 x6 x7 x9 ⟨31, by decide⟩, pL4 x6 x7 x9 ⟨30, by decide⟩, pL4 x6 x7 x9 ⟨29, by decide⟩, pL4 x6 x7 x9 ⟨28, by decide⟩, pL4 x6 x7 x9 ⟨27, by decide⟩, pL4 x6 x7 x9 ⟨26, by decide⟩, pL4 x6 x7 x9 ⟨25, by decide⟩, pL4 x6 x7 x9 ⟨24, by decide⟩, pL4 x6 x7 x9 ⟨23, by decide⟩, pL4 x6 x7 x9 ⟨22, by decide⟩, pL4 x6 x7 x9 ⟨21, by decide⟩, pL4 x6 x7 x9 ⟨20, by decide⟩, pL4 x6 x7 x9 ⟨19, by decide⟩, pL4 x6 x7 x9 ⟨18, by decide⟩, pL4 x6 x7 x9 ⟨17, by decide⟩, pL4 x6 x7 x9 ⟨16, by decide⟩, pL4 x6 x7 x9 ⟨15, by decide⟩, pL4 x6 x7 x9 ⟨14, by decide⟩, pL4 x6 x7 x9 ⟨13, by decide⟩, pL4 x6 x7 x9 ⟨12, by decide⟩, pL4 x6 x7 x9 ⟨11, by decide⟩, pL4 x6 x7 x9 ⟨10, by decide⟩, pL4 x6 x7 x9 ⟨9, by decide⟩, pL4 x6 x7 x9 ⟨8, by decide⟩, pL4 x6 x7 x9 ⟨7, by decide⟩, pL4 x6 x7 x9 ⟨6, by decide⟩, pL4 x6 x7 x9 ⟨5, by decide⟩, pL4 x6 x7 x9 ⟨4, by decide⟩, pL4 x6 x7 x9 ⟨3, by decide⟩, pL4 x6 x7 x9 ⟨2, by decide⟩, pL4 x6 x7 x9 ⟨1, by decide⟩, pL4 x6 x7 x9 ⟨0, by decide⟩, pL1 x6 x7 x9 ⟨31, by decide⟩, pL1 x6 x7 x9 ⟨30, by decide⟩, pL1 x6 x7 x9 ⟨29, by decide⟩, pL1 x6 x7 x9 ⟨28, by decide⟩, pL1 x6 x7 x9 ⟨27, by decide⟩, pL1 x6 x7 x9 ⟨26, by decide⟩, pL1 x6 x7 x9 ⟨25, by decide⟩, pL1 x6 x7 x9 ⟨24, by decide⟩, pL1 x6 x7 x9 ⟨23, by decide⟩, pL1 x6 x7 x9 ⟨22, by decide⟩, pL1 x6 x7 x9 ⟨21, by decide⟩, pL1 x6 x7 x9 ⟨20, by decide⟩, pL1 x6 x7 x9 ⟨19, by decide⟩, pL1 x6 x7 x9 ⟨18, by decide⟩, pL1 x6 x7 x9 ⟨17, by decide⟩, pL1 x6 x7 x9 ⟨16, by decide⟩, pL1 x6 x7 x9 ⟨15, by decide⟩, pL1 x6 x7 x9 ⟨14, by decide⟩, pL1 x6 x7 x9 ⟨13, by decide⟩, pL1 x6 x7 x9 ⟨12, by decide⟩, pL1 x6 x7 x9 ⟨11, by decide⟩, pL1 x6 x7 x9 ⟨10, by decide⟩, pL1 x6 x7 x9 ⟨9, by decide⟩, pL1 x6 x7 x9 ⟨8, by decide⟩, pL1 x6 x7 x9 ⟨7, by decide⟩, pL1 x6 x7 x9 ⟨6, by decide⟩, pL1 x6 x7 x9 ⟨5, by decide⟩, pL1 x6 x7 x9 ⟨4, by decide⟩, pL1 x6 x7 x9 ⟨3, by decide⟩, pL1 x6 x7 x9 ⟨2, by decide⟩, pL1 x6 x7 x9 ⟨1, by decide⟩, pL1 x6 x7 x9 ⟨0, by decide⟩]

theorem mem_LO (p : View.Piece (Elt F) S3x4096x128 .f32) (h : p ∈ LO x6 x7 x8 x9 x10) :
    (∃ u, p = pO16 x6 x7 x8 x10 u) ∨ (∃ u, p = pO4 x6 x7 x8 x9 u) ∨ (∃ u, p = pO1 x6 x7 x8 x9 u) := by
  unfold LO at h
  repeat first
    | (rcases List.mem_cons.mp h with h | h
       · first | exact .inl ⟨_, h⟩ | exact .inr (.inl ⟨_, h⟩) | exact .inr (.inr ⟨_, h⟩))
  exact absurd h List.not_mem_nil

theorem mem_LL (p : View.Piece (Elt F) S3x4096x128 .f32) (h : p ∈ LL x6 x7 x9 x10) :
    (∃ u, p = pL16 x6 x7 x10 u) ∨ (∃ u, p = pL4 x6 x7 x9 u) ∨ (∃ u, p = pL1 x6 x7 x9 u) := by
  unfold LL at h
  repeat first
    | (rcases List.mem_cons.mp h with h | h
       · first | exact .inl ⟨_, h⟩ | exact .inr (.inl ⟨_, h⟩) | exact .inr (.inr ⟨_, h⟩))
  exact absurd h List.not_mem_nil

theorem has_LO16 : ∀ u : Fin 16, pO16 x6 x7 x8 x10 u ∈ LO x6 x7 x8 x9 x10 := by
  intro u; fin_cases u <;> simp [LO]
theorem has_LO4 : ∀ u : Fin 32, pO4 x6 x7 x8 x9 u ∈ LO x6 x7 x8 x9 x10 := by
  intro u; fin_cases u <;> simp [LO]
theorem has_LO1 : ∀ u : Fin 32, pO1 x6 x7 x8 x9 u ∈ LO x6 x7 x8 x9 x10 := by
  intro u; fin_cases u <;> simp [LO]
theorem has_LL16 : ∀ u : Fin 16, pL16 x6 x7 x10 u ∈ LL x6 x7 x9 x10 := by
  intro u; fin_cases u <;> simp [LL]
theorem has_LL4 : ∀ u : Fin 32, pL4 x6 x7 x9 u ∈ LL x6 x7 x9 x10 := by
  intro u; fin_cases u <;> simp [LL]
theorem has_LL1 : ∀ u : Fin 32, pL1 x6 x7 x9 u ∈ LL x6 x7 x9 x10 := by
  intro u; fin_cases u <;> simp [LL]

/-- Every index lies in a unit's rectangle. -/
theorem cover (y : S3x4096x128.Idx) : (∃ u, y ∈ (r1 u).set) ∨ (∃ u, y ∈ (r4 u).set) ∨ (∃ u, y ∈ (r16 u).set) := by
  have h0 : (y 0).val < 3 := (y 0).isLt
  have h1 : (y 1).val < 4096 := (y 1).isLt
  have hm : ∀ (r : Rect S3x4096x128) (x : r.shape.Idx), (∀ a, ((r.emb x) a).val = (y a).val) → y ∈ r.set := fun r x h => by
    rw [← r.map_emb_univ]; exact Finset.mem_map.mpr ⟨x, Finset.mem_univ _, funext fun a => Fin.ext (h a)⟩
  rcases (by omega : (y 0).val = 0 ∨ (y 0).val = 1 ∨ (y 0).val = 2) with h | h | h
  · refine .inl ⟨⟨(y 1).val / 128, by omega⟩, hm _ (by exact (ix3 0 ⟨(y 1).val % 128, by omega⟩ (y 2) : S1x128x128.Idx)) ?_⟩
    obtain ⟨e0, e1, e2⟩ := emb1 ⟨(y 1).val / 128, by omega⟩ (ix3 0 ⟨(y 1).val % 128, by omega⟩ (y 2) : S1x128x128.Idx)
    intro a
    match a with
    | ⟨0, _⟩ => exact e0.trans h.symm
    | ⟨1, _⟩ => refine e1.trans ?_; show 128 * ((y 1).val / 128) + (y 1).val % 128 = (y 1).val; omega
    | ⟨2, _⟩ => exact e2
  · refine .inr (.inl ⟨⟨(y 1).val % 4 * 8 + (y 1).val / 512, by omega⟩, hm _ (by exact (ix3 0 ⟨(y 1).val / 4 % 128, by omega⟩ (y 2) : S1x128x128.Idx)) ?_⟩)
    obtain ⟨e0, e1, e2⟩ := emb4 ⟨(y 1).val % 4 * 8 + (y 1).val / 512, by omega⟩ (ix3 0 ⟨(y 1).val / 4 % 128, by omega⟩ (y 2) : S1x128x128.Idx)
    intro a
    match a with
    | ⟨0, _⟩ => exact e0.trans h.symm
    | ⟨1, _⟩ => refine e1.trans ?_; show 512 * (((y 1).val % 4 * 8 + (y 1).val / 512) % 8) + ((y 1).val % 4 * 8 + (y 1).val / 512) / 8 + 4 * ((y 1).val / 4 % 128) = (y 1).val; exact arith4' _ h1
    | ⟨2, _⟩ => exact e2
  · refine .inr (.inr ⟨⟨(y 1).val % 16, by omega⟩, hm _ (by exact (ix3 0 ⟨(y 1).val / 16, by omega⟩ (y 2) : S1x256x128.Idx)) ?_⟩)
    obtain ⟨e0, e1, e2⟩ := emb16 ⟨(y 1).val % 16, by omega⟩ (ix3 0 ⟨(y 1).val / 16, by omega⟩ (y 2) : S1x256x128.Idx)
    intro a
    match a with
    | ⟨0, _⟩ => exact e0.trans h.symm
    | ⟨1, _⟩ => refine e1.trans ?_; show (y 1).val % 16 + 16 * ((y 1).val / 16) = (y 1).val; omega
    | ⟨2, _⟩ => exact e2

theorem read_LO (v : View sig .tc .vmem S3x4096x128 .f32) (f : BufTy.Contents (Elt F) v.ty) :
    v.read (Elt F) (v.writes (Elt F) f (LO x6 x7 x8 x9 x10)) = GOut x6 x7 x8 x9 x10 := by
  funext y
  refine View.read_writes_apply_of_pieces v f (GOut x6 x7 x8 x9 x10) _ (fun p hp x => ?_) y ?_
  · rcases mem_LO x6 x7 x8 x9 x10 p hp with ⟨u, rfl⟩ | ⟨u, rfl⟩ | ⟨u, rfl⟩
    · obtain ⟨e0, e1, e2⟩ := emb16 u x; exact (GOut_16 x6 x7 x8 x9 x10 _ u x e0 e1 e2).symm
    · obtain ⟨e0, e1, e2⟩ := emb4 u x; exact (GOut_4 x6 x7 x8 x9 x10 _ u x e0 e1 e2).symm
    · obtain ⟨e0, e1, e2⟩ := emb1 u x; exact (GOut_1 x6 x7 x8 x9 x10 _ u x e0 e1 e2).symm
  · rcases cover y with ⟨u, h⟩ | ⟨u, h⟩ | ⟨u, h⟩
    · exact ⟨_, has_LO1 x6 x7 x8 x9 x10 u, h⟩
    · exact ⟨_, has_LO4 x6 x7 x8 x9 x10 u, h⟩
    · exact ⟨_, has_LO16 x6 x7 x8 x9 x10 u, h⟩

theorem read_LL (v : View sig .tc .vmem S3x4096x128 .f32) (f : BufTy.Contents (Elt F) v.ty) :
    v.read (Elt F) (v.writes (Elt F) f (LL x6 x7 x9 x10)) = GLse x6 x7 x9 x10 := by
  funext y
  refine View.read_writes_apply_of_pieces v f (GLse x6 x7 x9 x10) _ (fun p hp x => ?_) y ?_
  · rcases mem_LL x6 x7 x9 x10 p hp with ⟨u, rfl⟩ | ⟨u, rfl⟩ | ⟨u, rfl⟩
    · obtain ⟨e0, e1, e2⟩ := emb16 u x; exact (GLse_16 x6 x7 x9 x10 _ u x e0 e1 e2).symm
    · obtain ⟨e0, e1, e2⟩ := emb4 u x; exact (GLse_4 x6 x7 x9 x10 _ u x e0 e1 e2).symm
    · obtain ⟨e0, e1, e2⟩ := emb1 u x; exact (GLse_1 x6 x7 x9 x10 _ u x e0 e1 e2).symm
  · rcases cover y with ⟨u, h⟩ | ⟨u, h⟩ | ⟨u, h⟩
    · exact ⟨_, has_LL1 x6 x7 x9 x10 u, h⟩
    · exact ⟨_, has_LL4 x6 x7 x9 x10 u, h⟩
    · exact ⟨_, has_LL16 x6 x7 x9 x10 u, h⟩

end Pieces

end Cert.KernelIdeal.Attn
-- ==== Proof.Ident.lean ====
/-
  A store of the body, as the run states it, is one of the stores of `Spec`: the offsets of a unit written as literals are
  the program's own address arithmetic at that unit, and the value stored is the unit's.
-/
module

public import proofs.«01_k».proof.Proof.Pieces

@[expose] public section

noncomputable section

namespace Cert.KernelIdeal.Attn

open Idealize.ShloMosaic Idealize.ShloMosaic.TcCoe
open Cert.KernelIdeal.Gen

variable {F : FTy → Type} [FloatOps F]

variable (arg6 : Memref sig Kind.tc Space.vmem S4096x128 EltTy.f32) (arg7 : Memref sig Kind.tc Space.vmem S6144x128 EltTy.f32) (arg8 : Memref sig Kind.tc Space.vmem S6144x128 EltTy.f32) (arg9 : Memref sig Kind.tc Space.vmem S2x128x256 EltTy.f32) (arg10 : Memref sig Kind.tc Space.vmem S256x256 EltTy.f32)

theorem pO1_of (f6 : BufTy.Contents (Elt F) arg6.view.ty) (f7 : BufTy.Contents (Elt F) arg7.view.ty) (f8 : BufTy.Contents (Elt F) arg8.view.ty) (f9 : BufTy.Contents (Elt F) arg9.view.ty) (u : Fin 32) (ob : Fin 3 → Nat) (hb : ∀ a, ob a + S1x128x256.size a ≤ S2x128x256.size a) (oq : Fin 2 → Nat) (hq : ∀ a, oq a + S128x128.size a ≤ S4096x128.size a) (ok : Fin 2 → Nat) (hk : ∀ a, ok a + S256x128.size a ≤ S6144x128.size a) (ot : Fin 3 → Nat) (ht : ∀ a, ot a + S1x128x128.size a ≤ S3x4096x128.size a)
    (eb : ob = k0_off4 (BitVec.ofNat 32 u.val) 32#32) (eq : oq = k0_off5 (BitVec.ofNat 32 u.val)) (ek : ok = k0_off6 (BitVec.ofNat 32 u.val)) (et : ot = k0_off7 (BitVec.ofNat 32 u.val))
    (P : FVec F S1x128x128 .f32) (hP : P = k0_pay17 (View.readAt (Elt F) arg9.view (Rect.unit (s := S2x128x256) ob S1x128x256.size hb).toLoadRect f9) (View.readAt (Elt F) arg6.view (Rect.unit (s := S4096x128) oq S128x128.size hq).toLoadRect f6) (View.readAt (Elt F) arg7.view (Rect.unit (s := S6144x128) ok S256x128.size hk).toLoadRect f7) (View.readAt (Elt F) arg8.view (Rect.unit (s := S6144x128) ok S256x128.size hk).toLoadRect f8)) :
    (⟨Rect.unit (s := S3x4096x128) ot S1x128x128.size ht, P⟩ : View.Piece (Elt F) S3x4096x128 .f32) = pO1 (arg6.view.read (Elt F) f6) (arg7.view.read (Elt F) f7) (arg8.view.read (Elt F) f8) (arg9.view.read (Elt F) f9) u := by
  subst eb
  subst eq ek et hP
  rfl

theorem pL1_of (f6 : BufTy.Contents (Elt F) arg6.view.ty) (f7 : BufTy.Contents (Elt F) arg7.view.ty) (f9 : BufTy.Contents (Elt F) arg9.view.ty) (u : Fin 32) (ob : Fin 3 → Nat) (hb : ∀ a, ob a + S1x128x256.size a ≤ S2x128x256.size a) (oq : Fin 2 → Nat) (hq : ∀ a, oq a + S128x128.size a ≤ S4096x128.size a) (ok : Fin 2 → Nat) (hk : ∀ a, ok a + S256x128.size a ≤ S6144x128.size a) (ot : Fin 3 → Nat) (ht : ∀ a, ot a + S1x128x128.size a ≤ S3x4096x128.size a)
    (eb : ob = k0_off4 (BitVec.ofNat 32 u.val) 32#32) (eq : oq = k0_off5 (BitVec.ofNat 32 u.val)) (ek : ok = k0_off6 (BitVec.ofNat 32 u.val)) (et : ot = k0_off7 (BitVec.ofNat 32 u.val))
    (P : FVec F S1x128x128 .f32) (hP : P = k0_pay18 (View.readAt (Elt F) arg9.view (Rect.unit (s := S2x128x256) ob S1x128x256.size hb).toLoadRect f9) (View.readAt (Elt F) arg6.view (Rect.unit (s := S4096x128) oq S128x128.size hq).toLoadRect f6) (View.readAt (Elt F) arg7.view (Rect.unit (s := S6144x128) ok S256x128.size hk).toLoadRect f7)) :
    (⟨Rect.unit (s := S3x4096x128) ot S1x128x128.size ht, P⟩ : View.Piece (Elt F) S3x4096x128 .f32) = pL1 (arg6.view.read (Elt F) f6) (arg7.view.read (Elt F) f7) (arg9.view.read (Elt F) f9) u := by
  subst eb
  subst eq ek et hP
  rfl

theorem pO4_of (f6 : BufTy.Contents (Elt F) arg6.view.ty) (f7 : BufTy.Contents (Elt F) arg7.view.ty) (f8 : BufTy.Contents (Elt F) arg8.view.ty) (f9 : BufTy.Contents (Elt F) arg9.view.ty) (u : Fin 32) (ob : Fin 3 → Nat) (hb : ∀ a, ob a + S1x128x256.size a ≤ S2x128x256.size a) (oq : Fin 2 → Nat) (hq : ∀ a, S128x128.size a = 0 ∨ oq a + (![4, 1] : Fin 2 → ℕ) a * (S128x128.size a - 1) < S4096x128.size a) (ok : Fin 2 → Nat) (hk : ∀ a, S256x128.size a = 0 ∨ ok a + (![4, 1] : Fin 2 → ℕ) a * (S256x128.size a - 1) < S6144x128.size a) (ot : Fin 3 → Nat) (ht : ∀ a, S1x128x128.size a = 0 ∨ ot a + (![1, 4, 1] : Fin 3 → ℕ) a * (S1x128x128.size a - 1) < S3x4096x128.size a) (hs : ∀ a, 0 < (![1, 4, 1] : Fin 3 → ℕ) a)
    (eb : ob = k0_off4 (BitVec.ofNat 32 u.val) 8#32) (eq : oq = k0_off8 (BitVec.ofNat 32 u.val)) (ek : ok = k0_off9 (BitVec.ofNat 32 u.val)) (et : ot = k0_off10 (BitVec.ofNat 32 u.val))
    (P : FVec F S1x128x128 .f32) (hP : P = k0_pay17 (View.readAt (Elt F) arg9.view (Rect.unit (s := S2x128x256) ob S1x128x256.size hb).toLoadRect f9) (View.readAt (Elt F) arg6.view (⟨oq, S128x128.size, ![4, 1], hq⟩ : LoadRect S4096x128) f6) (View.readAt (Elt F) arg7.view (⟨ok, S256x128.size, ![4, 1], hk⟩ : LoadRect S6144x128) f7) (View.readAt (Elt F) arg8.view (⟨ok, S256x128.size, ![4, 1], hk⟩ : LoadRect S6144x128) f8)) :
    (⟨(⟨⟨ot, S1x128x128.size, ![1, 4, 1], ht⟩, hs⟩ : Rect S3x4096x128), P⟩ : View.Piece (Elt F) S3x4096x128 .f32) = pO4 (arg6.view.read (Elt F) f6) (arg7.view.read (Elt F) f7) (arg8.view.read (Elt F) f8) (arg9.view.read (Elt F) f9) u := by
  subst eb
  subst eq ek et hP
  rfl

theorem pL4_of (f6 : BufTy.Contents (Elt F) arg6.view.ty) (f7 : BufTy.Contents (Elt F) arg7.view.ty) (f9 : BufTy.Contents (Elt F) arg9.view.ty) (u : Fin 32) (ob : Fin 3 → Nat) (hb : ∀ a, ob a + S1x128x256.size a ≤ S2x128x256.size a) (oq : Fin 2 → Nat) (hq : ∀ a, S128x128.size a = 0 ∨ oq a + (![4, 1] : Fin 2 → ℕ) a * (S128x128.size a - 1) < S4096x128.size a) (ok : Fin 2 → Nat) (hk : ∀ a, S256x128.size a = 0 ∨ ok a + (![4, 1] : Fin 2 → ℕ) a * (S256x128.size a - 1) < S6144x128.size a) (ot : Fin 3 → Nat) (ht : ∀ a, S1x128x128.size a = 0 ∨ ot a + (![1, 4, 1] : Fin 3 → ℕ) a * (S1x128x128.size a - 1) < S3x4096x128.size a) (hs : ∀ a, 0 < (![1, 4, 1] : Fin 3 → ℕ) a)
    (eb : ob = k0_off4 (BitVec.ofNat 32 u.val) 8#32) (eq : oq = k0_off8 (BitVec.ofNat 32 u.val)) (ek : ok = k0_off9 (BitVec.ofNat 32 u.val)) (et : ot = k0_off10 (BitVec.ofNat 32 u.val))
    (P : FVec F S1x128x128 .f32) (hP : P = k0_pay18 (View.readAt (Elt F) arg9.view (Rect.unit (s := S2x128x256) ob S1x128x256.size hb).toLoadRect f9) (View.readAt (Elt F) arg6.view (⟨oq, S128x128.size, ![4, 1], hq⟩ : LoadRect S4096x128) f6) (View.readAt (Elt F) arg7.view (⟨ok, S256x128.size, ![4, 1], hk⟩ : LoadRect S6144x128) f7)) :
    (⟨(⟨⟨ot, S1x128x128.size, ![1, 4, 1], ht⟩, hs⟩ : Rect S3x4096x128), P⟩ : View.Piece (Elt F) S3x4096x128 .f32) = pL4 (arg6.view.read (Elt F) f6) (arg7.view.read (Elt F) f7) (arg9.view.read (Elt F) f9) u := by
  subst eb
  subst eq ek et hP
  rfl

theorem pO16_of (f6 : BufTy.Contents (Elt F) arg6.view.ty) (f7 : BufTy.Contents (Elt F) arg7.view.ty) (f8 : BufTy.Contents (Elt F) arg8.view.ty) (f10 : BufTy.Contents (Elt F) arg10.view.ty) (u : Fin 16) (ob : Fin 2 → Nat) (hb : ∀ a, ob a + S256x256.size a ≤ S256x256.size a) (oq : Fin 2 → Nat) (hq : ∀ a, S256x128.size a = 0 ∨ oq a + (![16, 1] : Fin 2 → ℕ) a * (S256x128.size a - 1) < S4096x128.size a) (ok : Fin 2 → Nat) (hk : ∀ a, S256x128.size a = 0 ∨ ok a + (![16, 1] : Fin 2 → ℕ) a * (S256x128.size a - 1) < S6144x128.size a) (ot : Fin 3 → Nat) (ht : ∀ a, S1x256x128.size a = 0 ∨ ot a + (![1, 16, 1] : Fin 3 → ℕ) a * (S1x256x128.size a - 1) < S3x4096x128.size a) (hs : ∀ a, 0 < (![1, 16, 1] : Fin 3 → ℕ) a)
    (eb : ob = ![0, 0]) (eq : oq = ![u.val, 0]) (ek : ok = k0_off11 (BitVec.ofNat 32 u.val)) (et : ot = ![2, u.val, 0])
    (P : FVec F S1x256x128 .f32) (hP : P = k0_pay594 (View.readAt (Elt F) arg10.view (Rect.unit (s := S256x256) ob S256x256.size hb).toLoadRect f10) (View.readAt (Elt F) arg6.view (⟨oq, S256x128.size, ![16, 1], hq⟩ : LoadRect S4096x128) f6) (View.readAt (Elt F) arg7.view (⟨ok, S256x128.size, ![16, 1], hk⟩ : LoadRect S6144x128) f7) (View.readAt (Elt F) arg8.view (⟨ok, S256x128.size, ![16, 1], hk⟩ : LoadRect S6144x128) f8)) :
    (⟨(⟨⟨ot, S1x256x128.size, ![1, 16, 1], ht⟩, hs⟩ : Rect S3x4096x128), P⟩ : View.Piece (Elt F) S3x4096x128 .f32) = pO16 (arg6.view.read (Elt F) f6) (arg7.view.read (Elt F) f7) (arg8.view.read (Elt F) f8) (arg10.view.read (Elt F) f10) u := by
  subst eb
  subst eq ek et hP
  have hz : View.readAt (Elt F) arg10.view (Rect.unit (s := S256x256) ![0, 0] S256x256.size hb).toLoadRect f10 = arg10.view.read (Elt F) f10 := by
    funext j; refine congrArg (arg10.view.read (Elt F) f10) (funext fun a => Fin.ext ?_)
    match a with
    | ⟨0, _⟩ => show 0 + 1 * (j 0).val = (j 0).val; omega
    | ⟨1, _⟩ => show 0 + 1 * (j 1).val = (j 1).val; omega
  rw [hz]; rfl

theorem pL16_of (f6 : BufTy.Contents (Elt F) arg6.view.ty) (f7 : BufTy.Contents (Elt F) arg7.view.ty) (f10 : BufTy.Contents (Elt F) arg10.view.ty) (u : Fin 16) (ob : Fin 2 → Nat) (hb : ∀ a, ob a + S256x256.size a ≤ S256x256.size a) (oq : Fin 2 → Nat) (hq : ∀ a, S256x128.size a = 0 ∨ oq a + (![16, 1] : Fin 2 → ℕ) a * (S256x128.size a - 1) < S4096x128.size a) (ok : Fin 2 → Nat) (hk : ∀ a, S256x128.size a = 0 ∨ ok a + (![16, 1] : Fin 2 → ℕ) a * (S256x128.size a - 1) < S6144x128.size a) (ot : Fin 3 → Nat) (ht : ∀ a, S1x256x128.size a = 0 ∨ ot a + (![1, 16, 1] : Fin 3 → ℕ) a * (S1x256x128.size a - 1) < S3x4096x128.size a) (hs : ∀ a, 0 < (![1, 16, 1] : Fin 3 → ℕ) a)
    (eb : ob = ![0, 0]) (eq : oq = ![u.val, 0]) (ek : ok = k0_off11 (BitVec.ofNat 32 u.val)) (et : ot = ![2, u.val, 0])
    (P : FVec F S1x256x128 .f32) (hP : P = k0_pay1 (k0_pay591 (View.readAt (Elt F) arg10.view (Rect.unit (s := S256x256) ob S256x256.size hb).toLoadRect f10) (View.readAt (Elt F) arg6.view (⟨oq, S256x128.size, ![16, 1], hq⟩ : LoadRect S4096x128) f6) (View.readAt (Elt F) arg7.view (⟨ok, S256x128.size, ![16, 1], hk⟩ : LoadRect S6144x128) f7)) (k0_pay593 (View.readAt (Elt F) arg10.view (Rect.unit (s := S256x256) ob S256x256.size hb).toLoadRect f10) (View.readAt (Elt F) arg6.view (⟨oq, S256x128.size, ![16, 1], hq⟩ : LoadRect S4096x128) f6) (View.readAt (Elt F) arg7.view (⟨ok, S256x128.size, ![16, 1], hk⟩ : LoadRect S6144x128) f7))) :
    (⟨(⟨⟨ot, S1x256x128.size, ![1, 16, 1], ht⟩, hs⟩ : Rect S3x4096x128), P⟩ : View.Piece (Elt F) S3x4096x128 .f32) = pL16 (arg6.view.read (Elt F) f6) (arg7.view.read (Elt F) f7) (arg10.view.read (Elt F) f10) u := by
  subst eb
  subst eq ek et hP
  have hz : View.readAt (Elt F) arg10.view (Rect.unit (s := S256x256) ![0, 0] S256x256.size hb).toLoadRect f10 = arg10.view.read (Elt F) f10 := by
    funext j; refine congrArg (arg10.view.read (Elt F) f10) (funext fun a => Fin.ext ?_)
    match a with
    | ⟨0, _⟩ => show 0 + 1 * (j 0).val = (j 0).val; omega
    | ⟨1, _⟩ => show 0 + 1 * (j 1).val = (j 1).val; omega
  rw [hz]; rfl

end Cert.KernelIdeal.Attn
-- ==== Proof.Run.lean ====
/-
  The kernel's body at any grid point: from the three input blocks it leaves `OUT` of them in its output block.
-/
module

public import proofs.«01_k».proof.Proof.Ident

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

theorem blk_eq0 (z : Vec F S3x4096x128 .f32) (k : Fin k0_t2_loop.trips) (hk : k.val < 16) :
    View.ld z (Rect.unit (s := S3x4096x128) (k0_off12 k) S1x256x128.size (k0_off12_inb k)) = blk z 0 ⟨k.val, hk⟩ := by
  have e := k0_off12_eq k
  funext j
  have h0 : (j 0).val < 1 := (j 0).isLt
  refine congrArg z ?_
  funext a
  match a with
  | ⟨0, _⟩ => exact Fin.ext (by show k0_off12 k 0 + 1 * (j 0).val = 0; rw [show k0_off12 k 0 = _ from congrFun e 0]; show 0 + 1 * (j 0).val = 0; omega)
  | ⟨1, _⟩ => exact Fin.ext (by show k0_off12 k 1 + 1 * (j 1).val = 256 * k.val + (j 1).val; rw [show k0_off12 k 1 = _ from congrFun e 1]; show 256 * k.val + 1 * (j 1).val = _; omega)
  | ⟨2, _⟩ => exact Fin.ext (by show k0_off12 k 2 + 1 * (j 2).val = (j 2).val; rw [show k0_off12 k 2 = _ from congrFun e 2]; show 0 + 1 * (j 2).val = _; omega)
theorem blk_eq1 (z : Vec F S3x4096x128 .f32) (k : Fin k0_t2_loop.trips) (hk : k.val < 16) :
    View.ld z (Rect.unit (s := S3x4096x128) (k0_off13 k) S1x256x128.size (k0_off13_inb k)) = blk z 1 ⟨k.val, hk⟩ := by
  have e := k0_off13_eq k
  funext j
  have h0 : (j 0).val < 1 := (j 0).isLt
  refine congrArg z ?_
  funext a
  match a with
  | ⟨0, _⟩ => exact Fin.ext (by show k0_off13 k 0 + 1 * (j 0).val = 1; rw [show k0_off13 k 0 = _ from congrFun e 0]; show 1 + 1 * (j 0).val = 1; omega)
  | ⟨1, _⟩ => exact Fin.ext (by show k0_off13 k 1 + 1 * (j 1).val = 256 * k.val + (j 1).val; rw [show k0_off13 k 1 = _ from congrFun e 1]; show 256 * k.val + 1 * (j 1).val = _; omega)
  | ⟨2, _⟩ => exact Fin.ext (by show k0_off13 k 2 + 1 * (j 2).val = (j 2).val; rw [show k0_off13 k 2 = _ from congrFun e 2]; show 0 + 1 * (j 2).val = _; omega)
theorem blk_eq2 (z : Vec F S3x4096x128 .f32) (k : Fin k0_t2_loop.trips) (hk : k.val < 16) :
    View.ld z (Rect.unit (s := S3x4096x128) (k0_off14 k) S1x256x128.size (k0_off14_inb k)) = blk z 2 ⟨k.val, hk⟩ := by
  have e := k0_off14_eq k
  funext j
  have h0 : (j 0).val < 1 := (j 0).isLt
  refine congrArg z ?_
  funext a
  match a with
  | ⟨0, _⟩ => exact Fin.ext (by show k0_off14 k 0 + 1 * (j 0).val = 2; rw [show k0_off14 k 0 = _ from congrFun e 0]; show 2 + 1 * (j 0).val = 2; omega)
  | ⟨1, _⟩ => exact Fin.ext (by show k0_off14 k 1 + 1 * (j 1).val = 256 * k.val + (j 1).val; rw [show k0_off14 k 1 = _ from congrFun e 1]; show 256 * k.val + 1 * (j 1).val = _; omega)
  | ⟨2, _⟩ => exact Fin.ext (by show k0_off14 k 2 + 1 * (j 2).val = (j 2).val; rw [show k0_off14 k 2 = _ from congrFun e 2]; show 0 + 1 * (j 2).val = _; omega)

/-- The output rows before trip `k` of the last loop are combined. -/
def okO (o l : Vec F S3x4096x128 .f32) (k : ℕ) (z : Vec F S1x4096x128 .f32) : Prop := ∀ y, (y 1).val < 256 * k → z y = COMB o l y

theorem COMB_at (o l : Vec F S3x4096x128 .f32) (k : Fin 16) (y : S1x4096x128.Idx) (j : S1x256x128.Idx)
    (h1 : (y 1).val = 256 * k.val + (j 1).val) (h2 : (y 2).val = (j 2).val) :
    k0_pay2 (blk l 0 k) (blk l 1 k) (blk l 2 k) (blk o 0 k) (blk o 1 k) (blk o 2 k) j = COMB o l y := by
  have hj : (j 1).val < 256 := (j 1).isLt
  unfold COMB
  have hu : (y 1).val / 256 = k.val := by omega
  simp only [hu, Fin.eta]
  exact congrArg _ (ix3_self256 j _ _ (by show (y 1).val % 256 = _; omega) h2).symm

theorem okO_step (v : View sig .tc .vmem S1x4096x128 .f32) (o l : Vec F S3x4096x128 .f32) (k : Fin k0_t2_loop.trips) (hk : k.val < 16)
    (f : BufTy.Contents (Elt F) v.ty) (w : Vec F S1x256x128 .f32)
    (hw : w = k0_pay2 (blk l 0 ⟨k.val, hk⟩) (blk l 1 ⟨k.val, hk⟩) (blk l 2 ⟨k.val, hk⟩) (blk o 0 ⟨k.val, hk⟩) (blk o 1 ⟨k.val, hk⟩) (blk o 2 ⟨k.val, hk⟩))
    (h : okO o l k.val (v.read (Elt F) f)) :
    okO o l (k.val + 1) (v.read (Elt F) (v.writes (Elt F) f [⟨Rect.unit (s := S1x4096x128) (k0_off15 k) S1x256x128.size (k0_off15_inb k), w⟩])) := by
  intro y hy
  rw [View.read_writes_cons_unit _ _ _ _ _ _ (k0_off15_eq k)]
  split
  · rename_i hm
    rw [hw]
    refine COMB_at o l ⟨k.val, hk⟩ y _ ?_ ?_
    · have := hm 1; rw [Rect.unitLocal_val]; simp at this ⊢; omega
    · rw [Rect.unitLocal_val]; simp
  · rename_i hm
    have h0 : (y 0).val < 1 := (y 0).isLt
    refine h y (Nat.lt_of_not_le fun hle => hm ?_)
    intro a
    match a with
    | ⟨0, _⟩ => exact ⟨Nat.zero_le _, by simpa [S1x256x128] using h0⟩
    | ⟨1, _⟩ => exact ⟨hle, by simpa [S1x256x128] using (by omega : (y 1).val < 256 * k.val + 256)⟩
    | ⟨2, _⟩ => exact ⟨Nat.zero_le _, by simpa [S1x256x128] using (y 2).isLt⟩

theorem okO_all (o l : Vec F S3x4096x128 .f32) (z : Vec F S1x4096x128 .f32) (h : okO o l k0_t2_loop.trips z) : z = COMB o l :=
  funext fun y => h y (by rw [show k0_t2_loop.trips = 16 by decide]; exact (y 1).isLt)

section Run

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .f32) (harg5 : arg5.IsWhole)
  (arg6 : Memref sig .tc .vmem S4096x128 .f32) (harg6 : arg6.IsWhole)
  (arg7 : Memref sig .tc .vmem S6144x128 .f32) (harg7 : arg7.IsWhole)
  (arg8 : Memref sig .tc .vmem S6144x128 .f32) (harg8 : arg8.IsWhole)
  (arg9 : Memref sig .tc .vmem S2x128x256 .f32) (harg9 : arg9.IsWhole)
  (arg10 : Memref sig .tc .vmem S256x256 .f32) (harg10 : arg10.IsWhole)
  (arg11 : Memref sig .tc .vmem S3x4096x128 .f32) (harg11 : arg11.IsWhole)
  (arg12 : Memref sig .tc .vmem S3x4096x128 .f32) (harg12 : arg12.IsWhole)

/-- The output buffer before trip `k` of the last loop, from what it held and the two planes. -/
def acc5 (o l : Vec F S3x4096x128 .f32) (G : BufTy.Contents (Elt F) arg5.view.ty) : ℕ → BufTy.Contents (Elt F) arg5.view.ty
  | 0 => G
  | k + 1 => if h : k < k0_t2_loop.trips then
      arg5.view.writes (Elt F) (acc5 o l G k) [⟨Rect.unit (s := S1x4096x128) (k0_off15 ⟨k, h⟩) S1x256x128.size (k0_off15_inb ⟨k, h⟩),
        k0_pay2 (View.ld l (Rect.unit (s := S3x4096x128) (k0_off12 ⟨k, h⟩) S1x256x128.size (k0_off12_inb ⟨k, h⟩)))
          (View.ld l (Rect.unit (s := S3x4096x128) (k0_off13 ⟨k, h⟩) S1x256x128.size (k0_off13_inb ⟨k, h⟩)))
          (View.ld l (Rect.unit (s := S3x4096x128) (k0_off14 ⟨k, h⟩) S1x256x128.size (k0_off14_inb ⟨k, h⟩)))
          (View.ld o (Rect.unit (s := S3x4096x128) (k0_off12 ⟨k, h⟩) S1x256x128.size (k0_off12_inb ⟨k, h⟩)))
          (View.ld o (Rect.unit (s := S3x4096x128) (k0_off13 ⟨k, h⟩) S1x256x128.size (k0_off13_inb ⟨k, h⟩)))
          (View.ld o (Rect.unit (s := S3x4096x128) (k0_off14 ⟨k, h⟩) S1x256x128.size (k0_off14_inb ⟨k, h⟩)))⟩]
    else acc5 o l G k

theorem acc5_ok (o l : Vec F S3x4096x128 .f32) (G : BufTy.Contents (Elt F) arg5.view.ty) : ∀ k, k ≤ k0_t2_loop.trips →
    okO o l k (arg5.view.read (Elt F) (acc5 arg5 o l G k))
  | 0, _ => fun y hy => absurd hy (by simp)
  | k + 1, hk => by
    have hlt : k < k0_t2_loop.trips := hk
    have h16 : k < 16 := Nat.lt_of_lt_of_le hlt (by decide)
    rw [acc5, dif_pos hlt]
    refine okO_step _ o l ⟨k, hlt⟩ h16 _ _ ?_ (acc5_ok o l G k (Nat.le_of_lt hlt))
    rw [blk_eq0 _ _ h16, blk_eq1 _ _ h16, blk_eq2 _ _ h16, blk_eq0 _ _ h16, blk_eq1 _ _ h16, blk_eq2 _ _ h16]

set_option warn.classDefReducibility false in
/-- The combining loop's invariant: the output buffer is `acc5` of the trips before `k`. -/
@[sl_loop] def loop2 (X11 : BufTy.Contents (Elt F) arg11.view.ty) (X12 : BufTy.Contents (Elt F) arg12.view.ty) (G5 : BufTy.Contents (Elt F) arg5.view.ty) (E : Set ℕ) :
    LoopInv (M := 𝕄) Idealize.ShloMosaic.frame (wpE (defs₀ (F := F)) Variants.none (c : Thread nD τ) none) E
      k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12) where
  inv k _ := iprop(pt c arg11 X11 ∗ pt c arg12 X12 ∗
    (∃ g, pt c arg5 g ∗ ⌜g = acc5 arg5 (arg11.view.read (Elt F) X11) (arg12.view.read (Elt F) X12) G5 k⌝))
  step k _ := by
    have hk : k.val < 16 := Nat.lt_of_lt_of_le k.isLt k0_t2_abs.2.1
    unfold k0_t2_body
    iintro ⟨H11, H12, ⟨%g5, H5, %h5⟩⟩
    sl_exec
    sl_step
    isplitl [H11]; · iexact H11
    isplitl [H12]; · iexact H12
    iexists _; isplitl [H5]; · iexact H5
    ipureintro
    rw [acc5, dif_pos k.isLt, h5]
    rfl

omit i in
/-- The output buffer after the last loop, the two planes at what their stores left. -/
theorem cons2 (α : Type) (a a' : α) (l l' : List α) (h : a = a') (h' : l = l') : a :: l = a' :: l' := by subst h h'; rfl

theorem out_read (f11 : BufTy.Contents (Elt F) arg11.view.ty) (f12 : BufTy.Contents (Elt F) arg12.view.ty) (f5 : BufTy.Contents (Elt F) arg5.view.ty)
    (x6 : Vec F S4096x128 .f32) (x7 x8 : Vec F S6144x128 .f32) (x9 : Vec F S2x128x256 .f32) (x10 : Vec F S256x256 .f32)
    (x0 x1 x2 : Vec F S1x4096x128 .bf16) (L11 L12 : List (View.Piece (Elt F) S3x4096x128 .f32)) (hO : L11 = LO x6 x7 x8 x9 x10) (hL : L12 = LL x6 x7 x9 x10) (h6 : x6 = QF x0) (h7 : x7 = KF x1) (h8 : x8 = KF x2) (h9 : x9 = BIAS) (h10 : x10 = BIAS2) :
    arg5.view.read (Elt F) (acc5 arg5 (arg11.view.read (Elt F) (arg11.view.writes (Elt F) f11 L11))
      (arg12.view.read (Elt F) (arg12.view.writes (Elt F) f12 L12)) f5 k0_t2_loop.trips) = OUT x0 x1 x2 := by
  rw [hO, hL, okO_all _ _ _ (acc5_ok arg5 _ _ f5 k0_t2_loop.trips (Nat.le_refl _)), read_LO, read_LL]
  subst h6 h7 h8 h9 h10
  rfl

theorem kept_of (z7 z8 : Vec F S6144x128 .f32) (z9 : Vec F S2x128x256 .f32) (z10 : Vec F S256x256 .f32) (x1 x2 : Vec F S1x4096x128 .bf16)
    (h7 : z7 = KF x1) (h8 : z8 = KF x2) (h9 : z9 = BIAS) (h10 : z10 = BIAS2) : Kept z7 z8 z9 z10 := by
  subst h7 h8
  exact ⟨fun y hy => dif_pos hy, fun y hy => dif_pos hy, h9, h10⟩

set_option maxHeartbeats 0 in
/-- The body from whole staging buffers and scratch. -/
theorem body_run
    (X2 : BufTy.Contents (Elt F) arg2.view.ty) (X3 : BufTy.Contents (Elt F) arg3.view.ty) (X4 : BufTy.Contents (Elt F) arg4.view.ty)
    (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty)
    (hc : isFirst i ∨ Kept (arg7.view.read (Elt F) f7) (arg8.view.read (Elt F) f8) (arg9.view.read (Elt F) f9) (arg10.view.read (Elt F) f10))
    (E : Set ℕ) :
    iprop(pt c arg2 X2 ∗ pt c arg3 X3 ∗ pt c arg4 X4 ∗ pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12)
      (fun _ => iprop(pt c arg2 X2 ∗ pt c arg3 X3 ∗ pt c arg4 X4 ∗
        (∃ g, ⌜arg5.view.read (Elt F) g = OUT (arg2.view.read (Elt F) X2) (arg3.view.read (Elt F) X3) (arg4.view.read (Elt F) X4)⌝ ∗ pt c arg5 g) ∗
        (∃ g, pt c arg6 g) ∗
        (∃ g7 g8 g9 g10, ⌜Kept (arg7.view.read (Elt F) g7) (arg8.view.read (Elt F) g8) (arg9.view.read (Elt F) g9) (arg10.view.read (Elt F) g10)⌝
          ∗ pt c arg7 g7 ∗ pt c arg8 g8 ∗ pt c arg9 g9 ∗ pt c arg10 g10) ∗
        (∃ g, pt c arg11 g) ∗ (∃ g, pt c arg12 g))) := by
  simp only [cc0_attn_eq_skeleton]; unfold cc0_attn_skel
  iintro ⟨H2, H3, H4, H5, H6, H7, H8, H9, H10, H11, H12⟩
  have hcut := part2_run (F := F) c i arg2 harg2 arg3 harg3 arg4 harg4 arg5 harg5 arg6 harg6 arg7 harg7 arg8 harg8 arg9 harg9 arg10 harg10 arg11 harg11 arg12 harg12 f7 f8 f9 f10 hc E X2 X3 X4 f6
  have ho : ∀ (o l : Vec F S3x4096x128 .f32), okO o l 0 (arg5.view.read (Elt F) f5) := fun o l y hy => absurd hy (by simp)
  sl_exec_parts
  sl_step
  isplitl [Hk0_part2_0]; · iexact Hk0_part2_0
  isplitl [Hk0_part2_1]; · iexact Hk0_part2_1
  isplitl [Hk0_part2_2]; · iexact Hk0_part2_2
  isplitl [H5]
  · iexists _; isplitr; swap; · iexact H5
    ipureintro
    refine out_read arg5 arg11 arg12 f11 f12 f5 (arg6.view.read (Elt F) gk0_part2_0) (arg7.view.read (Elt F) gk0_part2_1) (arg8.view.read (Elt F) gk0_part2_2) (arg9.view.read (Elt F) gk0_part2_3) (arg10.view.read (Elt F) gk0_part2_4) _ _ _ _ _ ?_ ?_ hk0_part2_3 hk0_part2_5 hk0_part2_7 hk0_part2_9 hk0_part2_11
    · unfold LO
      refine cons2 _ _ _ _ _ (pO16_of arg6 arg7 arg8 arg10 gk0_part2_0 gk0_part2_1 gk0_part2_2 gk0_part2_4 15 ![0, 0] _ ![15, 0] _ (k0_off11 15#32) _ ![2, 15, 0] _ _ rfl rfl rfl rfl _ rfl) ?_
      refine cons2 _ _ _ _ _ (pO16_of arg6 arg7 arg8 arg10 gk0_part2_0 gk0_part2_1 gk0_part2_2 gk0_part2_4 14 ![0, 0] _ ![14, 0] _ (k0_off11 14#32) _ ![2, 14, 0] _ _ rfl rfl rfl rfl _ rfl) ?_
      refine cons2 _ _ _ _ _ (pO16_of arg6 arg7 arg8 arg10 gk0_part2_0 gk0_part2_1 gk0_part2_2 gk0_part2_4 13 ![0, 0] _ ![13, 0] _ (k0_off11 13#32) _ ![2, 13, 0] _ _ rfl rfl rfl rfl _ rfl) ?_
      refine cons2 _ _ _ _ _ (pO16_of arg6 arg7 arg8 arg10 gk0_part2_0 gk0_part2_1 gk0_part2_2 gk0_part2_4 12 ![0, 0] _ ![12, 0] _ (k0_off11 12#32) _ ![2, 12, 0] _ _ rfl rfl rfl rfl _ rfl) ?_
      refine cons2 _ _ _ _ _ (pO16_of arg6 arg7 arg8 arg10 gk0_part2_0 gk0_part2_1 gk0_part2_2 gk0_part2_4 11 ![0, 0] _ ![11, 0] _ (k0_off11 11#32) _ ![2, 11, 0] _ _ rfl rfl rfl rfl _ rfl) ?_
      refine cons2 _ _ _ _ _ (pO16_of arg6 arg7 arg8 arg10 gk0_part2_0 gk0_part2_1 gk0_part2_2 gk0_part2_4 10 ![0, 0] _ ![10, 0] _ (k0_off11 10#32) _ ![2, 10, 0] _ _ rfl rfl rfl rfl _ rfl) ?_
      refine cons2 _ _ _ _ _ (pO16_of arg6 arg7 arg8 arg10 gk0_part2_0 gk0_part2_1 gk0_part2_2 gk0_part2_4 9 ![0, 0] _ ![9, 0] _ (k0_off11 9#32) _ ![2, 9, 0] _ _ rfl rfl rfl rfl _ rfl) ?_
      refine cons2 _ _ _ _ _ (pO16_of arg6 arg7 arg8 arg10 gk0_part2_0 gk0_part2_1 gk0_part2_2 gk0_part2_4 8 ![0, 0] _ ![8, 0] _ (k0_off11 8#32) _ ![2, 8, 0] _ _ rfl rfl rfl rfl _ rfl) ?_
      refine cons2 _ _ _ _ _ (pO16_of arg6 arg7 arg8 arg10 gk0_part2_0 gk0_part2_1 gk0_part2_2 gk0_part2_4 7 ![0, 0] _ ![7, 0] _ (k0_off11 7#32) _ ![2, 7, 0] _ _ rfl rfl rfl rfl _ rfl) ?_
      refine cons2 _ _ _ _ _ (pO16_of arg6 arg7 arg8 arg10 gk0_part2_0 gk0_part2_1 gk0_part2_2 gk0_part2_4 6 ![0, 0] _ ![6, 0] _ (k0_off11 6#32) _ ![2, 6, 0] _ _ rfl rfl rfl rfl _ rfl) ?_
      refine cons2 _ _ _ _ _ (pO16_of arg6 arg7 arg8 arg10 gk0_part2_0 gk0_part2_1 gk0_part2_2 gk0_part2_4 5 ![0, 0] _ ![5, 0] _ (k0_off11 5#32) _ ![2, 5, 0] _ _ rfl rfl rfl rfl _ rfl) ?_
      refine cons2 _ _ _ _ _ (pO16_of arg6 arg7 arg8 arg10 gk0_part2_0 gk0_part2_1 gk0_part2_2 gk0_part2_4 4 ![0, 0] _ ![4, 0] _ (k0_off11 4#32) _ ![2, 4, 0] _ _ rfl rfl rfl rfl _ rfl) ?_
      refine cons2 _ _ _ _ _ (pO16_of arg6 arg7 arg8 arg10 gk0_part2_0 gk0_part2_1 gk0_part2_2 gk0_part2_4 3 ![0, 0] _ ![3, 0] _ (k0_off11 3#32) _ ![2, 3, 0] _ _ rfl rfl rfl rfl _ rfl) ?_
      refine cons2 _ _ _ _ _ (pO16_of arg6 arg7 arg8 arg10 gk0_part2_0 gk0_part2_1 gk0_part2_2 gk0_part2_4 2 ![0, 0] _ ![2, 0] _ (k0_off11 2#32) _ ![2, 2, 0] _ _ rfl rfl rfl rfl _ rfl) ?_
      refine cons2 _ _ _ _ _ (pO16_of arg6 arg7 arg8 arg10 gk0_part2_0 gk0_part2_1 gk0_part2_2 gk0_part2_4 1 ![0, 0] _ ![1, 0] _ (k0_off11 1#32) _ ![2, 1, 0] _ _ rfl rfl rfl rfl _ rfl) ?_
      refine cons2 _ _ _ _ _ (pO16_of arg6 arg7 arg8 arg10 gk0_part2_0 gk0_part2_1 gk0_part2_2 gk0_part2_4 0 ![0, 0] _ ![0, 0] _ (k0_off11 0#32) _ ![2, 0, 0] _ _ rfl rfl rfl rfl _ rfl) ?_
      refine cons2 _ _ _ _ _ (pO4_of arg6 arg7 arg8 arg9 gk0_part2_0 gk0_part2_1 gk0_part2_2 gk0_part2_3 31 ![1, 0, 0] _ (k0_off8 31#32) _ (k0_off9 31#32) _ (k0_off10 31#32) _ _ (by decide +kernel) rfl rfl rfl _ rfl) ?_
      refine cons2 _ _ _ _ _ (pO4_of arg6 arg7 arg8 arg9 gk0_part2_0 gk0_part2_1 gk0_part2_2 gk0_part2_3 30 ![1, 0, 0] _ (k0_off8 30#32) _ (k0_off9 30#32) _ (k0_off10 30#32) _ _ (by decide +kernel) rfl rfl rfl _ rfl) ?_
      refine cons2 _ _ _ _ _ (pO4_of arg6 arg7 arg8 arg9 gk0_part2_0 gk0_part2_1 gk0_part2_2 gk0_part2_3 29 ![1, 0, 0] _ (k0_off8 29#32) _ (k0_off9 29#32) _ (k0_off10 29#32) _ _ (by decide +kernel) rfl rfl rfl _ rfl) ?_
      refine cons2 _ _ _ _ _ (pO4_of arg6 arg7 arg8 arg9 gk0_part2_0 gk0_part2_1 gk0_part2_2 gk0_part2_3 28 ![1, 0, 0] _ (k0_off8 28#32) _ (k0_off9 28#32) _ (k0_off10 28#32) _ _ (by decide +kernel) rfl rfl rfl _ rfl) ?_
      refine cons2 _ _ _ _ _ (pO4_of arg6 arg7 arg8 arg9 gk0_part2_0 gk0_part2_1 gk0_part2_2 gk0_part2_3 27 ![1, 0, 0] _ (k0_off8 27#32) _ (k0_off9 27#32) _ (k0_off10 27#32) _ _ (by decide +kernel) rfl rfl rfl _ rfl) ?_
      refine cons2 _ _ _ _ _ (pO4_of arg6 arg7 arg8 arg9 gk0_part2_0 gk0_part2_1 gk0_part2_2 gk0_part2_3 26 ![1, 0, 0] _ (k0_off8 26#32) _ (k0_off9 26#32) _ (k0_off10 26#32) _ _ (by decide +kernel) rfl rfl rfl _ rfl) ?_
      refine cons2 _ _ _ _ _ (pO4_of arg6 arg7 arg8 arg9 gk0_part2_0 gk0_part2_1 gk0_part2_2 gk0_part2_3 25 ![1, 0, 0] _ (k0_off8 25#32) _ (k0_off9 25#32) _ (k0_off10 25#32) _ _ (by decide +kernel) rfl rfl rfl _ rfl) ?_
      refine cons2 _ _ _ _ _ (pO4_of arg6 arg7 arg8 arg9 gk0_part2_0 gk0_part2_1 gk0_part2_2 gk0_part2_3 24 ![0, 0, 0] _ (k0_off8 24#32) _ (k0_off9 24#32) _ (k0_off10 24#32) _ _ (by decide +kernel) rfl rfl rfl _ rfl) ?_
      refine cons2 _ _ _ _ _ (pO4_of arg6 arg7 arg8 arg9 gk0_part2_0 gk0_part2_1 gk0_part2_2 gk0_part2_3 23 ![1, 0, 0] _ (k0_off8 23#32) _ (k0_off9 23#32) _ (k0_off10 23#32) _ _ (by decide +kernel) rfl rfl rfl _ rfl) ?_
      refine cons2 _ _ _ _ _ (pO4_of arg6 arg7 arg8 arg9 gk0_part2_0 gk0_part2_1 gk0_part2_2 gk0_part2_3 22 ![1, 0, 0] _ (k0_off8 22#32) _ (k0_off9 22#32) _ (k0_off10 22#32) _ _ (by decide +kernel) rfl rfl rfl _ rfl) ?_
      refine cons2 _ _ _ _ _ (pO4_of arg6 arg7 arg8 arg9 gk0_part2_0 gk0_part2_1 gk0_part2_2 gk0_part2_3 21 ![1, 0, 0] _ (k0_off8 21#32) _ (k0_off9 21#32) _ (k0_off10 21#32) _ _ (by decide +kernel) rfl rfl rfl _ rfl) ?_
      refine cons2 _ _ _ _ _ (pO4_of arg6 arg7 arg8 arg9 gk0_part2_0 gk0_part2_1 gk0_part2_2 gk0_part2_3 20 ![1, 0, 0] _ (k0_off8 20#32) _ (k0_off9 20#32) _ (k0_off10 20#32) _ _ (by decide +kernel) rfl rfl rfl _ rfl) ?_
      refine cons2 _ _ _ _ _ (pO4_of arg6 arg7 arg8 arg9 gk0_part2_0 gk0_part2_1 gk0_part2_2 gk0_part2_3 19 ![1, 0, 0] _ (k0_off8 19#32) _ (k0_off9 19#32) _ (k0_off10 19#32) _ _ (by decide +kernel) rfl rfl rfl _ rfl) ?_
      refine cons2 _ _ _ _ _ (pO4_of arg6 arg7 arg8 arg9 gk0_part2_0 gk0_part2_1 gk0_part2_2 gk0_part2_3 18 ![1, 0, 0] _ (k0_off8 18#32) _ (k0_off9 18#32) _ (k0_off10 18#32) _ _ (by decide +kernel) rfl rfl rfl _ rfl) ?_
      refine cons2 _ _ _ _ _ (pO4_of arg6 arg7 arg8 arg9 gk0_part2_0 gk0_part2_1 gk0_part2_2 gk0_part2_3 17 ![1, 0, 0] _ (k0_off8 17#32) _ (k0_off9 17#32) _ (k0_off10 17#32) _ _ (by decide +kernel) rfl rfl rfl _ rfl) ?_
      refine cons2 _ _ _ _ _ (pO4_of arg6 arg7 arg8 arg9 gk0_part2_0 gk0_part2_1 gk0_part2_2 gk0_part2_3 16 ![0, 0, 0] _ (k0_off8 16#32) _ (k0_off9 16#32) _ (k0_off10 16#32) _ _ (by decide +kernel) rfl rfl rfl _ rfl) ?_
      refine cons2 _ _ _ _ _ (pO4_of arg6 arg7 arg8 arg9 gk0_part2_0 gk0_part2_1 gk0_part2_2 gk0_part2_3 15 ![1, 0, 0] _ (k0_off8 15#32) _ (k0_off9 15#32) _ (k0_off10 15#32) _ _ (by decide +kernel) rfl rfl rfl _ rfl) ?_
      refine cons2 _ _ _ _ _ (pO4_of arg6 arg7 arg8 arg9 gk0_part2_0 gk0_part2_1 gk0_part2_2 gk0_part2_3 14 ![1, 0, 0] _ (k0_off8 14#32) _ (k0_off9 14#32) _ (k0_off10 14#32) _ _ (by decide +kernel) rfl rfl rfl _ rfl) ?_
      refine cons2 _ _ _ _ _ (pO4_of arg6 arg7 arg8 arg9 gk0_part2_0 gk0_part2_1 gk0_part2_2 gk0_part2_3 13 ![1, 0, 0] _ (k0_off8 13#32) _ (k0_off9 13#32) _ (k0_off10 13#32) _ _ (by decide +kernel) rfl rfl rfl _ rfl) ?_
      refine cons2 _ _ _ _ _ (pO4_of arg6 arg7 arg8 arg9 gk0_part2_0 gk0_part2_1 gk0_part2_2 gk0_part2_3 12 ![1, 0, 0] _ (k0_off8 12#32) _ (k0_off9 12#32) _ (k0_off10 12#32) _ _ (by decide +kernel) rfl rfl rfl _ rfl) ?_
      refine cons2 _ _ _ _ _ (pO4_of arg6 arg7 arg8 arg9 gk0_part2_0 gk0_part2_1 gk0_part2_2 gk0_part2_3 11 ![1, 0, 0] _ (k0_off8 11#32) _ (k0_off9 11#32) _ (k0_off10 11#32) _ _ (by decide +kernel) rfl rfl rfl _ rfl) ?_
      refine cons2 _ _ _ _ _ (pO4_of arg6 arg7 arg8 arg9 gk0_part2_0 gk0_part2_1 gk0_part2_2 gk0_part2_3 10 ![1, 0, 0] _ (k0_off8 10#32) _ (k0_off9 10#32) _ (k0_off10 10#32) _ _ (by decide +kernel) rfl rfl rfl _ rfl) ?_
      refine cons2 _ _ _ _ _ (pO4_of arg6 arg7 arg8 arg9 gk0_part2_0 gk0_part2_1 gk0_part2_2 gk0_part2_3 9 ![1, 0, 0] _ (k0_off8 9#32) _ (k0_off9 9#32) _ (k0_off10 9#32) _ _ (by decide +kernel) rfl rfl rfl _ rfl) ?_
      refine cons2 _ _ _ _ _ (pO4_of arg6 arg7 arg8 arg9 gk0_part2_0 gk0_part2_1 gk0_part2_2 gk0_part2_3 8 ![0, 0, 0] _ (k0_off8 8#32) _ (k0_off9 8#32) _ (k0_off10 8#32) _ _ (by decide +kernel) rfl rfl rfl _ rfl) ?_
      refine cons2 _ _ _ _ _ (pO4_of arg6 arg7 arg8 arg9 gk0_part2_0 gk0_part2_1 gk0_part2_2 gk0_part2_3 7 ![1, 0, 0] _ (k0_off8 7#32) _ (k0_off9 7#32) _ (k0_off10 7#32) _ _ (by decide +kernel) rfl rfl rfl _ rfl) ?_
      refine cons2 _ _ _ _ _ (pO4_of arg6 arg7 arg8 arg9 gk0_part2_0 gk0_part2_1 gk0_part2_2 gk0_part2_3 6 ![1, 0, 0] _ (k0_off8 6#32) _ (k0_off9 6#32) _ (k0_off10 6#32) _ _ (by decide +kernel) rfl rfl rfl _ rfl) ?_
      refine cons2 _ _ _ _ _ (pO4_of arg6 arg7 arg8 arg9 gk0_part2_0 gk0_part2_1 gk0_part2_2 gk0_part2_3 5 ![1, 0, 0] _ (k0_off8 5#32) _ (k0_off9 5#32) _ (k0_off10 5#32) _ _ (by decide +kernel) rfl rfl rfl _ rfl) ?_
      refine cons2 _ _ _ _ _ (pO4_of arg6 arg7 arg8 arg9 gk0_part2_0 gk0_part2_1 gk0_part2_2 gk0_part2_3 4 ![1, 0, 0] _ (k0_off8 4#32) _ (k0_off9 4#32) _ (k0_off10 4#32) _ _ (by decide +kernel) rfl rfl rfl _ rfl) ?_
      refine cons2 _ _ _ _ _ (pO4_of arg6 arg7 arg8 arg9 gk0_part2_0 gk0_part2_1 gk0_part2_2 gk0_part2_3 3 ![1, 0, 0] _ (k0_off8 3#32) _ (k0_off9 3#32) _ (k0_off10 3#32) _ _ (by decide +kernel) rfl rfl rfl _ rfl) ?_
      refine cons2 _ _ _ _ _ (pO4_of arg6 arg7 arg8 arg9 gk0_part2_0 gk0_part2_1 gk0_part2_2 gk0_part2_3 2 ![1, 0, 0] _ (k0_off8 2#32) _ (k0_off9 2#32) _ (k0_off10 2#32) _ _ (by decide +kernel) rfl rfl rfl _ rfl) ?_
      refine cons2 _ _ _ _ _ (pO4_of arg6 arg7 arg8 arg9 gk0_part2_0 gk0_part2_1 gk0_part2_2 gk0_part2_3 1 ![1, 0, 0] _ (k0_off8 1#32) _ (k0_off9 1#32) _ (k0_off10 1#32) _ _ (by decide +kernel) rfl rfl rfl _ rfl) ?_
      refine cons2 _ _ _ _ _ (pO4_of arg6 arg7 arg8 arg9 gk0_part2_0 gk0_part2_1 gk0_part2_2 gk0_part2_3 0 ![0, 0, 0] _ (k0_off8 0#32) _ (k0_off9 0#32) _ (k0_off10 0#32) _ _ (by decide +kernel) rfl rfl rfl _ rfl) ?_
      refine cons2 _ _ _ _ _ (pO1_of arg6 arg7 arg8 arg9 gk0_part2_0 gk0_part2_1 gk0_part2_2 gk0_part2_3 31 ![1, 0, 0] _ ![3968, 0] _ ![5888, 0] _ ![0, 3968, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 30 ![1, 0, 0] _ ![3840, 0] _ ![5760, 0] _ ![0, 3840, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 29 ![1, 0, 0] _ ![3712, 0] _ ![5632, 0] _ ![0, 3712, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 28 ![1, 0, 0] _ ![3584, 0] _ ![5504, 0] _ ![0, 3584, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 27 ![1, 0, 0] _ ![3456, 0] _ ![5376, 0] _ ![0, 3456, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 26 ![1, 0, 0] _ ![3328, 0] _ ![5248, 0] _ ![0, 3328, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 25 ![1, 0, 0] _ ![3200, 0] _ ![5120, 0] _ ![0, 3200, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 24 ![1, 0, 0] _ ![3072, 0] _ ![4992, 0] _ ![0, 3072, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 23 ![1, 0, 0] _ ![2944, 0] _ ![4864, 0] _ ![0, 2944, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 22 ![1, 0, 0] _ ![2816, 0] _ ![4736, 0] _ ![0, 2816, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 21 ![1, 0, 0] _ ![2688, 0] _ ![4608, 0] _ ![0, 2688, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 20 ![1, 0, 0] _ ![2560, 0] _ ![4480, 0] _ ![0, 2560, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 19 ![1, 0, 0] _ ![2432, 0] _ ![4352, 0] _ ![0, 2432, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 18 ![1, 0, 0] _ ![2304, 0] _ ![4224, 0] _ ![0, 2304, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 17 ![1, 0, 0] _ ![2176, 0] _ ![4096, 0] _ ![0, 2176, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 16 ![1, 0, 0] _ ![2048, 0] _ ![3968, 0] _ ![0, 2048, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 15 ![1, 0, 0] _ ![1920, 0] _ ![3840, 0] _ ![0, 1920, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 14 ![1, 0, 0] _ ![1792, 0] _ ![3712, 0] _ ![0, 1792, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 13 ![1, 0, 0] _ ![1664, 0] _ ![3584, 0] _ ![0, 1664, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 12 ![1, 0, 0] _ ![1536, 0] _ ![3456, 0] _ ![0, 1536, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 11 ![1, 0, 0] _ ![1408, 0] _ ![3328, 0] _ ![0, 1408, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 10 ![1, 0, 0] _ ![1280, 0] _ ![3200, 0] _ ![0, 1280, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 9 ![1, 0, 0] _ ![1152, 0] _ ![3072, 0] _ ![0, 1152, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 8 ![1, 0, 0] _ ![1024, 0] _ ![2944, 0] _ ![0, 1024, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 7 ![1, 0, 0] _ ![896, 0] _ ![2816, 0] _ ![0, 896, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 6 ![1, 0, 0] _ ![768, 0] _ ![2688, 0] _ ![0, 768, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 5 ![1, 0, 0] _ ![640, 0] _ ![2560, 0] _ ![0, 640, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 4 ![1, 0, 0] _ ![512, 0] _ ![2432, 0] _ ![0, 512, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 3 ![1, 0, 0] _ ![384, 0] _ ![2304, 0] _ ![0, 384, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 2 ![1, 0, 0] _ ![256, 0] _ ![2176, 0] _ ![0, 256, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 1 ![1, 0, 0] _ ![128, 0] _ ![2048, 0] _ ![0, 128, 0] _ (by decide +kernel) (by decide +kernel) (by decide +kernel) (by decide +kernel) _ rfl) ?_
      refine cons2 _ _ _ _ _ (pO1_of arg6 arg7 arg8 arg9 gk0_part2_0 gk0_part2_1 gk0_part2_2 gk0_part2_3 0 ![0, 0, 0] _ ![0, 0] _ ![1920, 0] _ ![0, 0, 0] _ (by decide +kernel) (by decide +kernel) (by decide +kernel) (by decide +kernel) _ rfl) ?_
      rfl
    · unfold LL
      refine cons2 _ _ _ _ _ (pL16_of arg6 arg7 arg10 gk0_part2_0 gk0_part2_1 gk0_part2_4 15 ![0, 0] _ ![15, 0] _ (k0_off11 15#32) _ ![2, 15, 0] _ _ rfl rfl rfl rfl _ rfl) ?_
      refine cons2 _ _ _ _ _ (pL16_of arg6 arg7 arg10 gk0_part2_0 gk0_part2_1 gk0_part2_4 14 ![0, 0] _ ![14, 0] _ (k0_off11 14#32) _ ![2, 14, 0] _ _ rfl rfl rfl rfl _ rfl) ?_
      refine cons2 _ _ _ _ _ (pL16_of arg6 arg7 arg10 gk0_part2_0 gk0_part2_1 gk0_part2_4 13 ![0, 0] _ ![13, 0] _ (k0_off11 13#32) _ ![2, 13, 0] _ _ rfl rfl rfl rfl _ rfl) ?_
      refine cons2 _ _ _ _ _ (pL16_of arg6 arg7 arg10 gk0_part2_0 gk0_part2_1 gk0_part2_4 12 ![0, 0] _ ![12, 0] _ (k0_off11 12#32) _ ![2, 12, 0] _ _ rfl rfl rfl rfl _ rfl) ?_
      refine cons2 _ _ _ _ _ (pL16_of arg6 arg7 arg10 gk0_part2_0 gk0_part2_1 gk0_part2_4 11 ![0, 0] _ ![11, 0] _ (k0_off11 11#32) _ ![2, 11, 0] _ _ rfl rfl rfl rfl _ rfl) ?_
      refine cons2 _ _ _ _ _ (pL16_of arg6 arg7 arg10 gk0_part2_0 gk0_part2_1 gk0_part2_4 10 ![0, 0] _ ![10, 0] _ (k0_off11 10#32) _ ![2, 10, 0] _ _ rfl rfl rfl rfl _ rfl) ?_
      refine cons2 _ _ _ _ _ (pL16_of arg6 arg7 arg10 gk0_part2_0 gk0_part2_1 gk0_part2_4 9 ![0, 0] _ ![9, 0] _ (k0_off11 9#32) _ ![2, 9, 0] _ _ rfl rfl rfl rfl _ rfl) ?_
      refine cons2 _ _ _ _ _ (pL16_of arg6 arg7 arg10 gk0_part2_0 gk0_part2_1 gk0_part2_4 8 ![0, 0] _ ![8, 0] _ (k0_off11 8#32) _ ![2, 8, 0] _ _ rfl rfl rfl rfl _ rfl) ?_
      refine cons2 _ _ _ _ _ (pL16_of arg6 arg7 arg10 gk0_part2_0 gk0_part2_1 gk0_part2_4 7 ![0, 0] _ ![7, 0] _ (k0_off11 7#32) _ ![2, 7, 0] _ _ rfl rfl rfl rfl _ rfl) ?_
      refine cons2 _ _ _ _ _ (pL16_of arg6 arg7 arg10 gk0_part2_0 gk0_part2_1 gk0_part2_4 6 ![0, 0] _ ![6, 0] _ (k0_off11 6#32) _ ![2, 6, 0] _ _ rfl rfl rfl rfl _ rfl) ?_
      refine cons2 _ _ _ _ _ (pL16_of arg6 arg7 arg10 gk0_part2_0 gk0_part2_1 gk0_part2_4 5 ![0, 0] _ ![5, 0] _ (k0_off11 5#32) _ ![2, 5, 0] _ _ rfl rfl rfl rfl _ rfl) ?_
      refine cons2 _ _ _ _ _ (pL16_of arg6 arg7 arg10 gk0_part2_0 gk0_part2_1 gk0_part2_4 4 ![0, 0] _ ![4, 0] _ (k0_off11 4#32) _ ![2, 4, 0] _ _ rfl rfl rfl rfl _ rfl) ?_
      refine cons2 _ _ _ _ _ (pL16_of arg6 arg7 arg10 gk0_part2_0 gk0_part2_1 gk0_part2_4 3 ![0, 0] _ ![3, 0] _ (k0_off11 3#32) _ ![2, 3, 0] _ _ rfl rfl rfl rfl _ rfl) ?_
      refine cons2 _ _ _ _ _ (pL16_of arg6 arg7 arg10 gk0_part2_0 gk0_part2_1 gk0_part2_4 2 ![0, 0] _ ![2, 0] _ (k0_off11 2#32) _ ![2, 2, 0] _ _ rfl rfl rfl rfl _ rfl) ?_
      refine cons2 _ _ _ _ _ (pL16_of arg6 arg7 arg10 gk0_part2_0 gk0_part2_1 gk0_part2_4 1 ![0, 0] _ ![1, 0] _ (k0_off11 1#32) _ ![2, 1, 0] _ _ rfl rfl rfl rfl _ rfl) ?_
      refine cons2 _ _ _ _ _ (pL16_of arg6 arg7 arg10 gk0_part2_0 gk0_part2_1 gk0_part2_4 0 ![0, 0] _ ![0, 0] _ (k0_off11 0#32) _ ![2, 0, 0] _ _ rfl rfl rfl rfl _ rfl) ?_
      refine cons2 _ _ _ _ _ (pL4_of arg6 arg7 arg9 gk0_part2_0 gk0_part2_1 gk0_part2_3 31 ![1, 0, 0] _ (k0_off8 31#32) _ (k0_off9 31#32) _ (k0_off10 31#32) _ _ (by decide +kernel) rfl rfl rfl _ rfl) ?_
      refine cons2 _ _ _ _ _ (pL4_of arg6 arg7 arg9 gk0_part2_0 gk0_part2_1 gk0_part2_3 30 ![1, 0, 0] _ (k0_off8 30#32) _ (k0_off9 30#32) _ (k0_off10 30#32) _ _ (by decide +kernel) rfl rfl rfl _ rfl) ?_
      refine cons2 _ _ _ _ _ (pL4_of arg6 arg7 arg9 gk0_part2_0 gk0_part2_1 gk0_part2_3 29 ![1, 0, 0] _ (k0_off8 29#32) _ (k0_off9 29#32) _ (k0_off10 29#32) _ _ (by decide +kernel) rfl rfl rfl _ rfl) ?_
      refine cons2 _ _ _ _ _ (pL4_of arg6 arg7 arg9 gk0_part2_0 gk0_part2_1 gk0_part2_3 28 ![1, 0, 0] _ (k0_off8 28#32) _ (k0_off9 28#32) _ (k0_off10 28#32) _ _ (by decide +kernel) rfl rfl rfl _ rfl) ?_
      refine cons2 _ _ _ _ _ (pL4_of arg6 arg7 arg9 gk0_part2_0 gk0_part2_1 gk0_part2_3 27 ![1, 0, 0] _ (k0_off8 27#32) _ (k0_off9 27#32) _ (k0_off10 27#32) _ _ (by decide +kernel) rfl rfl rfl _ rfl) ?_
      refine cons2 _ _ _ _ _ (pL4_of arg6 arg7 arg9 gk0_part2_0 gk0_part2_1 gk0_part2_3 26 ![1, 0, 0] _ (k0_off8 26#32) _ (k0_off9 26#32) _ (k0_off10 26#32) _ _ (by decide +kernel) rfl rfl rfl _ rfl) ?_
      refine cons2 _ _ _ _ _ (pL4_of arg6 arg7 arg9 gk0_part2_0 gk0_part2_1 gk0_part2_3 25 ![1, 0, 0] _ (k0_off8 25#32) _ (k0_off9 25#32) _ (k0_off10 25#32) _ _ (by decide +kernel) rfl rfl rfl _ rfl) ?_
      refine cons2 _ _ _ _ _ (pL4_of arg6 arg7 arg9 gk0_part2_0 gk0_part2_1 gk0_part2_3 24 ![0, 0, 0] _ (k0_off8 24#32) _ (k0_off9 24#32) _ (k0_off10 24#32) _ _ (by decide +kernel) rfl rfl rfl _ rfl) ?_
      refine cons2 _ _ _ _ _ (pL4_of arg6 arg7 arg9 gk0_part2_0 gk0_part2_1 gk0_part2_3 23 ![1, 0, 0] _ (k0_off8 23#32) _ (k0_off9 23#32) _ (k0_off10 23#32) _ _ (by decide +kernel) rfl rfl rfl _ rfl) ?_
      refine cons2 _ _ _ _ _ (pL4_of arg6 arg7 arg9 gk0_part2_0 gk0_part2_1 gk0_part2_3 22 ![1, 0, 0] _ (k0_off8 22#32) _ (k0_off9 22#32) _ (k0_off10 22#32) _ _ (by decide +kernel) rfl rfl rfl _ rfl) ?_
      refine cons2 _ _ _ _ _ (pL4_of arg6 arg7 arg9 gk0_part2_0 gk0_part2_1 gk0_part2_3 21 ![1, 0, 0] _ (k0_off8 21#32) _ (k0_off9 21#32) _ (k0_off10 21#32) _ _ (by decide +kernel) rfl rfl rfl _ rfl) ?_
      refine cons2 _ _ _ _ _ (pL4_of arg6 arg7 arg9 gk0_part2_0 gk0_part2_1 gk0_part2_3 20 ![1, 0, 0] _ (k0_off8 20#32) _ (k0_off9 20#32) _ (k0_off10 20#32) _ _ (by decide +kernel) rfl rfl rfl _ rfl) ?_
      refine cons2 _ _ _ _ _ (pL4_of arg6 arg7 arg9 gk0_part2_0 gk0_part2_1 gk0_part2_3 19 ![1, 0, 0] _ (k0_off8 19#32) _ (k0_off9 19#32) _ (k0_off10 19#32) _ _ (by decide +kernel) rfl rfl rfl _ rfl) ?_
      refine cons2 _ _ _ _ _ (pL4_of arg6 arg7 arg9 gk0_part2_0 gk0_part2_1 gk0_part2_3 18 ![1, 0, 0] _ (k0_off8 18#32) _ (k0_off9 18#32) _ (k0_off10 18#32) _ _ (by decide +kernel) rfl rfl rfl _ rfl) ?_
      refine cons2 _ _ _ _ _ (pL4_of arg6 arg7 arg9 gk0_part2_0 gk0_part2_1 gk0_part2_3 17 ![1, 0, 0] _ (k0_off8 17#32) _ (k0_off9 17#32) _ (k0_off10 17#32) _ _ (by decide +kernel) rfl rfl rfl _ rfl) ?_
      refine cons2 _ _ _ _ _ (pL4_of arg6 arg7 arg9 gk0_part2_0 gk0_part2_1 gk0_part2_3 16 ![0, 0, 0] _ (k0_off8 16#32) _ (k0_off9 16#32) _ (k0_off10 16#32) _ _ (by decide +kernel) rfl rfl rfl _ rfl) ?_
      refine cons2 _ _ _ _ _ (pL4_of arg6 arg7 arg9 gk0_part2_0 gk0_part2_1 gk0_part2_3 15 ![1, 0, 0] _ (k0_off8 15#32) _ (k0_off9 15#32) _ (k0_off10 15#32) _ _ (by decide +kernel) rfl rfl rfl _ rfl) ?_
      refine cons2 _ _ _ _ _ (pL4_of arg6 arg7 arg9 gk0_part2_0 gk0_part2_1 gk0_part2_3 14 ![1, 0, 0] _ (k0_off8 14#32) _ (k0_off9 14#32) _ (k0_off10 14#32) _ _ (by decide +kernel) rfl rfl rfl _ rfl) ?_
      refine cons2 _ _ _ _ _ (pL4_of arg6 arg7 arg9 gk0_part2_0 gk0_part2_1 gk0_part2_3 13 ![1, 0, 0] _ (k0_off8 13#32) _ (k0_off9 13#32) _ (k0_off10 13#32) _ _ (by decide +kernel) rfl rfl rfl _ rfl) ?_
      refine cons2 _ _ _ _ _ (pL4_of arg6 arg7 arg9 gk0_part2_0 gk0_part2_1 gk0_part2_3 12 ![1, 0, 0] _ (k0_off8 12#32) _ (k0_off9 12#32) _ (k0_off10 12#32) _ _ (by decide +kernel) rfl rfl rfl _ rfl) ?_
      refine cons2 _ _ _ _ _ (pL4_of arg6 arg7 arg9 gk0_part2_0 gk0_part2_1 gk0_part2_3 11 ![1, 0, 0] _ (k0_off8 11#32) _ (k0_off9 11#32) _ (k0_off10 11#32) _ _ (by decide +kernel) rfl rfl rfl _ rfl) ?_
      refine cons2 _ _ _ _ _ (pL4_of arg6 arg7 arg9 gk0_part2_0 gk0_part2_1 gk0_part2_3 10 ![1, 0, 0] _ (k0_off8 10#32) _ (k0_off9 10#32) _ (k0_off10 10#32) _ _ (by decide +kernel) rfl rfl rfl _ rfl) ?_
      refine cons2 _ _ _ _ _ (pL4_of arg6 arg7 arg9 gk0_part2_0 gk0_part2_1 gk0_part2_3 9 ![1, 0, 0] _ (k0_off8 9#32) _ (k0_off9 9#32) _ (k0_off10 9#32) _ _ (by decide +kernel) rfl rfl rfl _ rfl) ?_
      refine cons2 _ _ _ _ _ (pL4_of arg6 arg7 arg9 gk0_part2_0 gk0_part2_1 gk0_part2_3 8 ![0, 0, 0] _ (k0_off8 8#32) _ (k0_off9 8#32) _ (k0_off10 8#32) _ _ (by decide +kernel) rfl rfl rfl _ rfl) ?_
      refine cons2 _ _ _ _ _ (pL4_of arg6 arg7 arg9 gk0_part2_0 gk0_part2_1 gk0_part2_3 7 ![1, 0, 0] _ (k0_off8 7#32) _ (k0_off9 7#32) _ (k0_off10 7#32) _ _ (by decide +kernel) rfl rfl rfl _ rfl) ?_
      refine cons2 _ _ _ _ _ (pL4_of arg6 arg7 arg9 gk0_part2_0 gk0_part2_1 gk0_part2_3 6 ![1, 0, 0] _ (k0_off8 6#32) _ (k0_off9 6#32) _ (k0_off10 6#32) _ _ (by decide +kernel) rfl rfl rfl _ rfl) ?_
      refine cons2 _ _ _ _ _ (pL4_of arg6 arg7 arg9 gk0_part2_0 gk0_part2_1 gk0_part2_3 5 ![1, 0, 0] _ (k0_off8 5#32) _ (k0_off9 5#32) _ (k0_off10 5#32) _ _ (by decide +kernel) rfl rfl rfl _ rfl) ?_
      refine cons2 _ _ _ _ _ (pL4_of arg6 arg7 arg9 gk0_part2_0 gk0_part2_1 gk0_part2_3 4 ![1, 0, 0] _ (k0_off8 4#32) _ (k0_off9 4#32) _ (k0_off10 4#32) _ _ (by decide +kernel) rfl rfl rfl _ rfl) ?_
      refine cons2 _ _ _ _ _ (pL4_of arg6 arg7 arg9 gk0_part2_0 gk0_part2_1 gk0_part2_3 3 ![1, 0, 0] _ (k0_off8 3#32) _ (k0_off9 3#32) _ (k0_off10 3#32) _ _ (by decide +kernel) rfl rfl rfl _ rfl) ?_
      refine cons2 _ _ _ _ _ (pL4_of arg6 arg7 arg9 gk0_part2_0 gk0_part2_1 gk0_part2_3 2 ![1, 0, 0] _ (k0_off8 2#32) _ (k0_off9 2#32) _ (k0_off10 2#32) _ _ (by decide +kernel) rfl rfl rfl _ rfl) ?_
      refine cons2 _ _ _ _ _ (pL4_of arg6 arg7 arg9 gk0_part2_0 gk0_part2_1 gk0_part2_3 1 ![1, 0, 0] _ (k0_off8 1#32) _ (k0_off9 1#32) _ (k0_off10 1#32) _ _ (by decide +kernel) rfl rfl rfl _ rfl) ?_
      refine cons2 _ _ _ _ _ (pL4_of arg6 arg7 arg9 gk0_part2_0 gk0_part2_1 gk0_part2_3 0 ![0, 0, 0] _ (k0_off8 0#32) _ (k0_off9 0#32) _ (k0_off10 0#32) _ _ (by decide +kernel) rfl rfl rfl _ rfl) ?_
      refine cons2 _ _ _ _ _ (pL1_of arg6 arg7 arg9 gk0_part2_0 gk0_part2_1 gk0_part2_3 31 ![1, 0, 0] _ ![3968, 0] _ ![5888, 0] _ ![0, 3968, 0] _ (by decide +kernel) (by decide +kernel) (by decide +kernel) (by decide +kernel) _ rfl) ?_
      refine cons2 _ _ _ _ _ (pL1_of arg6 arg7 arg9 gk0_part2_0 gk0_part2_1 gk0_part2_3 30 ![1, 0, 0] _ ![3840, 0] _ ![5760, 0] _ ![0, 3840, 0] _ (by decide +kernel) (by decide +kernel) (by decide +kernel) (by decide +kernel) _ rfl) ?_
      refine cons2 _ _ _ _ _ (pL1_of arg6 arg7 arg9 gk0_part2_0 gk0_part2_1 gk0_part2_3 29 ![1, 0, 0] _ ![3712, 0] _ ![5632, 0] _ ![0, 3712, 0] _ (by decide +kernel) (by decide +kernel) (by decide +kernel) (by decide +kernel) _ rfl) ?_
      refine cons2 _ _ _ _ _ (pL1_of arg6 arg7 arg9 gk0_part2_0 gk0_part2_1 gk0_part2_3 28 ![1, 0, 0] _ ![3584, 0] _ ![5504, 0] _ ![0, 3584, 0] _ (by decide +kernel) (by decide +kernel) (by decide +kernel) (by decide +kernel) _ rfl) ?_
      refine cons2 _ _ _ _ _ (pL1_of arg6 arg7 arg9 gk0_part2_0 gk0_part2_1 gk0_part2_3 27 ![1, 0, 0] _ ![3456, 0] _ ![5376, 0] _ ![0, 3456, 0] _ (by decide +kernel) (by decide +kernel) (by decide +kernel) (by decide +kernel) _ rfl) ?_
      refine cons2 _ _ _ _ _ (pL1_of arg6 arg7 arg9 gk0_part2_0 gk0_part2_1 gk0_part2_3 26 ![1, 0, 0] _ ![3328, 0] _ ![5248, 0] _ ![0, 3328, 0] _ (by decide +kernel) (by decide +kernel) (by decide +kernel) (by decide +kernel) _ rfl) ?_
      refine cons2 _ _ _ _ _ (pL1_of arg6 arg7 arg9 gk0_part2_0 gk0_part2_1 gk0_part2_3 25 ![1, 0, 0] _ ![3200, 0] _ ![5120, 0] _ ![0, 3200, 0] _ (by decide +kernel) (by decide +kernel) (by decide +kernel) (by decide +kernel) _ rfl) ?_
      refine cons2 _ _ _ _ _ (pL1_of arg6 arg7 arg9 gk0_part2_0 gk0_part2_1 gk0_part2_3 24 ![1, 0, 0] _ ![3072, 0] _ ![4992, 0] _ ![0, 3072, 0] _ (by decide +kernel) (by decide +kernel) (by decide +kernel) (by decide +kernel) _ rfl) ?_
      refine cons2 _ _ _ _ _ (pL1_of arg6 arg7 arg9 gk0_part2_0 gk0_part2_1 gk0_part2_3 23 ![1, 0, 0] _ ![2944, 0] _ ![4864, 0] _ ![0, 2944, 0] _ (by decide +kernel) (by decide +kernel) (by decide +kernel) (by decide +kernel) _ rfl) ?_
      refine cons2 _ _ _ _ _ (pL1_of arg6 arg7 arg9 gk0_part2_0 gk0_part2_1 gk0_part2_3 22 ![1, 0, 0] _ ![2816, 0] _ ![4736, 0] _ ![0, 2816, 0] _ (by decide +kernel) (by decide +kernel) (by decide +kernel) (by decide +kernel) _ rfl) ?_
      refine cons2 _ _ _ _ _ (pL1_of arg6 arg7 arg9 gk0_part2_0 gk0_part2_1 gk0_part2_3 21 ![1, 0, 0] _ ![2688, 0] _ ![4608, 0] _ ![0, 2688, 0] _ (by decide +kernel) (by decide +kernel) (by decide +kernel) (by decide +kernel) _ rfl) ?_
      refine cons2 _ _ _ _ _ (pL1_of arg6 arg7 arg9 gk0_part2_0 gk0_part2_1 gk0_part2_3 20 ![1, 0, 0] _ ![2560, 0] _ ![4480, 0] _ ![0, 2560, 0] _ (by decide +kernel) (by decide +kernel) (by decide +kernel) (by decide +kernel) _ rfl) ?_
      refine cons2 _ _ _ _ _ (pL1_of arg6 arg7 arg9 gk0_part2_0 gk0_part2_1 gk0_part2_3 19 ![1, 0, 0] _ ![2432, 0] _ ![4352, 0] _ ![0, 2432, 0] _ (by decide +kernel) (by decide +kernel) (by decide +kernel) (by decide +kernel) _ rfl) ?_
      refine cons2 _ _ _ _ _ (pL1_of arg6 arg7 arg9 gk0_part2_0 gk0_part2_1 gk0_part2_3 18 ![1, 0, 0] _ ![2304, 0] _ ![4224, 0] _ ![0, 2304, 0] _ (by decide +kernel) (by decide +kernel) (by decide +kernel) (by decide +kernel) _ rfl) ?_
      refine cons2 _ _ _ _ _ (pL1_of arg6 arg7 arg9 gk0_part2_0 gk0_part2_1 gk0_part2_3 17 ![1, 0, 0] _ ![2176, 0] _ ![4096, 0] _ ![0, 2176, 0] _ (by decide +kernel) (by decide +kernel) (by decide +kernel) (by decide +kernel) _ rfl) ?_
      refine cons2 _ _ _ _ _ (pL1_of arg6 arg7 arg9 gk0_part2_0 gk0_part2_1 gk0_part2_3 16 ![1, 0, 0] _ ![2048, 0] _ ![3968, 0] _ ![0, 2048, 0] _ (by decide +kernel) (by decide +kernel) (by decide +kernel) (by decide +kernel) _ rfl) ?_
      refine cons2 _ _ _ _ _ (pL1_of arg6 arg7 arg9 gk0_part2_0 gk0_part2_1 gk0_part2_3 15 ![1, 0, 0] _ ![1920, 0] _ ![3840, 0] _ ![0, 1920, 0] _ (by decide +kernel) (by decide +kernel) (by decide +kernel) (by decide +kernel) _ rfl) ?_
      refine cons2 _ _ _ _ _ (pL1_of arg6 arg7 arg9 gk0_part2_0 gk0_part2_1 gk0_part2_3 14 ![1, 0, 0] _ ![1792, 0] _ ![3712, 0] _ ![0, 1792, 0] _ (by decide +kernel) (by decide +kernel) (by decide +kernel) (by decide +kernel) _ rfl) ?_
      refine cons2 _ _ _ _ _ (pL1_of arg6 arg7 arg9 gk0_part2_0 gk0_part2_1 gk0_part2_3 13 ![1, 0, 0] _ ![1664, 0] _ ![3584, 0] _ ![0, 1664, 0] _ (by decide +kernel) (by decide +kernel) (by decide +kernel) (by decide +kernel) _ rfl) ?_
      refine cons2 _ _ _ _ _ (pL1_of arg6 arg7 arg9 gk0_part2_0 gk0_part2_1 gk0_part2_3 12 ![1, 0, 0] _ ![1536, 0] _ ![3456, 0] _ ![0, 1536, 0] _ (by decide +kernel) (by decide +kernel) (by decide +kernel) (by decide +kernel) _ rfl) ?_
      refine cons2 _ _ _ _ _ (pL1_of arg6 arg7 arg9 gk0_part2_0 gk0_part2_1 gk0_part2_3 11 ![1, 0, 0] _ ![1408, 0] _ ![3328, 0] _ ![0, 1408, 0] _ (by decide +kernel) (by decide +kernel) (by decide +kernel) (by decide +kernel) _ rfl) ?_
      refine cons2 _ _ _ _ _ (pL1_of arg6 arg7 arg9 gk0_part2_0 gk0_part2_1 gk0_part2_3 10 ![1, 0, 0] _ ![1280, 0] _ ![3200, 0] _ ![0, 1280, 0] _ (by decide +kernel) (by decide +kernel) (by decide +kernel) (by decide +kernel) _ rfl) ?_
      refine cons2 _ _ _ _ _ (pL1_of arg6 arg7 arg9 gk0_part2_0 gk0_part2_1 gk0_part2_3 9 ![1, 0, 0] _ ![1152, 0] _ ![3072, 0] _ ![0, 1152, 0] _ (by decide +kernel) (by decide +kernel) (by decide +kernel) (by decide +kernel) _ rfl) ?_
      refine cons2 _ _ _ _ _ (pL1_of arg6 arg7 arg9 gk0_part2_0 gk0_part2_1 gk0_part2_3 8 ![1, 0, 0] _ ![1024, 0] _ ![2944, 0] _ ![0, 1024, 0] _ (by decide +kernel) (by decide +kernel) (by decide +kernel) (by decide +kernel) _ rfl) ?_
      refine cons2 _ _ _ _ _ (pL1_of arg6 arg7 arg9 gk0_part2_0 gk0_part2_1 gk0_part2_3 7 ![1, 0, 0] _ ![896, 0] _ ![2816, 0] _ ![0, 896, 0] _ (by decide +kernel) (by decide +kernel) (by decide +kernel) (by decide +kernel) _ rfl) ?_
      refine cons2 _ _ _ _ _ (pL1_of arg6 arg7 arg9 gk0_part2_0 gk0_part2_1 gk0_part2_3 6 ![1, 0, 0] _ ![768, 0] _ ![2688, 0] _ ![0, 768, 0] _ (by decide +kernel) (by decide +kernel) (by decide +kernel) (by decide +kernel) _ rfl) ?_
      refine cons2 _ _ _ _ _ (pL1_of arg6 arg7 arg9 gk0_part2_0 gk0_part2_1 gk0_part2_3 5 ![1, 0, 0] _ ![640, 0] _ ![2560, 0] _ ![0, 640, 0] _ (by decide +kernel) (by decide +kernel) (by decide +kernel) (by decide +kernel) _ rfl) ?_
      refine cons2 _ _ _ _ _ (pL1_of arg6 arg7 arg9 gk0_part2_0 gk0_part2_1 gk0_part2_3 4 ![1, 0, 0] _ ![512, 0] _ ![2432, 0] _ ![0, 512, 0] _ (by decide +kernel) (by decide +kernel) (by decide +kernel) (by decide +kernel) _ rfl) ?_
      refine cons2 _ _ _ _ _ (pL1_of arg6 arg7 arg9 gk0_part2_0 gk0_part2_1 gk0_part2_3 3 ![1, 0, 0] _ ![384, 0] _ ![2304, 0] _ ![0, 384, 0] _ (by decide +kernel) (by decide +kernel) (by decide +kernel) (by decide +kernel) _ rfl) ?_
      refine cons2 _ _ _ _ _ (pL1_of arg6 arg7 arg9 gk0_part2_0 gk0_part2_1 gk0_part2_3 2 ![1, 0, 0] _ ![256, 0] _ ![2176, 0] _ ![0, 256, 0] _ (by decide +kernel) (by decide +kernel) (by decide +kernel) (by decide +kernel) _ rfl) ?_
      refine cons2 _ _ _ _ _ (pL1_of arg6 arg7 arg9 gk0_part2_0 gk0_part2_1 gk0_part2_3 1 ![1, 0, 0] _ ![128, 0] _ ![2048, 0] _ ![0, 128, 0] _ (by decide +kernel) (by decide +kernel) (by decide +kernel) (by decide +kernel) _ rfl) ?_
      refine cons2 _ _ _ _ _ (pL1_of arg6 arg7 arg9 gk0_part2_0 gk0_part2_1 gk0_part2_3 0 ![0, 0, 0] _ ![0, 0] _ ![1920, 0] _ ![0, 0, 0] _ (by decide +kernel) (by decide +kernel) (by decide +kernel) (by decide +kernel) _ rfl) ?_
      rfl
  isplitl [Hk0_part2_4]; · iexists _; iexact Hk0_part2_4
  isplitl [Hk0_part2_6 Hk0_part2_8 Hk0_part2_10 Hk0_part2_12]
  · iexists _, _, _, _
    isplitr; swap
    · isplitl [Hk0_part2_6]; · iexact Hk0_part2_6
      isplitl [Hk0_part2_8]; · iexact Hk0_part2_8
      isplitl [Hk0_part2_10]; · iexact Hk0_part2_10
      iexact Hk0_part2_12
    ipureintro; exact kept_of _ _ _ _ _ _ hk0_part2_5 hk0_part2_7 hk0_part2_9 hk0_part2_11
  isplitl [H11]; · iexists _; iexact H11
  iexists _; iexact H12

end Run

end Cert.KernelIdeal.Attn
-- ==== Proof.Attend.lean ====
/-
  The launch: at every grid point the body leaves `OUT` of the point's three input blocks, and the scratch carried from
  point to point keeps the zero rows and the mask tables; so the result array ends at `ATT` of the projected input.
-/
module

public import proofs.«01_k».proof.Proof.Run
public import Idealize.ShloMosaic.Lib.Pipeline.ValueKit.Geometry
public import Idealize.ShloMosaic.Lib.Pipeline.Value
public import Idealize.ShloMosaic.Lib.Quiescent

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body over owned memrefs -/

section Body

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .f32) (harg5 : arg5.IsWhole)
  (arg6 : Memref sig .tc .vmem S4096x128 .f32) (harg6 : arg6.IsWhole)
  (arg7 : Memref sig .tc .vmem S6144x128 .f32) (harg7 : arg7.IsWhole)
  (arg8 : Memref sig .tc .vmem S6144x128 .f32) (harg8 : arg8.IsWhole)
  (arg9 : Memref sig .tc .vmem S2x128x256 .f32) (harg9 : arg9.IsWhole)
  (arg10 : Memref sig .tc .vmem S256x256 .f32) (harg10 : arg10.IsWhole)
  (arg11 : Memref sig .tc .vmem S3x4096x128 .f32) (harg11 : arg11.IsWhole)
  (arg12 : Memref sig .tc .vmem S3x4096x128 .f32) (harg12 : arg12.IsWhole)

set_option maxHeartbeats 1600000 in
theorem body_owns (x0 x1 x2 : Vec F S1x4096x128 .bf16) (z7 z8 : Vec F S6144x128 .f32) (z9 : Vec F S2x128x256 .f32) (z10 : Vec F S256x256 .f32)
    (hc : isFirst i ∨ Kept z7 z8 z9 z10) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare z7 ∗ owns (c : Thread nD τ) arg8 fullShare z8 ∗ owns (c : Thread nD τ) arg9 fullShare z9 ∗ owns (c : Thread nD τ) arg10 fullShare z10 ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare (OUT x0 x1 x2) ∗ (∃ d, owns (c : Thread nD τ) arg6 fullShare d) ∗ (∃ g7 g8 g9 g10, ⌜Kept g7 g8 g9 g10⌝ ∗ owns (c : Thread nD τ) arg7 fullShare g7 ∗ owns (c : Thread nD τ) arg8 fullShare g8 ∗ owns (c : Thread nD τ) arg9 fullShare g9 ∗ owns (c : Thread nD τ) arg10 fullShare g10) ∗ (∃ d, owns (c : Thread nD τ) arg11 fullShare d) ∗ (∃ d, owns (c : Thread nD τ) arg12 fullShare d)) -∗ K ()))
    ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12) K := by
  unfold owns
  iintro ⟨⟨%f2, %h2, H2⟩, ⟨%f3, %h3, H3⟩, ⟨%f4, %h4, H4⟩, ⟨%d5, %f5, -, H5⟩, ⟨%d6, %f6, -, H6⟩, ⟨%f7, %h7, H7⟩, ⟨%f8, %h8, H8⟩, ⟨%f9, %h9, H9⟩, ⟨%f10, %h10, H10⟩, ⟨%d11, %f11, -, H11⟩, ⟨%d12, %f12, -, H12⟩, Hk⟩
  subst h2 h3 h4 h7 h8 h9 h10
  iapply (wp_wand_r Idealize.ShloMosaic.frame (wpE (defs₀ (F := F)) Variants.none (c : Thread nD τ) none) E)
  isplitl [H2 H3 H4 H5 H6 H7 H8 H9 H10 H11 H12]
  · iapply (body_run (F := F) c i arg2 harg2 arg3 harg3 arg4 harg4 arg5 harg5 arg6 harg6 arg7 harg7 arg8 harg8 arg9 harg9 arg10 harg10 arg11 harg11 arg12 harg12 f2 f3 f4 f5 f6 f7 f8 f9 f10 f11 f12 hc E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H2, H3, H4, ⟨%g5, %e5, H5⟩, ⟨%g6, H6⟩, ⟨%g7, %g8, %g9, %g10, %hk, H7, H8, H9, H10⟩, ⟨%g11, H11⟩, ⟨%g12, H12⟩⟩
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact e5
  isplitl [H6]
  · iexists _, _; isplitr; swap; · iexact H6
    ipureintro; rfl
  isplitl [H7 H8 H9 H10]
  · iexists _, _, _, _
    isplitr; · ipureintro; exact hk
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _, _; isplitr; swap; · iexact H11
    ipureintro; rfl
  iexists _, _; isplitr; swap; · iexact H12
  ipureintro; rfl

end Body

/-! ## The launch -/

variable (m : (ℓ : Loc nD τ sig) → Buf (Elt F) ℓ) (ρ : Dev nD → PrngReg)

/-- The first test of the body holds at point 0 alone. -/
theorem isFirst_iff : ∀ t : Fin cfg0.N, isFirst (grid0.coords t) ↔ t.val % 48 = 0 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [isFirst, e0, e1]
    word_cmp
   : ∀ t : Fin grid0.N, isFirst (grid0.coords t) ↔ t.val % 48 = 0)

abbrev sc6 : Memref sig .tc .vmem S4096x128 .f32 := Memref.whole cc0_scratch0
abbrev sc7 : Memref sig .tc .vmem S6144x128 .f32 := Memref.whole cc0_scratch1
abbrev sc8 : Memref sig .tc .vmem S6144x128 .f32 := Memref.whole cc0_scratch2
abbrev sc9 : Memref sig .tc .vmem S2x128x256 .f32 := Memref.whole cc0_scratch3
abbrev sc10 : Memref sig .tc .vmem S256x256 .f32 := Memref.whole cc0_scratch4
abbrev sc11 : Memref sig .tc .vmem S3x4096x128 .f32 := Memref.whole cc0_scratch5
abbrev sc12 : Memref sig .tc .vmem S3x4096x128 .f32 := Memref.whole cc0_scratch6
abbrev ms0_0 (t : Fin cfg0.N) : Memref sig .tc .vmem S1x4096x128 .bf16 := win0_0.stage (cfg0.slots t 0)
abbrev ms0_1 (t : Fin cfg0.N) : Memref sig .tc .vmem S1x4096x128 .bf16 := win0_1.stage (cfg0.slots t 1)
abbrev ms0_2 (t : Fin cfg0.N) : Memref sig .tc .vmem S1x4096x128 .bf16 := win0_2.stage (cfg0.slots t 2)
abbrev ms0_3 (t : Fin cfg0.N) : Memref sig .tc .vmem S1x4096x128 .f32 := win0_3.stage (cfg0.slots t 3)

/-- The scratch with the invariant's registers, the buffers as memrefs. -/
theorem PhiA_eq (c : Dev nD) : (Pipeline.ΦA spec0 c : sProp 𝕄)
    = iprop(iprop((∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d)) ∗ (∃ r, prngReg c r)) := by
  unfold Pipeline.ΦA; rw [scopedRest0_eq]; simp only [sc6, sc7, sc8, sc9, sc10, sc11, sc12, owns_whole]; try rfl

/-- The scratch between points: the zero rows and the mask tables are in place. -/
def PhiK (c : Dev nD) : sProp 𝕄 :=
  iprop(iprop((∃ d, owns (c : Thread nD τ) sc6 fullShare d) ∗ (∃ g7 g8 g9 g10, ⌜Kept g7 g8 g9 g10⌝ ∗ owns (c : Thread nD τ) sc7 fullShare g7 ∗ owns (c : Thread nD τ) sc8 fullShare g8 ∗ owns (c : Thread nD τ) sc9 fullShare g9 ∗ owns (c : Thread nD τ) sc10 fullShare g10)
    ∗ (∃ d, owns (c : Thread nD τ) sc11 fullShare d) ∗ (∃ d, owns (c : Thread nD τ) sc12 fullShare d)) ∗ (∃ r, prngReg c r))

theorem PhiK_PhiA (c : Dev nD) : (PhiK (F := F) c : sProp 𝕄) ⊢ Pipeline.ΦA spec0 c := by
  rw [PhiA_eq]; unfold PhiK
  iintro ⟨⟨H6, ⟨%g7, %g8, %g9, %g10, -, H7, H8, H9, H10⟩, H11, H12⟩, Hg⟩
  isplitr [Hg]; swap; · iexact Hg
  isplitl [H6]; · iexact H6
  isplitl [H7]; · iexists _; iexact H7
  isplitl [H8]; · iexists _; iexact H8
  isplitl [H9]; · iexists _; iexact H9
  isplitl [H10]; · iexists _; iexact H10
  isplitl [H11]; · iexact H11
  iexact H12

/-- What the body leaves in the output's block at point `t`. -/
def outAt (c : Dev nD) (t : Fin cfg0.N) : Vec F S1x4096x128 .f32 := OUT (F := F) (iblk m c 0 t) (iblk m c 1 t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => outAt m c t
  Φ t := if t.val = 0 then Pipeline.ΦA spec0 c else PhiK c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Phi_eq (c : Dev nD) (t) : (dats m 0 c).Φ t = if t.val = 0 then Pipeline.ΦA spec0 c else PhiK c := by dsimp only [dats]
theorem Phi_succ (c : Dev nD) (t : Fin cfg0.N) : (dats m 0 c).Φ t.succ = PhiK c := by
  rw [Phi_eq, if_neg (show ¬ t.succ.val = 0 from Nat.succ_ne_zero t.val)]
theorem Phi_zero (c : Dev nD) : (dats m 0 c).Φ 0 = Pipeline.ΦA spec0 c := by rw [Phi_eq]; exact if_pos rfl

/-- Before a point: the scratch at contents which are known unless the point is the first. -/
theorem Phi_pre (c : Dev nD) (t : Fin cfg0.N) : (dats m 0 c).Φ t.castSucc
    ⊢ iprop((∃ d, owns (c : Thread nD τ) sc6 fullShare d) ∗ (∃ g7 g8 g9 g10, ⌜isFirst (grid0.coords t) ∨ Kept g7 g8 g9 g10⌝ ∗ owns (c : Thread nD τ) sc7 fullShare g7 ∗ owns (c : Thread nD τ) sc8 fullShare g8 ∗ owns (c : Thread nD τ) sc9 fullShare g9 ∗ owns (c : Thread nD τ) sc10 fullShare g10)
    ∗ (∃ d, owns (c : Thread nD τ) sc11 fullShare d) ∗ (∃ d, owns (c : Thread nD τ) sc12 fullShare d) ∗ (∃ r, prngReg c r)) := by
  by_cases h : t.val = 0
  · rw [show (dats m 0 c).Φ t.castSucc = Pipeline.ΦA spec0 c from by rw [Phi_eq]; exact if_pos h, PhiA_eq]
    have hf : isFirst (grid0.coords t) := (isFirst_iff t).mpr (by rw [h])
    iintro ⟨⟨H6, ⟨%g7, H7⟩, ⟨%g8, H8⟩, ⟨%g9, H9⟩, ⟨%g10, H10⟩, H11, H12⟩, Hg⟩
    isplitl [H6]; · iexact H6
    isplitl [H7 H8 H9 H10]
    · iexists _, _, _, _
      isplitr; swap
      · isplitl [H7]; · iexact H7
        isplitl [H8]; · iexact H8
        isplitl [H9]; · iexact H9
        iexact H10
      ipureintro; exact .inl hf
    isplitl [H11]; · iexact H11
    isplitl [H12]; · iexact H12
    iexact Hg
  · rw [show (dats m 0 c).Φ t.castSucc = PhiK c from by rw [Phi_eq]; exact if_neg h]; unfold PhiK
    iintro ⟨⟨H6, ⟨%g7, %g8, %g9, %g10, %hk, H7, H8, H9, H10⟩, H11, H12⟩, Hg⟩
    isplitl [H6]; · iexact H6
    isplitl [H7 H8 H9 H10]
    · iexists _, _, _, _
      isplitr; swap
      · isplitl [H7]; · iexact H7
        isplitl [H8]; · iexact H8
        isplitl [H9]; · iexact H9
        iexact H10
      ipureintro; exact .inr hk
    isplitl [H11]; · iexact H11
    isplitl [H12]; · iexact H12
    iexact Hg

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3, Phi_succ]
  iintro ⟨HP, Ho, ⟨%d0, H0⟩, ⟨%d1, H1⟩, ⟨%d2, H2⟩, ⟨%d3, H3⟩⟩
  ihave HP' := (Phi_pre m c t) $$ HP
  icases HP' with ⟨H6, ⟨%g7, %g8, %g9, %g10, %hk, H7, H8, H9, H10⟩, H11, H12, Hg⟩
  iapply (body_owns (F := F) c (grid0.coords t) _ _ _ _ _ _ _ _ _ _ _ _ _ _ _ _ _ _ _ _ _ _ (iblk m c 0 t) (iblk m c 1 t) (iblk m c 2 t) g7 g8 g9 g10 hk Set.univ _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H6, HK, H11, H12⟩
  isplitl [H6 HK H11 H12 Hg]
  · unfold PhiK
    isplitr [Hg]; swap; · iexact Hg
    isplitl [H6]; · iexact H6
    isplitl [HK]; · iexact HK
    isplitl [H11]; · iexact H11
    iexact H12
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m)
    (hin := fun c => by rw [Phi_zero]) (hout := fun c => by
      rw [show (dats m 0 c).Φ (Fin.last (cfgs 0).N) = PhiK c from by rw [Phi_eq]; exact if_neg (by show cfg0.N ≠ 0; rw [show cfg0.N = 48 from N_0]; decide)]
      exact PhiK_PhiA c)

/-! ## The result array -/

/-- Head `h` of part `p` (0 the queries, 1 the keys, 2 the values) of batch `b` of the projected input. -/
def PART (x : Vec F S4x4096x5632 .bf16) (p : Fin 3) (b : Fin 4) (h : Fin 12) : Vec F S1x4096x128 .bf16 := fun j =>
  x (ix3 b (j 1) ⟨(12 * p.val + h.val) * 128 + (j 2).val, by
    have : (j 2).val < 128 := (j 2).isLt
    have : p.val < 3 := p.isLt
    have : h.val < 12 := h.isLt
    omega⟩)

/-- The attention of every batch and head. -/
def ATT (x : Vec F S4x4096x5632 .bf16) : Vec F S4x4096x1536 .f32 := fun y =>
  OUT (PART x 0 (y 0) ⟨(y 2).val / 128, by have : (y 2).val < 1536 := (y 2).isLt; omega⟩)
    (PART x 1 (y 0) ⟨(y 2).val / 128, by have : (y 2).val < 1536 := (y 2).isLt; omega⟩)
    (PART x 2 (y 0) ⟨(y 2).val / 128, by have : (y 2).val < 1536 := (y 2).isLt; omega⟩)
    (ix3 0 (y 1) ⟨(y 2).val % 128, by omega⟩)

theorem index_0 : ∀ t : Fin cfg0.N, win0_0.index t = ![t.val / 12, 0, t.val % 12] :=
  (by decide +kernel : ∀ t : Fin grid0.N, win0_0.index t = ![t.val / 12, 0, t.val % 12])
theorem index_1 : ∀ t : Fin cfg0.N, win0_1.index t = ![t.val / 12, 0, 12 + t.val % 12] :=
  (by decide +kernel : ∀ t : Fin grid0.N, win0_1.index t = ![t.val / 12, 0, 12 + t.val % 12])
theorem index_2 : ∀ t : Fin cfg0.N, win0_2.index t = ![t.val / 12, 0, 24 + t.val % 12] :=
  (by decide +kernel : ∀ t : Fin grid0.N, win0_2.index t = ![t.val / 12, 0, 24 + t.val % 12])
theorem index_3 : ∀ t : Fin cfg0.N, win0_3.index t = ![t.val / 12, 0, t.val % 12] :=
  (by decide +kernel : ∀ t : Fin grid0.N, win0_3.index t = ![t.val / 12, 0, t.val % 12])

theorem lt_4 (t : Fin cfg0.N) : t.val / 12 < 4 := by
  have : t.val < 48 := Nat.lt_of_lt_of_eq t.isLt N_0
  omega

theorem iblk_0 (c : Dev nD) (t : Fin cfg0.N) :
    (iblk m c 0 t : Vec F S1x4096x128 .bf16) = PART (V m c main_arg0) 0 ⟨t.val / 12, lt_4 t⟩ ⟨t.val % 12, by omega⟩ := by
  funext j
  have h0 : (j 0).val < 1 := (j 0).isLt
  unfold PART
  blk_simp [iblk]
  refine congrArg (V m c main_arg0) ?_
  blk_ext [index_0]
theorem iblk_1 (c : Dev nD) (t : Fin cfg0.N) :
    (iblk m c 1 t : Vec F S1x4096x128 .bf16) = PART (V m c main_arg0) 1 ⟨t.val / 12, lt_4 t⟩ ⟨t.val % 12, by omega⟩ := by
  funext j
  have h0 : (j 0).val < 1 := (j 0).isLt
  unfold PART
  blk_simp [iblk]
  refine congrArg (V m c main_arg0) ?_
  blk_ext [index_1]
theorem iblk_2 (c : Dev nD) (t : Fin cfg0.N) :
    (iblk m c 2 t : Vec F S1x4096x128 .bf16) = PART (V m c main_arg0) 2 ⟨t.val / 12, lt_4 t⟩ ⟨t.val % 12, by omega⟩ := by
  funext j
  have h0 : (j 0).val < 1 := (j 0).isLt
  unfold PART
  blk_simp [iblk]
  refine congrArg (V m c main_arg0) ?_
  blk_ext [index_2]

theorem final_o (c : Dev nD) : (dats m 0 c).arrAt 3 cfg0.N = (ATT (V m c main_arg0) : Vec F S4x4096x1536 .f32) := by
  refine (dats m 0 c).arrAt_eq_of_covers 3 _ (by decide +kernel) fun t hf y => ?_
  blk_simp
  rw [after0_3]
  unfold outAt
  rw [iblk_0, iblk_1, iblk_2]
  have h0 : (y 0).val < 1 := (y 0).isLt
  have h2 : (y 2).val < 128 := (y 2).isLt
  have e := index_3 t
  have hb := lt_4 t
  have e0 : ((win0_3.blk t).view.emb y 0).val = t.val / 12 := by blk_simp [e]; first | done | omega
  have e1 : ((win0_3.blk t).view.emb y 1).val = (y 1).val := by blk_simp [e]
  have e2 : ((win0_3.blk t).view.emb y 2).val = t.val % 12 * 128 + (y 2).val := by blk_simp [e]
  show _ = ATT (V m c main_arg0) ((win0_3.blk t).view.emb y)
  generalize (win0_3.blk t).view.emb y = z at e0 e1 e2 ⊢
  unfold ATT
  have f0 : z 0 = ⟨t.val / 12, hb⟩ := Fin.ext e0
  have f1 : z 1 = y 1 := Fin.ext e1
  have f2 : ∀ h, (⟨(z 2).val / 128, h⟩ : Fin 12) = ⟨t.val % 12, by omega⟩ := fun h => Fin.ext (by show (z 2).val / 128 = t.val % 12; generalize (z 2).val = a at e2; generalize (y 2).val = b at e2 h2; omega)
  have f3 : ∀ h, (⟨(z 2).val % 128, h⟩ : Fin 128) = y 2 := fun h => Fin.ext (by show (z 2).val % 128 = (y 2).val; generalize (z 2).val = a at e2; generalize (y 2).val = b at e2 h2 ⊢; omega)
  rw [f0, f1, f2, f3]
  refine congrArg _ ?_
  funext a
  match a with
  | ⟨0, _⟩ => exact Fin.ext (by show (y 0).val = 0; omega)
  | ⟨1, _⟩ => rfl
  | ⟨2, _⟩ => rfl

/-- The run, read: the result array holds the attention, the input is unchanged, and every counter is at zero. -/
theorem run_value : θ_run defs (onTc (τ := τ) (main (F := F))) ⟨m, fun _ => 0, ρ⟩ fun r => (∀ c : Dev nD,
      r.2.mem ((c.tc : Thread nD τ).loc main_v0) = (ATT (m ((c.tc : Thread nD τ).loc main_arg0)) : Vec F S4x4096x1536 .f32)
      ∧ r.2.mem ((c.tc : Thread nD τ).loc main_arg0) = m ((c.tc : Thread nD τ).loc main_arg0)) ∧ r.2.sem = fun _ => 0 :=
  (θ_run defs _ _).mono (fun _ h => ⟨fun c => ⟨((h.1 c).1 3).trans (final_o m c),
    ((h.1 c).1 2).trans (((dats m 0 c).arrAt_in 2 rfl _).trans (A_eq m c 2))⟩, h.2⟩) (run_quiescent m ρ)

end Cert.KernelIdeal.Attn
-- ==== Proof.KCanon.lean ====
/-
  The kernel's result at an index, over extended reals, with finite queries and keys: `AT`. The dilations 1 and 4 read the reference's windows as
  they are; at dilation 16 the kernel merges a class's two blocks into one square, whose keys are the window's in another order.
-/
module

public import proofs.«01_k».proof.Proof.KIdx
public import proofs.«01_k».proof.Proof.Canon
public import proofs.«01_k».proof.Proof.Attend

@[expose] public section

set_option maxRecDepth 16384

noncomputable section

namespace Cert.KernelIdeal.Attn

open Idealize.ShloMosaic Idealize.ShloMosaic.TcCoe
open Cert.KernelIdeal.Gen Cert.Attn

/-- The projected input as a function of its three coordinates. -/
def XF (x : Vec Ideal S4x4096x5632 .bf16) (b : Fin 4) (t : Fin 4096) (w : Fin 5632) : EReal := x (ix3 b t w)

section
variable (x : Vec Ideal S4x4096x5632 .bf16) (b : Fin 4) (h : Fin 12)

theorem QF_at (p : Fin 3) (t : Fin 4096) (e : Fin 128) : (QF (PART x p b h) (ix2 t e) : EReal) = XF x b t (col p h e) := rfl
theorem KF_at (p : Fin 3) (ρ : Fin 6144) (e : Fin 128) : (KF (PART x p b h) (ix2 ρ e) : EReal) = KR (XF x) b h p ρ e := by
  unfold KF KR
  by_cases hr : ρ.val < 2048
  · rw [dif_pos (show ((ix2 ρ e) 0).val < 2048 from hr), dif_neg (by omega)]
    exact Ideal.ofBits_zero_f32
  · rw [dif_neg (show ¬((ix2 ρ e) 0).val < 2048 from hr), dif_pos ⟨by omega, ρ.isLt⟩]
    rfl

theorem add_mask (P : Prop) [Decidable P] (z : EReal) : z + (if P then 0 else ⊥) = if P then z else ⊥ := by
  split
  · exact add_zero z
  · exact EReal.add_bot z

theorem s1_eq (t : Fin 4096) : uS (b1 BIAS ⟨t.val / 128, by omega⟩) (q1 (QF (PART x 0 b h)) ⟨t.val / 128, by omega⟩) (k1 (KF (PART x 1 b h)) ⟨t.val / 128, by omega⟩)
    ⟨t.val % 128, by omega⟩ = SC (XF x) b h 1 t := by
  funext j
  have hj := j.isLt
  have ht := t.isLt
  unfold uS SC DT
  rw [b1_at, BIAS_at, add_mask]
  refine if_congr ?_ (Finset.sum_congr rfl fun e _ => ?_) rfl
  · simp only [Sees]
    omega
  · rw [q1_at, k1_at, KF_at, QF_at]
    congr 2
    · exact Fin.ext (by simp only []; omega)
    · simp only [row]
      omega
theorem v1_eq (t : Fin 4096) (c : Fin 128) : (fun j => k1 (KF (PART x 2 b h)) ⟨t.val / 128, by omega⟩ (ix2 j c)) = VC (XF x) b h 1 t c := by
  funext j
  have hj := j.isLt
  have ht := t.isLt
  rw [k1_at, KF_at]
  unfold VC
  congr 1
  simp only [row]
  omega

theorem s4_eq (t : Fin 4096) : uS (b4 BIAS ⟨t.val % 4 * 8 + t.val / 512, by omega⟩) (q4 (QF (PART x 0 b h)) ⟨t.val % 4 * 8 + t.val / 512, by omega⟩)
    (k4 (KF (PART x 1 b h)) ⟨t.val % 4 * 8 + t.val / 512, by omega⟩) ⟨t.val / 4 % 128, by omega⟩ = SC (XF x) b h 4 t := by
  funext j
  have hj := j.isLt
  have ht := t.isLt
  have h1 : (t.val % 4 * 8 + t.val / 512) / 8 = t.val % 4 := by omega
  have h2 : (t.val % 4 * 8 + t.val / 512) % 8 = t.val / 512 := by omega
  have h3 : t.val / 4 / 128 = t.val / 512 := by omega
  unfold uS SC DT
  rw [b4_at, BIAS_at, add_mask]
  refine if_congr ?_ (Finset.sum_congr rfl fun e _ => ?_) rfl
  · simp only [Sees, h1, h2, h3]
    omega
  · rw [q4_at, k4_at, KF_at, QF_at]
    congr 2
    · exact Fin.ext (by simp only [h1, h2]; omega)
    · simp only [row, h1, h2, h3]
      omega
theorem v4_eq (t : Fin 4096) (c : Fin 128) : (fun j => k4 (KF (PART x 2 b h)) ⟨t.val % 4 * 8 + t.val / 512, by omega⟩ (ix2 j c)) = VC (XF x) b h 4 t c := by
  funext j
  have hj := j.isLt
  have ht := t.isLt
  have h1 : (t.val % 4 * 8 + t.val / 512) / 8 = t.val % 4 := by omega
  have h2 : (t.val % 4 * 8 + t.val / 512) % 8 = t.val / 512 := by omega
  have h3 : t.val / 4 / 128 = t.val / 512 := by omega
  rw [k4_at, KF_at]
  unfold VC
  congr 1
  simp only [row, h1, h2, h3]
  omega

/-- Where a merged square's key stands in the window of query `t`: the same place in a second block, the other half in a first block. -/
def turn (t : Fin 4096) : Equiv.Perm (Fin 256) := if 2048 ≤ t.val then Equiv.refl _ else Equiv.addRight (128 : Fin 256)

theorem turn_val (t : Fin 4096) (j : Fin 256) : (turn t j).val = if 2048 ≤ t.val then j.val else (j.val + 128) % 256 := by
  unfold turn
  split
  · rfl
  · exact Fin.val_add j 128

/-- A merged square's masked scores of query `t`, and the values. -/
def MS (t : Fin 4096) : Fin 256 → EReal := wS BIAS2 (q16 (QF (PART x 0 b h)) ⟨t.val % 16, by omega⟩) (k16 (KF (PART x 1 b h)) ⟨t.val % 16, by omega⟩) ⟨t.val / 16, by omega⟩
def MV (t : Fin 4096) (c : Fin 128) : Fin 256 → EReal := fun j => k16 (KF (PART x 2 b h)) ⟨t.val % 16, by omega⟩ (ix2 j c)

theorem row16 (t : Fin 4096) (j : Fin 256) (hs : Sees 16 t (turn t j)) : 2048 + t.val % 16 + 16 * j.val = row 16 t (turn t j) := by
  have hj := j.isLt
  have ht := t.isLt
  have hv := turn_val t j
  simp only [row, Sees] at hs ⊢
  split at hv <;> omega
theorem MS_eq (t : Fin 4096) (j : Fin 256) : MS x b h t j = SC (XF x) b h 16 t (turn t j) := by
  have hj := j.isLt
  have ht := t.isLt
  have hiff : (j.val ≤ t.val / 16 ∧ t.val / 16 ≤ j.val + 128) ↔ Sees 16 t (turn t j) := by
    have hv := turn_val t j
    simp only [Sees]
    split at hv <;> omega
  unfold MS wS SC
  rw [BIAS2_at, add_mask]
  by_cases hs : Sees 16 t (turn t j)
  · rw [if_pos hs, if_pos (hiff.mpr hs)]
    unfold DT
    refine Finset.sum_congr rfl fun e _ => ?_
    rw [q16_at, k16_at, KF_at, QF_at, ← row16 t j hs]
    congr 2
    exact Fin.ext (by simp only []; omega)
  · rw [if_neg hs, if_neg fun hh => hs (hiff.mp hh)]
theorem MV_eq (t : Fin 4096) (c : Fin 128) (j : Fin 256) (hs : SC (XF x) b h 16 t (turn t j) ≠ ⊥) : MV x b h t c j = VC (XF x) b h 16 t c (turn t j) := by
  have hs : Sees 16 t (turn t j) := by
    by_contra hn
    exact hs (if_neg hn)
  unfold MV VC
  rw [k16_at, KF_at, ← row16 t j hs]

theorem MS_good (hX : Fin12 (XF x)) (t : Fin 4096) : Good (MS x b h t) := by
  obtain ⟨h1, k, hk⟩ := SC_good b h hX 16 t
  refine ⟨fun j => ?_, ⟨(turn t).symm k, ?_⟩⟩
  · rw [MS_eq]
    exact h1 _
  · rw [MS_eq, Equiv.apply_symm_apply]
    exact hk

theorem OUT_at (hX : Fin12 (XF x)) (t : Fin 4096) (c : Fin 128) :
    (OUT (PART x 0 b h) (PART x 1 b h) (PART x 2 b h) (ix3 0 t c) : EReal) = AT (XF x) b h t c := by
  unfold OUT
  rw [COMB_val]
  have l0 : (GLse (QF (PART x 0 b h)) (KF (PART x 1 b h)) BIAS BIAS2 (ix3 0 t c) : EReal) = LS (SC (XF x) b h 1 t) := by
    rw [← s1_eq]
    exact uL_at _ _ _ _ _
  have l1 : (GLse (QF (PART x 0 b h)) (KF (PART x 1 b h)) BIAS BIAS2 (ix3 1 t c) : EReal) = LS (SC (XF x) b h 4 t) := by
    rw [← s4_eq]
    exact uL_at _ _ _ _ _
  have l2 : (GLse (QF (PART x 0 b h)) (KF (PART x 1 b h)) BIAS BIAS2 (ix3 2 t c) : EReal) = LS (SC (XF x) b h 16 t) :=
    (wL_at _ _ _ _ _).trans (LS_perm (MS x b h t) _ (turn t) (MS_eq x b h t))
  have o0 : (GOut (QF (PART x 0 b h)) (KF (PART x 1 b h)) (KF (PART x 2 b h)) BIAS BIAS2 (ix3 0 t c) : EReal) = OR (SC (XF x) b h 1 t) (VC (XF x) b h 1 t c) := by
    rw [← OK_eq_OR _ _ (SC_good b h hX 1 t), ← s1_eq, ← v1_eq]
    exact uO_at _ _ _ _ _ _
  have o1 : (GOut (QF (PART x 0 b h)) (KF (PART x 1 b h)) (KF (PART x 2 b h)) BIAS BIAS2 (ix3 1 t c) : EReal) = OR (SC (XF x) b h 4 t) (VC (XF x) b h 4 t c) := by
    rw [← OK_eq_OR _ _ (SC_good b h hX 4 t), ← s4_eq, ← v4_eq]
    exact uO_at _ _ _ _ _ _
  have o2 : (GOut (QF (PART x 0 b h)) (KF (PART x 1 b h)) (KF (PART x 2 b h)) BIAS BIAS2 (ix3 2 t c) : EReal) = OR (SC (XF x) b h 16 t) (VC (XF x) b h 16 t c) :=
    ((wO_at _ _ _ _ _ _).trans (OK_eq_OR (MS x b h t) (MV x b h t c) (MS_good x b h hX t))).trans
      (OR_perm _ _ _ _ (turn t) (MS_eq x b h t) (MV_eq x b h t c))
  rw [l0, l1, l2, o0, o1, o2]
  exact CK_eq_CR _ _ _ _ _ _ (LS_real _ (SC_good b h hX 1 t)) (LS_real _ (SC_good b h hX 4 t)) (LS_real _ (SC_good b h hX 16 t))

/-- The kernel's result array at an index. -/
theorem ATT_at (hX : Fin12 (XF x)) (y : S4x4096x1536.Idx) :
    (ATT x y : EReal) = AT (XF x) (y 0) ⟨(y 2).val / 128, by have : (y 2).val < 1536 := (y 2).isLt; omega⟩ (y 1) ⟨(y 2).val % 128, by omega⟩ :=
  OUT_at x _ _ hX _ _
end

end Cert.KernelIdeal.Attn
-- ==== Proof.Same.lean ====
/-
  The kernel as printed and its ideal reading are one text: their body tables are equal over any float values.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option maxRecDepth 100000 in
set_option maxHeartbeats 4000000 in
theorem body : @Cert.Kernel.cc0_attn F _ _ = @Cert.KernelIdeal.cc0_attn F _ _ := by
  rfl

theorem table₀ : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  obtain rfl : l = 0 := by omega
  obtain ⟨t, s⟩ := a
  dsimp only
  rw [body]
  rfl

theorem table : Cert.Kernel.defs (F := F) = Cert.KernelIdeal.defs (F := F) := by
  unfold Cert.Kernel.defs Cert.KernelIdeal.defs
  rw [table₀]
  rfl

end Cert.Same
-- ==== Proof.Pre.lean ====
/-
  The precondition read at an index: it says that every query and every key is a real number.
-/
module

public import proofs.«01_k».proof.Proof.KCanon
public import proofs.«01_k».proof.Pre_finite_queries_keys

@[expose] public section

set_option maxRecDepth 16384

noncomputable section

namespace Cert.Pre_finite_queries_keys

open Idealize.ShloMosaic Idealize.ShloMosaic.TcCoe Cert.Attn

/-- The side conditions of the precondition's operations. -/
theorem facts : Facts := ⟨by decide, by decide, by decide⟩

theorem pos_inf : Ideal.ofBits .f32 0x7F800000#32 = ⊤ := by simp [Ideal.ofBits, Ideal.ieee]

theorem finite [Facts] (x : FVec Ideal S4x4096x5632 .bf16) (hx : fn x = fun _ => 1#1) : Fin12 (Cert.KernelIdeal.Attn.XF x) := by
  intro b t w hw
  have h := congrFun hx (ix3 b t ⟨w.val, hw⟩)
  have e : fn x (ix3 b t ⟨w.val, hw⟩) = BitVec.ofBool (decide ((FloatOps.absf (F := Ideal) (φ := .f32) (x (ix3 b t w)) : EReal) < ⊤)) := by
    pointwise [fn]
    rw [pos_inf]
  rw [e] at h
  change ∃ r : ℝ, x (ix3 b t w) = r
  have key : ∀ z : EReal, BitVec.ofBool (decide (max z (-z) < ⊤)) = 1#1 → ∃ r : ℝ, z = r := by
    intro z h
    induction z with
    | bot => exact absurd h (by simp)
    | coe r => exact ⟨r, rfl⟩
    | top => exact absurd h (by simp)
  exact key _ h

end Cert.Pre_finite_queries_keys
-- ==== Proof.RLast.lean ====
/-
  Reductions of the last of six axes at an index, over extended reals, and the words of the reference's mask.
-/
module

public import Idealize.ShloMosaic.Lib.Pointwise
public import Idealize.ShloMosaic.Lib.WordCmp
public import proofs.«01_k».proof.Proof.Canon

@[expose] public section

noncomputable section

namespace Cert.Attn

open Idealize.ShloMosaic

section Last
variable {n0 n1 n2 n3 n4 n5 : ℕ} (h : (⟨6, ![n0, n1, n2, n3, n4, n5]⟩ : Shape).ReducesTo [5] ⟨5, ![n0, n1, n2, n3, n4]⟩)
  (a : Fin n0) (b : Fin n1) (c : Fin n2) (e : Fin n3) (f : Fin n4)
include h

/-- The indices that a reduction of the last of six axes drops to one index. -/
theorem drop_last (i : (⟨6, ![n0, n1, n2, n3, n4, n5]⟩ : Shape).Idx) : h.drop i = ix5 a b c e f ↔ ∃ k : Fin n5, ix6 a b c e f k = i := by
  constructor
  · intro hi
    refine ⟨i 5, (eq_ix6 i).symm ▸ ?_⟩
    have h0 : i 0 = a := Fin.ext (congrArg Fin.val (congrFun hi 0))
    have h1 : i 1 = b := Fin.ext (congrArg Fin.val (congrFun hi 1))
    have h2 : i 2 = c := Fin.ext (congrArg Fin.val (congrFun hi 2))
    have h3 : i 3 = e := Fin.ext (congrArg Fin.val (congrFun hi 3))
    have h4 : i 4 = f := Fin.ext (congrArg Fin.val (congrFun hi 4))
    rw [← h0, ← h1, ← h2, ← h3, ← h4]
    rfl
  · rintro ⟨k, rfl⟩
    funext z
    fin_cases z <;> rfl

theorem sum_last (v : (⟨6, ![n0, n1, n2, n3, n4, n5]⟩ : Shape).Idx → EReal) (z : EReal) :
    Ideal.hostReduceAdd h v z (ix5 a b c e f) = z + ∑ k : Fin n5, v (ix6 a b c e f k) :=
  congrArg (z + ·) (Finset.sum_filter_eq_sum_of_fiber _ (fun k : Fin n5 => ix6 a b c e f k) (fun _ _ hk => congrFun hk 5) (drop_last h a b c e f) v)

theorem max_last (v : (⟨6, ![n0, n1, n2, n3, n4, n5]⟩ : Shape).Idx → EReal) (z : EReal) :
    (Finset.univ.filter (fun i => h.drop i = ix5 a b c e f)).fold max z v = (Finset.univ : Finset (Fin n5)).fold max z (fun k => v (ix6 a b c e f k)) :=
  Finset.fold_filter_eq_fold_of_fiber max _ (fun k : Fin n5 => ix6 a b c e f k) (fun _ _ hk => congrFun hk 5) (drop_last h a b c e f) z v
end Last

theorem neg_inf : Ideal.ofBits .f32 0xFF800000#32 = ⊥ := by simp [Ideal.ofBits, Ideal.ieee]

/-- The reference's mask bit of query `i` and key `j` of block `n`, as a choice between two values. -/
theorem mask_select (n i j : ℕ) (hn : n < 32) (hi : i < 128) (hj : j < 256) (x y : EReal) :
    Scalar.select (IntOp.andi
        (IntOp.andi (IntOp.cmpi .sge (BitVec.ofNat 32 j) (BitVec.ofNat 32 i))
          (IntOp.cmpi .sle (BitVec.ofNat 32 j) (IntOp.addi (BitVec.ofNat 32 i) 128#32)))
        (IntOp.ori (IntOp.cmpi .sgt (BitVec.ofNat 32 n) 0#32) (IntOp.cmpi .sge (BitVec.ofNat 32 j) 128#32))) x y
      = if (i ≤ j ∧ j ≤ i + 128) ∧ (0 < n ∨ 128 ≤ j) then x else y := by
  have ha : IntOp.addi (BitVec.ofNat 32 i) 128#32 = BitVec.ofNat 32 (i + 128) := (BitVec.ofNat_add i 128).symm
  rw [ha, WordCmp.cmpi_sge_ofNat (by omega) (by omega), WordCmp.cmpi_sle_ofNat (by omega) (by omega), WordCmp.andi_ofBool,
    show IntOp.cmpi .sgt (BitVec.ofNat 32 n) 0#32 = BitVec.ofBool (decide (0 < n)) from WordCmp.cmpi_sgt_ofNat (by omega) (by omega), WordCmp.cmpi_sge_ofNat (by omega) (by omega), WordCmp.ori_ofBool, WordCmp.andi_ofBool]
  have hs : ∀ b : Bool, Scalar.select (BitVec.ofBool b) x y = if b = true then x else y := fun b => by cases b <;> rfl
  rw [hs]
  simp only [Bool.and_eq_true, Bool.or_eq_true, decide_eq_true_eq]

end Cert.Attn
-- ==== Proof.R1.lean ====
/-
  The reference's attention at dilation 1, its arrays as functions of the queries, keys and values, and each at an index over extended reals:
  the masked scores are `SC`, the log-sum-exps `LS` of them, the outputs `OR` of them and the values `VC`.
-/
module

public import proofs.«01_k».proof.Proof.RLast
public import proofs.«01_k».proof.Proof.Gen.ReferenceIdeal

@[expose] public section

set_option maxRecDepth 16384

noncomputable section

namespace Cert.ReferenceIdeal.Attn.D1

open Idealize.ShloMosaic Idealize.ShloMosaic.TcCoe
open Cert.ReferenceIdeal.Gen Cert.Attn

section
variable {F : FTy → Type} [FloatOps F]

/-- Positions in blocks of 128 of each residue class. -/
def BK (x : Vec F S4x4096x12x128 .f32) : Vec F S4x1x32x128x12x128 .f32 :=
  transpose S4x1x32x128x12x128 [0, 3, 1, 2, 4, 5] (shapeCast S4x32x128x1x12x128 x shapeCasts_S4x4096x12x128_S4x32x128x1x12x128) transposes_S4x32x128x1x12x128_S4x1x32x128x12x128_0_3_1_2_4_5

/-- Every block behind the block before it, zeros before the first. -/
def KB (z : Vec F S4x1x32x128x12x128 .f32) : Vec F S4x1x32x256x12x128 .f32 :=
  concatenate S4x1x32x256x12x128 3 [⟨S4x1x32x128x12x128, (extractStridedSlice S4x1x32x128x12x128 ![0, 0, 0, 0, 0, 0] (pad S4x1x33x128x12x128 ![0, 0, 1, 0, 0, 0] ![0, 0, 0, 0, 0, 0] ![0, 0, 0, 0, 0, 0] z (constant  S_ .f32 0x00000000#32) pads_S4x1x32x128x12x128_S4x1x33x128x12x128_000_000_100_000_000_000 h_S_) slices_S4x1x33x128x12x128_S4x1x32x128x12x128_0_0_0_0_0_0)⟩, ⟨S4x1x32x128x12x128, z⟩] concatenates_S4x1x32x128x12x128_S4x1x32x128x12x128_S4x1x32x256x12x128_d3

/-- The masked scores. -/
def MS (i : IVec S128x1 32) (j : IVec S1x256 32) (q : Vec F S4x1x32x128x12x128 .f32) (k : Vec F S4x1x32x256x12x128 .f32) : Vec F S4x1x32x12x128x256 .f32 :=
  select (broadcastInDim S4x1x32x12x128x256 ![0, 1, 2, 3, 4, 5] bcast_S1x1x32x1x128x256_S4x1x32x12x128x256_0_1_2_3_4_5 (broadcastInDim S1x1x32x1x128x256 ![2, 4, 5] bcast_S32x128x256_S1x1x32x1x128x256_2_4_5 (andi (broadcastInDim S32x128x256 ![0, 1, 2] bcast_S1x128x256_S32x128x256_0_1_2 (broadcastInDim S1x128x256 ![1, 2] bcast_S128x256_S1x128x256_1_2 (andi (cmpi .sge (broadcastInDim S128x256 ![0, 1] bcast_S1x256_S128x256_0_1 j) (broadcastInDim S128x256 ![0, 1] bcast_S128x1_S128x256_0_1 i)) (cmpi .sle (broadcastInDim S128x256 ![0, 1] bcast_S1x256_S128x256_0_1 j) (broadcastInDim S128x256 ![0, 1] bcast_S128x1_S128x256_0_1 (addi i (broadcastInDim S128x1 ![] bcast_S_S128x1 (constantI S_ 32 128#32)))))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (cmpi .sge (broadcastInDim S1x1x256 ![1, 2] bcast_S1x256_S1x1x256_1_2 j) (broadcastInDim S1x1x256 ![] bcast_S_S1x1x256 (constantI S_ 32 128#32))))))))) (Host.dotGeneral  dot_S4x1x32x128x12x128_S4x1x32x256x12x128_S4x1x32x12x128x256_5_5_3_3_0124_0124 none q k) (broadcastInDim S4x1x32x12x128x256 ![] bcast_S_S4x1x32x12x128x256 (constant  S_ .f32 0xFF800000#32))

def I0 : IVec S128x1 32 := broadcastInDim S128x1 ![0] bcast_S128_S128x1_0 (iotaInDim S128 32 0)
def J0 : IVec S1x256 32 := broadcastInDim S1x256 ![1] bcast_S256_S1x256_1 (iotaInDim S256 32 0)

/-- The rows' largest scores, log-sum-exps and outputs. -/
def RM (s : Vec F S4x1x32x12x128x256 .f32) : Vec F S4x1x32x12x128 .f32 :=
  Host.reduce (FloatOps.maximumf (F := F) (φ := .f32)) s (constant  S_ .f32 0xFF800000#32) reducesTo_S4x1x32x12x128x256_S4x1x32x12x128_d5 h_S_
def RL (s : Vec F S4x1x32x12x128x256 .f32) (m : Vec F S4x1x32x12x128 .f32) : Vec F S4x1x32x12x128 .f32 :=
  addf m (Host.log (Host.reduceAdd (Host.exp (subf s (broadcastInDim S4x1x32x12x128x256 ![0, 1, 2, 3, 4, 5] bcast_S4x1x32x12x128x1_S4x1x32x12x128x256_0_1_2_3_4_5 (broadcastInDim S4x1x32x12x128x1 ![0, 1, 2, 3, 4] bcast_S4x1x32x12x128_S4x1x32x12x128x1_0_1_2_3_4 m)))) (constant  S_ .f32 0x00000000#32) reducesTo_S4x1x32x12x128x256_S4x1x32x12x128_d5 h_S_))
def RO (v : Vec F S4x1x32x256x12x128 .f32) (s : Vec F S4x1x32x12x128x256 .f32) (l : Vec F S4x1x32x12x128 .f32) : Vec F S4x4096x12x128 .f32 :=
  shapeCast S4x4096x12x128 (transpose S4x32x128x1x12x128 [0, 2, 3, 1, 4, 5] (transpose S4x1x32x128x12x128 [0, 1, 2, 5, 3, 4] (Host.dotGeneral  dot_S4x1x32x256x12x128_S4x1x32x12x128x256_S4x1x32x12x128x128_3_5_5_4_0124_0123 none v (Host.exp (subf s (broadcastInDim S4x1x32x12x128x256 ![0, 1, 2, 3, 4, 5] bcast_S4x1x32x12x128x1_S4x1x32x12x128x256_0_1_2_3_4_5 (broadcastInDim S4x1x32x12x128x1 ![0, 1, 2, 3, 4] bcast_S4x1x32x12x128_S4x1x32x12x128x1_0_1_2_3_4 l))))) transposes_S4x1x32x12x128x128_S4x1x32x128x12x128_0_1_2_5_3_4) transposes_S4x1x32x128x12x128_S4x32x128x1x12x128_0_2_3_1_4_5) shapeCasts_S4x32x128x1x12x128_S4x4096x12x128
def RT (l : Vec F S4x1x32x12x128 .f32) : Vec F S4x4096x12 .f32 :=
  shapeCast S4x4096x12 (transpose S4x32x128x1x12 [0, 2, 4, 1, 3] l transposes_S4x1x32x12x128_S4x32x128x1x12_0_2_4_1_3) shapeCasts_S4x32x128x1x12_S4x4096x12

/-- The log-sum-exps and the outputs of every query. -/
def LG (q k : Vec F S4x4096x12x128 .f32) : Vec F S4x1x32x12x128 .f32 := RL (MS I0 J0 (BK q) (KB (BK k))) (RM (MS I0 J0 (BK q) (KB (BK k))))
def RLS (q k : Vec F S4x4096x12x128 .f32) : Vec F S4x4096x12 .f32 := RT (LG q k)
def ROUT (q k v : Vec F S4x4096x12x128 .f32) : Vec F S4x4096x12x128 .f32 := RO (KB (BK v)) (MS I0 J0 (BK q) (KB (BK k))) (LG q k)

end

/-- The position of place `i` of block `n` of class `r`. -/
def at_ (r : Fin 1) (n : Fin 32) (i : Fin 128) : Fin 4096 := ⟨(n.val * 128 + i.val) * 1 + r.val, by omega⟩

section
variable (b : Fin 4) (r : Fin 1) (n : Fin 32) (h : Fin 12) (i : Fin 128)

theorem BK_at (x : Vec Ideal S4x4096x12x128 .f32) (e : Fin 128) : (BK x (ix6 b r n i h e) : EReal) = x (ix4 b (at_ r n i) h e) := by
  pointwise [BK]
  exact congrArg (fun t => x (ix4 b t h e)) (Fin.ext (by simp only [at_]; omega))

theorem KB_at (z : Vec Ideal S4x1x32x128x12x128 .f32) (j : Fin 256) (e : Fin 128) : (KB z (ix6 b r n j h e) : EReal) =
    if hj : j.val < 128 then if hn : 1 ≤ n.val then z (ix6 b r ⟨n.val - 1, by omega⟩ ⟨j.val, hj⟩ h e) else 0 else z (ix6 b r n ⟨j.val - 128, by omega⟩ h e) := by
  obtain rfl : r = 0 := Subsingleton.elim _ _
  pointwise [KB]
  have hn := n.isLt
  split
  · refine dite_congr (propext (by omega)) (fun _ => rfl) fun _ => rfl
  · rfl

theorem MS_at (q : Vec Ideal S4x1x32x128x12x128 .f32) (k : Vec Ideal S4x1x32x256x12x128 .f32) (j : Fin 256) : (MS I0 J0 q k (ix6 b r n h i j) : EReal) =
    if (i.val ≤ j.val ∧ j.val ≤ i.val + 128) ∧ (0 < n.val ∨ 128 ≤ j.val) then ∑ e : Fin 128, q (ix6 b r n i h e) * k (ix6 b r n j h e) else ⊥ := by
  pointwise [MS, I0, J0]
  rw [mask_select _ _ _ (by omega) i.isLt j.isLt, neg_inf]

theorem RM_at (s : Vec Ideal S4x1x32x12x128x256 .f32) : (RM s (ix5 b r n h i) : EReal) = MX fun j => s (ix6 b r n h i j) := by
  pointwise [RM]
  rw [max_last, neg_inf]
  rfl

theorem RL_at (s : Vec Ideal S4x1x32x12x128x256 .f32) (m : Vec Ideal S4x1x32x12x128 .f32) (hm : (m (ix5 b r n h i) : EReal) = MX fun j => s (ix6 b r n h i j)) :
    (RL s m (ix5 b r n h i) : EReal) = LS fun j => s (ix6 b r n h i j) := by
  obtain rfl : r = 0 := Subsingleton.elim _ _
  pointwise [RL]
  rw [sum_last, zero_add, hm]
  unfold LS SE
  refine congrArg (fun z => _ + Ideal.log z) (Finset.sum_congr rfl fun j _ => ?_)
  pointwise
  rw [hm]

theorem RO_at (v : Vec Ideal S4x1x32x256x12x128 .f32) (s : Vec Ideal S4x1x32x12x128x256 .f32) (l : Vec Ideal S4x1x32x12x128 .f32) (c : Fin 128)
    (hl : (l (ix5 b r n h i) : EReal) = LS fun j => s (ix6 b r n h i j)) :
    (RO v s l (ix4 b (at_ r n i) h c) : EReal) = OR (fun j => s (ix6 b r n h i j)) (fun j => v (ix6 b r n j h c)) := by
  obtain rfl : r = 0 := Subsingleton.elim _ _
  pointwise [RO, at_]
  rw [hl]
  rfl

theorem RT_at (l : Vec Ideal S4x1x32x12x128 .f32) : (RT l (ix3 b (at_ r n i) h) : EReal) = l (ix5 b r n h i) := by
  obtain rfl : r = 0 := Subsingleton.elim _ _
  pointwise [RT, at_]

variable (X : Fin 4 → Fin 4096 → Fin 5632 → EReal)

/-- Key (or value) `j` of the two blocks is the padded row that its query's window has there. -/
theorem KB_row (p : Fin 3) (x : Vec Ideal S4x4096x12x128 .f32) (hx : ∀ b t h e, (x (ix4 b t h e) : EReal) = X b t (col p h e)) (j : Fin 256) (e : Fin 128) :
    (KB (BK x) (ix6 b r n j h e) : EReal) = KR X b h p (row 1 (at_ r n i) j) e := by
  have hr := r.isLt
  have hn := n.isLt
  have hi := i.isLt
  have hj := j.isLt
  have h1 : ((n.val * 128 + i.val) * 1 + r.val) % 1 = r.val := by omega
  have h2 : ((n.val * 128 + i.val) * 1 + r.val) / 1 / 128 = n.val := by omega
  rw [KB_at]
  unfold KR
  by_cases hj : j.val < 128
  · rw [dif_pos hj]
    by_cases hn : 1 ≤ n.val
    · rw [dif_pos hn, dif_pos (by simp only [row, at_, h1, h2]; omega), BK_at, hx]
      exact congrArg (fun t => X b t (col p h e)) (Fin.ext (by simp only [row, at_, h1, h2]; omega))
    · rw [dif_neg hn, dif_neg (by simp only [row, at_, h1, h2]; omega)]
  · rw [dif_neg hj, dif_pos (by simp only [row, at_, h1, h2]; omega), BK_at, hx]
    exact congrArg (fun t => X b t (col p h e)) (Fin.ext (by simp only [row, at_, h1, h2]; omega))

theorem SC_at (q k : Vec Ideal S4x4096x12x128 .f32) (hq : ∀ b t h e, (q (ix4 b t h e) : EReal) = X b t (col 0 h e))
    (hk : ∀ b t h e, (k (ix4 b t h e) : EReal) = X b t (col 1 h e)) :
    (fun j => (MS I0 J0 (BK q) (KB (BK k)) (ix6 b r n h i j) : EReal)) = SC X b h 1 (at_ r n i) := by
  funext j
  have hr := r.isLt
  have hi := i.isLt
  have h1 : ((n.val * 128 + i.val) * 1 + r.val) / 1 % 128 = i.val := by omega
  have h2 : ((n.val * 128 + i.val) * 1 + r.val) / 1 / 128 = n.val := by omega
  rw [MS_at]
  unfold SC DT
  refine if_congr ?_ (Finset.sum_congr rfl fun e _ => ?_) rfl
  · simp only [Sees, at_, h1, h2]
  · rw [BK_at, hq, KB_row b r n h i X 1 k hk]

end

section
variable (X : Fin 4 → Fin 4096 → Fin 5632 → EReal) (q k v : Vec Ideal S4x4096x12x128 .f32)

theorem exists_at (t : Fin 4096) : ∃ r n i, t = at_ r n i :=
  ⟨⟨t.val % 1, by omega⟩, ⟨t.val / 1 / 128, by omega⟩, ⟨t.val / 1 % 128, by omega⟩, Fin.ext (by simp only [at_]; omega)⟩

variable (hq : ∀ b t h e, (q (ix4 b t h e) : EReal) = X b t (col 0 h e)) (hk : ∀ b t h e, (k (ix4 b t h e) : EReal) = X b t (col 1 h e))
include hq hk

theorem RLS_at (b : Fin 4) (t : Fin 4096) (h : Fin 12) : (RLS q k (ix3 b t h) : EReal) = LS (SC X b h 1 t) := by
  obtain ⟨r, n, i, rfl⟩ := exists_at t
  unfold RLS LG
  rw [RT_at, RL_at _ _ _ _ _ _ _ (RM_at _ _ _ _ _ _), SC_at b r n h i X q k hq hk]

theorem ROUT_at (hv : ∀ b t h e, (v (ix4 b t h e) : EReal) = X b t (col 2 h e)) (b : Fin 4) (t : Fin 4096) (h : Fin 12) (c : Fin 128) :
    (ROUT q k v (ix4 b t h c) : EReal) = OR (SC X b h 1 t) (VC X b h 1 t c) := by
  obtain ⟨r, n, i, rfl⟩ := exists_at t
  unfold ROUT LG
  rw [RO_at _ _ _ _ _ _ _ _ _ (RL_at _ _ _ _ _ _ _ (RM_at _ _ _ _ _ _)), SC_at b r n h i X q k hq hk]
  exact congrArg _ (funext fun j => KB_row b r n h i X 2 v hv j c)

end

end Cert.ReferenceIdeal.Attn.D1
-- ==== Proof.R4.lean ====
/-
  The reference's attention at dilation 4, its arrays as functions of the queries, keys and values, and each at an index over extended reals:
  the masked scores are `SC`, the log-sum-exps `LS` of them, the outputs `OR` of them and the values `VC`.
-/
module

public import proofs.«01_k».proof.Proof.RLast
public import proofs.«01_k».proof.Proof.Gen.ReferenceIdeal

@[expose] public section

set_option maxRecDepth 16384

noncomputable section

namespace Cert.ReferenceIdeal.Attn.D4

open Idealize.ShloMosaic Idealize.ShloMosaic.TcCoe
open Cert.ReferenceIdeal.Gen Cert.Attn

section
variable {F : FTy → Type} [FloatOps F]

/-- Positions in blocks of 128 of each residue class. -/
def BK (x : Vec F S4x4096x12x128 .f32) : Vec F S4x4x8x128x12x128 .f32 :=
  transpose S4x4x8x128x12x128 [0, 3, 1, 2, 4, 5] (shapeCast S4x8x128x4x12x128 x shapeCasts_S4x4096x12x128_S4x8x128x4x12x128) transposes_S4x8x128x4x12x128_S4x4x8x128x12x128_0_3_1_2_4_5

/-- Every block behind the block before it, zeros before the first. -/
def KB (z : Vec F S4x4x8x128x12x128 .f32) : Vec F S4x4x8x256x12x128 .f32 :=
  concatenate S4x4x8x256x12x128 3 [⟨S4x4x8x128x12x128, (extractStridedSlice S4x4x8x128x12x128 ![0, 0, 0, 0, 0, 0] (pad S4x4x9x128x12x128 ![0, 0, 1, 0, 0, 0] ![0, 0, 0, 0, 0, 0] ![0, 0, 0, 0, 0, 0] z (constant  S_ .f32 0x00000000#32) pads_S4x4x8x128x12x128_S4x4x9x128x12x128_000_000_100_000_000_000 h_S_) slices_S4x4x9x128x12x128_S4x4x8x128x12x128_0_0_0_0_0_0)⟩, ⟨S4x4x8x128x12x128, z⟩] concatenates_S4x4x8x128x12x128_S4x4x8x128x12x128_S4x4x8x256x12x128_d3

/-- The masked scores. -/
def MS (i : IVec S128x1 32) (j : IVec S1x256 32) (q : Vec F S4x4x8x128x12x128 .f32) (k : Vec F S4x4x8x256x12x128 .f32) : Vec F S4x4x8x12x128x256 .f32 :=
  select (broadcastInDim S4x4x8x12x128x256 ![0, 1, 2, 3, 4, 5] bcast_S1x1x8x1x128x256_S4x4x8x12x128x256_0_1_2_3_4_5 (broadcastInDim S1x1x8x1x128x256 ![2, 4, 5] bcast_S8x128x256_S1x1x8x1x128x256_2_4_5 (andi (broadcastInDim S8x128x256 ![0, 1, 2] bcast_S1x128x256_S8x128x256_0_1_2 (broadcastInDim S1x128x256 ![1, 2] bcast_S128x256_S1x128x256_1_2 (andi (cmpi .sge (broadcastInDim S128x256 ![0, 1] bcast_S1x256_S128x256_0_1 j) (broadcastInDim S128x256 ![0, 1] bcast_S128x1_S128x256_0_1 i)) (cmpi .sle (broadcastInDim S128x256 ![0, 1] bcast_S1x256_S128x256_0_1 j) (broadcastInDim S128x256 ![0, 1] bcast_S128x1_S128x256_0_1 (addi i (broadcastInDim S128x1 ![] bcast_S_S128x1 (constantI S_ 32 128#32)))))))) (broadcastInDim S8x128x256 ![0, 1, 2] bcast_S8x1x256_S8x128x256_0_1_2 (ori (broadcastInDim S8x1x256 ![0, 1, 2] bcast_S8x1x1_S8x1x256_0_1_2 (cmpi .sgt (broadcastInDim S8x1x1 ![0] bcast_S8_S8x1x1_0 (iotaInDim S8 32 0)) (broadcastInDim S8x1x1 ![] bcast_S_S8x1x1 (constantI S_ 32 0#32)))) (broadcastInDim S8x1x256 ![0, 1, 2] bcast_S1x1x256_S8x1x256_0_1_2 (cmpi .sge (broadcastInDim S1x1x256 ![1, 2] bcast_S1x256_S1x1x256_1_2 j) (broadcastInDim S1x1x256 ![] bcast_S_S1x1x256 (constantI S_ 32 128#32))))))))) (Host.dotGeneral  dot_S4x4x8x128x12x128_S4x4x8x256x12x128_S4x4x8x12x128x256_5_5_3_3_0124_0124 none q k) (broadcastInDim S4x4x8x12x128x256 ![] bcast_S_S4x4x8x12x128x256 (constant  S_ .f32 0xFF800000#32))

def I0 : IVec S128x1 32 := broadcastInDim S128x1 ![0] bcast_S128_S128x1_0 (iotaInDim S128 32 0)
def J0 : IVec S1x256 32 := broadcastInDim S1x256 ![1] bcast_S256_S1x256_1 (iotaInDim S256 32 0)

/-- The rows' largest scores, log-sum-exps and outputs. -/
def RM (s : Vec F S4x4x8x12x128x256 .f32) : Vec F S4x4x8x12x128 .f32 :=
  Host.reduce (FloatOps.maximumf (F := F) (φ := .f32)) s (constant  S_ .f32 0xFF800000#32) reducesTo_S4x4x8x12x128x256_S4x4x8x12x128_d5 h_S_
def RL (s : Vec F S4x4x8x12x128x256 .f32) (m : Vec F S4x4x8x12x128 .f32) : Vec F S4x4x8x12x128 .f32 :=
  addf m (Host.log (Host.reduceAdd (Host.exp (subf s (broadcastInDim S4x4x8x12x128x256 ![0, 1, 2, 3, 4, 5] bcast_S4x4x8x12x128x1_S4x4x8x12x128x256_0_1_2_3_4_5 (broadcastInDim S4x4x8x12x128x1 ![0, 1, 2, 3, 4] bcast_S4x4x8x12x128_S4x4x8x12x128x1_0_1_2_3_4 m)))) (constant  S_ .f32 0x00000000#32) reducesTo_S4x4x8x12x128x256_S4x4x8x12x128_d5 h_S_))
def RO (v : Vec F S4x4x8x256x12x128 .f32) (s : Vec F S4x4x8x12x128x256 .f32) (l : Vec F S4x4x8x12x128 .f32) : Vec F S4x4096x12x128 .f32 :=
  shapeCast S4x4096x12x128 (transpose S4x8x128x4x12x128 [0, 2, 3, 1, 4, 5] (transpose S4x4x8x128x12x128 [0, 1, 2, 5, 3, 4] (Host.dotGeneral  dot_S4x4x8x256x12x128_S4x4x8x12x128x256_S4x4x8x12x128x128_3_5_5_4_0124_0123 none v (Host.exp (subf s (broadcastInDim S4x4x8x12x128x256 ![0, 1, 2, 3, 4, 5] bcast_S4x4x8x12x128x1_S4x4x8x12x128x256_0_1_2_3_4_5 (broadcastInDim S4x4x8x12x128x1 ![0, 1, 2, 3, 4] bcast_S4x4x8x12x128_S4x4x8x12x128x1_0_1_2_3_4 l))))) transposes_S4x4x8x12x128x128_S4x4x8x128x12x128_0_1_2_5_3_4) transposes_S4x4x8x128x12x128_S4x8x128x4x12x128_0_2_3_1_4_5) shapeCasts_S4x8x128x4x12x128_S4x4096x12x128
def RT (l : Vec F S4x4x8x12x128 .f32) : Vec F S4x4096x12 .f32 :=
  shapeCast S4x4096x12 (transpose S4x8x128x4x12 [0, 2, 4, 1, 3] l transposes_S4x4x8x12x128_S4x8x128x4x12_0_2_4_1_3) shapeCasts_S4x8x128x4x12_S4x4096x12

/-- The log-sum-exps and the outputs of every query. -/
def LG (q k : Vec F S4x4096x12x128 .f32) : Vec F S4x4x8x12x128 .f32 := RL (MS I0 J0 (BK q) (KB (BK k))) (RM (MS I0 J0 (BK q) (KB (BK k))))
def RLS (q k : Vec F S4x4096x12x128 .f32) : Vec F S4x4096x12 .f32 := RT (LG q k)
def ROUT (q k v : Vec F S4x4096x12x128 .f32) : Vec F S4x4096x12x128 .f32 := RO (KB (BK v)) (MS I0 J0 (BK q) (KB (BK k))) (LG q k)

end

/-- The position of place `i` of block `n` of class `r`. -/
def at_ (r : Fin 4) (n : Fin 8) (i : Fin 128) : Fin 4096 := ⟨(n.val * 128 + i.val) * 4 + r.val, by omega⟩

section
variable (b : Fin 4) (r : Fin 4) (n : Fin 8) (h : Fin 12) (i : Fin 128)

theorem BK_at (x : Vec Ideal S4x4096x12x128 .f32) (e : Fin 128) : (BK x (ix6 b r n i h e) : EReal) = x (ix4 b (at_ r n i) h e) := by
  pointwise [BK]
  exact congrArg (fun t => x (ix4 b t h e)) (Fin.ext (by simp only [at_]; omega))

theorem KB_at (z : Vec Ideal S4x4x8x128x12x128 .f32) (j : Fin 256) (e : Fin 128) : (KB z (ix6 b r n j h e) : EReal) =
    if hj : j.val < 128 then if hn : 1 ≤ n.val then z (ix6 b r ⟨n.val - 1, by omega⟩ ⟨j.val, hj⟩ h e) else 0 else z (ix6 b r n ⟨j.val - 128, by omega⟩ h e) := by
  pointwise [KB]
  have hn := n.isLt
  split
  · refine dite_congr (propext (by omega)) (fun _ => rfl) fun _ => rfl
  · rfl

theorem MS_at (q : Vec Ideal S4x4x8x128x12x128 .f32) (k : Vec Ideal S4x4x8x256x12x128 .f32) (j : Fin 256) : (MS I0 J0 q k (ix6 b r n h i j) : EReal) =
    if (i.val ≤ j.val ∧ j.val ≤ i.val + 128) ∧ (0 < n.val ∨ 128 ≤ j.val) then ∑ e : Fin 128, q (ix6 b r n i h e) * k (ix6 b r n j h e) else ⊥ := by
  pointwise [MS, I0, J0]
  rw [mask_select _ _ _ (by omega) i.isLt j.isLt, neg_inf]

theorem RM_at (s : Vec Ideal S4x4x8x12x128x256 .f32) : (RM s (ix5 b r n h i) : EReal) = MX fun j => s (ix6 b r n h i j) := by
  pointwise [RM]
  rw [max_last, neg_inf]
  rfl

theorem RL_at (s : Vec Ideal S4x4x8x12x128x256 .f32) (m : Vec Ideal S4x4x8x12x128 .f32) (hm : (m (ix5 b r n h i) : EReal) = MX fun j => s (ix6 b r n h i j)) :
    (RL s m (ix5 b r n h i) : EReal) = LS fun j => s (ix6 b r n h i j) := by
  pointwise [RL]
  rw [sum_last, zero_add, hm]
  unfold LS SE
  refine congrArg (fun z => _ + Ideal.log z) (Finset.sum_congr rfl fun j _ => ?_)
  pointwise
  rw [hm]

theorem RO_at (v : Vec Ideal S4x4x8x256x12x128 .f32) (s : Vec Ideal S4x4x8x12x128x256 .f32) (l : Vec Ideal S4x4x8x12x128 .f32) (c : Fin 128)
    (hl : (l (ix5 b r n h i) : EReal) = LS fun j => s (ix6 b r n h i j)) :
    (RO v s l (ix4 b (at_ r n i) h c) : EReal) = OR (fun j => s (ix6 b r n h i j)) (fun j => v (ix6 b r n j h c)) := by
  pointwise [RO, at_]
  rw [hl]
  rfl

theorem RT_at (l : Vec Ideal S4x4x8x12x128 .f32) : (RT l (ix3 b (at_ r n i) h) : EReal) = l (ix5 b r n h i) := by
  pointwise [RT, at_]

variable (X : Fin 4 → Fin 4096 → Fin 5632 → EReal)

/-- Key (or value) `j` of the two blocks is the padded row that its query's window has there. -/
theorem KB_row (p : Fin 3) (x : Vec Ideal S4x4096x12x128 .f32) (hx : ∀ b t h e, (x (ix4 b t h e) : EReal) = X b t (col p h e)) (j : Fin 256) (e : Fin 128) :
    (KB (BK x) (ix6 b r n j h e) : EReal) = KR X b h p (row 4 (at_ r n i) j) e := by
  have hr := r.isLt
  have hn := n.isLt
  have hi := i.isLt
  have hj := j.isLt
  have h1 : ((n.val * 128 + i.val) * 4 + r.val) % 4 = r.val := by omega
  have h2 : ((n.val * 128 + i.val) * 4 + r.val) / 4 / 128 = n.val := by omega
  rw [KB_at]
  unfold KR
  by_cases hj : j.val < 128
  · rw [dif_pos hj]
    by_cases hn : 1 ≤ n.val
    · rw [dif_pos hn, dif_pos (by simp only [row, at_, h1, h2]; omega), BK_at, hx]
      exact congrArg (fun t => X b t (col p h e)) (Fin.ext (by simp only [row, at_, h1, h2]; omega))
    · rw [dif_neg hn, dif_neg (by simp only [row, at_, h1, h2]; omega)]
  · rw [dif_neg hj, dif_pos (by simp only [row, at_, h1, h2]; omega), BK_at, hx]
    exact congrArg (fun t => X b t (col p h e)) (Fin.ext (by simp only [row, at_, h1, h2]; omega))

theorem SC_at (q k : Vec Ideal S4x4096x12x128 .f32) (hq : ∀ b t h e, (q (ix4 b t h e) : EReal) = X b t (col 0 h e))
    (hk : ∀ b t h e, (k (ix4 b t h e) : EReal) = X b t (col 1 h e)) :
    (fun j => (MS I0 J0 (BK q) (KB (BK k)) (ix6 b r n h i j) : EReal)) = SC X b h 4 (at_ r n i) := by
  funext j
  have hr := r.isLt
  have hi := i.isLt
  have h1 : ((n.val * 128 + i.val) * 4 + r.val) / 4 % 128 = i.val := by omega
  have h2 : ((n.val * 128 + i.val) * 4 + r.val) / 4 / 128 = n.val := by omega
  rw [MS_at]
  unfold SC DT
  refine if_congr ?_ (Finset.sum_congr rfl fun e _ => ?_) rfl
  · simp only [Sees, at_, h1, h2]
  · rw [BK_at, hq, KB_row b r n h i X 1 k hk]

end

section
variable (X : Fin 4 → Fin 4096 → Fin 5632 → EReal) (q k v : Vec Ideal S4x4096x12x128 .f32)

theorem exists_at (t : Fin 4096) : ∃ r n i, t = at_ r n i :=
  ⟨⟨t.val % 4, by omega⟩, ⟨t.val / 4 / 128, by omega⟩, ⟨t.val / 4 % 128, by omega⟩, Fin.ext (by simp only [at_]; omega)⟩

variable (hq : ∀ b t h e, (q (ix4 b t h e) : EReal) = X b t (col 0 h e)) (hk : ∀ b t h e, (k (ix4 b t h e) : EReal) = X b t (col 1 h e))
include hq hk

theorem RLS_at (b : Fin 4) (t : Fin 4096) (h : Fin 12) : (RLS q k (ix3 b t h) : EReal) = LS (SC X b h 4 t) := by
  obtain ⟨r, n, i, rfl⟩ := exists_at t
  unfold RLS LG
  rw [RT_at, RL_at _ _ _ _ _ _ _ (RM_at _ _ _ _ _ _), SC_at b r n h i X q k hq hk]

theorem ROUT_at (hv : ∀ b t h e, (v (ix4 b t h e) : EReal) = X b t (col 2 h e)) (b : Fin 4) (t : Fin 4096) (h : Fin 12) (c : Fin 128) :
    (ROUT q k v (ix4 b t h c) : EReal) = OR (SC X b h 4 t) (VC X b h 4 t c) := by
  obtain ⟨r, n, i, rfl⟩ := exists_at t
  unfold ROUT LG
  rw [RO_at _ _ _ _ _ _ _ _ _ (RL_at _ _ _ _ _ _ _ (RM_at _ _ _ _ _ _)), SC_at b r n h i X q k hq hk]
  exact congrArg _ (funext fun j => KB_row b r n h i X 2 v hv j c)

end

end Cert.ReferenceIdeal.Attn.D4
-- ==== Proof.R16.lean ====
/-
  The reference's attention at dilation 16, its arrays as functions of the queries, keys and values, and each at an index over extended reals:
  the masked scores are `SC`, the log-sum-exps `LS` of them, the outputs `OR` of them and the values `VC`.
-/
module

public import proofs.«01_k».proof.Proof.RLast
public import proofs.«01_k».proof.Proof.Gen.ReferenceIdeal

@[expose] public section

set_option maxRecDepth 16384

noncomputable section

namespace Cert.ReferenceIdeal.Attn.D16

open Idealize.ShloMosaic Idealize.ShloMosaic.TcCoe
open Cert.ReferenceIdeal.Gen Cert.Attn

section
variable {F : FTy → Type} [FloatOps F]

/-- Positions in blocks of 128 of each residue class. -/
def BK (x : Vec F S4x4096x12x128 .f32) : Vec F S4x16x2x128x12x128 .f32 :=
  transpose S4x16x2x128x12x128 [0, 3, 1, 2, 4, 5] (shapeCast S4x2x128x16x12x128 x shapeCasts_S4x4096x12x128_S4x2x128x16x12x128) transposes_S4x2x128x16x12x128_S4x16x2x128x12x128_0_3_1_2_4_5

/-- Every block behind the block before it, zeros before the first. -/
def KB (z : Vec F S4x16x2x128x12x128 .f32) : Vec F S4x16x2x256x12x128 .f32 :=
  concatenate S4x16x2x256x12x128 3 [⟨S4x16x2x128x12x128, (extractStridedSlice S4x16x2x128x12x128 ![0, 0, 0, 0, 0, 0] (pad S4x16x3x128x12x128 ![0, 0, 1, 0, 0, 0] ![0, 0, 0, 0, 0, 0] ![0, 0, 0, 0, 0, 0] z (constant  S_ .f32 0x00000000#32) pads_S4x16x2x128x12x128_S4x16x3x128x12x128_000_000_100_000_000_000 h_S_) slices_S4x16x3x128x12x128_S4x16x2x128x12x128_0_0_0_0_0_0)⟩, ⟨S4x16x2x128x12x128, z⟩] concatenates_S4x16x2x128x12x128_S4x16x2x128x12x128_S4x16x2x256x12x128_d3

/-- The masked scores. -/
def MS (i : IVec S128x1 32) (j : IVec S1x256 32) (q : Vec F S4x16x2x128x12x128 .f32) (k : Vec F S4x16x2x256x12x128 .f32) : Vec F S4x16x2x12x128x256 .f32 :=
  select (broadcastInDim S4x16x2x12x128x256 ![0, 1, 2, 3, 4, 5] bcast_S1x1x2x1x128x256_S4x16x2x12x128x256_0_1_2_3_4_5 (broadcastInDim S1x1x2x1x128x256 ![2, 4, 5] bcast_S2x128x256_S1x1x2x1x128x256_2_4_5 (andi (broadcastInDim S2x128x256 ![0, 1, 2] bcast_S1x128x256_S2x128x256_0_1_2 (broadcastInDim S1x128x256 ![1, 2] bcast_S128x256_S1x128x256_1_2 (andi (cmpi .sge (broadcastInDim S128x256 ![0, 1] bcast_S1x256_S128x256_0_1 j) (broadcastInDim S128x256 ![0, 1] bcast_S128x1_S128x256_0_1 i)) (cmpi .sle (broadcastInDim S128x256 ![0, 1] bcast_S1x256_S128x256_0_1 j) (broadcastInDim S128x256 ![0, 1] bcast_S128x1_S128x256_0_1 (addi i (broadcastInDim S128x1 ![] bcast_S_S128x1 (constantI S_ 32 128#32)))))))) (broadcastInDim S2x128x256 ![0, 1, 2] bcast_S2x1x256_S2x128x256_0_1_2 (ori (broadcastInDim S2x1x256 ![0, 1, 2] bcast_S2x1x1_S2x1x256_0_1_2 (cmpi .sgt (broadcastInDim S2x1x1 ![0] bcast_S2_S2x1x1_0 (iotaInDim S2 32 0)) (broadcastInDim S2x1x1 ![] bcast_S_S2x1x1 (constantI S_ 32 0#32)))) (broadcastInDim S2x1x256 ![0, 1, 2] bcast_S1x1x256_S2x1x256_0_1_2 (cmpi .sge (broadcastInDim S1x1x256 ![1, 2] bcast_S1x256_S1x1x256_1_2 j) (broadcastInDim S1x1x256 ![] bcast_S_S1x1x256 (constantI S_ 32 128#32))))))))) (Host.dotGeneral  dot_S4x16x2x128x12x128_S4x16x2x256x12x128_S4x16x2x12x128x256_5_5_3_3_0124_0124 none q k) (broadcastInDim S4x16x2x12x128x256 ![] bcast_S_S4x16x2x12x128x256 (constant  S_ .f32 0xFF800000#32))

def I0 : IVec S128x1 32 := broadcastInDim S128x1 ![0] bcast_S128_S128x1_0 (iotaInDim S128 32 0)
def J0 : IVec S1x256 32 := broadcastInDim S1x256 ![1] bcast_S256_S1x256_1 (iotaInDim S256 32 0)

/-- The rows' largest scores, log-sum-exps and outputs. -/
def RM (s : Vec F S4x16x2x12x128x256 .f32) : Vec F S4x16x2x12x128 .f32 :=
  Host.reduce (FloatOps.maximumf (F := F) (φ := .f32)) s (constant  S_ .f32 0xFF800000#32) reducesTo_S4x16x2x12x128x256_S4x16x2x12x128_d5 h_S_
def RL (s : Vec F S4x16x2x12x128x256 .f32) (m : Vec F S4x16x2x12x128 .f32) : Vec F S4x16x2x12x128 .f32 :=
  addf m (Host.log (Host.reduceAdd (Host.exp (subf s (broadcastInDim S4x16x2x12x128x256 ![0, 1, 2, 3, 4, 5] bcast_S4x16x2x12x128x1_S4x16x2x12x128x256_0_1_2_3_4_5 (broadcastInDim S4x16x2x12x128x1 ![0, 1, 2, 3, 4] bcast_S4x16x2x12x128_S4x16x2x12x128x1_0_1_2_3_4 m)))) (constant  S_ .f32 0x00000000#32) reducesTo_S4x16x2x12x128x256_S4x16x2x12x128_d5 h_S_))
def RO (v : Vec F S4x16x2x256x12x128 .f32) (s : Vec F S4x16x2x12x128x256 .f32) (l : Vec F S4x16x2x12x128 .f32) : Vec F S4x4096x12x128 .f32 :=
  shapeCast S4x4096x12x128 (transpose S4x2x128x16x12x128 [0, 2, 3, 1, 4, 5] (transpose S4x16x2x128x12x128 [0, 1, 2, 5, 3, 4] (Host.dotGeneral  dot_S4x16x2x256x12x128_S4x16x2x12x128x256_S4x16x2x12x128x128_3_5_5_4_0124_0123 none v (Host.exp (subf s (broadcastInDim S4x16x2x12x128x256 ![0, 1, 2, 3, 4, 5] bcast_S4x16x2x12x128x1_S4x16x2x12x128x256_0_1_2_3_4_5 (broadcastInDim S4x16x2x12x128x1 ![0, 1, 2, 3, 4] bcast_S4x16x2x12x128_S4x16x2x12x128x1_0_1_2_3_4 l))))) transposes_S4x16x2x12x128x128_S4x16x2x128x12x128_0_1_2_5_3_4) transposes_S4x16x2x128x12x128_S4x2x128x16x12x128_0_2_3_1_4_5) shapeCasts_S4x2x128x16x12x128_S4x4096x12x128
def RT (l : Vec F S4x16x2x12x128 .f32) : Vec F S4x4096x12 .f32 :=
  shapeCast S4x4096x12 (transpose S4x2x128x16x12 [0, 2, 4, 1, 3] l transposes_S4x16x2x12x128_S4x2x128x16x12_0_2_4_1_3) shapeCasts_S4x2x128x16x12_S4x4096x12

/-- The log-sum-exps and the outputs of every query. -/
def LG (q k : Vec F S4x4096x12x128 .f32) : Vec F S4x16x2x12x128 .f32 := RL (MS I0 J0 (BK q) (KB (BK k))) (RM (MS I0 J0 (BK q) (KB (BK k))))
def RLS (q k : Vec F S4x4096x12x128 .f32) : Vec F S4x4096x12 .f32 := RT (LG q k)
def ROUT (q k v : Vec F S4x4096x12x128 .f32) : Vec F S4x4096x12x128 .f32 := RO (KB (BK v)) (MS I0 J0 (BK q) (KB (BK k))) (LG q k)

end

/-- The position of place `i` of block `n` of class `r`. -/
def at_ (r : Fin 16) (n : Fin 2) (i : Fin 128) : Fin 4096 := ⟨(n.val * 128 + i.val) * 16 + r.val, by omega⟩

section
variable (b : Fin 4) (r : Fin 16) (n : Fin 2) (h : Fin 12) (i : Fin 128)

theorem BK_at (x : Vec Ideal S4x4096x12x128 .f32) (e : Fin 128) : (BK x (ix6 b r n i h e) : EReal) = x (ix4 b (at_ r n i) h e) := by
  pointwise [BK]
  exact congrArg (fun t => x (ix4 b t h e)) (Fin.ext (by simp only [at_]; omega))

theorem KB_at (z : Vec Ideal S4x16x2x128x12x128 .f32) (j : Fin 256) (e : Fin 128) : (KB z (ix6 b r n j h e) : EReal) =
    if hj : j.val < 128 then if hn : 1 ≤ n.val then z (ix6 b r ⟨n.val - 1, by omega⟩ ⟨j.val, hj⟩ h e) else 0 else z (ix6 b r n ⟨j.val - 128, by omega⟩ h e) := by
  pointwise [KB]
  have hn := n.isLt
  split
  · refine dite_congr (propext (by omega)) (fun _ => rfl) fun _ => rfl
  · rfl

theorem MS_at (q : Vec Ideal S4x16x2x128x12x128 .f32) (k : Vec Ideal S4x16x2x256x12x128 .f32) (j : Fin 256) : (MS I0 J0 q k (ix6 b r n h i j) : EReal) =
    if (i.val ≤ j.val ∧ j.val ≤ i.val + 128) ∧ (0 < n.val ∨ 128 ≤ j.val) then ∑ e : Fin 128, q (ix6 b r n i h e) * k (ix6 b r n j h e) else ⊥ := by
  pointwise [MS, I0, J0]
  rw [mask_select _ _ _ (by omega) i.isLt j.isLt, neg_inf]

theorem RM_at (s : Vec Ideal S4x16x2x12x128x256 .f32) : (RM s (ix5 b r n h i) : EReal) = MX fun j => s (ix6 b r n h i j) := by
  pointwise [RM]
  rw [max_last, neg_inf]
  rfl

theorem RL_at (s : Vec Ideal S4x16x2x12x128x256 .f32) (m : Vec Ideal S4x16x2x12x128 .f32) (hm : (m (ix5 b r n h i) : EReal) = MX fun j => s (ix6 b r n h i j)) :
    (RL s m (ix5 b r n h i) : EReal) = LS fun j => s (ix6 b r n h i j) := by
  pointwise [RL]
  rw [sum_last, zero_add, hm]
  unfold LS SE
  refine congrArg (fun z => _ + Ideal.log z) (Finset.sum_congr rfl fun j _ => ?_)
  pointwise
  rw [hm]

theorem RO_at (v : Vec Ideal S4x16x2x256x12x128 .f32) (s : Vec Ideal S4x16x2x12x128x256 .f32) (l : Vec Ideal S4x16x2x12x128 .f32) (c : Fin 128)
    (hl : (l (ix5 b r n h i) : EReal) = LS fun j => s (ix6 b r n h i j)) :
    (RO v s l (ix4 b (at_ r n i) h c) : EReal) = OR (fun j => s (ix6 b r n h i j)) (fun j => v (ix6 b r n j h c)) := by
  pointwise [RO, at_]
  rw [hl]
  rfl

theorem RT_at (l : Vec Ideal S4x16x2x12x128 .f32) : (RT l (ix3 b (at_ r n i) h) : EReal) = l (ix5 b r n h i) := by
  pointwise [RT, at_]

variable (X : Fin 4 → Fin 4096 → Fin 5632 → EReal)

/-- Key (or value) `j` of the two blocks is the padded row that its query's window has there. -/
theorem KB_row (p : Fin 3) (x : Vec Ideal S4x4096x12x128 .f32) (hx : ∀ b t h e, (x (ix4 b t h e) : EReal) = X b t (col p h e)) (j : Fin 256) (e : Fin 128) :
    (KB (BK x) (ix6 b r n j h e) : EReal) = KR X b h p (row 16 (at_ r n i) j) e := by
  have hr := r.isLt
  have hn := n.isLt
  have hi := i.isLt
  have hj := j.isLt
  have h1 : ((n.val * 128 + i.val) * 16 + r.val) % 16 = r.val := by omega
  have h2 : ((n.val * 128 + i.val) * 16 + r.val) / 16 / 128 = n.val := by omega
  rw [KB_at]
  unfold KR
  by_cases hj : j.val < 128
  · rw [dif_pos hj]
    by_cases hn : 1 ≤ n.val
    · rw [dif_pos hn, dif_pos (by simp only [row, at_, h1, h2]; omega), BK_at, hx]
      exact congrArg (fun t => X b t (col p h e)) (Fin.ext (by simp only [row, at_, h1, h2]; omega))
    · rw [dif_neg hn, dif_neg (by simp only [row, at_, h1, h2]; omega)]
  · rw [dif_neg hj, dif_pos (by simp only [row, at_, h1, h2]; omega), BK_at, hx]
    exact congrArg (fun t => X b t (col p h e)) (Fin.ext (by simp only [row, at_, h1, h2]; omega))

theorem SC_at (q k : Vec Ideal S4x4096x12x128 .f32) (hq : ∀ b t h e, (q (ix4 b t h e) : EReal) = X b t (col 0 h e))
    (hk : ∀ b t h e, (k (ix4 b t h e) : EReal) = X b t (col 1 h e)) :
    (fun j => (MS I0 J0 (BK q) (KB (BK k)) (ix6 b r n h i j) : EReal)) = SC X b h 16 (at_ r n i) := by
  funext j
  have hr := r.isLt
  have hi := i.isLt
  have h1 : ((n.val * 128 + i.val) * 16 + r.val) / 16 % 128 = i.val := by omega
  have h2 : ((n.val * 128 + i.val) * 16 + r.val) / 16 / 128 = n.val := by omega
  rw [MS_at]
  unfold SC DT
  refine if_congr ?_ (Finset.sum_congr rfl fun e _ => ?_) rfl
  · simp only [Sees, at_, h1, h2]
  · rw [BK_at, hq, KB_row b r n h i X 1 k hk]

end

section
variable (X : Fin 4 → Fin 4096 → Fin 5632 → EReal) (q k v : Vec Ideal S4x4096x12x128 .f32)

theorem exists_at (t : Fin 4096) : ∃ r n i, t = at_ r n i :=
  ⟨⟨t.val % 16, by omega⟩, ⟨t.val / 16 / 128, by omega⟩, ⟨t.val / 16 % 128, by omega⟩, Fin.ext (by simp only [at_]; omega)⟩

variable (hq : ∀ b t h e, (q (ix4 b t h e) : EReal) = X b t (col 0 h e)) (hk : ∀ b t h e, (k (ix4 b t h e) : EReal) = X b t (col 1 h e))
include hq hk

theorem RLS_at (b : Fin 4) (t : Fin 4096) (h : Fin 12) : (RLS q k (ix3 b t h) : EReal) = LS (SC X b h 16 t) := by
  obtain ⟨r, n, i, rfl⟩ := exists_at t
  unfold RLS LG
  rw [RT_at, RL_at _ _ _ _ _ _ _ (RM_at _ _ _ _ _ _), SC_at b r n h i X q k hq hk]

theorem ROUT_at (hv : ∀ b t h e, (v (ix4 b t h e) : EReal) = X b t (col 2 h e)) (b : Fin 4) (t : Fin 4096) (h : Fin 12) (c : Fin 128) :
    (ROUT q k v (ix4 b t h c) : EReal) = OR (SC X b h 16 t) (VC X b h 16 t c) := by
  obtain ⟨r, n, i, rfl⟩ := exists_at t
  unfold ROUT LG
  rw [RO_at _ _ _ _ _ _ _ _ _ (RL_at _ _ _ _ _ _ _ (RM_at _ _ _ _ _ _)), SC_at b r n h i X q k hq hk]
  exact congrArg _ (funext fun j => KB_row b r n h i X 2 v hv j c)

end

end Cert.ReferenceIdeal.Attn.D16
-- ==== Proof.RVal.lean ====
/-
  The reference's result array: its named terms are the arrays of Proof/R1.lean, R4.lean and R16.lean joined by the softmax over the three
  log-sum-exps, and at an index over extended reals the whole is `AT`.
-/
module

public import proofs.«01_k».proof.Proof.R1
public import proofs.«01_k».proof.Proof.R4
public import proofs.«01_k».proof.Proof.R16
public import proofs.«01_k».proof.Proof.Gen.ReferenceIdeal.Run

@[expose] public section

set_option maxRecDepth 16384

noncomputable section

namespace Cert.ReferenceIdeal.Attn

open Idealize.ShloMosaic Idealize.ShloMosaic.TcCoe
open Cert.ReferenceIdeal.Gen Cert.ReferenceIdeal.Value Cert.Attn

section
variable {F : FTy → Type} [FloatOps F]

/-- The columns of the queries, of the keys and of the values, by heads. -/
def QP (x : Vec F S4x4096x5632 .bf16) : Vec F S4x4096x12x128 .f32 :=
  shapeCast S4x4096x12x128 (extractStridedSlice S4x4096x1536 ![0, 0, 0] (extf .f32 x bitsLt_bf16_f32) slices_S4x4096x5632_S4x4096x1536_0_0_0) shapeCasts_S4x4096x1536_S4x4096x12x128
def KP (x : Vec F S4x4096x5632 .bf16) : Vec F S4x4096x12x128 .f32 :=
  shapeCast S4x4096x12x128 (extractStridedSlice S4x4096x1536 ![0, 0, 1536] (extf .f32 x bitsLt_bf16_f32) slices_S4x4096x5632_S4x4096x1536_0_0_1536) shapeCasts_S4x4096x1536_S4x4096x12x128
def WP (x : Vec F S4x4096x5632 .bf16) : Vec F S4x4096x12x128 .f32 :=
  shapeCast S4x4096x12x128 (extractStridedSlice S4x4096x1536 ![0, 0, 3072] (extf .f32 x bitsLt_bf16_f32) slices_S4x4096x5632_S4x4096x1536_0_0_3072) shapeCasts_S4x4096x1536_S4x4096x12x128

/-- The three dilations' log-sum-exps stacked. -/
def ST (l0 l1 l2 : Vec F S4x4096x12 .f32) : Vec F S3x4x4096x12 .f32 :=
  concatenate S3x4x4096x12 0 [⟨S1x4x4096x12, broadcastInDim S1x4x4096x12 ![1, 2, 3] bcast_S4x4096x12_S1x4x4096x12_1_2_3 l0⟩, ⟨S1x4x4096x12, broadcastInDim S1x4x4096x12 ![1, 2, 3] bcast_S4x4096x12_S1x4x4096x12_1_2_3 l1⟩, ⟨S1x4x4096x12, broadcastInDim S1x4x4096x12 ![1, 2, 3] bcast_S4x4096x12_S1x4x4096x12_1_2_3 l2⟩] concatenates_S1x4x4096x12_S1x4x4096x12_S1x4x4096x12_S3x4x4096x12_d0

/-- The softmax over the stack: its exponentials and its weights. -/
def EX (s : Vec F S3x4x4096x12 .f32) : Vec F S3x4x4096x12 .f32 :=
  Host.exp (subf s (broadcastInDim S3x4x4096x12 ![0, 1, 2, 3] bcast_S1x4x4096x12_S3x4x4096x12_0_1_2_3 (broadcastInDim S1x4x4096x12 ![1, 2, 3] bcast_S4x4096x12_S1x4x4096x12_1_2_3 (maximumf (broadcastInDim S4x4096x12 ![] bcast_S_S4x4096x12 (constant S_ .f32 0xFF800000#32)) (Host.reduce (FloatOps.maximumf (F := F) (φ := .f32)) s (constant S_ .f32 0xFF800000#32) reducesTo_S3x4x4096x12_S4x4096x12_d0 h_S_)))))
def WT (e : Vec F S3x4x4096x12 .f32) : Vec F S3x4x4096x12 .f32 :=
  Host.divf e (broadcastInDim S3x4x4096x12 ![0, 1, 2, 3] bcast_S1x4x4096x12_S3x4x4096x12_0_1_2_3 (broadcastInDim S1x4x4096x12 ![1, 2, 3] bcast_S4x4096x12_S1x4x4096x12_1_2_3 (Host.reduceAdd e (constant S_ .f32 0x00000000#32) reducesTo_S3x4x4096x12_S4x4096x12_d0 h_S_)))

/-- One dilation's weight over its output, and the sum of the three. -/
def SUM (w : Vec F S3x4x4096x12 .f32) (o0 o1 o2 : Vec F S4x4096x12x128 .f32) : Vec F S4x4096x12x128 .f32 :=
  addf (addf (addf (broadcastInDim S4x4096x12x128 ![] bcast_S_S4x4096x12x128 (constant S_ .f32 0x00000000#32)) (mulf (broadcastInDim S4x4096x12x128 ![0, 1, 2, 3] bcast_S4x4096x12x1_S4x4096x12x128_0_1_2_3 (broadcastInDim S4x4096x12x1 ![0, 1, 2] bcast_S4x4096x12_S4x4096x12x1_0_1_2 (shapeCast S4x4096x12 (extractStridedSlice S1x4x4096x12 ![0, 0, 0, 0] w slices_S3x4x4096x12_S1x4x4096x12_0_0_0_0) shapeCasts_S1x4x4096x12_S4x4096x12))) o0)) (mulf (broadcastInDim S4x4096x12x128 ![0, 1, 2, 3] bcast_S4x4096x12x1_S4x4096x12x128_0_1_2_3 (broadcastInDim S4x4096x12x1 ![0, 1, 2] bcast_S4x4096x12_S4x4096x12x1_0_1_2 (shapeCast S4x4096x12 (extractStridedSlice S1x4x4096x12 ![1, 0, 0, 0] w slices_S3x4x4096x12_S1x4x4096x12_1_0_0_0) shapeCasts_S1x4x4096x12_S4x4096x12))) o1)) (mulf (broadcastInDim S4x4096x12x128 ![0, 1, 2, 3] bcast_S4x4096x12x1_S4x4096x12x128_0_1_2_3 (broadcastInDim S4x4096x12x1 ![0, 1, 2] bcast_S4x4096x12_S4x4096x12x1_0_1_2 (shapeCast S4x4096x12 (extractStridedSlice S1x4x4096x12 ![2, 0, 0, 0] w slices_S3x4x4096x12_S1x4x4096x12_2_0_0_0) shapeCasts_S1x4x4096x12_S4x4096x12))) o2)

section
variable (V : Valuation τ sig (Elt F))

/-- Queries, keys and values. -/
def Q : Vec F S4x4096x12x128 .f32 := res_main_v5 V
def K : Vec F S4x4096x12x128 .f32 := res_main_v6 V
def W : Vec F S4x4096x12x128 .f32 := res_main_v7 V

theorem score1 : res_main_v51 V = D1.MS D1.I0 D1.J0 (D1.BK (Q V)) (D1.KB (D1.BK (K V))) := rfl
theorem largest1 : res_main_v52 V = D1.RM (res_main_v51 V) := rfl
theorem lse1 : res_main_v59 V = D1.LG (Q V) (K V) := by
  unfold D1.LG
  rw [← score1, ← largest1]
  rfl
theorem score4 : res_main_v113 V = D4.MS D4.I0 D4.J0 (D4.BK (Q V)) (D4.KB (D4.BK (K V))) := rfl
theorem largest4 : res_main_v114 V = D4.RM (res_main_v113 V) := rfl
theorem lse4 : res_main_v121 V = D4.LG (Q V) (K V) := by
  unfold D4.LG
  rw [← score4, ← largest4]
  rfl
theorem score16 : res_main_v175 V = D16.MS D16.I0 D16.J0 (D16.BK (Q V)) (D16.KB (D16.BK (K V))) := rfl
theorem largest16 : res_main_v176 V = D16.RM (res_main_v175 V) := rfl
theorem lse16 : res_main_v183 V = D16.LG (Q V) (K V) := by
  unfold D16.LG
  rw [← score16, ← largest16]
  rfl

theorem stack : res_main_v197 V = ST (D1.RLS (Q V) (K V)) (D4.RLS (Q V) (K V)) (D16.RLS (Q V) (K V)) := by
  unfold D1.RLS D4.RLS D16.RLS
  rw [← lse1, ← lse4, ← lse16]
  rfl

theorem weights : res_main_v208 V = WT (EX (ST (D1.RLS (Q V) (K V)) (D4.RLS (Q V) (K V)) (D16.RLS (Q V) (K V)))) := by
  rw [← stack]
  rfl

theorem result : res_main_v227 V = SUM (WT (EX (ST (D1.RLS (Q V) (K V)) (D4.RLS (Q V) (K V)) (D16.RLS (Q V) (K V)))))
    (D1.ROUT (Q V) (K V) (W V)) (D4.ROUT (Q V) (K V) (W V)) (D16.ROUT (Q V) (K V) (W V)) := by
  unfold D1.ROUT D4.ROUT D16.ROUT
  rw [← weights, ← lse1, ← lse4, ← lse16, ← score1, ← score4, ← score16]
  rfl
end
end

theorem max_three (f : Fin 3 → EReal) : max ⊥ (Finset.fold max ⊥ f Finset.univ) = max (max (f 0) (f 1)) (f 2) := by
  have hu : (Finset.univ : Finset (Fin 3)) = {0, 1, 2} := by decide
  rw [hu, Finset.fold_insert (by decide), Finset.fold_insert (by decide), Finset.fold_singleton, max_eq_right bot_le, max_eq_left (bot_le : ⊥ ≤ f 2), max_assoc]

section
variable (b : Fin 4) (t : Fin 4096) (h : Fin 12)

theorem ST_at (l0 l1 l2 : Vec Ideal S4x4096x12 .f32) (p : Fin 3) : (ST l0 l1 l2 (ix4 p b t h) : EReal) =
    if p.val < 1 then l0 (ix3 b t h) else if p.val < 2 then l1 (ix3 b t h) else l2 (ix3 b t h) := by
  pointwise [ST]
  split_ifs <;> first | rfl | omega

theorem ST_0 (l0 l1 l2 : Vec Ideal S4x4096x12 .f32) : (ST l0 l1 l2 (ix4 0 b t h) : EReal) = l0 (ix3 b t h) := by rw [ST_at]; rfl
theorem ST_1 (l0 l1 l2 : Vec Ideal S4x4096x12 .f32) : (ST l0 l1 l2 (ix4 1 b t h) : EReal) = l1 (ix3 b t h) := by rw [ST_at]; rfl
theorem ST_2 (l0 l1 l2 : Vec Ideal S4x4096x12 .f32) : (ST l0 l1 l2 (ix4 2 b t h) : EReal) = l2 (ix3 b t h) := by rw [ST_at]; rfl

theorem EX_at (s : Vec Ideal S3x4x4096x12 .f32) (p : Fin 3) : (EX s (ix4 p b t h) : EReal) =
    Ideal.exp (s (ix4 p b t h) - max (max (s (ix4 0 b t h)) (s (ix4 1 b t h))) (s (ix4 2 b t h))) := by
  pointwise [EX]
  rw [neg_inf, max_three]

theorem WT_at (e : Vec Ideal S3x4x4096x12 .f32) (p : Fin 3) : (WT e (ix4 p b t h) : EReal) =
    Ideal.div (e (ix4 p b t h)) (e (ix4 0 b t h) + e (ix4 1 b t h) + e (ix4 2 b t h)) := by
  pointwise [WT]
  rw [Fin.sum_univ_three]

theorem SUM_at (w : Vec Ideal S3x4x4096x12 .f32) (o0 o1 o2 : Vec Ideal S4x4096x12x128 .f32) (c : Fin 128) : (SUM w o0 o1 o2 (ix4 b t h c) : EReal) =
    w (ix4 0 b t h) * o0 (ix4 b t h c) + w (ix4 1 b t h) * o1 (ix4 b t h c) + w (ix4 2 b t h) * o2 (ix4 b t h c) := by
  pointwise [SUM]

end

theorem QP_at (x : Vec Ideal S4x4096x5632 .bf16) (b : Fin 4) (t : Fin 4096) (h : Fin 12) (e : Fin 128) :
    (QP x (ix4 b t h e) : EReal) =
      x (ix3 b t (col 0 h e)) := by
  pointwise [QP]
  exact congrArg (fun w => x (ix3 b t w)) (Fin.ext (by simp [col]))

theorem KP_at (x : Vec Ideal S4x4096x5632 .bf16) (b : Fin 4) (t : Fin 4096) (h : Fin 12) (e : Fin 128) :
    (KP x (ix4 b t h e) : EReal) =
      x (ix3 b t (col 1 h e)) := by
  pointwise [KP]
  exact congrArg (fun w => x (ix3 b t w)) (Fin.ext (by simp [col]; omega))

theorem WP_at (x : Vec Ideal S4x4096x5632 .bf16) (b : Fin 4) (t : Fin 4096) (h : Fin 12) (e : Fin 128) :
    (WP x (ix4 b t h e) : EReal) =
      x (ix3 b t (col 2 h e)) := by
  pointwise [WP]
  exact congrArg (fun w => x (ix3 b t w)) (Fin.ext (by simp [col]; omega))

section
variable (V : Valuation τ sig (Elt Ideal)) (X : Fin 4 → Fin 4096 → Fin 5632 → EReal)
  (hX : ∀ b t w, ((V (Proc.devRef .tc main_arg0)) (ix3 b t w) : EReal) = X b t w)
include hX

theorem Q_at (b : Fin 4) (t : Fin 4096) (h : Fin 12) (e : Fin 128) : (Q V (ix4 b t h e) : EReal) = X b t (col 0 h e) := by
  rw [← hX]
  exact QP_at (V (Proc.devRef .tc main_arg0)) b t h e

theorem K_at (b : Fin 4) (t : Fin 4096) (h : Fin 12) (e : Fin 128) : (K V (ix4 b t h e) : EReal) = X b t (col 1 h e) := by
  rw [← hX]
  exact KP_at (V (Proc.devRef .tc main_arg0)) b t h e

theorem W_at (b : Fin 4) (t : Fin 4096) (h : Fin 12) (e : Fin 128) : (W V (ix4 b t h e) : EReal) = X b t (col 2 h e) := by
  rw [← hX]
  exact WP_at (V (Proc.devRef .tc main_arg0)) b t h e

/-- The reference's array before its last reshape. -/
def RS (V : Valuation τ sig (Elt Ideal)) : Vec Ideal S4x4096x12x128 .f32 := res_main_v227 V

theorem RS_at (b : Fin 4) (t : Fin 4096) (h : Fin 12) (c : Fin 128) : (RS V (ix4 b t h c) : EReal) = AT X b h t c := by
  have hq := Q_at V X hX
  have hk := K_at V X hX
  have hv := W_at V X hX
  unfold RS
  rw [result, SUM_at]
  simp only [WT_at, EX_at, ST_0, ST_1, ST_2]
  rw [D1.RLS_at X _ _ hq hk, D4.RLS_at X _ _ hq hk, D16.RLS_at X _ _ hq hk, D1.ROUT_at X _ _ _ hq hk hv, D4.ROUT_at X _ _ _ hq hk hv, D16.ROUT_at X _ _ _ hq hk hv]
  rfl

/-- The reference's result. -/
def REF (V : Valuation τ sig (Elt Ideal)) : Vec Ideal S4x4096x1536 .f32 := shapeCast S4x4096x1536 (RS V) shapeCasts_S4x4096x12x128_S4x4096x1536

theorem REF_at (b : Fin 4) (t : Fin 4096) (y : Fin 1536) : (REF V (ix3 b t y) : EReal) = AT X b ⟨y.val / 128, by omega⟩ t ⟨y.val % 128, by omega⟩ := by
  rw [← RS_at V X hX]
  pointwise [REF]
end

end Cert.ReferenceIdeal.Attn
-- ==== Proof.PTile.lean ====
/-
  The input projection on one tile of 512 rows, over any float values `F`: the normalised, modulated rows (`HN`), their
  products with a block of 256 weight columns (`ACC`), and the 5632 result columns (`TILE`): rotated and scaled queries,
  rotated keys, values, and the two gated columns. The stores of the kernel's body leave `TILE`.
-/
module

public import proofs.«01_k».proof.Proof.Gen.Kernel2Ideal.Frame
public import proofs.«01_k».proof.Proof.Gen.Kernel2Ideal.Skeleton
public import Idealize.ShloMosaic.Lib.WritesUnit
public import Idealize.ShloMosaic.Lib.VecWindow
public import Idealize.ShloMosaic.Lib.Pointwise

@[expose] public section

set_option maxRecDepth 16384

noncomputable section

namespace Cert.Kernel2Ideal.Proj

open Idealize.ShloMosaic Idealize.ShloMosaic.TcCoe
open Cert.Kernel2Ideal.Gen

variable {F : FTy → Type} [FloatOps F]

/-! ## The tile's values -/

/-- The 128 rows of a tile that trip `k` normalises. -/
def XR (x : Vec F S512x2048 .f32) (k : Fin 4) : Vec F S128x2048 .f32 := fun j =>
  x (ix2 ⟨128 * k.val + (j 0).val, by have : (j 0).val < 128 := (j 0).isLt; omega⟩ (j 1))

/-- The normalised and modulated rows: `g` the norm's weight, `sc` and `sh` the scale and the shift. -/
def HN (x : Vec F S512x2048 .f32) (sh sc : Vec F S1x1x1x2048 .f32) (g : Vec F S1x2048 .f32) : Vec F S512x2048 .bf16 := fun y =>
  k0_pay2 g sc sh (XR x ⟨(y 0).val / 128, by have : (y 0).val < 512 := (y 0).isLt; omega⟩) (ix2 ⟨(y 0).val % 128, by omega⟩ (y 1))

/-- Block `j` of 256 weight columns. -/
def WB (w : Vec F S2048x5632 .bf16) (j : Fin 22) : Vec F S2048x256 .bf16 := fun y =>
  w (ix2 (y 0) ⟨256 * j.val + (y 1).val, by have : (y 1).val < 256 := (y 1).isLt; omega⟩)

/-- The rows' products with a block of columns. -/
def ACC (h : Vec F S512x2048 .bf16) (b : Vec F S2048x256 .bf16) : FVec F S512x256 .f32 :=
  matmul dot_S512x2048_S2048x256_S512x256_1_0_0_1_n_n none h (shapeCast S2048x256 b shapeCasts_S2048x256_S2048x256) (constant S512x256 .f32 0x00000000#32)

/-- One head's 128 columns of a block: the first head or the second. -/
def HEAD (a : FVec F S512x256 .f32) : Fin 2 → FVec F S512x128 .f32
  | 0 => extractStridedSlice S512x128 ![0, 0] a slices_S512x256_o0_0_S512x128
  | 1 => extractStridedSlice S512x128 ![0, 128] a slices_S512x256_o0_128_S512x128

/-- A head's columns rotated by the two tables. -/
def ROT (a : FVec F S512x128 .f32) (c s : Vec F S512x128 .f32) : FVec F S512x128 .f32 :=
  addf (mulf a (shapeCast S512x128 c shapeCasts_S512x128_S512x128))
    (mulf (dynamicRotate 1 64#32 none a rotates_S512x128_d1) (shapeCast S512x128 s shapeCasts_S512x128_S512x128))

/-- A query head: rotated, scaled. -/
def QO (a : FVec F S512x128 .f32) (c s : Vec F S512x128 .f32) : FVec F S512x128 .bf16 :=
  truncf .bf16 (mulf (ROT a c s) (broadcast S512x128 (Scalar.ofBits .f32 0x3DB504F3#32))) bitsLt_bf16_f32

/-- A key head: rotated. -/
def KO (a : FVec F S512x128 .f32) (c s : Vec F S512x128 .f32) : FVec F S512x128 .bf16 :=
  truncf .bf16 (ROT a c s) bitsLt_bf16_f32

/-- Value columns. -/
def VO (a : FVec F S512x256 .f32) : FVec F S512x256 .bf16 := truncf .bf16 a bitsLt_bf16_f32

/-- Gated columns. -/
def UO (a : FVec F S512x256 .f32) : FVec F S512x256 .bf16 :=
  truncf .bf16 (mulf (mulf (broadcast S512x256 (Scalar.ofBits .f32 0x3F000000#32)) a)
    (addf (broadcast S512x256 (Scalar.ofBits .f32 0x3F800000#32)) (erf (mulf a (broadcast S512x256 (Scalar.ofBits .f32 0x3F3504F3#32)))))) bitsLt_bf16_f32

/-- The tile's result columns; `b j` is block `j` of 256 weight columns. -/
def TILE (h : Vec F S512x2048 .bf16) (b : Fin 22 → Vec F S2048x256 .bf16) (c s : Vec F S512x128 .f32) : Vec F S512x5632 .bf16 := fun y =>
  have hy : (y 1).val < 5632 := (y 1).isLt
  have a : FVec F S512x256 .f32 := ACC h (b ⟨(y 1).val / 256, by omega⟩)
  have hd : Fin 2 := ⟨(y 1).val / 128 % 2, by omega⟩
  have e1 : S512x128.Idx := ix2 (y 0) ⟨(y 1).val % 128, by omega⟩
  have e2 : S512x256.Idx := ix2 (y 0) ⟨(y 1).val % 256, by omega⟩
  if (y 1).val < 1536 then QO (HEAD a hd) c s e1
  else if (y 1).val < 3072 then KO (HEAD a hd) c s e1
  else if (y 1).val < 4608 then VO a e2
  else UO a e2

section Read

variable (h : Vec F S512x2048 .bf16) (b : Fin 22 → Vec F S2048x256 .bf16) (c s : Vec F S512x128 .f32)

theorem self128 (x : S512x128.Idx) (a : Fin 512) (d : Fin 128) (ha : a.val = (x 0).val) (hb : d.val = (x 1).val) :
    (ix2 a d : S512x128.Idx) = x := by
  funext i
  match i with
  | ⟨0, _⟩ => exact Fin.ext ha
  | ⟨1, _⟩ => exact Fin.ext hb

theorem self256 (x : S512x256.Idx) (a : Fin 512) (d : Fin 256) (ha : a.val = (x 0).val) (hb : d.val = (x 1).val) :
    (ix2 a d : S512x256.Idx) = x := by
  funext i
  match i with
  | ⟨0, _⟩ => exact Fin.ext ha
  | ⟨1, _⟩ => exact Fin.ext hb

/-- The tile at an index of a query head, of a key head, of a block of values, of a gated block. -/
theorem TILE_q (j : Fin 6) (d : Fin 2) (x : S512x128.Idx) (y : S512x5632.Idx) (h0 : (y 0).val = (x 0).val) (h1 : (y 1).val = 256 * j.val + 128 * d.val + (x 1).val) :
    TILE h b c s y = QO (HEAD (ACC h (b ⟨j.val, by omega⟩)) d) c s x := by
  have hx : (x 1).val < 128 := (x 1).isLt
  unfold TILE
  have e1 : (y 1).val / 256 = j.val := by omega
  have e2 : (y 1).val / 128 % 2 = d.val := by omega
  simp only [e1, e2, Fin.eta]
  rw [if_pos (by omega)]
  exact congrArg _ (self128 x _ _ h0 (by show (y 1).val % 128 = _; omega))

theorem TILE_k (j : Fin 6) (d : Fin 2) (x : S512x128.Idx) (y : S512x5632.Idx) (h0 : (y 0).val = (x 0).val) (h1 : (y 1).val = 1536 + 256 * j.val + 128 * d.val + (x 1).val) :
    TILE h b c s y = KO (HEAD (ACC h (b ⟨6 + j.val, by omega⟩)) d) c s x := by
  have hx : (x 1).val < 128 := (x 1).isLt
  unfold TILE
  have e1 : (y 1).val / 256 = 6 + j.val := by omega
  have e2 : (y 1).val / 128 % 2 = d.val := by omega
  simp only [e1, e2, Fin.eta]
  rw [if_neg (by omega), if_pos (by omega)]
  exact congrArg _ (self128 x _ _ h0 (by show (y 1).val % 128 = _; omega))

theorem TILE_v (j : Fin 6) (x : S512x256.Idx) (y : S512x5632.Idx) (h0 : (y 0).val = (x 0).val) (h1 : (y 1).val = 3072 + 256 * j.val + (x 1).val) :
    TILE h b c s y = VO (ACC h (b ⟨12 + j.val, by omega⟩)) x := by
  have hx : (x 1).val < 256 := (x 1).isLt
  unfold TILE
  have e1 : (y 1).val / 256 = 12 + j.val := by omega
  simp only [e1]
  rw [if_neg (by omega), if_neg (by omega), if_pos (by omega)]
  exact congrArg _ (self256 x _ _ h0 (by show (y 1).val % 256 = _; omega))

theorem TILE_u (j : Fin 4) (x : S512x256.Idx) (y : S512x5632.Idx) (h0 : (y 0).val = (x 0).val) (h1 : (y 1).val = 4608 + 256 * j.val + (x 1).val) :
    TILE h b c s y = UO (ACC h (b ⟨18 + j.val, by omega⟩)) x := by
  have hx : (x 1).val < 256 := (x 1).isLt
  unfold TILE
  have e1 : (y 1).val / 256 = 18 + j.val := by omega
  simp only [e1]
  rw [if_neg (by omega), if_neg (by omega), if_neg (by omega)]
  exact congrArg _ (self256 x _ _ h0 (by show (y 1).val % 256 = _; omega))

end Read

end Cert.Kernel2Ideal.Proj
-- ==== Proof.PBody.lean ====
/-
  What one grid point of the input projection leaves in its output block: the tile's function `TILE` of the point's
  input blocks. The loop over four row groups leaves the normalised rows `HN` in scratch; the 34 stores that follow are
  the columns of `TILE`.
-/
module

public import proofs.«01_k».proof.Proof.PTile
public import proofs.«01_k».proof.Proof.Gen.Kernel2Ideal.Frame.RunA
public import proofs.«01_k».proof.Proof.Gen.Kernel2Ideal.Loops

@[expose] public section

set_option maxRecDepth 16384

noncomputable section

namespace Cert.Kernel2Ideal.Proj

open Idealize.ShloMosaic Idealize.ShloMosaic.TcCoe
open Cert.Kernel2Ideal.Gen

variable {F : FTy → Type} [FloatOps F]

section Loop

variable (𝒱 : Variants) (bd : Option 𝒱.V) (c : Dev nD) (i : grid0.Coords) (arg1 : Memref sig .tc .vmem S512x2048 .f32) (harg1 : arg1.IsWhole) (arg2 : Memref sig .tc .vmem S1x1x1x2048 .f32) (harg2 : arg2.IsWhole) (arg3 : Memref sig .tc .vmem S1x1x1x2048 .f32) (harg3 : arg3.IsWhole) (arg4 : Memref sig .tc .vmem S1x2048 .f32) (harg4 : arg4.IsWhole) (arg5 : Memref sig .tc .vmem S2048x5632 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5632 .bf16) (harg8 : arg8.IsWhole) (arg9 : Memref sig .tc .vmem S512x2048 .bf16) (harg9 : arg9.IsWhole)
  (v0 : Vec F S1x2048 .f32) (v2 v6 : Vec F S1x1x1x2048 .f32) (X : BufTy.Contents (Elt F) arg1.view.ty)

/-- The rows trip `k` stores. -/
def rowPiece (k : Fin k0_t1_loop.trips) : View.Piece (Elt F) S512x2048 .bf16 :=
  ⟨Rect.unit (s := S512x2048) (k0_off1 k) S128x2048.size (k0_off1_inb k),
    k0_pay2 v0 v2 v6 (View.readAt (Elt F) arg1.view (Rect.unit (s := S512x2048) (k0_off1 k) S128x2048.size (k0_off1_inb k)).toLoadRect X)⟩

theorem trip_pieces (k : Fin k0_t1_loop.trips) :
    tripL_k0_t1 𝒱 c bd i arg1 harg1 arg2 harg2 arg3 harg3 arg4 harg4 arg5 harg5 arg6 harg6 arg7 harg7 arg8 harg8 arg9 harg9 v0 v2 v6 X k = [rowPiece arg1 v0 v2 v6 X k] := by
  unfold tripL_k0_t1 trip_k0_t1
  rfl

theorem mem_pieces : ∀ n : ℕ, n ≤ k0_t1_loop.trips → ∀ p ∈ pb_k0_t1 𝒱 c bd i arg1 harg1 arg2 harg2 arg3 harg3 arg4 harg4 arg5 harg5 arg6 harg6 arg7 harg7 arg8 harg8 arg9 harg9 v0 v2 v6 X n, ∃ k, p = rowPiece arg1 v0 v2 v6 X k := by
  intro n
  induction n with
  | zero => intro _ p hp; exact absurd hp List.not_mem_nil
  | succ n ih =>
    intro hn p hp
    have e := pb_k0_t1_succ 𝒱 c bd i arg1 harg1 arg2 harg2 arg3 harg3 arg4 harg4 arg5 harg5 arg6 harg6 arg7 harg7 arg8 harg8 arg9 harg9 v0 v2 v6 X ⟨n, hn⟩
    rw [e, trip_pieces] at hp
    rcases List.mem_append.mp hp with h | h
    · exact ⟨_, List.mem_singleton.mp h⟩
    · exact ih (by omega) p h

theorem pieces_mem : ∀ n : ℕ, n ≤ k0_t1_loop.trips → ∀ k : Fin k0_t1_loop.trips, k.val < n →
    rowPiece arg1 v0 v2 v6 X k ∈ pb_k0_t1 𝒱 c bd i arg1 harg1 arg2 harg2 arg3 harg3 arg4 harg4 arg5 harg5 arg6 harg6 arg7 harg7 arg8 harg8 arg9 harg9 v0 v2 v6 X n := by
  intro n
  induction n with
  | zero => intro _ k hk; omega
  | succ n ih =>
    intro hn k hk
    have e := pb_k0_t1_succ 𝒱 c bd i arg1 harg1 arg2 harg2 arg3 harg3 arg4 harg4 arg5 harg5 arg6 harg6 arg7 harg7 arg8 harg8 arg9 harg9 v0 v2 v6 X ⟨n, hn⟩
    rw [e, trip_pieces]
    rcases Nat.lt_or_ge k.val n with h | h
    · exact List.mem_append_right _ (ih (by omega) k h)
    · have : k = ⟨n, hn⟩ := Fin.ext (by show k.val = n; omega)
      subst this
      exact List.mem_append_left _ (List.mem_singleton.mpr rfl)

theorem off1_0 (k : Fin k0_t1_loop.trips) : k0_off1 k 0 = 128 * k.val := congrFun (k0_off1_eq k) 0
theorem off1_1 (k : Fin k0_t1_loop.trips) : k0_off1 k 1 = 0 := congrFun (k0_off1_eq k) 1
theorem trips4 : k0_t1_loop.trips = 4 := by decide +kernel

/-- What the loop leaves in scratch, read back whole. -/
theorem read_rows :
    arg9.view.readCov (pb_k0_t1 𝒱 c bd i arg1 harg1 arg2 harg2 arg3 harg3 arg4 harg4 arg5 harg5 arg6 harg6 arg7 harg7 arg8 harg8 arg9 harg9 v0 v2 v6 X k0_t1_loop.trips)
      (Rect.unit (s := S512x2048) ![0, 0] S512x2048.size inb_S512x2048_S512x2048_0_0).toLoadRect = HN (arg1.view.read (Elt F) X) v6 v2 v0 := by
  unfold View.readCov
  rw [View.readAt_full]
  funext y
  have hy : (y 0).val < 512 := (y 0).isLt
  refine View.read_writes_apply_of_pieces _ _ (HN (arg1.view.read (Elt F) X) v6 v2 v0) _ (fun p hp x => ?_) y ?_
  · obtain ⟨k, rfl⟩ := mem_pieces 𝒱 bd c i arg1 harg1 arg2 harg2 arg3 harg3 arg4 harg4 arg5 harg5 arg6 harg6 arg7 harg7 arg8 harg8 arg9 harg9 v0 v2 v6 X _ le_rfl p hp
    have hk : k.val < 4 := lt_of_lt_of_eq k.isLt trips4
    have hx : (x 0).val < 128 := (x 0).isLt
    have e0 : (((rowPiece arg1 v0 v2 v6 X k).1.emb x) 0).val = 128 * k.val + (x 0).val := by
      show k0_off1 k 0 + 1 * (x 0).val = _
      have := off1_0 k; omega
    have e1 : (((rowPiece arg1 v0 v2 v6 X k).1.emb x) 1).val = (x 1).val := by
      show k0_off1 k 1 + 1 * (x 1).val = _
      have := off1_1 k; omega
    unfold HN
    have d0 : (((rowPiece arg1 v0 v2 v6 X k).1.emb x) 0).val / 128 = k.val := by omega
    simp only [d0]
    have ex : (ix2 ⟨(((rowPiece arg1 v0 v2 v6 X k).1.emb x) 0).val % 128, by omega⟩ (((rowPiece arg1 v0 v2 v6 X k).1.emb x) 1) : S128x2048.Idx) = x := by
      funext i
      match i with
      | ⟨0, _⟩ => exact Fin.ext (by show _ % 128 = (x 0).val; omega)
      | ⟨1, _⟩ => exact Fin.ext e1
    rw [ex]
    have er : View.readAt (Elt F) arg1.view (Rect.unit (s := S512x2048) (k0_off1 k) S128x2048.size (k0_off1_inb k)).toLoadRect X = XR (arg1.view.read (Elt F) X) ⟨k.val, hk⟩ := by
      funext j
      refine congrArg (arg1.view.read (Elt F) X) (funext fun a => Fin.ext ?_)
      match a with
      | ⟨0, _⟩ => show k0_off1 k 0 + 1 * (j 0).val = 128 * k.val + (j 0).val; have := off1_0 k; omega
      | ⟨1, _⟩ => show k0_off1 k 1 + 1 * (j 1).val = (j 1).val; have := off1_1 k; omega
    show k0_pay2 v0 v2 v6 _ x = _
    rw [er]
  · have hk : (y 0).val / 128 < k0_t1_loop.trips := by rw [trips4]; omega
    refine ⟨_, pieces_mem 𝒱 bd c i arg1 harg1 arg2 harg2 arg3 harg3 arg4 harg4 arg5 harg5 arg6 harg6 arg7 harg7 arg8 harg8 arg9 harg9 v0 v2 v6 X _ le_rfl ⟨(y 0).val / 128, hk⟩ hk, ?_⟩
    rw [← (rowPiece arg1 v0 v2 v6 X ⟨(y 0).val / 128, hk⟩).1.map_emb_univ]
    refine Finset.mem_map.mpr ⟨(by exact (ix2 ⟨(y 0).val % 128, by omega⟩ (y 1) : S128x2048.Idx)), Finset.mem_univ _, funext fun a => Fin.ext ?_⟩
    match a with
    | ⟨0, _⟩ => show k0_off1 ⟨(y 0).val / 128, hk⟩ 0 + 1 * ((y 0).val % 128) = (y 0).val; have : k0_off1 ⟨(y 0).val / 128, hk⟩ 0 = 128 * ((y 0).val / 128) := off1_0 ⟨(y 0).val / 128, hk⟩; omega
    | ⟨1, _⟩ => show k0_off1 ⟨(y 0).val / 128, hk⟩ 1 + 1 * (y 1).val = (y 1).val; have := off1_1 ⟨(y 0).val / 128, hk⟩; omega

end Loop

section Body

variable (c : Dev nD) (i : grid0.Coords) (arg1 : Memref sig .tc .vmem S512x2048 .f32) (harg1 : arg1.IsWhole) (arg2 : Memref sig .tc .vmem S1x1x1x2048 .f32) (harg2 : arg2.IsWhole) (arg3 : Memref sig .tc .vmem S1x1x1x2048 .f32) (harg3 : arg3.IsWhole) (arg4 : Memref sig .tc .vmem S1x2048 .f32) (harg4 : arg4.IsWhole) (arg5 : Memref sig .tc .vmem S2048x5632 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5632 .bf16) (harg8 : arg8.IsWhole) (arg9 : Memref sig .tc .vmem S512x2048 .bf16) (harg9 : arg9.IsWhole)
    (x0 : Vec F S512x2048 .f32) (x1 : Vec F S1x1x1x2048 .f32) (x2 : Vec F S1x1x1x2048 .f32) (x3 : Vec F S1x2048 .f32) (x4 : Vec F S2048x5632 .bf16) (x5 : Vec F S512x128 .f32) (x6 : Vec F S512x128 .f32)

theorem colInb (j : Fin 22) : ∀ a, (![0, 256 * j.val] : Fin 2 → ℕ) a + S2048x256.size a ≤ S2048x5632.size a := by
  have := j.isLt
  intro a
  match a with
  | ⟨0, _⟩ => show 0 + 2048 ≤ 2048; omega
  | ⟨1, _⟩ => show 256 * j.val + 256 ≤ 5632; omega

theorem emb0 {m n : ℕ} (off : ℕ) (inb : ∀ a, (![0, off] : Fin 2 → ℕ) a + (![m, n] : Fin 2 → ℕ) a ≤ S512x5632.size a) (x : (⟨2, ![m, n]⟩ : Shape).Idx) :
    (((Rect.unit (s := S512x5632) ![0, off] ![m, n] inb).emb x) 0).val = (x 0).val := by
  show 0 + 1 * (x 0).val = _; omega

theorem emb1 {m n : ℕ} (off : ℕ) (inb : ∀ a, (![0, off] : Fin 2 → ℕ) a + (![m, n] : Fin 2 → ℕ) a ≤ S512x5632.size a) (x : (⟨2, ![m, n]⟩ : Shape).Idx) :
    (((Rect.unit (s := S512x5632) ![0, off] ![m, n] inb).emb x) 1).val = off + (x 1).val := by
  show off + 1 * (x 1).val = _; omega

/-- The blocks of weight columns the body loads. -/
abbrev blk : Fin 22 → Vec F S2048x256 .bf16 := fun j =>
  View.readAt (Elt F) arg5.view (Rect.unit (s := S2048x5632) ![0, 256 * j.val] S2048x256.size (colInb j)).toLoadRect (harg5.unread x4)

set_option maxHeartbeats 2000000 in
/-- Every store of the body holds columns of the tile. -/
theorem stores_tile :
    ∀ p ∈ (kernelRun0_A c i arg1 harg1 arg2 harg2 arg3 harg3 arg4 harg4 arg5 harg5 arg6 harg6 arg7 harg7 arg8 harg8 arg9 harg9 x0 x1 x2 x3 x4 x5 x6).1, ∀ x, p.2 x =
      TILE (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) (p.1.emb x) := by
  unfold kernelRun0_A
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · refine Eq.trans ?_ (TILE_u (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 x _ (emb0 (m := 512) (n := 256) 5376 inb_S512x5632_S512x256_0_5376 x) (emb1 (m := 512) (n := 256) 5376 inb_S512x5632_S512x256_0_5376 x)).symm; rfl
  · refine Eq.trans ?_ (TILE_u (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 x _ (emb0 (m := 512) (n := 256) 5120 inb_S512x5632_S512x256_0_5120 x) (emb1 (m := 512) (n := 256) 5120 inb_S512x5632_S512x256_0_5120 x)).symm; rfl
  · refine Eq.trans ?_ (TILE_u (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 x _ (emb0 (m := 512) (n := 256) 4864 inb_S512x5632_S512x256_0_4864 x) (emb1 (m := 512) (n := 256) 4864 inb_S512x5632_S512x256_0_4864 x)).symm; rfl
  · refine Eq.trans ?_ (TILE_u (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 x _ (emb0 (m := 512) (n := 256) 4608 inb_S512x5632_S512x256_0_4608 x) (emb1 (m := 512) (n := 256) 4608 inb_S512x5632_S512x256_0_4608 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 5 x _ (emb0 (m := 512) (n := 256) 4352 inb_S512x5632_S512x256_0_4352 x) (emb1 (m := 512) (n := 256) 4352 inb_S512x5632_S512x256_0_4352 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 4 x _ (emb0 (m := 512) (n := 256) 4096 inb_S512x5632_S512x256_0_4096 x) (emb1 (m := 512) (n := 256) 4096 inb_S512x5632_S512x256_0_4096 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 x _ (emb0 (m := 512) (n := 256) 3840 inb_S512x5632_S512x256_0_3840 x) (emb1 (m := 512) (n := 256) 3840 inb_S512x5632_S512x256_0_3840 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 x _ (emb0 (m := 512) (n := 256) 3584 inb_S512x5632_S512x256_0_3584 x) (emb1 (m := 512) (n := 256) 3584 inb_S512x5632_S512x256_0_3584 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 x _ (emb0 (m := 512) (n := 256) 3328 inb_S512x5632_S512x256_0_3328 x) (emb1 (m := 512) (n := 256) 3328 inb_S512x5632_S512x256_0_3328 x)).symm; rfl
  · refine Eq.trans ?_ (TILE_v (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 x _ (emb0 (m := 512) (n := 256) 3072 inb_S512x5632_S512x256_0_3072 x) (emb1 (m := 512) (n := 256) 3072 inb_S512x5632_S512x256_0_3072 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 5 1 x _ (emb0 (m := 512) (n := 128) 2944 inb_S512x5632_S512x128_0_2944 x) (emb1 (m := 512) (n := 128) 2944 inb_S512x5632_S512x128_0_2944 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 5 0 x _ (emb0 (m := 512) (n := 128) 2816 inb_S512x5632_S512x128_0_2816 x) (emb1 (m := 512) (n := 128) 2816 inb_S512x5632_S512x128_0_2816 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 4 1 x _ (emb0 (m := 512) (n := 128) 2688 inb_S512x5632_S512x128_0_2688 x) (emb1 (m := 512) (n := 128) 2688 inb_S512x5632_S512x128_0_2688 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 4 0 x _ (emb0 (m := 512) (n := 128) 2560 inb_S512x5632_S512x128_0_2560 x) (emb1 (m := 512) (n := 128) 2560 inb_S512x5632_S512x128_0_2560 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 1 x _ (emb0 (m := 512) (n := 128) 2432 inb_S512x5632_S512x128_0_2432 x) (emb1 (m := 512) (n := 128) 2432 inb_S512x5632_S512x128_0_2432 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 0 x _ (emb0 (m := 512) (n := 128) 2304 inb_S512x5632_S512x128_0_2304 x) (emb1 (m := 512) (n := 128) 2304 inb_S512x5632_S512x128_0_2304 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 1 x _ (emb0 (m := 512) (n := 128) 2176 inb_S512x5632_S512x128_0_2176 x) (emb1 (m := 512) (n := 128) 2176 inb_S512x5632_S512x128_0_2176 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 0 x _ (emb0 (m := 512) (n := 128) 2048 inb_S512x5632_S512x128_0_2048 x) (emb1 (m := 512) (n := 128) 2048 inb_S512x5632_S512x128_0_2048 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 1 x _ (emb0 (m := 512) (n := 128) 1920 inb_S512x5632_S512x128_0_1920 x) (emb1 (m := 512) (n := 128) 1920 inb_S512x5632_S512x128_0_1920 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 0 x _ (emb0 (m := 512) (n := 128) 1792 inb_S512x5632_S512x128_0_1792 x) (emb1 (m := 512) (n := 128) 1792 inb_S512x5632_S512x128_0_1792 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 1 x _ (emb0 (m := 512) (n := 128) 1664 inb_S512x5632_S512x128_0_1664 x) (emb1 (m := 512) (n := 128) 1664 inb_S512x5632_S512x128_0_1664 x)).symm; rfl
  · refine Eq.trans ?_ (TILE_k (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 0 x _ (emb0 (m := 512) (n := 128) 1536 inb_S512x5632_S512x128_0_1536 x) (emb1 (m := 512) (n := 128) 1536 inb_S512x5632_S512x128_0_1536 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 5 1 x _ (emb0 (m := 512) (n := 128) 1408 inb_S512x5632_S512x128_0_1408 x) (emb1 (m := 512) (n := 128) 1408 inb_S512x5632_S512x128_0_1408 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 5 0 x _ (emb0 (m := 512) (n := 128) 1280 inb_S512x5632_S512x128_0_1280 x) (emb1 (m := 512) (n := 128) 1280 inb_S512x5632_S512x128_0_1280 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 4 1 x _ (emb0 (m := 512) (n := 128) 1152 inb_S512x5632_S512x128_0_1152 x) (emb1 (m := 512) (n := 128) 1152 inb_S512x5632_S512x128_0_1152 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 4 0 x _ (emb0 (m := 512) (n := 128) 1024 inb_S512x5632_S512x128_0_1024 x) (emb1 (m := 512) (n := 128) 1024 inb_S512x5632_S512x128_0_1024 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 1 x _ (emb0 (m := 512) (n := 128) 896 inb_S512x5632_S512x128_0_896 x) (emb1 (m := 512) (n := 128) 896 inb_S512x5632_S512x128_0_896 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 3 0 x _ (emb0 (m := 512) (n := 128) 768 inb_S512x5632_S512x128_0_768 x) (emb1 (m := 512) (n := 128) 768 inb_S512x5632_S512x128_0_768 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 1 x _ (emb0 (m := 512) (n := 128) 640 inb_S512x5632_S512x128_0_640 x) (emb1 (m := 512) (n := 128) 640 inb_S512x5632_S512x128_0_640 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 2 0 x _ (emb0 (m := 512) (n := 128) 512 inb_S512x5632_S512x128_0_512 x) (emb1 (m := 512) (n := 128) 512 inb_S512x5632_S512x128_0_512 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 1 x _ (emb0 (m := 512) (n := 128) 384 inb_S512x5632_S512x128_0_384 x) (emb1 (m := 512) (n := 128) 384 inb_S512x5632_S512x128_0_384 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 1 0 x _ (emb0 (m := 512) (n := 128) 256 inb_S512x5632_S512x128_0_256 x) (emb1 (m := 512) (n := 128) 256 inb_S512x5632_S512x128_0_256 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 1 x _ (emb0 (m := 512) (n := 128) 128 inb_S512x5632_S512x128_0_128 x) (emb1 (m := 512) (n := 128) 128 inb_S512x5632_S512x128_0_128 x)).symm; rfl
  · refine Eq.trans ?_ (TILE_q (kernelRun0_A.sl.r c i arg1 harg1 arg2 harg2 arg3 harg3 arg4 harg4 arg5 harg5 arg6 harg6 arg7 harg7 arg8 harg8 arg9 harg9 x0 x1 x2 x3) (blk arg5 harg5 x4) (View.readAt (Elt F) arg6.view (Rect.unit (s := S512x128) ![0, 0] S512x128.size inb_S512x128_S512x128_0_0).toLoadRect (harg6.unread x5)) (View.readAt (Elt F) arg7.view (Rect.unit (s := S512x128) ![0, 0] S512x128.size inb_S512x128_S512x128_0_0).toLoadRect (harg7.unread x6)) 0 0 x _ (emb0 (m := 512) (n := 128) 0 inb_S512x5632_S512x128_0_0 x) (emb1 (m := 512) (n := 128) 0 inb_S512x5632_S512x128_0_0 x)).symm; rfl

/-- The body's output block is the tile of its input blocks. -/
theorem out_tile :
    out0_A_7 c i arg1 harg1 arg2 harg2 arg3 harg3 arg4 harg4 arg5 harg5 arg6 harg6 arg7 harg7 arg8 harg8 arg9 harg9 x0 x1 x2 x3 x4 x5 x6 = TILE (HN x0 x1 x2 x3) (WB x4) x5 x6 := by
  unfold out0_A_7
  funext y
  rw [View.read_writes_apply_of_pieces _ _ _ _ (stores_tile c i arg1 harg1 arg2 harg2 arg3 harg3 arg4 harg4 arg5 harg5 arg6 harg6 arg7 harg7 arg8 harg8 arg9 harg9 x0 x1 x2 x3 x4 x5 x6) y (cover0_A_7 c i arg1 harg1 arg2 harg2 arg3 harg3 arg4 harg4 arg5 harg5 arg6 harg6 arg7 harg7 arg8 harg8 arg9 harg9 x0 x1 x2 x3 x4 x5 x6 y)]
  have eh : kernelRun0_A.sl.r c i arg1 harg1 arg2 harg2 arg3 harg3 arg4 harg4 arg5 harg5 arg6 harg6 arg7 harg7 arg8 harg8 arg9 harg9 x0 x1 x2 x3 = HN x0 x1 x2 x3 := by
    refine (read_rows Variants.none none c i arg1 harg1 arg2 harg2 arg3 harg3 arg4 harg4 arg5 harg5 arg6 harg6 arg7 harg7 arg8 harg8 arg9 harg9 _ _ _ _).trans ?_
    rw [View.readAt_full, View.readAt_full, View.readAt_full, harg1.read_unread, harg2.read_unread, harg3.read_unread, harg4.read_unread]
  have eb : blk arg5 harg5 x4 = WB x4 := by
    funext j z
    unfold blk
    refine (congrArg (arg5.view.read (Elt F) (harg5.unread x4)) (?_ : _ = ix2 (z 0) ⟨256 * j.val + (z 1).val, _⟩)).trans (congrFun (harg5.read_unread x4) _)
    funext a
    match a with
    | ⟨0, _⟩ => exact Fin.ext (by show 0 + 1 * (z 0).val = (z 0).val; omega)
    | ⟨1, _⟩ => exact Fin.ext (by show 256 * j.val + 1 * (z 1).val = 256 * j.val + (z 1).val; omega)
  rw [eh, eb, View.readAt_full, View.readAt_full, harg6.read_unread, harg7.read_unread]

end Body

end Cert.Kernel2Ideal.Proj
-- ==== Proof.PFinal.lean ====
/-
  The input projection's result array, over any float values `F`: row `i` is row `i % 512` of the tile `TILE` of the
  512 rows `i` lies in, with the modulation of the batch they belong to.
-/
module

public import proofs.«01_k».proof.Proof.PBody
public import proofs.«01_k».proof.Proof.Gen.Kernel2Ideal.Value
public import Idealize.ShloMosaic.Lib.Pipeline.ValueKit.Geometry

@[expose] public section

set_option maxRecDepth 16384

noncomputable section

namespace Cert.Kernel2Ideal.Proj

open Idealize.ShloMosaic Idealize.ShloMosaic.TcCoe Idealize.SL.Sem
open Idealize.ShloMosaic.Pipeline (Dat Cfg Window)
open Cert.Kernel2Ideal.Gen

variable {F : FTy → Type} [FloatOps F]

/-- Tile `t` of 512 rows of the input, and of a table. -/
def XT (x : Vec F S16384x2048 .f32) (t : Fin 32) : Vec F S512x2048 .f32 := fun j =>
  x (ix2 ⟨512 * t.val + (j 0).val, by have : (j 0).val < 512 := (j 0).isLt; omega⟩ (j 1))
def CT (x : Vec F S16384x128 .f32) (t : Fin 32) : Vec F S512x128 .f32 := fun j =>
  x (ix2 ⟨512 * t.val + (j 0).val, by have : (j 0).val < 512 := (j 0).isLt; omega⟩ (j 1))

/-- Row `p` of the modulation of tile `t`'s batch. -/
def MT (x : Vec F S8x6x1x2048 .f32) (p : Fin 2) (t : Fin 32) : Vec F S1x1x1x2048 .f32 := fun j =>
  x (ix4 ⟨t.val / 8, by omega⟩ ⟨p.val, by omega⟩ 0 (j 3))

/-- The projected input. -/
def PROJ (x : Vec F S16384x2048 .f32) (m : Vec F S8x6x1x2048 .f32) (g : Vec F S1x2048 .f32) (w : Vec F S2048x5632 .bf16) (c s : Vec F S16384x128 .f32) :
    Vec F S16384x5632 .bf16 := fun y =>
  have hy : (y 0).val < 16384 := (y 0).isLt
  have t : Fin 32 := ⟨(y 0).val / 512, by omega⟩
  TILE (HN (XT x t) (MT m 0 t) (MT m 1 t) g) (WB w) (CT c t) (CT s t) (ix2 ⟨(y 0).val % 512, by omega⟩ (y 1))

variable (m : (ℓ : Loc nD τ sig) → Buf (Elt F) ℓ) (ρ : Dev nD → PrngReg)

theorem index_0 : ∀ t : Fin cfg0.N, win0_0.index t = ![t.val, 0] := (by decide +kernel : ∀ t : Fin grid0.N, win0_0.index t = ![t.val, 0])
theorem index_1 : ∀ t : Fin cfg0.N, win0_1.index t = ![t.val / 8, 0, 0, 0] := (by decide +kernel : ∀ t : Fin grid0.N, win0_1.index t = ![t.val / 8, 0, 0, 0])
theorem index_2 : ∀ t : Fin cfg0.N, win0_2.index t = ![t.val / 8, 1, 0, 0] := (by decide +kernel : ∀ t : Fin grid0.N, win0_2.index t = ![t.val / 8, 1, 0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![t.val, 0] := (by decide +kernel : ∀ t : Fin grid0.N, win0_5.index t = ![t.val, 0])
theorem index_6 : ∀ t : Fin cfg0.N, win0_6.index t = ![t.val, 0] := (by decide +kernel : ∀ t : Fin grid0.N, win0_6.index t = ![t.val, 0])
theorem index_7 : ∀ t : Fin cfg0.N, win0_7.index t = ![t.val, 0] := (by decide +kernel : ∀ t : Fin grid0.N, win0_7.index t = ![t.val, 0])

theorem lt_32 (t : Fin cfg0.N) : t.val < 32 := Nat.lt_of_lt_of_eq t.isLt N_0

section Blocks

variable (c : Dev nD) (t : Fin cfg0.N)

theorem iblk_0 : (iblk m c 0 t : Vec F S512x2048 .f32) = XT (V m c main_v7) ⟨t.val, lt_32 t⟩ := by
  funext j
  unfold XT
  blk_simp [iblk]
  refine congrArg (V m c main_v7) ?_
  blk_ext [index_0]
theorem iblk_1 : (iblk m c 1 t : Vec F S1x1x1x2048 .f32) = MT (V m c main_v1) 0 ⟨t.val, lt_32 t⟩ := by
  funext j
  have h0 : (j 0).val < 1 := (j 0).isLt
  have h1 : (j 1).val < 1 := (j 1).isLt
  have h2 : (j 2).val < 1 := (j 2).isLt
  unfold MT
  blk_simp [iblk]
  refine congrArg (V m c main_v1) ?_
  blk_ext [index_1]
theorem iblk_2 : (iblk m c 2 t : Vec F S1x1x1x2048 .f32) = MT (V m c main_v1) 1 ⟨t.val, lt_32 t⟩ := by
  funext j
  have h0 : (j 0).val < 1 := (j 0).isLt
  have h1 : (j 1).val < 1 := (j 1).isLt
  have h2 : (j 2).val < 1 := (j 2).isLt
  unfold MT
  blk_simp [iblk]
  refine congrArg (V m c main_v1) ?_
  blk_ext [index_2]
theorem iblk_3 : (iblk m c 3 t : Vec F S1x2048 .f32) = V m c main_v9 := by
  funext j
  blk_simp [iblk]
  refine congrArg (V m c main_v9) ?_
  blk_ext [index_3]
theorem iblk_4 : (iblk m c 4 t : Vec F S2048x5632 .bf16) = V m c main_v11 := by
  funext j
  blk_simp [iblk]
  refine congrArg (V m c main_v11) ?_
  blk_ext [index_4]
theorem iblk_5 : (iblk m c 5 t : Vec F S512x128 .f32) = CT (V m c main_v3) ⟨t.val, lt_32 t⟩ := by
  funext j
  unfold CT
  blk_simp [iblk]
  refine congrArg (V m c main_v3) ?_
  blk_ext [index_5]
theorem iblk_6 : (iblk m c 6 t : Vec F S512x128 .f32) = CT (V m c main_v6) ⟨t.val, lt_32 t⟩ := by
  funext j
  unfold CT
  blk_simp [iblk]
  refine congrArg (V m c main_v6) ?_
  blk_ext [index_6]

end Blocks

theorem final (c : Dev nD) : (dats m 0 c).arrAt 7 cfg0.N =
    (PROJ (V m c main_v7) (V m c main_v1) (V m c main_v9) (V m c main_v11) (V m c main_v3) (V m c main_v6) : Vec F S16384x5632 .bf16) := by
  refine (dats m 0 c).arrAt_eq_of_covers 7 _ (by decide +kernel) fun t hf y => ?_
  blk_simp
  rw [after0_7]
  unfold outsAt0
  rw [out_tile, iblk_0, iblk_1, iblk_2, iblk_3, iblk_4, iblk_5, iblk_6]
  have h0 : (y 0).val < 512 := (y 0).isLt
  have e := index_7 t
  have e0 : ((win0_7.blk t).view.emb y 0).val = t.val * 512 + (y 0).val := by blk_simp [e]
  have e1 : ((win0_7.blk t).view.emb y 1).val = (y 1).val := by blk_simp [e]
  show _ = PROJ (V m c main_v7) (V m c main_v1) (V m c main_v9) (V m c main_v11) (V m c main_v3) (V m c main_v6) ((win0_7.blk t).view.emb y)
  generalize (win0_7.blk t).view.emb y = z at e0 e1 ⊢
  unfold PROJ
  have f1 : z 1 = y 1 := Fin.ext e1
  have f2 : ∀ h, (⟨(z 0).val / 512, h⟩ : Fin 32) = ⟨t.val, lt_32 t⟩ := fun h => Fin.ext (by show (z 0).val / 512 = t.val; omega)
  have f3 : ∀ h, (⟨(z 0).val % 512, h⟩ : Fin 512) = y 0 := fun h => Fin.ext (by show (z 0).val % 512 = (y 0).val; omega)
  simp only [f1, f2, f3]
  refine congrArg _ ?_
  funext a
  match a with
  | ⟨0, _⟩ => rfl
  | ⟨1, _⟩ => rfl

end Cert.Kernel2Ideal.Proj
-- ==== Proof.PVal.lean ====
/-
  The tile of the input projection at an index, over extended reals: the normalised rows, their products with the weight
  columns, and what each group of columns makes of the products.
-/
module

public import proofs.«01_k».proof.Proof.PTile

@[expose] public section

set_option maxRecDepth 16384

noncomputable section

namespace Cert.Proj

open Idealize.ShloMosaic

/-- A row's reciprocal root mean square. -/
def RS (x : Fin 2048 → EReal) : EReal :=
  Ideal.rsqrt (Ideal.div (∑ k, x k * x k) (Ideal.ofBits .f32 0x45000000#32) + Ideal.ofBits .f32 0x358637BD#32)

/-- An entry of a normalised, modulated row. -/
def HV (x : Fin 2048 → EReal) (g sc sh : EReal) (k : Fin 2048) : EReal :=
  x k * RS x * g * (1 + sc) + sh

end Cert.Proj

namespace Cert.Kernel2Ideal.Proj

open Idealize.ShloMosaic Idealize.ShloMosaic.TcCoe
open Cert.Kernel2Ideal.Gen Cert.Proj

theorem pay2_at (g : Vec Ideal S1x2048 .f32) (sc sh : Vec Ideal S1x1x1x2048 .f32) (x : Vec Ideal S128x2048 .f32) (r : Fin 128) (k : Fin 2048) :
    k0_pay2 g sc sh x (ix2 r k) = HV (fun k => x (ix2 r k)) (g (ix2 0 k)) (sc (ix4 0 0 0 k)) (sh (ix4 0 0 0 k)) k := by
  pointwise [k0_pay2, HV, RS]

theorem ACC_at (h : Vec Ideal S512x2048 .bf16) (b : Vec Ideal S2048x256 .bf16) (r : Fin 512) (j : Fin 256) :
    ACC h b (ix2 r j) = ∑ k : Fin 2048, h (ix2 r k) * b (ix2 k j) := by
  pointwise [ACC]

theorem HEAD0_at (a : FVec Ideal S512x256 .f32) (r : Fin 512) (e : Fin 128) :
    HEAD a 0 (ix2 r e) = a (ix2 r ⟨e.val, by omega⟩) := by
  pointwise [HEAD]

theorem HEAD1_at (a : FVec Ideal S512x256 .f32) (r : Fin 512) (e : Fin 128) :
    HEAD a 1 (ix2 r e) = a (ix2 r ⟨128 + e.val, by omega⟩) := by
  pointwise [HEAD]

theorem ROT_at (a : FVec Ideal S512x128 .f32) (c s : Vec Ideal S512x128 .f32) (r : Fin 512) (e : Fin 128) :
    ROT a c s (ix2 r e) = a (ix2 r e) * c (ix2 r e) + a (ix2 r ⟨(e.val + 64) % 128, by omega⟩) * s (ix2 r e) := by
  have h : (e.val + 128 - 64) % 128 = (e.val + 64) % 128 := by omega
  pointwise [ROT]
  simp only [h]

theorem QO_at (a : FVec Ideal S512x128 .f32) (c s : Vec Ideal S512x128 .f32) (y : S512x128.Idx) :
    QO a c s y = ROT a c s y * Ideal.ofBits .f32 0x3DB504F3#32 := by
  pointwise [QO]
theorem KO_at (a : FVec Ideal S512x128 .f32) (c s : Vec Ideal S512x128 .f32) (y : S512x128.Idx) :
    KO a c s y = ROT a c s y := by
  pointwise [KO]
theorem VO_at (a : FVec Ideal S512x256 .f32) (y : S512x256.Idx) : VO a y = a y := by
  pointwise [VO]
theorem UO_at (a : FVec Ideal S512x256 .f32) (y : S512x256.Idx) :
    UO a y = Ideal.ofBits .f32 0x3F000000#32 * a y * (1 + Ideal.erf (a y * Ideal.ofBits .f32 0x3F3504F3#32)) := by
  pointwise [UO]
  rfl

end Cert.Kernel2Ideal.Proj
-- ==== Proof.PHost.lean ====
/-
  The arrays the projection's call is given, as functions of the arguments: the rows of the input, the modulation padded
  to eight rows, the norm's weight, the projection's weight, and the two rotation tables.
-/
module

public import proofs.«01_k».proof.Proof.PFinal
public import Idealize.ShloMosaic.Lib.Pointwise
public import Idealize.ShloMosaic.Lib.StableHlo.Run

@[expose] public section

set_option maxRecDepth 16384

noncomputable section

namespace Cert.Kernel2Ideal.Proj

open Idealize.ShloMosaic Idealize.ShloMosaic.TcCoe Idealize.ShloMosaic.StableHlo
open Cert.Kernel2Ideal.Gen

section
variable {F : FTy → Type} [FloatOps F]

def HX (x : Vec F S4x4096x2048 .f32) : Vec F S16384x2048 .f32 := shapeCast S16384x2048 x shapeCasts_S4x4096x2048_S16384x2048
def HM (x : Vec F S4x6x2048 .f32) : Vec F S8x6x1x2048 .f32 :=
  pad S8x6x1x2048 ![0, 0, 0, 0] ![4, 0, 0, 0] ![0, 0, 0, 0] (shapeCast S4x6x1x2048 x shapeCasts_S4x6x2048_S4x6x1x2048) (sitofp .f32 (constantI S_ 32 0#32)) pads_S4x6x1x2048_S8x6x1x2048_040_000_000_000 h_S_
def HG (x : Vec F S1x2048 .f32) : Vec F S1x2048 .f32 := shapeCast S1x2048 (shapeCast S2048 x shapeCasts_S1x2048_S2048) shapeCasts_S2048_S1x2048
def HW (x : Vec F S1x2048x5632 .f32) : Vec F S2048x5632 .bf16 := truncf .bf16 (shapeCast S2048x5632 x shapeCasts_S1x2048x5632_S2048x5632) bitsLt_bf16_f32
def HC (x : Vec F S4x4096x64 .f32) : Vec F S16384x128 .f32 :=
  shapeCast S16384x128 (concatenate S4x4096x128 2 [⟨S4x4096x64, x⟩, ⟨S4x4096x64, x⟩] concatenates_S4x4096x64_S4x4096x64_S4x4096x128_d2) shapeCasts_S4x4096x128_S16384x128
def HS (x : Vec F S4x4096x64 .f32) : Vec F S16384x128 .f32 :=
  shapeCast S16384x128 (concatenate S4x4096x128 2 [⟨S4x4096x64, Host.negf x⟩, ⟨S4x4096x64, x⟩] concatenates_S4x4096x64_S4x4096x64_S4x4096x128_d2) shapeCasts_S4x4096x128_S16384x128

variable (m : (ℓ : Loc nD τ sig) → Buf (Elt F) ℓ) (c : Dev nD)

theorem V_7 : V m c main_v7 = HX (m ((c.tc : Thread nD τ).loc main_arg0)) := by
  simp only [V, hostOps0, hostOps0_1, hostOps0_2, List.flatten_cons, List.flatten_nil, List.append_nil, List.cons_append, List.nil_append]
  after_results_simp <;> rfl
theorem V_1 : V m c main_v1 = HM (m ((c.tc : Thread nD τ).loc main_arg1)) := by
  simp only [V, hostOps0, hostOps0_1, hostOps0_2, List.flatten_cons, List.flatten_nil, List.append_nil, List.cons_append, List.nil_append]
  after_results_simp <;> rfl
theorem V_9 : V m c main_v9 = HG (m ((c.tc : Thread nD τ).loc main_arg2)) := by
  simp only [V, hostOps0, hostOps0_1, hostOps0_2, List.flatten_cons, List.flatten_nil, List.append_nil, List.cons_append, List.nil_append]
  after_results_simp <;> rfl
theorem V_11 : V m c main_v11 = HW (m ((c.tc : Thread nD τ).loc main_arg3)) := by
  simp only [V, hostOps0, hostOps0_1, hostOps0_2, List.flatten_cons, List.flatten_nil, List.append_nil, List.cons_append, List.nil_append]
  after_results_simp <;> rfl
theorem V_3 : V m c main_v3 = HC (m ((c.tc : Thread nD τ).loc main_arg4)) := by
  simp only [V, hostOps0, hostOps0_1, hostOps0_2, List.flatten_cons, List.flatten_nil, List.append_nil, List.cons_append, List.nil_append]
  after_results_simp <;> rfl
theorem V_6 : V m c main_v6 = HS (m ((c.tc : Thread nD τ).loc main_arg5)) := by
  simp only [V, hostOps0, hostOps0_1, hostOps0_2, List.flatten_cons, List.flatten_nil, List.append_nil, List.cons_append, List.nil_append]
  after_results_simp <;> rfl

end

/-- The index of row `s` of batch `b` among the rows of all batches. -/
def row (b : Fin 4) (s : Fin 4096) : Fin 16384 := ⟨4096 * b.val + s.val, by omega⟩

theorem HX_at (x : Vec Ideal S4x4096x2048 .f32) (b : Fin 4) (s : Fin 4096) (k : Fin 2048) : HX x (ix2 (row b s) k) = x (ix3 b s k) := by
  pointwise [HX, row]
theorem HM_at (x : Vec Ideal S4x6x2048 .f32) (b : Fin 4) (p : Fin 6) (k : Fin 2048) : HM x (ix4 ⟨b.val, by omega⟩ p 0 k) = x (ix3 b p k) := by
  pointwise [HM]
theorem HG_at (x : Vec Ideal S1x2048 .f32) (k : Fin 2048) : HG x (ix2 0 k) = x (ix2 0 k) := by
  pointwise [HG]
theorem HW_at (x : Vec Ideal S1x2048x5632 .f32) (k : Fin 2048) (j : Fin 5632) : HW x (ix2 k j) = x (ix3 0 k j) := by
  pointwise [HW]
theorem HC_at (x : Vec Ideal S4x4096x64 .f32) (b : Fin 4) (s : Fin 4096) (e : Fin 128) : HC x (ix2 (row b s) e) = x (ix3 b s ⟨e.val % 64, by omega⟩) := by
  pointwise [HC, row]
  split
  · rename_i h; simp only [Nat.mod_eq_of_lt h]
  · rename_i h
    have e1 : e.val % 64 = e.val - 64 := by omega
    simp only [e1]
theorem HS_at (x : Vec Ideal S4x4096x64 .f32) (b : Fin 4) (s : Fin 4096) (e : Fin 128) :
    HS x (ix2 (row b s) e) = if e.val < 64 then -x (ix3 b s ⟨e.val % 64, by omega⟩) else x (ix3 b s ⟨e.val % 64, by omega⟩) := by
  pointwise [HS, row]
  split
  · rename_i h; simp only [Nat.mod_eq_of_lt h]
  · rename_i h
    have e1 : e.val % 64 = e.val - 64 := by omega
    simp only [e1]

end Cert.Kernel2Ideal.Proj
-- ==== Proof.PAt.lean ====
/-
  The input projection's result at an index, over extended reals: `CV` of the row's products with the weight columns and
  of the row's rotation tables.
-/
module

public import proofs.«01_k».proof.Proof.PVal
public import proofs.«01_k».proof.Proof.PHost

@[expose] public section

set_option maxRecDepth 16384

noncomputable section

namespace Cert.Proj

open Idealize.ShloMosaic

/-- The column half a head away from column `j`, within `j`'s head. -/
def other (j : Fin 5632) : Fin 5632 := ⟨128 * (j.val / 128) + (j.val + 64) % 128, by omega⟩

/-- Column `j` rotated: `s` is the table's entry with its sign. -/
def RT (A : Fin 5632 → EReal) (c s : EReal) (j : Fin 5632) : EReal := A j * c + A (other j) * s

/-- Half the value times one plus the error function at the value over the root of two. -/
def GE (a : EReal) : EReal :=
  Ideal.ofBits .f32 0x3F000000#32 * a * (1 + Ideal.erf (a * Ideal.ofBits .f32 0x3F3504F3#32))

/-- A result column from a row's products `A` and its table entries. -/
def CV (A : Fin 5632 → EReal) (c s : EReal) (j : Fin 5632) : EReal :=
  if j.val < 1536 then RT A c s j * Ideal.ofBits .f32 0x3DB504F3#32
  else if j.val < 3072 then RT A c s j
  else if j.val < 4608 then A j
  else GE (A j)

end Cert.Proj

namespace Cert.Kernel2Ideal.Proj

open Idealize.ShloMosaic Idealize.ShloMosaic.TcCoe
open Cert.Kernel2Ideal.Gen Cert.Proj

theorem HN_at (x : Vec Ideal S512x2048 .f32) (sh sc : Vec Ideal S1x1x1x2048 .f32) (g : Vec Ideal S1x2048 .f32) (r : Fin 512) (k : Fin 2048) :
    HN x sh sc g (ix2 r k) = HV (fun k => x (ix2 r k)) (g (ix2 0 k)) (sc (ix4 0 0 0 k)) (sh (ix4 0 0 0 k)) k := by
  show k0_pay2 g sc sh (XR x ⟨r.val / 128, _⟩) (ix2 ⟨r.val % 128, _⟩ k) = _
  rw [pay2_at]
  have e : ∀ k, XR x ⟨r.val / 128, by omega⟩ (ix2 ⟨r.val % 128, by omega⟩ k) = x (ix2 r k) := fun k =>
    congrArg x (congrArg (fun r => ix2 r k) (Fin.ext (by show 128 * (r.val / 128) + r.val % 128 = r.val; omega)))
  simp only [e]

section Tile

variable (h : Vec Ideal S512x2048 .bf16) (w : Vec Ideal S2048x5632 .bf16) (c s : Vec Ideal S512x128 .f32) (r : Fin 512)

/-- The products of row `r` with the weight columns. -/
def AR (j : Fin 5632) : EReal := ∑ k : Fin 2048, h (ix2 r k) * w (ix2 k j)

theorem ACC_WB (J : Fin 22) (e : Fin 256) : ACC h (WB w J) (ix2 r e) = AR h w r ⟨256 * J.val + e.val, by omega⟩ := by
  rw [ACC_at]; rfl

theorem HEAD_WB (J : Fin 22) (d : Fin 2) (e : Fin 128) :
    HEAD (ACC h (WB w J)) d (ix2 r e) = AR h w r ⟨256 * J.val + 128 * d.val + e.val, by omega⟩ := by
  match d with
  | 0 => rw [HEAD0_at, ACC_WB]; rfl
  | 1 =>
    rw [HEAD1_at, ACC_WB]
    exact congrArg _ (Fin.ext (by show 256 * J.val + (128 + e.val) = 256 * J.val + 128 * 1 + e.val; omega))

theorem ROT_WB (j : Fin 5632) :
    ROT (HEAD (ACC h (WB w ⟨j.val / 256, by omega⟩)) ⟨j.val / 128 % 2, by omega⟩) c s (ix2 r ⟨j.val % 128, by omega⟩)
      = RT (AR h w r) (c (ix2 r ⟨j.val % 128, by omega⟩)) (s (ix2 r ⟨j.val % 128, by omega⟩)) j := by
  rw [ROT_at, HEAD_WB, HEAD_WB]
  have e1 : ∀ p, (⟨256 * (j.val / 256) + 128 * (j.val / 128 % 2) + j.val % 128, p⟩ : Fin 5632) = j := fun p => Fin.ext (by show 256 * (j.val / 256) + 128 * (j.val / 128 % 2) + j.val % 128 = j.val; omega)
  have e2 : ∀ p, (⟨256 * (j.val / 256) + 128 * (j.val / 128 % 2) + (j.val % 128 + 64) % 128, p⟩ : Fin 5632) = other j := fun p => Fin.ext (by
    show 256 * (j.val / 256) + 128 * (j.val / 128 % 2) + (j.val % 128 + 64) % 128 = 128 * (j.val / 128) + (j.val + 64) % 128; omega)
  unfold RT
  simp only [e1, e2]

theorem TILE_at (j : Fin 5632) : TILE h (WB w) c s (ix2 r j)
    = CV (AR h w r) (c (ix2 r ⟨j.val % 128, by omega⟩)) (s (ix2 r ⟨j.val % 128, by omega⟩)) j := by
  have e3 : ∀ p, (⟨256 * (j.val / 256) + j.val % 256, p⟩ : Fin 5632) = j := fun p => Fin.ext (Nat.div_add_mod _ _)
  show (if j.val < 1536 then QO (HEAD (ACC h (WB w ⟨j.val / 256, _⟩)) ⟨j.val / 128 % 2, _⟩) c s (ix2 r ⟨j.val % 128, _⟩)
    else if j.val < 3072 then KO (HEAD (ACC h (WB w ⟨j.val / 256, _⟩)) ⟨j.val / 128 % 2, _⟩) c s (ix2 r ⟨j.val % 128, _⟩)
    else if j.val < 4608 then VO (ACC h (WB w ⟨j.val / 256, _⟩)) (ix2 r ⟨j.val % 256, _⟩)
    else UO (ACC h (WB w ⟨j.val / 256, _⟩)) (ix2 r ⟨j.val % 256, _⟩)) = _
  rw [QO_at, KO_at, VO_at, UO_at, ROT_WB, ACC_WB]
  simp only [e3]
  rfl

end Tile

/-- The products of row `s` of batch `b`, from the arguments. -/
def AV (x : Vec Ideal S4x4096x2048 .f32) (m : Vec Ideal S4x6x2048 .f32) (g : Vec Ideal S1x2048 .f32) (w : Vec Ideal S1x2048x5632 .f32) (b : Fin 4) (s : Fin 4096) (j : Fin 5632) : EReal :=
  ∑ k : Fin 2048, HV (fun k => x (ix3 b s k)) (g (ix2 0 k)) (m (ix3 b 1 k)) (m (ix3 b 0 k)) k * w (ix3 0 k j)

theorem PROJ_at (x : Vec Ideal S4x4096x2048 .f32) (m : Vec Ideal S4x6x2048 .f32) (g : Vec Ideal S1x2048 .f32) (w : Vec Ideal S1x2048x5632 .f32) (co si : Vec Ideal S4x4096x64 .f32)
    (b : Fin 4) (s : Fin 4096) (j : Fin 5632) :
    PROJ (HX x) (HM m) (HG g) (HW w) (HC co) (HS si) (ix2 (row b s) j)
      = CV (AV x m g w b s) (co (ix3 b s ⟨j.val % 64, by omega⟩))
          (if j.val % 128 < 64 then -si (ix3 b s ⟨j.val % 64, by omega⟩) else si (ix3 b s ⟨j.val % 64, by omega⟩)) j := by
  have hb := b.isLt
  have hs := s.isLt
  have hr : (row b s).val = 4096 * b.val + s.val := rfl
  have er : ∀ p, (⟨512 * ((row b s).val / 512) + (row b s).val % 512, p⟩ : Fin 16384) = row b s := fun p => Fin.ext (Nat.div_add_mod _ _)
  have em : j.val % 128 % 64 = j.val % 64 := by omega
  have eb : (row b s).val / 512 / 8 = b.val := by omega
  show TILE (HN (XT (HX x) ⟨(row b s).val / 512, _⟩) (MT (HM m) 0 ⟨(row b s).val / 512, _⟩) (MT (HM m) 1 ⟨(row b s).val / 512, _⟩) (HG g)) (WB (HW w))
    (CT (HC co) ⟨(row b s).val / 512, _⟩) (CT (HS si) ⟨(row b s).val / 512, _⟩) (ix2 ⟨(row b s).val % 512, _⟩ j) = _
  rw [TILE_at]
  have ea : AR (HN (XT (HX x) ⟨(row b s).val / 512, by omega⟩) (MT (HM m) 0 ⟨(row b s).val / 512, by omega⟩) (MT (HM m) 1 ⟨(row b s).val / 512, by omega⟩) (HG g)) (HW w) ⟨(row b s).val % 512, by omega⟩
      = AV x m g w b s := by
    funext i
    unfold AR AV
    refine Finset.sum_congr rfl fun k _ => ?_
    rw [HN_at, HW_at, HG_at]
    have ex : ∀ k, XT (HX x) ⟨(row b s).val / 512, by omega⟩ (ix2 ⟨(row b s).val % 512, by omega⟩ k) = x (ix3 b s k) := fun k => by
      exact (congrArg (HX x) (congrArg (fun r => ix2 r k) (er _))).trans (HX_at x b s k)
    have e0 : MT (HM m) 0 ⟨(row b s).val / 512, by omega⟩ (ix4 0 0 0 k) = m (ix3 b 0 k) := by
      exact (congrArg (HM m) (congrArg (fun r => ix4 r 0 0 k) (Fin.ext eb))).trans (HM_at m b 0 k)
    have e1 : MT (HM m) 1 ⟨(row b s).val / 512, by omega⟩ (ix4 0 0 0 k) = m (ix3 b 1 k) := by
      exact (congrArg (HM m) (congrArg (fun r => ix4 r 1 0 k) (Fin.ext eb))).trans (HM_at m b 1 k)
    simp only [ex, e0, e1]
  have ec : CT (HC co) ⟨(row b s).val / 512, by omega⟩ (ix2 ⟨(row b s).val % 512, by omega⟩ ⟨j.val % 128, by omega⟩) = co (ix3 b s ⟨j.val % 64, by omega⟩) := by
    refine (congrArg (HC co) (congrArg (fun r => ix2 r ⟨j.val % 128, by omega⟩) (er _))).trans ?_
    rw [HC_at]
    simp only [em]
  have es : CT (HS si) ⟨(row b s).val / 512, by omega⟩ (ix2 ⟨(row b s).val % 512, by omega⟩ ⟨j.val % 128, by omega⟩)
      = if j.val % 128 < 64 then -si (ix3 b s ⟨j.val % 64, by omega⟩) else si (ix3 b s ⟨j.val % 64, by omega⟩) := by
    refine (congrArg (HS si) (congrArg (fun r => ix2 r ⟨j.val % 128, by omega⟩) (er _))).trans ?_
    rw [HS_at]
    simp only [em]
  rw [ea, ec, es]

end Cert.Kernel2Ideal.Proj
-- ==== Proof.PRef.lean ====
/-
  The reference's projected input: its result array as a composition of the arrays below, and each of them at an index
  over extended reals.
-/
module

public import proofs.«01_k».proof.Proof.PVal
public import proofs.«01_k».proof.Proof.Gen.Reference2Ideal.Run
public import Idealize.ShloMosaic.Lib.Pointwise

@[expose] public section

set_option maxRecDepth 16384

noncomputable section

namespace Cert.Reference2Ideal.Proj

open Idealize.ShloMosaic Idealize.ShloMosaic.TcCoe
open Cert.Reference2Ideal.Gen Cert.Reference2Ideal.Value Cert.Proj

section
variable {F : FTy → Type} [FloatOps F]

/-- The modulation's shift and scale. -/
def SH (m : Vec F S4x6x2048 .f32) : Vec F S4x1x2048 .f32 :=
  broadcastInDim S4x1x2048 ![0, 2] bcast_S4x2048_S4x1x2048_0_2 (shapeCast S4x2048 (extractStridedSlice S4x1x2048 ![0, 0, 0] m slices_S4x6x2048_S4x1x2048_0_0_0) shapeCasts_S4x1x2048_S4x2048)
def SC (m : Vec F S4x6x2048 .f32) : Vec F S4x1x2048 .f32 :=
  broadcastInDim S4x1x2048 ![0, 2] bcast_S4x2048_S4x1x2048_0_2 (shapeCast S4x2048 (extractStridedSlice S4x1x2048 ![0, 1, 0] m slices_S4x6x2048_S4x1x2048_0_1_0) shapeCasts_S4x1x2048_S4x2048)

/-- Each row's reciprocal root mean square. -/
def RR (x : Vec F S4x4096x2048 .f32) : Vec F S4x4096x1 .f32 :=
  Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The normalised, modulated rows. -/
def NH (x : Vec F S4x4096x2048 .f32) (m : Vec F S4x6x2048 .f32) (g : Vec F S1x2048 .f32) : Vec F S4x4096x2048 .f32 :=
  addf (mulf (mulf (mulf x (broadcastInDim S4x4096x2048 ![0, 1, 2] bcast_S4x4096x1_S4x4096x2048_0_1_2 (RR x)))
      (broadcastInDim S4x4096x2048 ![0, 1, 2] bcast_S1x1x2048_S4x4096x2048_0_1_2 (broadcastInDim S1x1x2048 ![2] bcast_S2048_S1x1x2048_2 (shapeCast S2048 g shapeCasts_S1x2048_S2048))))
    (broadcastInDim S4x4096x2048 ![0, 1, 2] bcast_S4x1x2048_S4x4096x2048_0_1_2 (addf (broadcastInDim S4x1x2048 ![] bcast_S_S4x1x2048 (constant S_ .f32 0x3F800000#32)) (SC m))))
    (broadcastInDim S4x4096x2048 ![0, 1, 2] bcast_S4x1x2048_S4x4096x2048_0_1_2 (SH m))

/-- Their products with the weight. -/
def PR (h : Vec F S4x4096x2048 .f32) (w : Vec F S1x2048x5632 .f32) : Vec F S4x4096x5632 .f32 :=
  Host.dotGeneral dot_S4x4096x2048_S2048x5632_S4x4096x5632_2_0_01_1_n_n none h (shapeCast S2048x5632 w shapeCasts_S1x2048x5632_S2048x5632)

/-- The columns of the queries and of the keys, by heads. -/
def QH (a : Vec F S4x4096x5632 .f32) : Vec F S4x4096x12x128 .f32 :=
  shapeCast S4x4096x12x128 (extractStridedSlice S4x4096x1536 ![0, 0, 0] a slices_S4x4096x5632_S4x4096x1536_0_0_0) shapeCasts_S4x4096x1536_S4x4096x12x128
def KH (a : Vec F S4x4096x5632 .f32) : Vec F S4x4096x12x128 .f32 :=
  shapeCast S4x4096x12x128 (extractStridedSlice S4x4096x1536 ![0, 0, 1536] a slices_S4x4096x5632_S4x4096x1536_0_0_1536) shapeCasts_S4x4096x1536_S4x4096x12x128

/-- A table, the same for every head. -/
def TB (c : Vec F S4x4096x64 .f32) : Vec F S4x4096x12x64 .f32 :=
  broadcastInDim S4x4096x12x64 ![0, 1, 2, 3] bcast_S4x4096x1x64_S4x4096x12x64_0_1_2_3 (broadcastInDim S4x4096x1x64 ![0, 1, 3] bcast_S4x4096x64_S4x4096x1x64_0_1_3 c)

/-- The two halves of every head. -/
def H0 (a : Vec F S4x4096x12x128 .f32) : Vec F S4x4096x12x64 .f32 := extractStridedSlice S4x4096x12x64 ![0, 0, 0, 0] a slices_S4x4096x12x128_S4x4096x12x64_0_0_0_0
def H1 (a : Vec F S4x4096x12x128 .f32) : Vec F S4x4096x12x64 .f32 := extractStridedSlice S4x4096x12x64 ![0, 0, 0, 64] a slices_S4x4096x12x128_S4x4096x12x64_0_0_0_64

/-- Heads rotated by the tables. -/
def RO (a : Vec F S4x4096x12x128 .f32) (c s : Vec F S4x4096x64 .f32) : Vec F S4x4096x12x128 .f32 :=
  concatenate S4x4096x12x128 3 [⟨S4x4096x12x64, subf (mulf (H0 a) (TB c)) (mulf (H1 a) (TB s))⟩, ⟨S4x4096x12x64, addf (mulf (H1 a) (TB c)) (mulf (H0 a) (TB s))⟩] concatenates_S4x4096x12x64_S4x4096x12x64_S4x4096x12x128_d3

/-- Rotated heads as columns, the queries scaled. -/
def QC (a : Vec F S4x4096x12x128 .f32) (c s : Vec F S4x4096x64 .f32) : Vec F S4x4096x1536 .f32 :=
  shapeCast S4x4096x1536 (mulf (RO a c s) (broadcastInDim S4x4096x12x128 ![] bcast_S_S4x4096x12x128 (constant S_ .f32 0x3DB504F3#32))) shapeCasts_S4x4096x12x128_S4x4096x1536
def KC (a : Vec F S4x4096x12x128 .f32) (c s : Vec F S4x4096x64 .f32) : Vec F S4x4096x1536 .f32 :=
  shapeCast S4x4096x1536 (RO a c s) shapeCasts_S4x4096x12x128_S4x4096x1536

/-- The values' columns and the two groups of gated columns. -/
def VC (a : Vec F S4x4096x5632 .f32) : Vec F S4x4096x1536 .f32 := extractStridedSlice S4x4096x1536 ![0, 0, 3072] a slices_S4x4096x5632_S4x4096x1536_0_0_3072
def U0 (a : Vec F S4x4096x5632 .f32) : Vec F S4x4096x512 .f32 := extractStridedSlice S4x4096x512 ![0, 0, 4608] a slices_S4x4096x5632_S4x4096x512_0_0_4608
def U1 (a : Vec F S4x4096x5632 .f32) : Vec F S4x4096x512 .f32 := extractStridedSlice S4x4096x512 ![0, 0, 5120] a slices_S4x4096x5632_S4x4096x512_0_0_5120
def GU (u : Vec F S4x4096x512 .f32) : Vec F S4x4096x512 .f32 :=
  mulf (mulf (broadcastInDim S4x4096x512 ![] bcast_S_S4x4096x512 (constant S_ .f32 0x3F000000#32)) u)
    (Host.erfc (mulf (Host.negf u) (broadcastInDim S4x4096x512 ![] bcast_S_S4x4096x512 (constant S_ .f32 0x3F3504F3#32))))

/-- The five groups side by side, as rows of all batches. -/
def JN (q k v : Vec F S4x4096x1536 .f32) (u0 u1 : Vec F S4x4096x512 .f32) : Vec F S16384x5632 .bf16 :=
  shapeCast S16384x5632 (truncf .bf16 (concatenate S4x4096x5632 2 [⟨S4x4096x1536, q⟩, ⟨S4x4096x1536, k⟩, ⟨S4x4096x1536, v⟩, ⟨S4x4096x512, u0⟩, ⟨S4x4096x512, u1⟩]
    concatenates_S4x4096x1536_S4x4096x1536_S4x4096x1536_S4x4096x512_S4x4096x512_S4x4096x5632_d2) bitsLt_bf16_f32) shapeCasts_S4x4096x5632_S16384x5632

/-- The result from the products. -/
def RES (a : Vec F S4x4096x5632 .f32) (c s : Vec F S4x4096x64 .f32) : Vec F S16384x5632 .bf16 :=
  JN (QC (QH a) c s) (KC (KH a) c s) (VC a) (GU (U0 a)) (GU (U1 a))

theorem res_eq (m : (ℓ : Loc nD τ sig) → Buf (Elt F) ℓ) (c : Dev nD) : res_out0 m c =
    RES (PR (NH (m ((c.tc : Thread nD τ).loc main_arg0)) (m ((c.tc : Thread nD τ).loc main_arg1)) (m ((c.tc : Thread nD τ).loc main_arg2))) (m ((c.tc : Thread nD τ).loc main_arg3)))
      (m ((c.tc : Thread nD τ).loc main_arg4)) (m ((c.tc : Thread nD τ).loc main_arg5)) := rfl

end

section At

variable (x : Vec Ideal S4x4096x2048 .f32) (m : Vec Ideal S4x6x2048 .f32) (g : Vec Ideal S1x2048 .f32)

theorem SH_at (b : Fin 4) (k : Fin 2048) : SH m (ix3 b 0 k) = m (ix3 b 0 k) := by pointwise [SH]
theorem SC_at (b : Fin 4) (k : Fin 2048) : SC m (ix3 b 0 k) = m (ix3 b 1 k) := by pointwise [SC]
theorem RR_at (b : Fin 4) (s : Fin 4096) : RR x (ix3 b s 0) = RS fun k => x (ix3 b s k) := by pointwise [RR, RS]
theorem NH_at (b : Fin 4) (s : Fin 4096) (k : Fin 2048) :
    NH x m g (ix3 b s k) = HV (fun k => x (ix3 b s k)) (g (ix2 0 k)) (m (ix3 b 1 k)) (m (ix3 b 0 k)) k := by
  pointwise [NH, HV]
  rw [RR_at, SH_at, SC_at]
theorem PR_at (h : Vec Ideal S4x4096x2048 .f32) (w : Vec Ideal S1x2048x5632 .f32) (b : Fin 4) (s : Fin 4096) (j : Fin 5632) :
    PR h w (ix3 b s j) = ∑ k : Fin 2048, h (ix3 b s k) * w (ix3 0 k j) := by
  pointwise [PR]
theorem GU_at (u : Vec Ideal S4x4096x512 .f32) (y : S4x4096x512.Idx) :
    GU u y = Ideal.ofBits .f32 0x3F000000#32 * u y * Ideal.erfc (-u y * Ideal.ofBits .f32 0x3F3504F3#32) := by
  pointwise [GU]
  try rfl
theorem RO_at (a : Vec Ideal S4x4096x12x128 .f32) (co si : Vec Ideal S4x4096x64 .f32) (b : Fin 4) (s : Fin 4096) (h : Fin 12) (e : Fin 128) :
    RO a co si (ix4 b s h e) = if p : e.val < 64 then a (ix4 b s h e) * co (ix3 b s ⟨e.val, p⟩) - a (ix4 b s h ⟨64 + e.val, by omega⟩) * si (ix3 b s ⟨e.val, p⟩)
      else a (ix4 b s h e) * co (ix3 b s ⟨e.val - 64, by omega⟩) + a (ix4 b s h ⟨e.val - 64, by omega⟩) * si (ix3 b s ⟨e.val - 64, by omega⟩) := by
  pointwise [RO, H0, H1, TB]
  split
  · rfl
  · rename_i p
    exact congrArg (fun r => a (ix4 b s h r) * _ + _) (Fin.ext (by simp only []; omega))

variable (a : Vec Ideal S4x4096x5632 .f32) (co si : Vec Ideal S4x4096x64 .f32)

theorem QH_at (b : Fin 4) (s : Fin 4096) (h : Fin 12) (e : Fin 128) : QH a (ix4 b s h e) = a (ix3 b s ⟨h.val * 128 + e.val, by omega⟩) := by
  pointwise [QH]
theorem KH_at (b : Fin 4) (s : Fin 4096) (h : Fin 12) (e : Fin 128) : KH a (ix4 b s h e) = a (ix3 b s ⟨1536 + (h.val * 128 + e.val), by omega⟩) := by
  pointwise [KH]
theorem QC_at (q : Vec Ideal S4x4096x12x128 .f32) (b : Fin 4) (s : Fin 4096) (j : Fin 1536) :
    QC q co si (ix3 b s j) = RO q co si (ix4 b s ⟨j.val / 128, by omega⟩ ⟨j.val % 128, by omega⟩) * Ideal.ofBits .f32 0x3DB504F3#32 := by
  pointwise [QC]
theorem KC_at (q : Vec Ideal S4x4096x12x128 .f32) (b : Fin 4) (s : Fin 4096) (j : Fin 1536) :
    KC q co si (ix3 b s j) = RO q co si (ix4 b s ⟨j.val / 128, by omega⟩ ⟨j.val % 128, by omega⟩) := by
  pointwise [KC]
theorem VC_at (b : Fin 4) (s : Fin 4096) (j : Fin 1536) : VC a (ix3 b s j) = a (ix3 b s ⟨3072 + j.val, by omega⟩) := by pointwise [VC]
theorem U0_at (b : Fin 4) (s : Fin 4096) (j : Fin 512) : U0 a (ix3 b s j) = a (ix3 b s ⟨4608 + j.val, by omega⟩) := by pointwise [U0]
theorem U1_at (b : Fin 4) (s : Fin 4096) (j : Fin 512) : U1 a (ix3 b s j) = a (ix3 b s ⟨5120 + j.val, by omega⟩) := by pointwise [U1]

theorem JN_at (q k v : Vec Ideal S4x4096x1536 .f32) (u0 u1 : Vec Ideal S4x4096x512 .f32) (b : Fin 4) (s : Fin 4096) (j : Fin 5632) :
    JN q k v u0 u1 (ix2 ⟨4096 * b.val + s.val, by omega⟩ j) =
      if p : j.val < 1536 then q (ix3 b s ⟨j.val, p⟩) else if p : j.val < 3072 then k (ix3 b s ⟨j.val - 1536, by omega⟩)
      else if p : j.val < 4608 then v (ix3 b s ⟨j.val - 3072, by omega⟩) else if p : j.val < 5120 then u0 (ix3 b s ⟨j.val - 4608, by omega⟩)
      else u1 (ix3 b s ⟨j.val - 5120, by omega⟩) := by
  pointwise [JN]
  have h1 : j.val - 1536 < 1536 ↔ j.val < 3072 := by omega
  have h2 : j.val - 3072 < 1536 ↔ j.val < 4608 := by omega
  have h3 : j.val - 4608 < 512 ↔ j.val < 5120 := by omega
  simp only [Nat.sub_sub, Nat.reduceAdd, h1, h2, h3]

end At

end Cert.Reference2Ideal.Proj
-- ==== Proof.PSame.lean ====
/-
  The reference's projected input at an index is the kernel's: a rotation subtracts where the kernel adds a negated table
  entry, and the error function is odd.
-/
module

public import proofs.«01_k».proof.Proof.PAt
public import proofs.«01_k».proof.Proof.PRef

@[expose] public section

set_option maxRecDepth 16384

noncomputable section

namespace Cert.Reference2Ideal.Proj

open Idealize.ShloMosaic Idealize.ShloMosaic.TcCoe
open Cert.Reference2Ideal.Gen Cert.Reference2Ideal.Value Cert.Proj

/-- The error function is odd. -/
theorem erf_neg (x : EReal) : Ideal.erf (-x) = -Ideal.erf x := by
  induction x using EReal.rec with
  | bot => simp [Ideal.erf_bot, Ideal.erf_top]
  | top => simp [Ideal.erf_bot, Ideal.erf_top]
  | coe r =>
    rw [← EReal.coe_neg, Ideal.erf_coe, Ideal.erf_coe, ← EReal.coe_neg]
    refine congrArg _ ?_
    have h := intervalIntegral.integral_comp_neg (a := 0) (b := r) fun t : ℝ => Real.exp (-t ^ 2)
    simp only [neg_sq, neg_zero] at h
    rw [h, intervalIntegral.integral_symm (-r) 0]
    ring

/-- The gated columns by the complementary error function. -/
theorem GE_erfc (a : EReal) :
    Ideal.ofBits .f32 0x3F000000#32 * a * Ideal.erfc (-a * Ideal.ofBits .f32 0x3F3504F3#32) = GE a := by
  have h : Ideal.erfc (-a * Ideal.ofBits .f32 0x3F3504F3#32) = 1 + Ideal.erf (a * Ideal.ofBits .f32 0x3F3504F3#32) := by
    rw [neg_mul]
    show 1 - Ideal.erf _ = _
    rw [erf_neg, sub_eq_add_neg, neg_neg]
  rw [h]; rfl

section

variable (co si : Vec Ideal S4x4096x64 .f32) (b : Fin 4) (s : Fin 4096)

/-- A rotated head at column `j`. -/
theorem RO_RT (q : Vec Ideal S4x4096x12x128 .f32) (A : Fin 5632 → EReal) (j : Fin 5632) (h : Fin 12) (e : Fin 128) (he : e.val = j.val % 128)
    (hq : ∀ d : Fin 128, q (ix4 b s h d) = A ⟨128 * (j.val / 128) + d.val, by omega⟩) :
    RO q co si (ix4 b s h e) = RT A (co (ix3 b s ⟨j.val % 64, by omega⟩))
      (if j.val % 128 < 64 then -si (ix3 b s ⟨j.val % 64, by omega⟩) else si (ix3 b s ⟨j.val % 64, by omega⟩)) j := by
  rw [RO_at]
  unfold RT
  by_cases p : e.val < 64
  · rw [dif_pos p, if_pos (by omega), hq, hq, mul_neg, ← sub_eq_add_neg]
    have e1 : (⟨e.val, p⟩ : Fin 64) = ⟨j.val % 64, by omega⟩ := Fin.ext (by show e.val = j.val % 64; omega)
    have e2 : (⟨128 * (j.val / 128) + e.val, by omega⟩ : Fin 5632) = j := Fin.ext (by show 128 * (j.val / 128) + e.val = j.val; omega)
    have e3 : (⟨128 * (j.val / 128) + (64 + e.val), by omega⟩ : Fin 5632) = other j := Fin.ext (by show 128 * (j.val / 128) + (64 + e.val) = 128 * (j.val / 128) + (j.val + 64) % 128; omega)
    rw [e1, e2]
    exact congrArg (fun r => _ - A r * _) e3
  · rw [dif_neg p, if_neg (by omega), hq, hq]
    have e1 : (⟨e.val - 64, by omega⟩ : Fin 64) = ⟨j.val % 64, by omega⟩ := Fin.ext (by show e.val - 64 = j.val % 64; omega)
    have e2 : (⟨128 * (j.val / 128) + e.val, by omega⟩ : Fin 5632) = j := Fin.ext (by show 128 * (j.val / 128) + e.val = j.val; omega)
    have e3 : (⟨128 * (j.val / 128) + (e.val - 64), by omega⟩ : Fin 5632) = other j := Fin.ext (by show 128 * (j.val / 128) + (e.val - 64) = 128 * (j.val / 128) + (j.val + 64) % 128; omega)
    rw [e1, e2]
    exact congrArg (fun r => _ + A r * _) e3

variable (a : Vec Ideal S4x4096x5632 .f32)

theorem RES_at (j : Fin 5632) : RES a co si (ix2 ⟨4096 * b.val + s.val, by omega⟩ j)
    = CV (fun i => a (ix3 b s i)) (co (ix3 b s ⟨j.val % 64, by omega⟩))
        (if j.val % 128 < 64 then -si (ix3 b s ⟨j.val % 64, by omega⟩) else si (ix3 b s ⟨j.val % 64, by omega⟩)) j := by
  unfold RES CV
  rw [JN_at]
  by_cases p0 : j.val < 1536
  · rw [dif_pos p0, if_pos p0, QC_at]
    refine congrArg (· * _) (RO_RT co si b s _ _ j _ _ rfl fun d => ?_)
    rw [QH_at]
    exact congrArg (fun i => a (ix3 b s i)) (Fin.ext (by show j.val / 128 * 128 + d.val = 128 * (j.val / 128) + d.val; omega))
  rw [dif_neg p0, if_neg p0]
  by_cases p1 : j.val < 3072
  · rw [dif_pos p1, if_pos p1, KC_at]
    refine RO_RT co si b s _ _ j _ _ (by show (j.val - 1536) % 128 = j.val % 128; omega) fun d => ?_
    rw [KH_at]
    exact congrArg (fun i => a (ix3 b s i)) (Fin.ext (by show 1536 + ((j.val - 1536) / 128 * 128 + d.val) = 128 * (j.val / 128) + d.val; omega))
  rw [dif_neg p1, if_neg p1]
  by_cases p2 : j.val < 4608
  · rw [dif_pos p2, if_pos p2, VC_at]
    exact congrArg (fun i => a (ix3 b s i)) (Fin.ext (by show 3072 + (j.val - 3072) = j.val; omega))
  rw [dif_neg p2, if_neg p2]
  by_cases p3 : j.val < 5120
  · rw [dif_pos p3, GU_at, GE_erfc, U0_at]
    exact congrArg (fun i => GE (a (ix3 b s i))) (Fin.ext (by show 4608 + (j.val - 4608) = j.val; omega))
  · rw [dif_neg p3, GU_at, GE_erfc, U1_at]
    exact congrArg (fun i => GE (a (ix3 b s i))) (Fin.ext (by show 5120 + (j.val - 5120) = j.val; omega))

end

/-- The kernel's array is the reference's. -/
theorem same (x : Vec Ideal S4x4096x2048 .f32) (m : Vec Ideal S4x6x2048 .f32) (g : Vec Ideal S1x2048 .f32) (w : Vec Ideal S1x2048x5632 .f32) (co si : Vec Ideal S4x4096x64 .f32) :
    (Kernel2Ideal.Proj.PROJ (Kernel2Ideal.Proj.HX x) (Kernel2Ideal.Proj.HM m) (Kernel2Ideal.Proj.HG g) (Kernel2Ideal.Proj.HW w) (Kernel2Ideal.Proj.HC co) (Kernel2Ideal.Proj.HS si)
      : Vec Ideal S16384x5632 .bf16) = RES (PR (NH x m g) w) co si := by
  funext y
  obtain ⟨b, s, e⟩ : ∃ (b : Fin 4) (s : Fin 4096), (y 0).val = 4096 * b.val + s.val :=
    ⟨⟨(y 0).val / 4096, by have := (y 0).isLt; simp at this; omega⟩, ⟨(y 0).val % 4096, by omega⟩, (Nat.div_add_mod _ _).symm⟩
  have ey : y = ix2 (⟨4096 * b.val + s.val, by omega⟩ : Fin 16384) (y 1) := by
    funext k
    match k with
    | 0 => exact Fin.ext e
    | 1 => rfl
  rw [ey]
  refine (Kernel2Ideal.Proj.PROJ_at x m g w co si b s (y 1)).trans (Eq.trans ?_ (RES_at co si b s (PR (NH x m g) w) (y 1)).symm)
  have ea : Kernel2Ideal.Proj.AV x m g w b s = fun i => PR (NH x m g) w (ix3 b s i) := by
    funext i
    rw [PR_at]
    simp only [NH_at]
    rfl
  rw [ea]

end Cert.Reference2Ideal.Proj
-- ==== Proof.OTile.lean ====
/-
  The output projection on one tile of 256 rows, over any float values `F`: the normalised attention beside the gating
  (`MIX`), the residual's rows (`HB`), their normalised, modulated rows (`NB`) and those transposed (`TB`), the queries
  (`QB`), and the scores of every head's keys (`ST`).
-/
module

public import proofs.«01_k».proof.Proof.Gen.Kernel3Ideal.Frame
public import proofs.«01_k».proof.Proof.Gen.Kernel3Ideal.Skeleton
public import Idealize.ShloMosaic.Lib.WritesUnit
public import Idealize.ShloMosaic.Lib.VecWindow
public import Idealize.ShloMosaic.Lib.Pointwise

@[expose] public section

set_option maxRecDepth 16384

noncomputable section

namespace Cert.Kernel3Ideal.Out

open Idealize.ShloMosaic Idealize.ShloMosaic.TcCoe
open Cert.Kernel3Ideal.Gen

variable {F : FTy → Type} [FloatOps F]

/-- The attention's rows normalised, and the gating's beside them. -/
def MIX (a : Vec F S256x1536 .f32) (g : Vec F S1x1536 .f32) (s : Vec F S256x512 .bf16) : Vec F S256x2048 .bf16 := fun y =>
  if h : (y 1).val < 1536 then k0_pay2 a g (ix2 (y 0) ⟨(y 1).val, h⟩)
  else k0_pay3 s (ix2 (y 0) ⟨(y 1).val - 1536, by have : (y 1).val < 2048 := (y 1).isLt; omega⟩)

theorem MIX_left (a : Vec F S256x1536 .f32) (g : Vec F S1x1536 .f32) (s : Vec F S256x512 .bf16) (x : S256x1536.Idx) (y : S256x2048.Idx)
    (h0 : (y 0).val = (x 0).val) (h1 : (y 1).val = (x 1).val) : MIX a g s y = k0_pay2 a g x := by
  have hx : (x 1).val < 1536 := (x 1).isLt
  unfold MIX
  rw [dif_pos (by omega)]
  refine congrArg (k0_pay2 a g) ?_
  funext b
  match b with
  | ⟨0, _⟩ => exact Fin.ext h0
  | ⟨1, _⟩ => exact Fin.ext h1

theorem MIX_right (a : Vec F S256x1536 .f32) (g : Vec F S1x1536 .f32) (s : Vec F S256x512 .bf16) (x : S256x512.Idx) (y : S256x2048.Idx)
    (h0 : (y 0).val = (x 0).val) (h1 : (y 1).val = 1536 + (x 1).val) : MIX a g s y = k0_pay3 s x := by
  unfold MIX
  rw [dif_neg (by omega)]
  refine congrArg (k0_pay3 s) ?_
  funext b
  match b with
  | ⟨0, _⟩ => exact Fin.ext h0
  | ⟨1, _⟩ => exact Fin.ext (by show (y 1).val - 1536 = (x 1).val; omega)

/-- The rows plus the gated projection. -/
def HB (u : Vec F S256x2048 .bf16) (x : Vec F S256x2048 .f32) (gt : Vec F S1x1x1x2048 .f32) (wo : Vec F S2048x2048 .bf16) : FVec F S256x2048 .f32 :=
  k0_pay7 (k0_pay4 u wo) (k0_pay5 x) (k0_pay6 gt)

/-- Those normalised, modulated and transposed. -/
def TB (u : Vec F S256x2048 .bf16) (x : Vec F S256x2048 .f32) (gt sh sc : Vec F S1x1x1x2048 .f32) (g : Vec F S1x2048 .f32) (wo : Vec F S2048x2048 .bf16) : FVec F S2048x256 .bf16 :=
  k0_pay9 (k0_pay4 u wo) (k0_pay5 x) (k0_pay6 gt) g sc sh

/-- The queries. -/
def QB (u : Vec F S256x2048 .bf16) (x : Vec F S256x2048 .f32) (gt sh sc : Vec F S1x1x1x2048 .f32) (g : Vec F S1x2048 .f32) (wo wq : Vec F S2048x2048 .bf16) : FVec F S256x2048 .bf16 :=
  k0_pay10 (k0_pay4 u wo) (k0_pay5 x) (k0_pay6 gt) g sc sh wq

theorem slices_head (j : Fin 16) : S256x2048.Slices ![0, 128 * j.val] S256x128 := by
  revert j; decide

/-- One head's columns of the queries. -/
def QS (q : FVec F S256x2048 .bf16) (j : Fin 16) : FVec F S256x128 .bf16 :=
  extractStridedSlice S256x128 ![0, 128 * j.val] q (slices_head j)

/-- The scores of every head: `k j` is head `j`'s keys. -/
def ST (q : FVec F S256x2048 .bf16) (k : Fin 16 → Vec F S1x128x128 .bf16) : Vec F S16x128x256 .f32 := fun y =>
  k0_pay12 (QS q (y 0)) (k (y 0)) (ix3 0 (y 1) (y 2))

theorem ST_head (q : FVec F S256x2048 .bf16) (k : Fin 16 → Vec F S1x128x128 .bf16) (j : Fin 16) (x : S1x128x256.Idx) (y : S16x128x256.Idx)
    (h0 : (y 0).val = j.val) (h1 : (y 1).val = (x 1).val) (h2 : (y 2).val = (x 2).val) :
    ST q k y = k0_pay12 (QS q j) (k j) x := by
  have e0 : y 0 = j := Fin.ext h0
  have hx : (x 0).val < 1 := (x 0).isLt
  unfold ST
  rw [e0]
  refine congrArg _ ?_
  funext a
  match a with
  | ⟨0, _⟩ => exact Fin.ext (by show 0 = (x 0).val; omega)
  | ⟨1, _⟩ => exact Fin.ext h1
  | ⟨2, _⟩ => exact Fin.ext h2

/-- One head's keys. -/
def KB (k : Vec F S16x128x128 .bf16) (j : Fin 16) : Vec F S1x128x128 .bf16 := fun y => k (ix3 j (y 1) (y 2))

end Cert.Kernel3Ideal.Out
-- ==== Proof.OVal.lean ====
/-
  The tile of the output projection at an index, over extended reals: the mixed row, the residual's row, its normalised
  and modulated row, the queries and the scores.
-/
module

public import proofs.«01_k».proof.Proof.OTile

@[expose] public section

set_option maxRecDepth 16384

noncomputable section

namespace Cert.Out

open Idealize.ShloMosaic

/-- A row's reciprocal root mean square: `d` is the row's length as a constant of the program. -/
def RM {n : ℕ} (x : Fin n → EReal) (d : EReal) : EReal :=
  Ideal.rsqrt (Ideal.div (∑ k, x k * x k) d + Ideal.ofBits .f32 0x358637BD#32)

/-- The mixed row: the attention normalised and weighed, then the gating. -/
def MV (a g : Fin 1536 → EReal) (s : Fin 512 → EReal) (k : Fin 2048) : EReal :=
  if h : k.val < 1536 then a ⟨k.val, h⟩ * RM a (Ideal.ofBits .f32 0x44C00000#32) * g ⟨k.val, h⟩ else s ⟨k.val - 1536, by omega⟩

/-- The residual's row: the input plus the gated projection of the mixed row. -/
def RV (u x gt : Fin 2048 → EReal) (w : Fin 2048 → Fin 2048 → EReal) (j : Fin 2048) : EReal :=
  x j + gt j * ∑ k, u k * w k j

/-- The residual's row normalised and modulated. -/
def NV (h g sc sh : Fin 2048 → EReal) (k : Fin 2048) : EReal :=
  h k * RM h (Ideal.ofBits .f32 0x45000000#32) * g k * (1 + sc k) + sh k

/-- The row's queries. -/
def QV (h : Fin 2048 → EReal) (w : Fin 2048 → Fin 2048 → EReal) (j : Fin 2048) : EReal := ∑ k, h k * w k j

/-- The score of one key of head `j`. -/
def SV (q : Fin 2048 → EReal) (e : Fin 128 → EReal) (j : Fin 16) : EReal := ∑ d : Fin 128, e d * q ⟨128 * j.val + d.val, by omega⟩

end Cert.Out

namespace Cert.Kernel3Ideal.Out

open Idealize.ShloMosaic Idealize.ShloMosaic.TcCoe
open Cert.Kernel3Ideal.Gen Cert.Out

theorem pay2_at (a : Vec Ideal S256x1536 .f32) (g : Vec Ideal S1x1536 .f32) (r : Fin 256) (k : Fin 1536) :
    k0_pay2 a g (ix2 r k) = a (ix2 r k) * RM (fun k : Fin 1536 => a (ix2 r k)) (Ideal.ofBits .f32 0x44C00000#32) * g (ix2 0 k) := by
  pointwise [k0_pay2, RM]
theorem pay3_at (s : Vec Ideal S256x512 .bf16) (r : Fin 256) (k : Fin 512) : k0_pay3 s (ix2 r k) = s (ix2 r k) := by
  pointwise [k0_pay3]

theorem MIX_at (a : Vec Ideal S256x1536 .f32) (g : Vec Ideal S1x1536 .f32) (s : Vec Ideal S256x512 .bf16) (r : Fin 256) (k : Fin 2048) :
    MIX a g s (ix2 r k) = MV (fun k => a (ix2 r k)) (fun k => g (ix2 0 k)) (fun k => s (ix2 r k)) k := by
  unfold MV
  by_cases h : k.val < 1536
  · rw [dif_pos h, ← pay2_at]
    exact MIX_left a g s (ix2 r ⟨k.val, h⟩) _ rfl rfl
  · rw [dif_neg h]
    refine Eq.trans ?_ (pay3_at s r ⟨k.val - 1536, by omega⟩)
    exact MIX_right a g s (ix2 r ⟨k.val - 1536, by omega⟩) _ rfl (by show k.val = 1536 + (k.val - 1536); omega)

section Tile

variable (u : Vec Ideal S256x2048 .bf16) (x : Vec Ideal S256x2048 .f32) (gt sh sc : Vec Ideal S1x1x1x2048 .f32) (g : Vec Ideal S1x2048 .f32) (wo wq : Vec Ideal S2048x2048 .bf16) (r : Fin 256)

theorem HB_at (j : Fin 2048) : HB u x gt wo (ix2 r j)
    = RV (fun k => u (ix2 r k)) (fun k => x (ix2 r k)) (fun k => gt (ix4 0 0 0 k)) (fun k j => wo (ix2 k j)) j := by
  pointwise [HB, k0_pay7, k0_pay4, k0_pay5, k0_pay6, RV]

theorem pay8_at (v28 v30 : FVec Ideal S256x2048 .f32) (v32 : FVec Ideal S1x2048 .f32) (k : Fin 2048) : k0_pay8 v28 v30 v32 g sc sh (ix2 r k)
    = NV (fun k => k0_pay7 v28 v30 v32 (ix2 r k)) (fun k => g (ix2 0 k)) (fun k => sc (ix4 0 0 0 k)) (fun k => sh (ix4 0 0 0 k)) k := by
  pointwise [k0_pay8, NV, RM]

/-- The normalised, modulated row of the tile. -/
theorem NB_at (k : Fin 2048) : k0_pay8 (k0_pay4 u wo) (k0_pay5 x) (k0_pay6 gt) g sc sh (ix2 r k)
    = NV (RV (fun k => u (ix2 r k)) (fun k => x (ix2 r k)) (fun k => gt (ix4 0 0 0 k)) (fun k j => wo (ix2 k j)))
        (fun k => g (ix2 0 k)) (fun k => sc (ix4 0 0 0 k)) (fun k => sh (ix4 0 0 0 k)) k := by
  rw [pay8_at]
  exact congrArg (fun h => NV h _ _ _ k) (funext fun k => HB_at u x gt wo r k)

theorem TB_at (k : Fin 2048) : TB u x gt sh sc g wo (ix2 k r)
    = NV (RV (fun k => u (ix2 r k)) (fun k => x (ix2 r k)) (fun k => gt (ix4 0 0 0 k)) (fun k j => wo (ix2 k j)))
        (fun k => g (ix2 0 k)) (fun k => sc (ix4 0 0 0 k)) (fun k => sh (ix4 0 0 0 k)) k := by
  rw [← NB_at]
  pointwise [TB, k0_pay9]

theorem QB_at (j : Fin 2048) : QB u x gt sh sc g wo wq (ix2 r j)
    = QV (NV (RV (fun k => u (ix2 r k)) (fun k => x (ix2 r k)) (fun k => gt (ix4 0 0 0 k)) (fun k j => wo (ix2 k j)))
        (fun k => g (ix2 0 k)) (fun k => sc (ix4 0 0 0 k)) (fun k => sh (ix4 0 0 0 k))) (fun k j => wq (ix2 k j)) j := by
  have e := fun k => NB_at u x gt sh sc g wo r k
  have h : QB u x gt sh sc g wo wq (ix2 r j) = ∑ k : Fin 2048, k0_pay8 (k0_pay4 u wo) (k0_pay5 x) (k0_pay6 gt) g sc sh (ix2 r k) * wq (ix2 k j) := by
    pointwise [QB, k0_pay10]
  rw [h]
  simp only [e]
  rfl

end Tile

theorem pay12_at (q : FVec Ideal S256x128 .bf16) (k : Vec Ideal S1x128x128 .bf16) (n : Fin 128) (r : Fin 256) :
    k0_pay12 q k (ix3 0 n r) = ∑ d : Fin 128, k (ix3 0 n d) * q (ix2 r d) := by
  pointwise [k0_pay12]

theorem QS_at (q : FVec Ideal S256x2048 .bf16) (j : Fin 16) (r : Fin 256) (d : Fin 128) :
    QS q j (ix2 r d) = q (ix2 r ⟨128 * j.val + d.val, by omega⟩) := by
  pointwise [QS]

theorem ST_at (q : FVec Ideal S256x2048 .bf16) (k : Vec Ideal S16x128x128 .bf16) (j : Fin 16) (n : Fin 128) (r : Fin 256) :
    ST q (KB k) (ix3 j n r) = SV (fun i => q (ix2 r i)) (fun d => k (ix3 j n d)) j := by
  show k0_pay12 (QS q j) (KB k j) (ix3 0 n r) = _
  rw [pay12_at]
  simp only [QS_at]
  rfl

end Cert.Kernel3Ideal.Out
-- ==== Proof.OBody.lean ====
/-
  What one grid point of the output projection leaves in its three output blocks: `HB`, `TB` and `ST` of the point's
  input blocks. Two stores leave `MIX` in scratch, and sixteen leave the heads' scores.
-/
module

public import proofs.«01_k».proof.Proof.OTile
public import proofs.«01_k».proof.Proof.Gen.Kernel3Ideal.Frame.RunA

@[expose] public section

set_option maxRecDepth 16384

noncomputable section

namespace Cert.Kernel3Ideal.Out

open Idealize.ShloMosaic Idealize.ShloMosaic.TcCoe
open Cert.Kernel3Ideal.Gen

variable {F : FTy → Type} [FloatOps F]

/-- The scratch after its two stores, read back whole. -/
theorem read_mix (arg15 : Memref sig .tc .vmem S256x2048 .bf16) (a : Vec F S256x1536 .f32) (g : Vec F S1x1536 .f32) (s : Vec F S256x512 .bf16) :
    arg15.view.readCov (Val := Elt F) ([⟨Rect.unit (s := S256x2048) ![0, 1536] S256x512.size inb_S256x2048_S256x512_0_1536, k0_pay3 s⟩,
        ⟨Rect.unit (s := S256x2048) ![0, 0] S256x1536.size inb_S256x2048_S256x1536_0_0, k0_pay2 a g⟩] : List (View.Piece (Elt F) S256x2048 .bf16))
      (Rect.unit (s := S256x2048) ![0, 0] S256x2048.size inb_S256x2048_S256x2048_0_0).toLoadRect = MIX a g s := by
  unfold View.readCov
  rw [View.readAt_full]
  funext y
  have hy : (y 1).val < 2048 := (y 1).isLt
  refine View.read_writes_apply_of_pieces _ _ (MIX a g s) _ (fun p hp x => ?_) y ?_
  · simp only [List.mem_cons, List.not_mem_nil, or_false] at hp
    rcases hp with rfl | rfl
    · exact (MIX_right a g s x _ (by show 0 + 1 * (x 0).val = _; omega) (by show 1536 + 1 * (x 1).val = _; omega)).symm
    · exact (MIX_left a g s x _ (by show 0 + 1 * (x 0).val = _; omega) (by show 0 + 1 * (x 1).val = _; omega)).symm
  · by_cases h : (y 1).val < 1536
    · refine ⟨_, List.mem_cons_of_mem _ (List.mem_singleton.mpr rfl), ?_⟩
      rw [← (Rect.unit (s := S256x2048) ![0, 0] S256x1536.size inb_S256x2048_S256x1536_0_0).map_emb_univ]
      refine Finset.mem_map.mpr ⟨(by exact (ix2 (y 0) ⟨(y 1).val, h⟩ : S256x1536.Idx)), Finset.mem_univ _, funext fun b => Fin.ext ?_⟩
      match b with
      | ⟨0, _⟩ => show 0 + 1 * (y 0).val = (y 0).val; omega
      | ⟨1, _⟩ => show 0 + 1 * (y 1).val = (y 1).val; omega
    · refine ⟨_, List.mem_cons_self, ?_⟩
      rw [← (Rect.unit (s := S256x2048) ![0, 1536] S256x512.size inb_S256x2048_S256x512_0_1536).map_emb_univ]
      refine Finset.mem_map.mpr ⟨(by exact (ix2 (y 0) ⟨(y 1).val - 1536, by omega⟩ : S256x512.Idx)), Finset.mem_univ _, funext fun b => Fin.ext ?_⟩
      match b with
      | ⟨0, _⟩ => show 0 + 1 * (y 0).val = (y 0).val; omega
      | ⟨1, _⟩ => show 1536 + 1 * ((y 1).val - 1536) = (y 1).val; omega

section Body

variable (c : Dev nD) (i : grid0.Coords) (arg1 : Memref sig .tc .vmem S256x1536 .f32) (harg1 : arg1.IsWhole) (arg2 : Memref sig .tc .vmem S256x512 .bf16) (harg2 : arg2.IsWhole) (arg3 : Memref sig .tc .vmem S256x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x1536 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S16x128x128 .bf16) (harg11 : arg11.IsWhole) (arg12 : Memref sig .tc .vmem S256x2048 .f32) (harg12 : arg12.IsWhole) (arg13 : Memref sig .tc .vmem S2048x256 .bf16) (harg13 : arg13.IsWhole) (arg14 : Memref sig .tc .vmem S16x128x256 .f32) (harg14 : arg14.IsWhole) (arg15 : Memref sig .tc .vmem S256x2048 .bf16) (harg15 : arg15.IsWhole)
    (x0 : Vec F S256x1536 .f32) (x1 : Vec F S256x512 .bf16) (x2 : Vec F S256x2048 .f32) (x3 : Vec F S1x1x1x2048 .f32) (x4 : Vec F S1x1x1x2048 .f32) (x5 : Vec F S1x1x1x2048 .f32) (x6 : Vec F S1x1536 .f32) (x7 : Vec F S1x2048 .f32) (x8 : Vec F S2048x2048 .bf16) (x9 : Vec F S2048x2048 .bf16) (x10 : Vec F S16x128x128 .bf16)

theorem run_mix : kernelRun0_A.sl.r c arg1 harg1 arg2 harg2 arg7 harg7 arg9 harg9 arg15 x0 x1 x6 x8 = k0_pay4 (MIX x0 x6 x1) x8 := by
  refine (congrArg₂ k0_pay4 (read_mix arg15 _ _ _) rfl : _ = k0_pay4 (MIX _ _ _) (View.readAt (Elt F) arg9.view (Rect.unit (s := S2048x2048) ![0, 0] S2048x2048.size inb_S2048x2048_S2048x2048_0_0).toLoadRect (harg9.unread x8))).trans ?_
  rw [View.readAt_full, View.readAt_full, View.readAt_full, View.readAt_full, harg1.read_unread, harg2.read_unread, harg7.read_unread, harg9.read_unread]

theorem run_rows : kernelRun0_A.sl.r_1 c arg3 harg3 x2 = k0_pay5 x2 := by
  unfold kernelRun0_A.sl.r_1
  rw [View.readAt_full, harg3.read_unread]

theorem run_gate : kernelRun0_A.sl.r_2 c arg4 harg4 x3 = k0_pay6 x3 := by
  unfold kernelRun0_A.sl.r_2
  rw [View.readAt_full, harg4.read_unread]

theorem run_queries : kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9 = QB (MIX x0 x6 x1) x2 x3 x4 x5 x7 x8 x9 := by
  unfold kernelRun0_A.sl.r_3
  rw [run_mix, run_rows, run_gate, View.readAt_full, View.readAt_full, View.readAt_full, View.readAt_full, harg5.read_unread, harg6.read_unread, harg8.read_unread, harg10.read_unread]
  rfl

theorem out_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = HB (MIX x0 x6 x1) x2 x3 x8 := by
  unfold out0_A_11
  funext y
  rw [View.read_writes_apply_of_pieces _ _ (k0_pay7 (kernelRun0_A.sl.r c arg1 harg1 arg2 harg2 arg7 harg7 arg9 harg9 arg15 x0 x1 x6 x8) (kernelRun0_A.sl.r_1 c arg3 harg3 x2) (kernelRun0_A.sl.r_2 c arg4 harg4 x3)) _ (fun p hp x => ?_) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)]
  · rw [run_mix, run_rows, run_gate]; rfl
  · unfold kernelRun0_A at hp
    simp only [List.mem_cons, List.not_mem_nil, or_false] at hp
    subst hp
    refine congrArg (k0_pay7 _ _ _) ?_
    funext b
    match b with
    | ⟨0, _⟩ => exact Fin.ext (by show (x 0).val = 0 + 1 * (x 0).val; omega)
    | ⟨1, _⟩ => exact Fin.ext (by show (x 1).val = 0 + 1 * (x 1).val; omega)

theorem out_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = TB (MIX x0 x6 x1) x2 x3 x4 x5 x7 x8 := by
  unfold out0_A_12
  funext y
  rw [View.read_writes_apply_of_pieces _ _ (k0_pay9 (kernelRun0_A.sl.r c arg1 harg1 arg2 harg2 arg7 harg7 arg9 harg9 arg15 x0 x1 x6 x8) (kernelRun0_A.sl.r_1 c arg3 harg3 x2) (kernelRun0_A.sl.r_2 c arg4 harg4 x3)
      (View.readAt (Elt F) arg8.view (Rect.unit (s := S1x2048) ![0, 0] S1x2048.size inb_S1x2048_S1x2048_0_0).toLoadRect (harg8.unread x7))
      (View.readAt (Elt F) arg6.view (Rect.unit (s := S1x1x1x2048) ![0, 0, 0, 0] S1x1x1x2048.size inb_S1x1x1x2048_S1x1x1x2048_0_0_0_0).toLoadRect (harg6.unread x5))
      (View.readAt (Elt F) arg5.view (Rect.unit (s := S1x1x1x2048) ![0, 0, 0, 0] S1x1x1x2048.size inb_S1x1x1x2048_S1x1x1x2048_0_0_0_0).toLoadRect (harg5.unread x4))) _ (fun p hp x => ?_) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)]
  · rw [run_mix, run_rows, run_gate, View.readAt_full, View.readAt_full, View.readAt_full, harg5.read_unread, harg6.read_unread, harg8.read_unread]; rfl
  · unfold kernelRun0_A at hp
    simp only [List.mem_cons, List.not_mem_nil, or_false] at hp
    subst hp
    refine congrArg (k0_pay9 _ _ _ _ _ _) ?_
    funext b
    match b with
    | ⟨0, _⟩ => exact Fin.ext (by show (x 0).val = 0 + 1 * (x 0).val; omega)
    | ⟨1, _⟩ => exact Fin.ext (by show (x 1).val = 0 + 1 * (x 1).val; omega)

theorem keyInb (j : Fin 16) : ∀ a, (![j.val, 0, 0] : Fin 3 → ℕ) a + S1x128x128.size a ≤ S16x128x128.size a := by
  have := j.isLt
  intro a
  match a with
  | ⟨0, _⟩ => show j.val + 1 ≤ 16; omega
  | ⟨1, _⟩ => show 0 + 128 ≤ 128; omega
  | ⟨2, _⟩ => show 0 + 128 ≤ 128; omega

/-- The heads' keys the body loads. -/
abbrev keys : Fin 16 → Vec F S1x128x128 .bf16 := fun j =>
  View.readAt (Elt F) arg11.view (Rect.unit (s := S16x128x128) ![j.val, 0, 0] S1x128x128.size (keyInb j)).toLoadRect (harg11.unread x10)

theorem at0 (off : ℕ) (inb : ∀ a, (![off, 0, 0] : Fin 3 → ℕ) a + S1x128x256.size a ≤ S16x128x256.size a) (x : S1x128x256.Idx) :
    (((Rect.unit (s := S16x128x256) ![off, 0, 0] S1x128x256.size inb).emb x) 0).val = off := by
  have hx : (x 0).val < 1 := (x 0).isLt
  show off + 1 * (x 0).val = _; omega
theorem at1 (off : ℕ) (inb : ∀ a, (![off, 0, 0] : Fin 3 → ℕ) a + S1x128x256.size a ≤ S16x128x256.size a) (x : S1x128x256.Idx) :
    (((Rect.unit (s := S16x128x256) ![off, 0, 0] S1x128x256.size inb).emb x) 1).val = (x 1).val := by
  show 0 + 1 * (x 1).val = _; omega
theorem at2 (off : ℕ) (inb : ∀ a, (![off, 0, 0] : Fin 3 → ℕ) a + S1x128x256.size a ≤ S16x128x256.size a) (x : S1x128x256.Idx) :
    (((Rect.unit (s := S16x128x256) ![off, 0, 0] S1x128x256.size inb).emb x) 2).val = (x 2).val := by
  show 0 + 1 * (x 2).val = _; omega

set_option maxHeartbeats 2000000 in
/-- Every store of scores holds a head's. -/
theorem stores_scores :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.1, ∀ x, p.2 x = ST (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) (p.1.emb x) := by
  unfold kernelRun0_A
  intro p hp x
  simp only [List.mem_cons, List.not_mem_nil, or_false] at hp
  rcases hp with rfl | rfl | rfl | rfl | rfl | rfl | rfl | rfl | rfl | rfl | rfl | rfl | rfl | rfl | rfl | rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 15 x _ (at0 15 inb_S16x128x256_S1x128x256_15_0_0 x) (at1 15 inb_S16x128x256_S1x128x256_15_0_0 x) (at2 15 inb_S16x128x256_S1x128x256_15_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 14 x _ (at0 14 inb_S16x128x256_S1x128x256_14_0_0 x) (at1 14 inb_S16x128x256_S1x128x256_14_0_0 x) (at2 14 inb_S16x128x256_S1x128x256_14_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 13 x _ (at0 13 inb_S16x128x256_S1x128x256_13_0_0 x) (at1 13 inb_S16x128x256_S1x128x256_13_0_0 x) (at2 13 inb_S16x128x256_S1x128x256_13_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 12 x _ (at0 12 inb_S16x128x256_S1x128x256_12_0_0 x) (at1 12 inb_S16x128x256_S1x128x256_12_0_0 x) (at2 12 inb_S16x128x256_S1x128x256_12_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 11 x _ (at0 11 inb_S16x128x256_S1x128x256_11_0_0 x) (at1 11 inb_S16x128x256_S1x128x256_11_0_0 x) (at2 11 inb_S16x128x256_S1x128x256_11_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 10 x _ (at0 10 inb_S16x128x256_S1x128x256_10_0_0 x) (at1 10 inb_S16x128x256_S1x128x256_10_0_0 x) (at2 10 inb_S16x128x256_S1x128x256_10_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 9 x _ (at0 9 inb_S16x128x256_S1x128x256_9_0_0 x) (at1 9 inb_S16x128x256_S1x128x256_9_0_0 x) (at2 9 inb_S16x128x256_S1x128x256_9_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 8 x _ (at0 8 inb_S16x128x256_S1x128x256_8_0_0 x) (at1 8 inb_S16x128x256_S1x128x256_8_0_0 x) (at2 8 inb_S16x128x256_S1x128x256_8_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 7 x _ (at0 7 inb_S16x128x256_S1x128x256_7_0_0 x) (at1 7 inb_S16x128x256_S1x128x256_7_0_0 x) (at2 7 inb_S16x128x256_S1x128x256_7_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 6 x _ (at0 6 inb_S16x128x256_S1x128x256_6_0_0 x) (at1 6 inb_S16x128x256_S1x128x256_6_0_0 x) (at2 6 inb_S16x128x256_S1x128x256_6_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 5 x _ (at0 5 inb_S16x128x256_S1x128x256_5_0_0 x) (at1 5 inb_S16x128x256_S1x128x256_5_0_0 x) (at2 5 inb_S16x128x256_S1x128x256_5_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 4 x _ (at0 4 inb_S16x128x256_S1x128x256_4_0_0 x) (at1 4 inb_S16x128x256_S1x128x256_4_0_0 x) (at2 4 inb_S16x128x256_S1x128x256_4_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 3 x _ (at0 3 inb_S16x128x256_S1x128x256_3_0_0 x) (at1 3 inb_S16x128x256_S1x128x256_3_0_0 x) (at2 3 inb_S16x128x256_S1x128x256_3_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 2 x _ (at0 2 inb_S16x128x256_S1x128x256_2_0_0 x) (at1 2 inb_S16x128x256_S1x128x256_2_0_0 x) (at2 2 inb_S16x128x256_S1x128x256_2_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 1 x _ (at0 1 inb_S16x128x256_S1x128x256_1_0_0 x) (at1 1 inb_S16x128x256_S1x128x256_1_0_0 x) (at2 1 inb_S16x128x256_S1x128x256_1_0_0 x)).symm; rfl
  · refine Eq.trans ?_ (ST_head (kernelRun0_A.sl.r_3 c arg1 harg1 arg2 harg2 arg3 harg3 arg4 harg4 arg5 harg5 arg6 harg6 arg7 harg7 arg8 harg8 arg9 harg9 arg10 harg10 arg15 x0 x1 x2 x3 x4 x5 x6 x7 x8 x9) (keys arg11 harg11 x10) 0 x _ (at0 0 inb_S16x128x256_S1x128x256_0_0_0 x) (at1 0 inb_S16x128x256_S1x128x256_0_0_0 x) (at2 0 inb_S16x128x256_S1x128x256_0_0_0 x)).symm; rfl

theorem out_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = ST (QB (MIX x0 x6 x1) x2 x3 x4 x5 x7 x8 x9) (KB x10) := by
  unfold out0_A_13
  funext y
  rw [View.read_writes_apply_of_pieces _ _ _ _ (stores_scores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y), run_queries]
  have ek : keys arg11 harg11 x10 = KB x10 := by
    funext j z
    have hz : (z 0).val < 1 := (z 0).isLt
    unfold keys
    refine (congrArg (arg11.view.read (Elt F) (harg11.unread x10)) (?_ : _ = ix3 j (z 1) (z 2))).trans (congrFun (harg11.read_unread x10) _)
    funext a
    match a with
    | ⟨0, _⟩ => exact Fin.ext (by show j.val + 1 * (z 0).val = j.val; omega)
    | ⟨1, _⟩ => exact Fin.ext (by show 0 + 1 * (z 1).val = (z 1).val; omega)
    | ⟨2, _⟩ => exact Fin.ext (by show 0 + 1 * (z 2).val = (z 2).val; omega)
  rw [ek]

end Body

end Cert.Kernel3Ideal.Out
-- ==== Proof.OFinal.lean ====
/-
  The output projection's three result arrays, over any float values `F`: row `i` of the residual, column `i` of the
  transposed rows and of every head's scores come from the tile of the 256 rows `i` lies in, with the modulation of the
  batch they belong to.
-/
module

public import proofs.«01_k».proof.Proof.OBody
public import proofs.«01_k».proof.Proof.Gen.Kernel3Ideal.Value
public import Idealize.ShloMosaic.Lib.Pipeline.ValueKit.Geometry

@[expose] public section

set_option maxRecDepth 16384

noncomputable section

namespace Cert.Kernel3Ideal.Out

open Idealize.ShloMosaic Idealize.ShloMosaic.TcCoe Idealize.SL.Sem
open Idealize.ShloMosaic.Pipeline (Dat Cfg Window)
open Cert.Kernel3Ideal.Gen

variable {F : FTy → Type} [FloatOps F]

/-- Tile `t` of 256 rows of the attention, of the gating and of the input. -/
def AT (x : Vec F S16384x1536 .f32) (t : Fin 64) : Vec F S256x1536 .f32 := fun j =>
  x (ix2 ⟨256 * t.val + (j 0).val, by have : (j 0).val < 256 := (j 0).isLt; omega⟩ (j 1))
def GT (x : Vec F S16384x512 .bf16) (t : Fin 64) : Vec F S256x512 .bf16 := fun j =>
  x (ix2 ⟨256 * t.val + (j 0).val, by have : (j 0).val < 256 := (j 0).isLt; omega⟩ (j 1))
def XT (x : Vec F S16384x2048 .f32) (t : Fin 64) : Vec F S256x2048 .f32 := fun j =>
  x (ix2 ⟨256 * t.val + (j 0).val, by have : (j 0).val < 256 := (j 0).isLt; omega⟩ (j 1))

/-- Row `p` of the modulation of tile `t`'s batch. -/
def MT (x : Vec F S8x6x1x2048 .f32) (p : Fin 6) (t : Fin 64) : Vec F S1x1x1x2048 .f32 := fun j =>
  x (ix4 ⟨t.val / 16, by omega⟩ p 0 (j 3))

section Arrays

variable (a : Vec F S16384x1536 .f32) (s : Vec F S16384x512 .bf16) (x : Vec F S16384x2048 .f32) (m : Vec F S8x6x1x2048 .f32)
  (ga : Vec F S1x1536 .f32) (g : Vec F S1x2048 .f32) (wo wq : Vec F S2048x2048 .bf16) (k : Vec F S16x128x128 .bf16)

/-- Tile `t`'s mixed rows. -/
def MX (t : Fin 64) : Vec F S256x2048 .bf16 := MIX (AT a t) ga (GT s t)

/-- The residual. -/
def HA : Vec F S16384x2048 .f32 := fun y =>
  have hy : (y 0).val < 16384 := (y 0).isLt
  have t : Fin 64 := ⟨(y 0).val / 256, by omega⟩
  HB (MX a s ga t) (XT x t) (MT m 2 t) wo (ix2 ⟨(y 0).val % 256, by omega⟩ (y 1))

/-- The normalised rows, transposed. -/
def TA : Vec F S2048x16384 .bf16 := fun y =>
  have hy : (y 1).val < 16384 := (y 1).isLt
  have t : Fin 64 := ⟨(y 1).val / 256, by omega⟩
  TB (MX a s ga t) (XT x t) (MT m 2 t) (MT m 3 t) (MT m 4 t) g wo (ix2 (y 0) ⟨(y 1).val % 256, by omega⟩)

/-- The scores. -/
def SA : Vec F S16x128x16384 .f32 := fun y =>
  have hy : (y 2).val < 16384 := (y 2).isLt
  have t : Fin 64 := ⟨(y 2).val / 256, by omega⟩
  ST (QB (MX a s ga t) (XT x t) (MT m 2 t) (MT m 3 t) (MT m 4 t) g wo wq) (KB k) (ix3 (y 0) (y 1) ⟨(y 2).val % 256, by omega⟩)

end Arrays

variable (m : (ℓ : Loc nD τ sig) → Buf (Elt F) ℓ) (ρ : Dev nD → PrngReg)

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val / 16, 2, 0, 0] := (by decide +kernel : ∀ t : Fin grid0.N, win0_3.index t = ![t.val / 16, 2, 0, 0])
theorem index_4 : ∀ t : Fin cfg0.N, win0_4.index t = ![t.val / 16, 3, 0, 0] := (by decide +kernel : ∀ t : Fin grid0.N, win0_4.index t = ![t.val / 16, 3, 0, 0])
theorem index_5 : ∀ t : Fin cfg0.N, win0_5.index t = ![t.val / 16, 4, 0, 0] := (by decide +kernel : ∀ t : Fin grid0.N, win0_5.index t = ![t.val / 16, 4, 0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])
theorem index_10 : ∀ t : Fin cfg0.N, win0_10.index t = ![0, 0, 0] := (by decide +kernel : ∀ t : Fin grid0.N, win0_10.index t = ![0, 0, 0])
theorem index_11 : ∀ t : Fin cfg0.N, win0_11.index t = ![t.val, 0] := (by decide +kernel : ∀ t : Fin grid0.N, win0_11.index t = ![t.val, 0])
theorem index_12 : ∀ t : Fin cfg0.N, win0_12.index t = ![0, t.val] := (by decide +kernel : ∀ t : Fin grid0.N, win0_12.index t = ![0, t.val])
theorem index_13 : ∀ t : Fin cfg0.N, win0_13.index t = ![0, 0, t.val] := (by decide +kernel : ∀ t : Fin grid0.N, win0_13.index t = ![0, 0, t.val])

theorem lt_64 (t : Fin cfg0.N) : t.val < 64 := Nat.lt_of_lt_of_eq t.isLt N_0

section Blocks

variable (c : Dev nD) (t : Fin cfg0.N)

theorem iblk_0 : (iblk m c 0 t : Vec F S256x1536 .f32) = AT (V m c main_v5) ⟨t.val, lt_64 t⟩ := by
  funext j
  unfold AT
  blk_simp [iblk]
  refine congrArg (V m c main_v5) ?_
  blk_ext [index_0]
theorem iblk_1 : (iblk m c 1 t : Vec F S256x512 .bf16) = GT (V m c main_v6) ⟨t.val, lt_64 t⟩ := by
  funext j
  unfold GT
  blk_simp [iblk]
  refine congrArg (V m c main_v6) ?_
  blk_ext [index_1]
theorem iblk_2 : (iblk m c 2 t : Vec F S256x2048 .f32) = XT (V m c main_v7) ⟨t.val, lt_64 t⟩ := by
  funext j
  unfold XT
  blk_simp [iblk]
  refine congrArg (V m c main_v7) ?_
  blk_ext [index_2]
theorem iblk_3 : (iblk m c 3 t : Vec F S1x1x1x2048 .f32) = MT (V m c main_v1) 2 ⟨t.val, lt_64 t⟩ := by
  funext j
  have h0 : (j 0).val < 1 := (j 0).isLt
  have h1 : (j 1).val < 1 := (j 1).isLt
  have h2 : (j 2).val < 1 := (j 2).isLt
  unfold MT
  blk_simp [iblk]
  refine congrArg (V m c main_v1) ?_
  blk_ext [index_3]
theorem iblk_4 : (iblk m c 4 t : Vec F S1x1x1x2048 .f32) = MT (V m c main_v1) 3 ⟨t.val, lt_64 t⟩ := by
  funext j
  have h0 : (j 0).val < 1 := (j 0).isLt
  have h1 : (j 1).val < 1 := (j 1).isLt
  have h2 : (j 2).val < 1 := (j 2).isLt
  unfold MT
  blk_simp [iblk]
  refine congrArg (V m c main_v1) ?_
  blk_ext [index_4]
theorem iblk_5 : (iblk m c 5 t : Vec F S1x1x1x2048 .f32) = MT (V m c main_v1) 4 ⟨t.val, lt_64 t⟩ := by
  funext j
  have h0 : (j 0).val < 1 := (j 0).isLt
  have h1 : (j 1).val < 1 := (j 1).isLt
  have h2 : (j 2).val < 1 := (j 2).isLt
  unfold MT
  blk_simp [iblk]
  refine congrArg (V m c main_v1) ?_
  blk_ext [index_5]
theorem iblk_6 : (iblk m c 6 t : Vec F S1x1536 .f32) = V m c main_v9 := by
  funext j
  blk_simp [iblk]
  refine congrArg (V m c main_v9) ?_
  blk_ext [index_6]
theorem iblk_7 : (iblk m c 7 t : Vec F S1x2048 .f32) = V m c main_v11 := by
  funext j
  blk_simp [iblk]
  refine congrArg (V m c main_v11) ?_
  blk_ext [index_7]
theorem iblk_8 : (iblk m c 8 t : Vec F S2048x2048 .bf16) = V m c main_v13 := by
  funext j
  blk_simp [iblk]
  refine congrArg (V m c main_v13) ?_
  blk_ext [index_8]
theorem iblk_9 : (iblk m c 9 t : Vec F S2048x2048 .bf16) = V m c main_v15 := by
  funext j
  blk_simp [iblk]
  refine congrArg (V m c main_v15) ?_
  blk_ext [index_9]
theorem iblk_10 : (iblk m c 10 t : Vec F S16x128x128 .bf16) = V m c main_v4 := by
  funext j
  blk_simp [iblk]
  refine congrArg (V m c main_v4) ?_
  blk_ext [index_10]

end Blocks

theorem final_11 (c : Dev nD) : (dats m 0 c).arrAt 11 cfg0.N = (HA (V m c main_v5) (V m c main_v6) (V m c main_v7) (V m c main_v1) (V m c main_v9) (V m c main_v13) : Vec F S16384x2048 .f32) := by
  refine (dats m 0 c).arrAt_eq_of_covers 11 _ (by decide +kernel) fun t hf y => ?_
  blk_simp
  rw [after0_11]
  unfold outsAt0
  simp only []
  rw [out_11, iblk_0, iblk_1, iblk_2, iblk_3, iblk_6, iblk_8]
  have h0 : (y 0).val < 256 := (y 0).isLt
  have e := index_11 t
  have e0 : ((win0_11.blk t).view.emb y 0).val = t.val * 256 + (y 0).val := by blk_simp [e]
  have e1 : ((win0_11.blk t).view.emb y 1).val = (y 1).val := by blk_simp [e]
  show _ = HA (V m c main_v5) (V m c main_v6) (V m c main_v7) (V m c main_v1) (V m c main_v9) (V m c main_v13) ((win0_11.blk t).view.emb y)
  generalize (win0_11.blk t).view.emb y = z at e0 e1 ⊢
  unfold HA MX
  have f1 : z 1 = y 1 := Fin.ext e1
  have g1 : ∀ h, (⟨(z 0).val / 256, h⟩ : Fin 64) = ⟨t.val, lt_64 t⟩ := fun h => Fin.ext (by show (z 0).val / 256 = t.val; omega)
  have g2 : ∀ h, (⟨(z 0).val % 256, h⟩ : Fin 256) = y 0 := fun h => Fin.ext (by show (z 0).val % 256 = (y 0).val; omega)
  simp only [f1, g1, g2]
  refine congrArg _ ?_
  funext a
  match a with
  | ⟨0, _⟩ => rfl
  | ⟨1, _⟩ => rfl

theorem final_12 (c : Dev nD) : (dats m 0 c).arrAt 12 cfg0.N = (TA (V m c main_v5) (V m c main_v6) (V m c main_v7) (V m c main_v1) (V m c main_v9) (V m c main_v11) (V m c main_v13) : Vec F S2048x16384 .bf16) := by
  refine (dats m 0 c).arrAt_eq_of_covers 12 _ (by decide +kernel) fun t hf y => ?_
  blk_simp
  rw [after0_12]
  unfold outsAt0
  simp only []
  rw [out_12, iblk_0, iblk_1, iblk_2, iblk_3, iblk_4, iblk_5, iblk_6, iblk_7, iblk_8]
  have h0 : (y 1).val < 256 := (y 1).isLt
  have e := index_12 t
  have e0 : ((win0_12.blk t).view.emb y 0).val = (y 0).val := by blk_simp [e]
  have e1 : ((win0_12.blk t).view.emb y 1).val = t.val * 256 + (y 1).val := by blk_simp [e]
  show _ = TA (V m c main_v5) (V m c main_v6) (V m c main_v7) (V m c main_v1) (V m c main_v9) (V m c main_v11) (V m c main_v13) ((win0_12.blk t).view.emb y)
  generalize (win0_12.blk t).view.emb y = z at e0 e1 ⊢
  unfold TA MX
  have f0 : z 0 = y 0 := Fin.ext e0
  have g1 : ∀ h, (⟨(z 1).val / 256, h⟩ : Fin 64) = ⟨t.val, lt_64 t⟩ := fun h => Fin.ext (by show (z 1).val / 256 = t.val; omega)
  have g2 : ∀ h, (⟨(z 1).val % 256, h⟩ : Fin 256) = y 1 := fun h => Fin.ext (by show (z 1).val % 256 = (y 1).val; omega)
  simp only [f0, g1, g2]
  refine congrArg _ ?_
  funext a
  match a with
  | ⟨0, _⟩ => rfl
  | ⟨1, _⟩ => rfl

theorem final_13 (c : Dev nD) : (dats m 0 c).arrAt 13 cfg0.N = (SA (V m c main_v5) (V m c main_v6) (V m c main_v7) (V m c main_v1) (V m c main_v9) (V m c main_v11) (V m c main_v13) (V m c main_v15) (V m c main_v4) : Vec F S16x128x16384 .f32) := by
  refine (dats m 0 c).arrAt_eq_of_covers 13 _ (by decide +kernel) fun t hf y => ?_
  blk_simp
  rw [after0_13]
  unfold outsAt0
  simp only []
  rw [out_13, iblk_0, iblk_1, iblk_2, iblk_3, iblk_4, iblk_5, iblk_6, iblk_7, iblk_8, iblk_9, iblk_10]
  have h0 : (y 2).val < 256 := (y 2).isLt
  have e := index_13 t
  have e0 : ((win0_13.blk t).view.emb y 0).val = (y 0).val := by blk_simp [e]
  have e1 : ((win0_13.blk t).view.emb y 1).val = (y 1).val := by blk_simp [e]
  have e2 : ((win0_13.blk t).view.emb y 2).val = t.val * 256 + (y 2).val := by blk_simp [e]
  show _ = SA (V m c main_v5) (V m c main_v6) (V m c main_v7) (V m c main_v1) (V m c main_v9) (V m c main_v11) (V m c main_v13) (V m c main_v15) (V m c main_v4) ((win0_13.blk t).view.emb y)
  generalize (win0_13.blk t).view.emb y = z at e0 e1 e2 ⊢
  unfold SA MX
  have f0 : z 0 = y 0 := Fin.ext e0
  have f1 : z 1 = y 1 := Fin.ext e1
  have g1 : ∀ h, (⟨(z 2).val / 256, h⟩ : Fin 64) = ⟨t.val, lt_64 t⟩ := fun h => Fin.ext (by show (z 2).val / 256 = t.val; omega)
  have g2 : ∀ h, (⟨(z 2).val % 256, h⟩ : Fin 256) = y 2 := fun h => Fin.ext (by show (z 2).val % 256 = (y 2).val; omega)
  simp only [f0, f1, g1, g2]
  refine congrArg _ ?_
  funext a
  match a with
  | ⟨0, _⟩ => rfl
  | ⟨1, _⟩ => rfl
  | ⟨2, _⟩ => rfl

end Cert.Kernel3Ideal.Out
-- ==== Proof.OHost.lean ====
/-
  The arrays the output projection's call is given, as functions of the arguments: the rows of the attention, of the
  gating and of the input, the modulation padded to eight rows, the two norms' weights, the two projections' weights and
  the keys by head.
-/
module

public import proofs.«01_k».proof.Proof.OFinal
public import Idealize.ShloMosaic.Lib.Pointwise
public import Idealize.ShloMosaic.Lib.StableHlo.Run

@[expose] public section

set_option maxRecDepth 16384

noncomputable section

namespace Cert.Kernel3Ideal.Out

open Idealize.ShloMosaic Idealize.ShloMosaic.TcCoe Idealize.ShloMosaic.StableHlo
open Cert.Kernel3Ideal.Gen

section
variable {F : FTy → Type} [FloatOps F]

def GA (x : Vec F S4x4096x1536 .f32) : Vec F S16384x1536 .f32 := shapeCast S16384x1536 x shapeCasts_S4x4096x1536_S16384x1536
def GS (x : Vec F S4x4096x512 .bf16) : Vec F S16384x512 .bf16 := shapeCast S16384x512 x shapeCasts_S4x4096x512_S16384x512
def GX (x : Vec F S4x4096x2048 .f32) : Vec F S16384x2048 .f32 := shapeCast S16384x2048 x shapeCasts_S4x4096x2048_S16384x2048
def GM (x : Vec F S4x6x2048 .f32) : Vec F S8x6x1x2048 .f32 :=
  pad S8x6x1x2048 ![0, 0, 0, 0] ![4, 0, 0, 0] ![0, 0, 0, 0] (shapeCast S4x6x1x2048 x shapeCasts_S4x6x2048_S4x6x1x2048) (sitofp .f32 (constantI S_ 32 0#32)) pads_S4x6x1x2048_S8x6x1x2048_040_000_000_000 h_S_
def G1 (x : Vec F S1x1536 .f32) : Vec F S1x1536 .f32 := shapeCast S1x1536 (shapeCast S1536 x shapeCasts_S1x1536_S1536) shapeCasts_S1536_S1x1536
def G2 (x : Vec F S1x2048 .f32) : Vec F S1x2048 .f32 := shapeCast S1x2048 (shapeCast S2048 x shapeCasts_S1x2048_S2048) shapeCasts_S2048_S1x2048
def GW (x : Vec F S1x2048x2048 .f32) : Vec F S2048x2048 .bf16 := truncf .bf16 (shapeCast S2048x2048 x shapeCasts_S1x2048x2048_S2048x2048) bitsLt_bf16_f32
def GK (x : Vec F S1x8x2x128x128 .f32) : Vec F S16x128x128 .bf16 :=
  truncf .bf16 (shapeCast S16x128x128 (shapeCast S8x2x128x128 x shapeCasts_S1x8x2x128x128_S8x2x128x128) shapeCasts_S8x2x128x128_S16x128x128) bitsLt_bf16_f32

variable (m : (ℓ : Loc nD τ sig) → Buf (Elt F) ℓ) (c : Dev nD)

theorem V_5 : V m c main_v5 = GA (m ((c.tc : Thread nD τ).loc main_arg0)) := by
  simp only [V, hostOps0, hostOps0_1, hostOps0_2, List.flatten_cons, List.flatten_nil, List.append_nil, List.cons_append, List.nil_append]
  after_results_simp <;> rfl
theorem V_6 : V m c main_v6 = GS (m ((c.tc : Thread nD τ).loc main_arg1)) := by
  simp only [V, hostOps0, hostOps0_1, hostOps0_2, List.flatten_cons, List.flatten_nil, List.append_nil, List.cons_append, List.nil_append]
  after_results_simp <;> rfl
theorem V_7 : V m c main_v7 = GX (m ((c.tc : Thread nD τ).loc main_arg2)) := by
  simp only [V, hostOps0, hostOps0_1, hostOps0_2, List.flatten_cons, List.flatten_nil, List.append_nil, List.cons_append, List.nil_append]
  after_results_simp <;> rfl
theorem V_1 : V m c main_v1 = GM (m ((c.tc : Thread nD τ).loc main_arg3)) := by
  simp only [V, hostOps0, hostOps0_1, hostOps0_2, List.flatten_cons, List.flatten_nil, List.append_nil, List.cons_append, List.nil_append]
  after_results_simp <;> rfl
theorem V_9 : V m c main_v9 = G1 (m ((c.tc : Thread nD τ).loc main_arg4)) := by
  simp only [V, hostOps0, hostOps0_1, hostOps0_2, List.flatten_cons, List.flatten_nil, List.append_nil, List.cons_append, List.nil_append]
  after_results_simp <;> rfl
theorem V_11 : V m c main_v11 = G2 (m ((c.tc : Thread nD τ).loc main_arg5)) := by
  simp only [V, hostOps0, hostOps0_1, hostOps0_2, List.flatten_cons, List.flatten_nil, List.append_nil, List.cons_append, List.nil_append]
  after_results_simp <;> rfl
theorem V_13 : V m c main_v13 = GW (m ((c.tc : Thread nD τ).loc main_arg6)) := by
  simp only [V, hostOps0, hostOps0_1, hostOps0_2, List.flatten_cons, List.flatten_nil, List.append_nil, List.cons_append, List.nil_append]
  after_results_simp <;> rfl
theorem V_15 : V m c main_v15 = GW (m ((c.tc : Thread nD τ).loc main_arg7)) := by
  simp only [V, hostOps0, hostOps0_1, hostOps0_2, List.flatten_cons, List.flatten_nil, List.append_nil, List.cons_append, List.nil_append]
  after_results_simp <;> rfl
theorem V_4 : V m c main_v4 = GK (m ((c.tc : Thread nD τ).loc main_arg8)) := by
  simp only [V, hostOps0, hostOps0_1, hostOps0_2, List.flatten_cons, List.flatten_nil, List.append_nil, List.cons_append, List.nil_append]
  after_results_simp <;> rfl

end

/-- The index of row `s` of batch `b` among the rows of all batches. -/
def row (b : Fin 4) (s : Fin 4096) : Fin 16384 := ⟨4096 * b.val + s.val, by omega⟩

theorem GA_at (x : Vec Ideal S4x4096x1536 .f32) (b : Fin 4) (s : Fin 4096) (k : Fin 1536) : GA x (ix2 (row b s) k) = x (ix3 b s k) := by
  pointwise [GA, row]
theorem GS_at (x : Vec Ideal S4x4096x512 .bf16) (b : Fin 4) (s : Fin 4096) (k : Fin 512) : GS x (ix2 (row b s) k) = x (ix3 b s k) := by
  pointwise [GS, row]
theorem GX_at (x : Vec Ideal S4x4096x2048 .f32) (b : Fin 4) (s : Fin 4096) (k : Fin 2048) : GX x (ix2 (row b s) k) = x (ix3 b s k) := by
  pointwise [GX, row]
theorem GM_at (x : Vec Ideal S4x6x2048 .f32) (b : Fin 4) (p : Fin 6) (k : Fin 2048) : GM x (ix4 ⟨b.val, by omega⟩ p 0 k) = x (ix3 b p k) := by
  pointwise [GM]
theorem G1_at (x : Vec Ideal S1x1536 .f32) (k : Fin 1536) : G1 x (ix2 0 k) = x (ix2 0 k) := by
  pointwise [G1]
theorem G2_at (x : Vec Ideal S1x2048 .f32) (k : Fin 2048) : G2 x (ix2 0 k) = x (ix2 0 k) := by
  pointwise [G2]
theorem GW_at (x : Vec Ideal S1x2048x2048 .f32) (k j : Fin 2048) : GW x (ix2 k j) = x (ix3 0 k j) := by
  pointwise [GW]
theorem GK_at (x : Vec Ideal S1x8x2x128x128 .f32) (h : Fin 8) (p : Fin 2) (k j : Fin 128) : GK x (ix3 ⟨2 * h.val + p.val, by omega⟩ k j) = x (ix5 0 h p k j) := by
  pointwise [GK]

end Cert.Kernel3Ideal.Out
-- ==== Proof.OAt.lean ====
/-
  The output projection's three results at an index, over extended reals, from the arguments.
-/
module

public import proofs.«01_k».proof.Proof.OVal
public import proofs.«01_k».proof.Proof.OHost

@[expose] public section

set_option maxRecDepth 16384

noncomputable section

namespace Cert.Kernel3Ideal.Out

open Idealize.ShloMosaic Idealize.ShloMosaic.TcCoe
open Cert.Kernel3Ideal.Gen Cert.Out

section

variable (a : Vec Ideal S4x4096x1536 .f32) (sg : Vec Ideal S4x4096x512 .bf16) (x : Vec Ideal S4x4096x2048 .f32) (m : Vec Ideal S4x6x2048 .f32)
  (ga : Vec Ideal S1x1536 .f32) (g : Vec Ideal S1x2048 .f32) (wo wq : Vec Ideal S1x2048x2048 .f32) (key : Vec Ideal S1x8x2x128x128 .f32)
  (b : Fin 4) (s : Fin 4096)

/-- The residual's row `s` of batch `b`. -/
def HR : Fin 2048 → EReal :=
  RV (MV (fun k => a (ix3 b s k)) (fun k => ga (ix2 0 k)) (fun k => sg (ix3 b s k))) (fun k => x (ix3 b s k)) (fun k => m (ix3 b 2 k)) (fun k j => wo (ix3 0 k j))

/-- That row normalised and modulated. -/
def NR : Fin 2048 → EReal :=
  NV (HR a sg x m ga wo b s) (fun k => g (ix2 0 k)) (fun k => m (ix3 b 4 k)) (fun k => m (ix3 b 3 k))

/-- The tile of row `s` of batch `b`, and the row's place in it. -/
def tl : Fin 64 := ⟨(row b s).val / 256, by have := (row b s).isLt; omega⟩
def pl : Fin 256 := ⟨(row b s).val % 256, by omega⟩

theorem back (p) : (⟨256 * (tl b s).val + (pl b s).val, p⟩ : Fin 16384) = row b s := Fin.ext (Nat.div_add_mod _ _)
theorem batch : (tl b s).val / 16 = b.val := by
  have hb := b.isLt
  have hs := s.isLt
  have hr : (row b s).val = 4096 * b.val + s.val := rfl
  show (row b s).val / 256 / 16 = b.val
  omega

theorem AT_at (k : Fin 1536) : AT (GA a) (tl b s) (ix2 (pl b s) k) = a (ix3 b s k) :=
  (congrArg (GA a) (congrArg (fun r => ix2 r k) (back b s _))).trans (GA_at a b s k)
theorem GT_at (k : Fin 512) : GT (GS sg) (tl b s) (ix2 (pl b s) k) = sg (ix3 b s k) :=
  (congrArg (GS sg) (congrArg (fun r => ix2 r k) (back b s _))).trans (GS_at sg b s k)
theorem XT_at (k : Fin 2048) : XT (GX x) (tl b s) (ix2 (pl b s) k) = x (ix3 b s k) :=
  (congrArg (GX x) (congrArg (fun r => ix2 r k) (back b s _))).trans (GX_at x b s k)
theorem MT_at (p : Fin 6) (k : Fin 2048) : MT (GM m) p (tl b s) (ix4 0 0 0 k) = m (ix3 b p k) :=
  (congrArg (GM m) (congrArg (fun r => ix4 r p 0 k) (Fin.ext (batch b s)))).trans (GM_at m b p k)
theorem MX_at (k : Fin 2048) : MX (GA a) (GS sg) (G1 ga) (tl b s) (ix2 (pl b s) k)
    = MV (fun k => a (ix3 b s k)) (fun k => ga (ix2 0 k)) (fun k => sg (ix3 b s k)) k := by
  unfold MX
  rw [MIX_at]
  simp only [AT_at, GT_at, G1_at]

theorem HA_at (j : Fin 2048) : HA (GA a) (GS sg) (GX x) (GM m) (G1 ga) (GW wo) (ix2 (row b s) j) = HR a sg x m ga wo b s j := by
  show HB (MX (GA a) (GS sg) (G1 ga) (tl b s)) (XT (GX x) (tl b s)) (MT (GM m) 2 (tl b s)) (GW wo) (ix2 (pl b s) j) = _
  rw [HB_at]
  simp only [MX_at, XT_at, MT_at, GW_at]
  rfl

theorem TA_at (k : Fin 2048) : TA (GA a) (GS sg) (GX x) (GM m) (G1 ga) (G2 g) (GW wo) (ix2 k (row b s)) = NR a sg x m ga g wo b s k := by
  show TB (MX (GA a) (GS sg) (G1 ga) (tl b s)) (XT (GX x) (tl b s)) (MT (GM m) 2 (tl b s)) (MT (GM m) 3 (tl b s)) (MT (GM m) 4 (tl b s)) (G2 g) (GW wo) (ix2 k (pl b s)) = _
  rw [TB_at]
  simp only [MX_at, XT_at, MT_at, GW_at, G2_at]
  rfl

theorem SA_at (e : Fin 8) (p : Fin 2) (n : Fin 128) :
    SA (GA a) (GS sg) (GX x) (GM m) (G1 ga) (G2 g) (GW wo) (GW wq) (GK key) (ix3 ⟨2 * e.val + p.val, by omega⟩ n (row b s))
      = SV (QV (NR a sg x m ga g wo b s) (fun k j => wq (ix3 0 k j))) (fun d => key (ix5 0 e p n d)) ⟨2 * e.val + p.val, by omega⟩ := by
  show ST (QB (MX (GA a) (GS sg) (G1 ga) (tl b s)) (XT (GX x) (tl b s)) (MT (GM m) 2 (tl b s)) (MT (GM m) 3 (tl b s)) (MT (GM m) 4 (tl b s)) (G2 g) (GW wo) (GW wq))
    (KB (GK key)) (ix3 ⟨2 * e.val + p.val, _⟩ n (pl b s)) = _
  rw [ST_at]
  simp only [QB_at, MX_at, XT_at, MT_at, GW_at, G2_at, GK_at]
  rfl

end

end Cert.Kernel3Ideal.Out
-- ==== Proof.ORef.lean ====
/-
  The reference's residual, normalised rows and scores: its three result arrays as compositions of the arrays below, and
  each of them at an index over extended reals.
-/
module

public import proofs.«01_k».proof.Proof.OVal
public import proofs.«01_k».proof.Proof.Gen.Reference3Ideal.Run
public import Idealize.ShloMosaic.Lib.Pointwise

@[expose] public section

set_option maxRecDepth 16384

noncomputable section

namespace Cert.Reference3Ideal.Out

open Idealize.ShloMosaic Idealize.ShloMosaic.TcCoe
open Cert.Reference3Ideal.Gen Cert.Reference3Ideal.Value Cert.Out

section
variable {F : FTy → Type} [FloatOps F]

/-- The modulation's gate, shift and scale. -/
def GA (m : Vec F S4x6x2048 .f32) : Vec F S4x1x2048 .f32 :=
  broadcastInDim S4x1x2048 ![0, 2] bcast_S4x2048_S4x1x2048_0_2 (shapeCast S4x2048 (extractStridedSlice S4x1x2048 ![0, 2, 0] m slices_S4x6x2048_S4x1x2048_0_2_0) shapeCasts_S4x1x2048_S4x2048)
def SH (m : Vec F S4x6x2048 .f32) : Vec F S4x1x2048 .f32 :=
  broadcastInDim S4x1x2048 ![0, 2] bcast_S4x2048_S4x1x2048_0_2 (shapeCast S4x2048 (extractStridedSlice S4x1x2048 ![0, 3, 0] m slices_S4x6x2048_S4x1x2048_0_3_0) shapeCasts_S4x1x2048_S4x2048)
def SC (m : Vec F S4x6x2048 .f32) : Vec F S4x1x2048 .f32 :=
  broadcastInDim S4x1x2048 ![0, 2] bcast_S4x2048_S4x1x2048_0_2 (shapeCast S4x2048 (extractStridedSlice S4x1x2048 ![0, 4, 0] m slices_S4x6x2048_S4x1x2048_0_4_0) shapeCasts_S4x1x2048_S4x2048)

/-- Each attention row's reciprocal root mean square. -/
def RA (a : Vec F S4x4096x1536 .f32) : Vec F S4x4096x1 .f32 :=
  Host.rsqrt (addf (Host.divf (broadcastInDim S4x4096x1 ![0, 1] bcast_S4x4096_S4x4096x1_0_1
      (Host.reduceAdd (mulf a a) (constant S_ .f32 0x00000000#32) reducesTo_S4x4096x1536_S4x4096_d2 h_S_))
    (broadcastInDim S4x4096x1 ![] bcast_S_S4x4096x1 (constant S_ .f32 0x44C00000#32)))
    (broadcastInDim S4x4096x1 ![] bcast_S_S4x4096x1 (constant S_ .f32 0x358637BD#32)))

/-- The attention normalised. -/
def NA (a : Vec F S4x4096x1536 .f32) (g : Vec F S1x1536 .f32) : Vec F S4x4096x1536 .f32 :=
  mulf (mulf a (broadcastInDim S4x4096x1536 ![0, 1, 2] bcast_S4x4096x1_S4x4096x1536_0_1_2 (RA a)))
    (broadcastInDim S4x4096x1536 ![0, 1, 2] bcast_S1x1x1536_S4x4096x1536_0_1_2 (broadcastInDim S1x1x1536 ![2] bcast_S1536_S1x1x1536_2 (shapeCast S1536 g shapeCasts_S1x1536_S1536)))

/-- The gating beside it. -/
def MI (n : Vec F S4x4096x1536 .f32) (s : Vec F S4x4096x512 .bf16) : Vec F S4x4096x2048 .f32 :=
  concatenate S4x4096x2048 2 [⟨S4x4096x1536, n⟩, ⟨S4x4096x512, extf .f32 s bitsLt_bf16_f32⟩] concatenates_S4x4096x1536_S4x4096x512_S4x4096x2048_d2

/-- The residual. -/
def RE (u x : Vec F S4x4096x2048 .f32) (m : Vec F S4x6x2048 .f32) (w : Vec F S1x2048x2048 .f32) : Vec F S4x4096x2048 .f32 :=
  addf x (mulf (broadcastInDim S4x4096x2048 ![0, 1, 2] bcast_S4x1x2048_S4x4096x2048_0_1_2 (GA m))
    (Host.dotGeneral dot_S4x4096x2048_S2048x2048_S4x4096x2048_2_0_01_1_n_n none u (shapeCast S2048x2048 w shapeCasts_S1x2048x2048_S2048x2048)))

/-- Each residual row's reciprocal root mean square. -/
def RR (x : Vec F S4x4096x2048 .f32) : Vec F S4x4096x1 .f32 :=
  Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The residual normalised and modulated. -/
def NH (x : Vec F S4x4096x2048 .f32) (m : Vec F S4x6x2048 .f32) (g : Vec F S1x2048 .f32) : Vec F S4x4096x2048 .f32 :=
  addf (mulf (mulf (mulf x (broadcastInDim S4x4096x2048 ![0, 1, 2] bcast_S4x4096x1_S4x4096x2048_0_1_2 (RR x)))
      (broadcastInDim S4x4096x2048 ![0, 1, 2] bcast_S1x1x2048_S4x4096x2048_0_1_2 (broadcastInDim S1x1x2048 ![2] bcast_S2048_S1x1x2048_2 (shapeCast S2048 g shapeCasts_S1x2048_S2048))))
    (broadcastInDim S4x4096x2048 ![0, 1, 2] bcast_S4x1x2048_S4x4096x2048_0_1_2 (addf (broadcastInDim S4x1x2048 ![] bcast_S_S4x1x2048 (constant S_ .f32 0x3F800000#32)) (SC m))))
    (broadcastInDim S4x4096x2048 ![0, 1, 2] bcast_S4x1x2048_S4x4096x2048_0_1_2 (SH m))

/-- The queries by heads. -/
def QU (h : Vec F S4x4096x2048 .f32) (w : Vec F S1x2048x2048 .f32) : Vec F S16384x8x2x128 .f32 :=
  shapeCast S16384x8x2x128 (Host.dotGeneral dot_S16384x2048_S2048x2048_S16384x2048_1_0_0_1_n_n none
    (shapeCast S16384x2048 h shapeCasts_S4x4096x2048_S16384x2048) (shapeCast S2048x2048 w shapeCasts_S1x2048x2048_S2048x2048)) shapeCasts_S16384x2048_S16384x8x2x128

/-- The scores of every head's keys. -/
def KS (q : Vec F S16384x8x2x128 .f32) (k : Vec F S1x8x2x128x128 .f32) : Vec F S8x2x128x16384 .f32 :=
  Host.dotGeneral dot_S8x2x128x128_S16384x8x2x128_S8x2x128x16384_3_3_2_0_01_12 none (shapeCast S8x2x128x128 k shapeCasts_S1x8x2x128x128_S8x2x128x128) q

/-- The three results. -/
def R0 (h : Vec F S4x4096x2048 .f32) : Vec F S16384x2048 .f32 := shapeCast S16384x2048 h shapeCasts_S4x4096x2048_S16384x2048
def R1 (h : Vec F S4x4096x2048 .f32) : Vec F S2048x16384 .bf16 :=
  transpose S2048x16384 [1, 0] (shapeCast S16384x2048 (truncf .bf16 h bitsLt_bf16_f32) shapeCasts_S4x4096x2048_S16384x2048) transposes_S16384x2048_S2048x16384_1_0
def R2 (s : Vec F S8x2x128x16384 .f32) : Vec F S16x128x16384 .f32 :=
  shapeCast S16x128x16384 (transpose S8x2x128x16384 [1, 2, 3, 0] (transpose S16384x8x2x128 [3, 0, 1, 2] s transposes_S8x2x128x16384_S16384x8x2x128_3_0_1_2)
    transposes_S16384x8x2x128_S8x2x128x16384_1_2_3_0) shapeCasts_S8x2x128x16384_S16x128x16384

variable (m : (ℓ : Loc nD τ sig) → Buf (Elt F) ℓ) (c : Dev nD)

/-- The residual of the arguments. -/
abbrev RES : Vec F S4x4096x2048 .f32 :=
  RE (MI (NA (m ((c.tc : Thread nD τ).loc main_arg0)) (m ((c.tc : Thread nD τ).loc main_arg4))) (m ((c.tc : Thread nD τ).loc main_arg1)))
    (m ((c.tc : Thread nD τ).loc main_arg2)) (m ((c.tc : Thread nD τ).loc main_arg3)) (m ((c.tc : Thread nD τ).loc main_arg6))

theorem res1_eq : res_out1 m c = R1 (NH (RES m c) (m ((c.tc : Thread nD τ).loc main_arg3)) (m ((c.tc : Thread nD τ).loc main_arg5))) := rfl

theorem res2_eq : res_out2 m c = R2 (KS (QU (NH (RES m c) (m ((c.tc : Thread nD τ).loc main_arg3)) (m ((c.tc : Thread nD τ).loc main_arg5)))
    (m ((c.tc : Thread nD τ).loc main_arg7))) (m ((c.tc : Thread nD τ).loc main_arg8))) := rfl

end

section At

variable (m : Vec Ideal S4x6x2048 .f32)

theorem GA_at (b : Fin 4) (k : Fin 2048) : GA m (ix3 b 0 k) = m (ix3 b 2 k) := by pointwise [GA]
theorem SH_at (b : Fin 4) (k : Fin 2048) : SH m (ix3 b 0 k) = m (ix3 b 3 k) := by pointwise [SH]
theorem SC_at (b : Fin 4) (k : Fin 2048) : SC m (ix3 b 0 k) = m (ix3 b 4 k) := by pointwise [SC]
theorem RA_at (a : Vec Ideal S4x4096x1536 .f32) (b : Fin 4) (s : Fin 4096) :
    RA a (ix3 b s 0) = RM (fun k : Fin 1536 => a (ix3 b s k)) (Ideal.ofBits .f32 0x44C00000#32) := by pointwise [RA, RM]
theorem RR_at (x : Vec Ideal S4x4096x2048 .f32) (b : Fin 4) (s : Fin 4096) :
    RR x (ix3 b s 0) = RM (fun k : Fin 2048 => x (ix3 b s k)) (Ideal.ofBits .f32 0x45000000#32) := by pointwise [RR, RM]
theorem NA_at (a : Vec Ideal S4x4096x1536 .f32) (g : Vec Ideal S1x1536 .f32) (b : Fin 4) (s : Fin 4096) (k : Fin 1536) :
    NA a g (ix3 b s k) = a (ix3 b s k) * RM (fun k : Fin 1536 => a (ix3 b s k)) (Ideal.ofBits .f32 0x44C00000#32) * g (ix2 0 k) := by
  pointwise [NA]
  rw [RA_at]
theorem MI_at (n : Vec Ideal S4x4096x1536 .f32) (s : Vec Ideal S4x4096x512 .bf16) (b : Fin 4) (t : Fin 4096) (k : Fin 2048) :
    MI n s (ix3 b t k) = if h : k.val < 1536 then n (ix3 b t ⟨k.val, h⟩) else s (ix3 b t ⟨k.val - 1536, by omega⟩) := by
  pointwise [MI]

/-- The mixed row. -/
theorem MI_NA (a : Vec Ideal S4x4096x1536 .f32) (g : Vec Ideal S1x1536 .f32) (s : Vec Ideal S4x4096x512 .bf16) (b : Fin 4) (t : Fin 4096) (k : Fin 2048) :
    MI (NA a g) s (ix3 b t k) = MV (fun k => a (ix3 b t k)) (fun k => g (ix2 0 k)) (fun k => s (ix3 b t k)) k := by
  rw [MI_at]
  unfold MV
  simp only [NA_at]

theorem RE_at (u x : Vec Ideal S4x4096x2048 .f32) (w : Vec Ideal S1x2048x2048 .f32) (b : Fin 4) (s : Fin 4096) (j : Fin 2048) :
    RE u x m w (ix3 b s j) = RV (fun k => u (ix3 b s k)) (fun k => x (ix3 b s k)) (fun k => m (ix3 b 2 k)) (fun k j => w (ix3 0 k j)) j := by
  pointwise [RE, RV]
  rw [GA_at]
theorem NH_at (x : Vec Ideal S4x4096x2048 .f32) (g : Vec Ideal S1x2048 .f32) (b : Fin 4) (s : Fin 4096) (k : Fin 2048) :
    NH x m g (ix3 b s k) = NV (fun k => x (ix3 b s k)) (fun k => g (ix2 0 k)) (fun k => m (ix3 b 4 k)) (fun k => m (ix3 b 3 k)) k := by
  pointwise [NH, NV]
  rw [RR_at, SH_at, SC_at]

theorem QU_at (h : Vec Ideal S4x4096x2048 .f32) (w : Vec Ideal S1x2048x2048 .f32) (b : Fin 4) (s : Fin 4096) (e : Fin 8) (p : Fin 2) (d : Fin 128) :
    QU h w (ix4 ⟨4096 * b.val + s.val, by omega⟩ e p d) = QV (fun k => h (ix3 b s k)) (fun k j => w (ix3 0 k j)) ⟨128 * (2 * e.val + p.val) + d.val, by omega⟩ := by
  have h : e.val * 256 + p.val * 128 + d.val = 128 * (2 * e.val + p.val) + d.val := by omega
  pointwise [QU, QV]
  simp only [h]
theorem KS_at (q : Vec Ideal S16384x8x2x128 .f32) (k : Vec Ideal S1x8x2x128x128 .f32) (e : Fin 8) (p : Fin 2) (n : Fin 128) (t : Fin 16384) :
    KS q k (ix4 e p n t) = ∑ d : Fin 128, k (ix5 0 e p n d) * q (ix4 t e p d) := by
  pointwise [KS]
theorem R0_at (h : Vec Ideal S4x4096x2048 .f32) (b : Fin 4) (s : Fin 4096) (j : Fin 2048) : R0 h (ix2 ⟨4096 * b.val + s.val, by omega⟩ j) = h (ix3 b s j) := by
  pointwise [R0]
theorem R1_at (h : Vec Ideal S4x4096x2048 .f32) (b : Fin 4) (s : Fin 4096) (j : Fin 2048) : R1 h (ix2 j ⟨4096 * b.val + s.val, by omega⟩) = h (ix3 b s j) := by
  pointwise [R1]
theorem R2_at (v : Vec Ideal S8x2x128x16384 .f32) (e : Fin 8) (p : Fin 2) (n : Fin 128) (t : Fin 16384) :
    R2 v (ix3 ⟨2 * e.val + p.val, by omega⟩ n t) = v (ix4 e p n t) := by
  pointwise [R2]

end At

end Cert.Reference3Ideal.Out
-- ==== Proof.OSame.lean ====
/-
  The reference's three arrays are the kernel's, at every index: the two take the same sums in the same order.
-/
module

public import proofs.«01_k».proof.Proof.OAt
public import proofs.«01_k».proof.Proof.ORef

@[expose] public section

set_option maxRecDepth 16384

noncomputable section

namespace Cert.Reference3Ideal.Out

open Idealize.ShloMosaic Idealize.ShloMosaic.TcCoe
open Cert.Reference3Ideal.Gen Cert.Reference3Ideal.Value Cert.Out
open Cert.Kernel3Ideal.Out (HA TA SA HR NR GS GX GM G1 G2 GW GK HA_at TA_at SA_at)

section

variable (a : Vec Ideal S4x4096x1536 .f32) (sg : Vec Ideal S4x4096x512 .bf16) (x : Vec Ideal S4x4096x2048 .f32) (m : Vec Ideal S4x6x2048 .f32)
  (ga : Vec Ideal S1x1536 .f32) (g : Vec Ideal S1x2048 .f32) (wo wq : Vec Ideal S1x2048x2048 .f32) (key : Vec Ideal S1x8x2x128x128 .f32)

/-- Every row is some row of some batch. -/
theorem split (t : Fin 16384) : ∃ (b : Fin 4) (s : Fin 4096), t = ⟨4096 * b.val + s.val, by omega⟩ :=
  ⟨⟨t.val / 4096, by omega⟩, ⟨t.val % 4096, by omega⟩, Fin.ext (Nat.div_add_mod _ _).symm⟩

/-- The reference's residual row. -/
theorem RE_HR (b : Fin 4) (s : Fin 4096) : (fun j => RE (MI (NA a ga) sg) x m wo (ix3 b s j)) = HR a sg x m ga wo b s := by
  funext j
  rw [RE_at]
  simp only [MI_NA]
  rfl

/-- The reference's normalised row. -/
theorem NH_NR (b : Fin 4) (s : Fin 4096) : (fun k => NH (RE (MI (NA a ga) sg) x m wo) m g (ix3 b s k)) = NR a sg x m ga g wo b s := by
  funext k
  rw [NH_at, RE_HR]
  rfl

theorem same0 : (HA (Kernel3Ideal.Out.GA a) (GS sg) (GX x) (GM m) (G1 ga) (GW wo) : Vec Ideal S16384x2048 .f32) = R0 (RE (MI (NA a ga) sg) x m wo) := by
  funext y
  obtain ⟨b, s, e⟩ := split (y 0)
  have ey : y = ix2 (⟨4096 * b.val + s.val, by omega⟩ : Fin 16384) (y 1) := by
    funext k
    match k with
    | 0 => exact e
    | 1 => rfl
  rw [ey]
  refine (HA_at a sg x m ga wo b s (y 1)).trans (Eq.trans ?_ (R0_at _ b s (y 1)).symm)
  exact (congrFun (RE_HR a sg x m ga wo b s) (y 1)).symm

theorem same1 : (TA (Kernel3Ideal.Out.GA a) (GS sg) (GX x) (GM m) (G1 ga) (G2 g) (GW wo) : Vec Ideal S2048x16384 .bf16)
    = R1 (NH (RE (MI (NA a ga) sg) x m wo) m g) := by
  funext y
  obtain ⟨b, s, e⟩ := split (y 1)
  have ey : y = ix2 (y 0) (⟨4096 * b.val + s.val, by omega⟩ : Fin 16384) := by
    funext k
    match k with
    | 0 => rfl
    | 1 => exact e
  rw [ey]
  refine (TA_at a sg x m ga g wo b s (y 0)).trans (Eq.trans ?_ (R1_at _ b s (y 0)).symm)
  exact (congrFun (NH_NR a sg x m ga g wo b s) (y 0)).symm

theorem same2 : (SA (Kernel3Ideal.Out.GA a) (GS sg) (GX x) (GM m) (G1 ga) (G2 g) (GW wo) (GW wq) (GK key) : Vec Ideal S16x128x16384 .f32)
    = R2 (KS (QU (NH (RE (MI (NA a ga) sg) x m wo) m g) wq) key) := by
  funext y
  obtain ⟨b, s, e⟩ := split (y 2)
  obtain ⟨h, p, eh⟩ : ∃ (h : Fin 8) (p : Fin 2), (show Fin 16 from y 0) = (⟨2 * h.val + p.val, by omega⟩ : Fin 16) :=
    ⟨⟨(y 0).val / 2, by have : (y 0).val < 16 := (y 0).isLt; omega⟩, ⟨(y 0).val % 2, Nat.mod_lt _ (by omega)⟩, Fin.ext (Nat.div_add_mod _ _).symm⟩
  have ey : y = ix3 (⟨2 * h.val + p.val, by omega⟩ : Fin 16) (y 1) (⟨4096 * b.val + s.val, by omega⟩ : Fin 16384) := by
    funext k
    match k with
    | 0 => exact eh
    | 1 => rfl
    | 2 => exact e
  rw [ey]
  generalize (y 1 : Fin 128) = n
  refine (SA_at a sg x m ga g wo wq key b s h p n).trans (Eq.trans ?_ (R2_at _ h p n _).symm)
  refine Eq.trans ?_ (KS_at ..).symm
  unfold SV
  refine Finset.sum_congr rfl fun d _ => ?_
  refine congrArg (_ * ·) ?_
  rw [QU_at, NH_NR]

end

end Cert.Reference3Ideal.Out
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.KCanon
public import proofs.«01_k».proof.Proof.Same
public import proofs.«01_k».proof.Proof.Pre
public import proofs.«01_k».proof.Proof.RVal
public import proofs.«01_k».proof.Proof.PFinal
public import proofs.«01_k».proof.Proof.PSame
public import Idealize.ShloMosaic.Lib.Quiescent
public import Idealize.ShloMosaic.Adequacy
public import Idealize.ShloMosaic.Init
public import proofs.«01_k».proof.Proof.OSame
public import proofs.«01_k».proof.Proof.OFinal

@[expose] public section

set_option maxRecDepth 16384

noncomputable section

namespace Cert.Proof

open Idealize.ShloMosaic Idealize.SL.Sem Cert.Kernel

/-- The kernel's text, over bits, runs, leaves its argument and ends with every counter at zero. -/
theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.KernelIdeal.Attn.run_value (F := Bits) m ρ)

/-- The kernel as printed is that text. -/
theorem frame_kernel : Cert.quiescent_Kernel := fun m ρ _ => by
  have h := run_bits m ρ
  rw [← Cert.Same.table] at h
  exact h

/-- So does its ideal reading. -/
theorem frame_ideal : Cert.quiescent_KernelIdeal := fun m ρ _ =>
  (θ_run Cert.KernelIdeal.defs _ _).mono (fun _ h => ⟨fun c => (h.1 c).2, h.2⟩) (Cert.KernelIdeal.Attn.run_value (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite queries and keys the kernel's result array is the reference's. -/
theorem same_result (x : Vec Ideal Cert.KernelIdeal.S4x4096x5632 .bf16) (hx : Cert.Attn.Fin12 (Cert.KernelIdeal.Attn.XF x))
    (V : Valuation Cert.ReferenceIdeal.τ Cert.ReferenceIdeal.sig (Elt Ideal)) (hV : V (Proc.devRef .tc Cert.ReferenceIdeal.main_arg0) = x) :
    (Cert.KernelIdeal.Attn.ATT x : Vec Ideal Cert.KernelIdeal.S4x4096x1536 .f32) = Cert.ReferenceIdeal.Attn.REF V := by
  funext y
  rw [Cert.KernelIdeal.Attn.ATT_at x hx]
  have h := Cert.ReferenceIdeal.Attn.REF_at V (Cert.KernelIdeal.Attn.XF x) (fun b t w => by rw [hV]; rfl) (y 0) (y 1) (y 2)
  refine Eq.trans h.symm (congrArg (Cert.ReferenceIdeal.Attn.REF V) ?_)
  funext k
  fin_cases k <;> rfl

theorem same : Cert.algebraic_KernelIdeal_ReferenceIdeal_pre_finite_queries_keys (hPre_finite_queries_keys := Cert.Pre_finite_queries_keys.facts) := fun m ρ m' ρ' hp ha =>
  ⟨fun c => Cert.KernelIdeal.Attn.ATT (F := Ideal) (m ((c.tc : Thread Cert.KernelIdeal.nD Cert.KernelIdeal.τ).loc Cert.KernelIdeal.main_arg0)),
    (θ_run Cert.KernelIdeal.defs _ _).mono (fun _ h c => h.1 c) (Cert.KernelIdeal.Attn.run_value (F := Ideal) m ρ),
    (θ_run Cert.ReferenceIdeal.defs _ _).mono (fun _ h c => ⟨(h c).1.trans
      (same_result _ (@Cert.Pre_finite_queries_keys.finite Cert.Pre_finite_queries_keys.facts _ (hp c)) (Idealize.ShloMosaic.StableHlo.launchContents m' c) (ha c)).symm, (h c).2⟩)
      (Cert.ReferenceIdeal.Value.run (F := Ideal) m' ρ')⟩

/-- The projection runs, leaves its arguments and ends with every counter at zero. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the projection's result array is its reference's. -/
theorem same2 : Cert.algebraic_Kernel2Ideal_Reference2Ideal := fun m ρ m' ρ' _ ha =>
  ⟨fun c => (Cert.Kernel2Ideal.Gen.dats (F := Ideal) m 0 c).arrAt 7 Cert.Kernel2Ideal.cfg0.N,
    Cert.Kernel2Ideal.Value.run_blocks (F := Ideal) m ρ,
    (θ_run Cert.Reference2Ideal.defs _ _).mono (fun _ h c => ⟨(h c).1.trans (by
      obtain ⟨e0, e1, e2, e3, e4, e5⟩ := ha c
      refine (Cert.Reference2Ideal.Proj.res_eq m' c).trans ?_
      rw [e0, e1, e2, e3, e4, e5]
      refine (Cert.Reference2Ideal.Proj.same _ _ _ _ _ _).symm.trans ?_
      refine Eq.trans ?_ (Cert.Kernel2Ideal.Proj.final m c).symm
      rw [Cert.Kernel2Ideal.Proj.V_7, Cert.Kernel2Ideal.Proj.V_1, Cert.Kernel2Ideal.Proj.V_9, Cert.Kernel2Ideal.Proj.V_11,
        Cert.Kernel2Ideal.Proj.V_3, Cert.Kernel2Ideal.Proj.V_6]), (h c).2⟩)
      (Cert.Reference2Ideal.Value.run (F := Ideal) m' ρ')⟩

/-- The output projection runs, leaves its arguments and ends with every counter at zero. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- From equal arguments the output projection's three result arrays are its reference's. -/
theorem same3 : Cert.algebraic_Kernel3Ideal_Reference3Ideal := fun m ρ m' ρ' _ ha =>
  ⟨fun c => (Cert.Kernel3Ideal.Gen.dats (F := Ideal) m 0 c).arrAt 11 Cert.Kernel3Ideal.cfg0.N,
    fun c => (Cert.Kernel3Ideal.Gen.dats (F := Ideal) m 0 c).arrAt 12 Cert.Kernel3Ideal.cfg0.N,
    fun c => (Cert.Kernel3Ideal.Gen.dats (F := Ideal) m 0 c).arrAt 13 Cert.Kernel3Ideal.cfg0.N,
    Cert.Kernel3Ideal.Value.run_blocks (F := Ideal) m ρ,
    (θ_run Cert.Reference3Ideal.defs _ _).mono (fun _ h c => ⟨(h c).1.trans (by
      obtain ⟨e0, e1, e2, e3, e4, e5, e6, e7, e8⟩ := ha c
      refine Eq.trans (b := Cert.Reference3Ideal.Out.R0 (Cert.Reference3Ideal.Out.RES (F := Ideal) m' c)) rfl ?_
      rw [Cert.Reference3Ideal.Out.RES, e0, e1, e2, e3, e4, e6]
      refine (Cert.Reference3Ideal.Out.same0 _ _ _ _ _ _).symm.trans ?_
      refine Eq.trans ?_ (Cert.Kernel3Ideal.Out.final_11 m c).symm
      rw [Cert.Kernel3Ideal.Out.V_5, Cert.Kernel3Ideal.Out.V_6, Cert.Kernel3Ideal.Out.V_7, Cert.Kernel3Ideal.Out.V_1, Cert.Kernel3Ideal.Out.V_9,
        Cert.Kernel3Ideal.Out.V_13]),
      (h c).2.1.trans (by
      obtain ⟨e0, e1, e2, e3, e4, e5, e6, e7, e8⟩ := ha c
      refine (Cert.Reference3Ideal.Out.res1_eq m' c).trans ?_
      rw [Cert.Reference3Ideal.Out.RES, e0, e1, e2, e3, e4, e5, e6]
      refine (Cert.Reference3Ideal.Out.same1 _ _ _ _ _ _ _).symm.trans ?_
      refine Eq.trans ?_ (Cert.Kernel3Ideal.Out.final_12 m c).symm
      rw [Cert.Kernel3Ideal.Out.V_5, Cert.Kernel3Ideal.Out.V_6, Cert.Kernel3Ideal.Out.V_7, Cert.Kernel3Ideal.Out.V_1, Cert.Kernel3Ideal.Out.V_9,
        Cert.Kernel3Ideal.Out.V_11, Cert.Kernel3Ideal.Out.V_13]),
      (h c).2.2.1.trans (by
      obtain ⟨e0, e1, e2, e3, e4, e5, e6, e7, e8⟩ := ha c
      refine (Cert.Reference3Ideal.Out.res2_eq m' c).trans ?_
      rw [Cert.Reference3Ideal.Out.RES, e0, e1, e2, e3, e4, e5, e6, e7, e8]
      refine (Cert.Reference3Ideal.Out.same2 _ _ _ _ _ _ _ _ _).symm.trans ?_
      refine Eq.trans ?_ (Cert.Kernel3Ideal.Out.final_13 m c).symm
      rw [Cert.Kernel3Ideal.Out.V_5, Cert.Kernel3Ideal.Out.V_6, Cert.Kernel3Ideal.Out.V_7, Cert.Kernel3Ideal.Out.V_1, Cert.Kernel3Ideal.Out.V_9,
        Cert.Kernel3Ideal.Out.V_11, Cert.Kernel3Ideal.Out.V_13, Cert.Kernel3Ideal.Out.V_15, Cert.Kernel3Ideal.Out.V_4]), (h c).2.2.2⟩)
      (Cert.Reference3Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_queries_keys.facts,
  frame_kernel, frame_ideal, fun m ρ _ => frame_ideal m ρ ⟨⟩, frame_reference, fun m ρ _ => frame_reference m ρ ⟨⟩,
  frame_kernel2, frame_ideal2, frame_reference2, frame_kernel3, frame_ideal3, frame_reference3,
  trivial, same, trivial, same2, trivial, same3⟩

end Cert.Proof

end
